-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_ffn_down_finite [hPre_ffn_down_finite : Cert.Pre_ffn_down_finite.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_ffn_down_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))) = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_ffn_down_finite [hPre_ffn_down_finite : Cert.Pre_ffn_down_finite.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_ffn_down_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_AttnDw (m : (ℓ : Loc Cert.AttnDw.nD Cert.AttnDw.τ Cert.AttnDw.sig) → Buf (Elt Bits) ℓ) : Prop :=
  True

def Pre_AttnDwIdeal (m : (ℓ : Loc Cert.AttnDwIdeal.nD Cert.AttnDwIdeal.τ Cert.AttnDwIdeal.sig) → Buf (Elt Ideal) ℓ) : Prop :=
  True

def Pre_AttnDwRefIdeal (m : (ℓ : Loc Cert.AttnDwRefIdeal.nD Cert.AttnDwRefIdeal.τ Cert.AttnDwRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxRefIdeal (m : (ℓ : Loc Cert.PoolDxRefIdeal.nD Cert.PoolDxRefIdeal.τ Cert.PoolDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_AttnOutBwd (m : (ℓ : Loc Cert.AttnOutBwd.nD Cert.AttnOutBwd.τ Cert.AttnOutBwd.sig) → Buf (Elt Bits) ℓ) : Prop :=
  True

def Pre_AttnOutBwdIdeal (m : (ℓ : Loc Cert.AttnOutBwdIdeal.nD Cert.AttnOutBwdIdeal.τ Cert.AttnOutBwdIdeal.sig) → Buf (Elt Ideal) ℓ) : Prop :=
  True

def Pre_AttnOutBwdRefIdeal (m : (ℓ : Loc Cert.AttnOutBwdRefIdeal.nD Cert.AttnOutBwdRefIdeal.τ Cert.AttnOutBwdRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQGain (m : (ℓ : Loc Cert.AdamQGain.nD Cert.AdamQGain.τ Cert.AdamQGain.sig) → Buf (Elt Bits) ℓ) : Prop :=
  True

def Pre_AdamQGainIdeal (m : (ℓ : Loc Cert.AdamQGainIdeal.nD Cert.AdamQGainIdeal.τ Cert.AdamQGainIdeal.sig) → Buf (Elt Ideal) ℓ) : Prop :=
  True

def Pre_AdamQGainRefIdeal (m : (ℓ : Loc Cert.AdamQGainRefIdeal.nD Cert.AdamQGainRefIdeal.τ Cert.AdamQGainRefIdeal.sig) → Buf (Elt Ideal) ℓ) : Prop :=
  True

def Pre_AdamKvGain (m : (ℓ : Loc Cert.AdamKvGain.nD Cert.AdamKvGain.τ Cert.AdamKvGain.sig) → Buf (Elt Bits) ℓ) : Prop :=
  True

def Pre_AdamKvGainIdeal (m : (ℓ : Loc Cert.AdamKvGainIdeal.nD Cert.AdamKvGainIdeal.τ Cert.AdamKvGainIdeal.sig) → Buf (Elt Ideal) ℓ) : Prop :=
  True

def Pre_AdamKvGainRefIdeal (m : (ℓ : Loc Cert.AdamKvGainRefIdeal.nD Cert.AdamKvGainRefIdeal.τ Cert.AdamKvGainRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamChannel (m : (ℓ : Loc Cert.AdamChannel.nD Cert.AdamChannel.τ Cert.AdamChannel.sig) → Buf (Elt Bits) ℓ) : Prop :=
  True

def Pre_AdamChannelIdeal (m : (ℓ : Loc Cert.AdamChannelIdeal.nD Cert.AdamChannelIdeal.τ Cert.AdamChannelIdeal.sig) → Buf (Elt Ideal) ℓ) : Prop :=
  True

def Pre_AdamChannelRefIdeal (m : (ℓ : Loc Cert.AdamChannelRefIdeal.nD Cert.AdamChannelRefIdeal.τ Cert.AdamChannelRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_SumGains (m : (ℓ : Loc Cert.SumGains.nD Cert.SumGains.τ Cert.SumGains.sig) → Buf (Elt Bits) ℓ) : Prop :=
  True

def Pre_SumGainsIdeal (m : (ℓ : Loc Cert.SumGainsIdeal.nD Cert.SumGainsIdeal.τ Cert.SumGainsIdeal.sig) → Buf (Elt Ideal) ℓ) : Prop :=
  True

def Pre_SumGainsRefIdeal (m : (ℓ : Loc Cert.SumGainsRefIdeal.nD Cert.SumGainsRefIdeal.τ Cert.SumGainsRefIdeal.sig) → Buf (Elt Ideal) ℓ) : Prop :=
  True

def Pre_SumChannels (m : (ℓ : Loc Cert.SumChannels.nD Cert.SumChannels.τ Cert.SumChannels.sig) → Buf (Elt Bits) ℓ) : Prop :=
  True

def Pre_SumChannelsIdeal (m : (ℓ : Loc Cert.SumChannelsIdeal.nD Cert.SumChannelsIdeal.τ Cert.SumChannelsIdeal.sig) → Buf (Elt Ideal) ℓ) : Prop :=
  True

def Pre_SumChannelsRefIdeal (m : (ℓ : Loc Cert.SumChannelsRefIdeal.nD Cert.SumChannelsRefIdeal.τ Cert.SumChannelsRefIdeal.sig) → Buf (Elt Ideal) ℓ) : Prop :=
  True

def Pre_SumQ (m : (ℓ : Loc Cert.SumQ.nD Cert.SumQ.τ Cert.SumQ.sig) → Buf (Elt Bits) ℓ) : Prop :=
  True

def Pre_SumQIdeal (m : (ℓ : Loc Cert.SumQIdeal.nD Cert.SumQIdeal.τ Cert.SumQIdeal.sig) → Buf (Elt Ideal) ℓ) : Prop :=
  True

def Pre_SumQRefIdeal (m : (ℓ : Loc Cert.SumQRefIdeal.nD Cert.SumQRefIdeal.τ Cert.SumQRefIdeal.sig) → Buf (Elt Ideal) ℓ) : Prop :=
  True

def Pre_SumKv (m : (ℓ : Loc Cert.SumKv.nD Cert.SumKv.τ Cert.SumKv.sig) → Buf (Elt Bits) ℓ) : Prop :=
  True

def Pre_SumKvIdeal (m : (ℓ : Loc Cert.SumKvIdeal.nD Cert.SumKvIdeal.τ Cert.SumKvIdeal.sig) → Buf (Elt Ideal) ℓ) : Prop :=
  True

def Pre_SumKvRefIdeal (m : (ℓ : Loc Cert.SumKvRefIdeal.nD Cert.SumKvRefIdeal.τ Cert.SumKvRefIdeal.sig) → Buf (Elt Ideal) ℓ) : Prop :=
  True

def Pre_SumPool (m : (ℓ : Loc Cert.SumPool.nD Cert.SumPool.τ Cert.SumPool.sig) → Buf (Elt Bits) ℓ) : Prop :=
  True

def Pre_SumPoolIdeal (m : (ℓ : Loc Cert.SumPoolIdeal.nD Cert.SumPoolIdeal.τ Cert.SumPoolIdeal.sig) → Buf (Elt Ideal) ℓ) : Prop :=
  True

def Pre_SumPoolRefIdeal (m : (ℓ : Loc Cert.SumPoolRefIdeal.nD Cert.SumPoolRefIdeal.τ Cert.SumPoolRefIdeal.sig) → Buf (Elt Ideal) ℓ) : Prop :=
  True

def Pre_SumLast (m : (ℓ : Loc Cert.SumLast.nD Cert.SumLast.τ Cert.SumLast.sig) → Buf (Elt Bits) ℓ) : Prop :=
  True

def Pre_SumLastIdeal (m : (ℓ : Loc Cert.SumLastIdeal.nD Cert.SumLastIdeal.τ Cert.SumLastIdeal.sig) → Buf (Elt Ideal) ℓ) : Prop :=
  True

def Pre_SumLastRefIdeal (m : (ℓ : Loc Cert.SumLastRefIdeal.nD Cert.SumLastRefIdeal.τ Cert.SumLastRefIdeal.sig) → Buf (Elt Ideal) ℓ) : Prop :=
  True

def Pre_LayersIn (m : (ℓ : Loc Cert.LayersIn.nD Cert.LayersIn.τ Cert.LayersIn.sig) → Buf (Elt Bits) ℓ) : Prop :=
  True

def Pre_LayersInIdeal (m : (ℓ : Loc Cert.LayersInIdeal.nD Cert.LayersInIdeal.τ Cert.LayersInIdeal.sig) → Buf (Elt Ideal) ℓ) : Prop :=
  True

def Pre_LayersInRefIdeal (m : (ℓ : Loc Cert.LayersInRefIdeal.nD Cert.LayersInRefIdeal.τ Cert.LayersInRefIdeal.sig) → Buf (Elt Ideal) ℓ) : Prop :=
  True

def Pre_LayersQ (m : (ℓ : Loc Cert.LayersQ.nD Cert.LayersQ.τ Cert.LayersQ.sig) → Buf (Elt Bits) ℓ) : Prop :=
  True

def Pre_LayersQIdeal (m : (ℓ : Loc Cert.LayersQIdeal.nD Cert.LayersQIdeal.τ Cert.LayersQIdeal.sig) → Buf (Elt Ideal) ℓ) : Prop :=
  True

def Pre_LayersQRefIdeal (m : (ℓ : Loc Cert.LayersQRefIdeal.nD Cert.LayersQRefIdeal.τ Cert.LayersQRefIdeal.sig) → Buf (Elt Ideal) ℓ) : Prop :=
  True

def Pre_LayersKv (m : (ℓ : Loc Cert.LayersKv.nD Cert.LayersKv.τ Cert.LayersKv.sig) → Buf (Elt Bits) ℓ) : Prop :=
  True

def Pre_LayersKvIdeal (m : (ℓ : Loc Cert.LayersKvIdeal.nD Cert.LayersKvIdeal.τ Cert.LayersKvIdeal.sig) → Buf (Elt Ideal) ℓ) : Prop :=
  True

def Pre_LayersKvRefIdeal (m : (ℓ : Loc Cert.LayersKvRefIdeal.nD Cert.LayersKvRefIdeal.τ Cert.LayersKvRefIdeal.sig) → Buf (Elt Ideal) ℓ) : Prop :=
  True

def Pre_LayersOut (m : (ℓ : Loc Cert.LayersOut.nD Cert.LayersOut.τ Cert.LayersOut.sig) → Buf (Elt Bits) ℓ) : Prop :=
  True

def Pre_LayersOutIdeal (m : (ℓ : Loc Cert.LayersOutIdeal.nD Cert.LayersOutIdeal.τ Cert.LayersOutIdeal.sig) → Buf (Elt Ideal) ℓ) : Prop :=
  True

def Pre_LayersOutRefIdeal (m : (ℓ : Loc Cert.LayersOutRefIdeal.nD Cert.LayersOutRefIdeal.τ Cert.LayersOutRefIdeal.sig) → Buf (Elt Ideal) ℓ) : Prop :=
  True

def Pre_LayersMix (m : (ℓ : Loc Cert.LayersMix.nD Cert.LayersMix.τ Cert.LayersMix.sig) → Buf (Elt Bits) ℓ) : Prop :=
  True

def Pre_LayersMixIdeal (m : (ℓ : Loc Cert.LayersMixIdeal.nD Cert.LayersMixIdeal.τ Cert.LayersMixIdeal.sig) → Buf (Elt Ideal) ℓ) : Prop :=
  True

def Pre_LayersMixRefIdeal (m : (ℓ : Loc Cert.LayersMixRefIdeal.nD Cert.LayersMixRefIdeal.τ Cert.LayersMixRefIdeal.sig) → Buf (Elt Ideal) ℓ) : Prop :=
  True

def Pre_LayersUp (m : (ℓ : Loc Cert.LayersUp.nD Cert.LayersUp.τ Cert.LayersUp.sig) → Buf (Elt Bits) ℓ) : Prop :=
  True

def Pre_LayersUpIdeal (m : (ℓ : Loc Cert.LayersUpIdeal.nD Cert.LayersUpIdeal.τ Cert.LayersUpIdeal.sig) → Buf (Elt Ideal) ℓ) : Prop :=
  True

def Pre_LayersUpRefIdeal (m : (ℓ : Loc Cert.LayersUpRefIdeal.nD Cert.LayersUpRefIdeal.τ Cert.LayersUpRefIdeal.sig) → Buf (Elt Ideal) ℓ) : Prop :=
  True

def Pre_LayersDown (m : (ℓ : Loc Cert.LayersDown.nD Cert.LayersDown.τ Cert.LayersDown.sig) → Buf (Elt Bits) ℓ) : Prop :=
  True

def Pre_LayersDownIdeal (m : (ℓ : Loc Cert.LayersDownIdeal.nD Cert.LayersDownIdeal.τ Cert.LayersDownIdeal.sig) → Buf (Elt Ideal) ℓ) : Prop :=
  True

def Pre_LayersDownRefIdeal (m : (ℓ : Loc Cert.LayersDownRefIdeal.nD Cert.LayersDownRefIdeal.τ Cert.LayersDownRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdIdeal_pre_ffn_down_finite [hDownBwdIdeal : Cert.DownBwdIdeal.Facts] [hPre_ffn_down_finite : Cert.Pre_ffn_down_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_ffn_down_finite m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_DownBwdRefIdeal_pre_ffn_down_finite [hDownBwdRefIdeal : Cert.DownBwdRefIdeal.Facts] [hPre_ffn_down_finite : Cert.Pre_ffn_down_finite.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_ffn_down_finite m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_AttnDw [hAttnDw : Cert.AttnDw.Facts] : Prop :=
  ∀ (m : (ℓ : Loc Cert.AttnDw.nD Cert.AttnDw.τ Cert.AttnDw.sig) → Buf (Elt Bits) ℓ) (g : Dev Cert.AttnDw.nD → PrngReg), Pre_AttnDw m →
    θ_run (Cert.AttnDw.defs (F := Bits)) (onTc (τ := Cert.AttnDw.τ) (Cert.AttnDw.main (F := Bits))) ⟨m, fun _ => 0, g⟩ (fun r => (∀ c : Dev Cert.AttnDw.nD,
      r.2.mem ((c.tc : Thread Cert.AttnDw.nD Cert.AttnDw.τ).loc Cert.AttnDw.main_arg0) = m ((c.tc : Thread Cert.AttnDw.nD Cert.AttnDw.τ).loc Cert.AttnDw.main_arg0)
      ∧ r.2.mem ((c.tc : Thread Cert.AttnDw.nD Cert.AttnDw.τ).loc Cert.AttnDw.main_arg1) = m ((c.tc : Thread Cert.AttnDw.nD Cert.AttnDw.τ).loc Cert.AttnDw.main_arg1))
      ∧ r.2.sem = fun _ => 0)

def quiescent_AttnDwIdeal [hAttnDwIdeal : Cert.AttnDwIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg), Pre_AttnDwIdeal m →
    θ_run (Cert.AttnDwIdeal.defs (F := Ideal)) (onTc (τ := Cert.AttnDwIdeal.τ) (Cert.AttnDwIdeal.main (F := Ideal))) ⟨m, fun _ => 0, g⟩ (fun r => (∀ c : Dev Cert.AttnDwIdeal.nD,
      r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
      ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ r.2.sem = fun _ => 0)

def quiescent_AttnDwRefIdeal [hAttnDwRefIdeal : Cert.AttnDwRefIdeal.Facts] : Prop :=
  ∀ (m : (ℓ : Loc Cert.AttnDwRefIdeal.nD Cert.AttnDwRefIdeal.τ Cert.AttnDwRefIdeal.sig) → Buf (Elt Ideal) ℓ) (g : Dev Cert.AttnDwRefIdeal.nD → PrngReg), Pre_AttnDwRefIdeal m →
    θ_run (Cert.AttnDwRefIdeal.defs (F := Ideal)) (onTc (τ := Cert.AttnDwRefIdeal.τ) (Cert.AttnDwRefIdeal.main (F := Ideal))) ⟨m, fun _ => 0, g⟩ (fun r => (∀ c : Dev Cert.AttnDwRefIdeal.nD,
      r.2.mem ((c.tc : Thread Cert.AttnDwRefIdeal.nD Cert.AttnDwRefIdeal.τ).loc Cert.AttnDwRefIdeal.main_arg0) = m ((c.tc : Thread Cert.AttnDwRefIdeal.nD Cert.AttnDwRefIdeal.τ).loc Cert.AttnDwRefIdeal.main_arg0)
      ∧ r.2.mem ((c.tc : Thread Cert.AttnDwRefIdeal.nD Cert.AttnDwRefIdeal.τ).loc Cert.AttnDwRefIdeal.main_arg1) = m ((c.tc : Thread Cert.AttnDwRefIdeal.nD Cert.AttnDwRefIdeal.τ).loc Cert.AttnDwRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4)
      ∧ r.2.mem ((c.tc : Thread Cert.Branches.nD Cert.Branches.τ).loc Cert.Branches.main_arg5) = m ((c.tc : Thread Cert.Branches.nD Cert.Branches.τ).loc Cert.Branches.main_arg5)
      ∧ r.2.mem ((c.tc : Thread Cert.Branches.nD Cert.Branches.τ).loc Cert.Branches.main_arg6) = m ((c.tc : Thread Cert.Branches.nD Cert.Branches.τ).loc Cert.Branches.main_arg6))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
      ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
      ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4)
      ∧ r.2.mem ((c.tc : Thread Cert.BranchesRefIdeal.nD Cert.BranchesRefIdeal.τ).loc Cert.BranchesRefIdeal.main_arg5) = m ((c.tc : Thread Cert.BranchesRefIdeal.nD Cert.BranchesRefIdeal.τ).loc Cert.BranchesRefIdeal.main_arg5)
      ∧ r.2.mem ((c.tc : Thread Cert.BranchesRefIdeal.nD Cert.BranchesRefIdeal.τ).loc Cert.BranchesRefIdeal.main_arg6) = m ((c.tc : Thread Cert.BranchesRefIdeal.nD Cert.BranchesRefIdeal.τ).loc Cert.BranchesRefIdeal.main_arg6))
      ∧ r.2.sem = fun _ => 0)

def quiescent_AttnOutBwd [hAttnOutBwd : Cert.AttnOutBwd.Facts] : Prop :=
  ∀ (m : (ℓ : Loc Cert.AttnOutBwd.nD Cert.AttnOutBwd.τ Cert.AttnOutBwd.sig) → Buf (Elt Bits) ℓ) (g : Dev Cert.AttnOutBwd.nD → PrngReg), Pre_AttnOutBwd m →
    θ_run (Cert.AttnOutBwd.defs (F := Bits)) (onTc (τ := Cert.AttnOutBwd.τ) (Cert.AttnOutBwd.main (F := Bits))) ⟨m, fun _ => 0, g⟩ (fun r => (∀ c : Dev Cert.AttnOutBwd.nD,
      r.2.mem ((c.tc : Thread Cert.AttnOutBwd.nD Cert.AttnOutBwd.τ).loc Cert.AttnOutBwd.main_arg0) = m ((c.tc : Thread Cert.AttnOutBwd.nD Cert.AttnOutBwd.τ).loc Cert.AttnOutBwd.main_arg0)
      ∧ r.2.mem ((c.tc : Thread Cert.AttnOutBwd.nD Cert.AttnOutBwd.τ).loc Cert.AttnOutBwd.main_arg1) = m ((c.tc : Thread Cert.AttnOutBwd.nD Cert.AttnOutBwd.τ).loc Cert.AttnOutBwd.main_arg1)
      ∧ r.2.mem ((c.tc : Thread Cert.AttnOutBwd.nD Cert.AttnOutBwd.τ).loc Cert.AttnOutBwd.main_arg2) = m ((c.tc : Thread Cert.AttnOutBwd.nD Cert.AttnOutBwd.τ).loc Cert.AttnOutBwd.main_arg2))
      ∧ r.2.sem = fun _ => 0)

def quiescent_AttnOutBwdIdeal [hAttnOutBwdIdeal : Cert.AttnOutBwdIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg), Pre_AttnOutBwdIdeal m →
    θ_run (Cert.AttnOutBwdIdeal.defs (F := Ideal)) (onTc (τ := Cert.AttnOutBwdIdeal.τ) (Cert.AttnOutBwdIdeal.main (F := Ideal))) ⟨m, fun _ => 0, g⟩ (fun r => (∀ c : Dev Cert.AttnOutBwdIdeal.nD,
      r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
      ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1)
      ∧ r.2.mem ((c.tc : Thread Cert.AttnOutBwdIdeal.nD Cert.AttnOutBwdIdeal.τ).loc Cert.AttnOutBwdIdeal.main_arg2) = m ((c.tc : Thread Cert.AttnOutBwdIdeal.nD Cert.AttnOutBwdIdeal.τ).loc Cert.AttnOutBwdIdeal.main_arg2))
      ∧ r.2.sem = fun _ => 0)

def quiescent_AttnOutBwdRefIdeal [hAttnOutBwdRefIdeal : Cert.AttnOutBwdRefIdeal.Facts] : Prop :=
  ∀ (m : (ℓ : Loc Cert.AttnOutBwdRefIdeal.nD Cert.AttnOutBwdRefIdeal.τ Cert.AttnOutBwdRefIdeal.sig) → Buf (Elt Ideal) ℓ) (g : Dev Cert.AttnOutBwdRefIdeal.nD → PrngReg), Pre_AttnOutBwdRefIdeal m →
    θ_run (Cert.AttnOutBwdRefIdeal.defs (F := Ideal)) (onTc (τ := Cert.AttnOutBwdRefIdeal.τ) (Cert.AttnOutBwdRefIdeal.main (F := Ideal))) ⟨m, fun _ => 0, g⟩ (fun r => (∀ c : Dev Cert.AttnOutBwdRefIdeal.nD,
      r.2.mem ((c.tc : Thread Cert.AttnOutBwdRefIdeal.nD Cert.AttnOutBwdRefIdeal.τ).loc Cert.AttnOutBwdRefIdeal.main_arg0) = m ((c.tc : Thread Cert.AttnOutBwdRefIdeal.nD Cert.AttnOutBwdRefIdeal.τ).loc Cert.AttnOutBwdRefIdeal.main_arg0)
      ∧ r.2.mem ((c.tc : Thread Cert.AttnOutBwdRefIdeal.nD Cert.AttnOutBwdRefIdeal.τ).loc Cert.AttnOutBwdRefIdeal.main_arg1) = m ((c.tc : Thread Cert.AttnOutBwdRefIdeal.nD Cert.AttnOutBwdRefIdeal.τ).loc Cert.AttnOutBwdRefIdeal.main_arg1)
      ∧ r.2.mem ((c.tc : Thread Cert.AttnOutBwdRefIdeal.nD Cert.AttnOutBwdRefIdeal.τ).loc Cert.AttnOutBwdRefIdeal.main_arg2) = m ((c.tc : Thread Cert.AttnOutBwdRefIdeal.nD Cert.AttnOutBwdRefIdeal.τ).loc Cert.AttnOutBwdRefIdeal.main_arg2))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQGain [hAdamQGain : Cert.AdamQGain.Facts] : Prop :=
  ∀ (m : (ℓ : Loc Cert.AdamQGain.nD Cert.AdamQGain.τ Cert.AdamQGain.sig) → Buf (Elt Bits) ℓ) (g : Dev Cert.AdamQGain.nD → PrngReg), Pre_AdamQGain m →
    θ_run (Cert.AdamQGain.defs (F := Bits)) (onTc (τ := Cert.AdamQGain.τ) (Cert.AdamQGain.main (F := Bits))) ⟨m, fun _ => 0, g⟩ (fun r => (∀ c : Dev Cert.AdamQGain.nD,
      r.2.mem ((c.tc : Thread Cert.AdamQGain.nD Cert.AdamQGain.τ).loc Cert.AdamQGain.main_arg0) = m ((c.tc : Thread Cert.AdamQGain.nD Cert.AdamQGain.τ).loc Cert.AdamQGain.main_arg0)
      ∧ r.2.mem ((c.tc : Thread Cert.AdamQGain.nD Cert.AdamQGain.τ).loc Cert.AdamQGain.main_arg1) = m ((c.tc : Thread Cert.AdamQGain.nD Cert.AdamQGain.τ).loc Cert.AdamQGain.main_arg1)
      ∧ r.2.mem ((c.tc : Thread Cert.AdamQGain.nD Cert.AdamQGain.τ).loc Cert.AdamQGain.main_arg2) = m ((c.tc : Thread Cert.AdamQGain.nD Cert.AdamQGain.τ).loc Cert.AdamQGain.main_arg2)
      ∧ r.2.mem ((c.tc : Thread Cert.AdamQGain.nD Cert.AdamQGain.τ).loc Cert.AdamQGain.main_arg3) = m ((c.tc : Thread Cert.AdamQGain.nD Cert.AdamQGain.τ).loc Cert.AdamQGain.main_arg3))
      ∧ r.2.sem = fun _ => 0)

def quiescent_AdamQGainIdeal [hAdamQGainIdeal : Cert.AdamQGainIdeal.Facts] : Prop :=
  ∀ (m : (ℓ : Loc Cert.AdamQGainIdeal.nD Cert.AdamQGainIdeal.τ Cert.AdamQGainIdeal.sig) → Buf (Elt Ideal) ℓ) (g : Dev Cert.AdamQGainIdeal.nD → PrngReg), Pre_AdamQGainIdeal m →
    θ_run (Cert.AdamQGainIdeal.defs (F := Ideal)) (onTc (τ := Cert.AdamQGainIdeal.τ) (Cert.AdamQGainIdeal.main (F := Ideal))) ⟨m, fun _ => 0, g⟩ (fun r => (∀ c : Dev Cert.AdamQGainIdeal.nD,
      r.2.mem ((c.tc : Thread Cert.AdamQGainIdeal.nD Cert.AdamQGainIdeal.τ).loc Cert.AdamQGainIdeal.main_arg0) = m ((c.tc : Thread Cert.AdamQGainIdeal.nD Cert.AdamQGainIdeal.τ).loc Cert.AdamQGainIdeal.main_arg0)
      ∧ r.2.mem ((c.tc : Thread Cert.AdamQGainIdeal.nD Cert.AdamQGainIdeal.τ).loc Cert.AdamQGainIdeal.main_arg1) = m ((c.tc : Thread Cert.AdamQGainIdeal.nD Cert.AdamQGainIdeal.τ).loc Cert.AdamQGainIdeal.main_arg1)
      ∧ r.2.mem ((c.tc : Thread Cert.AdamQGainIdeal.nD Cert.AdamQGainIdeal.τ).loc Cert.AdamQGainIdeal.main_arg2) = m ((c.tc : Thread Cert.AdamQGainIdeal.nD Cert.AdamQGainIdeal.τ).loc Cert.AdamQGainIdeal.main_arg2)
      ∧ r.2.mem ((c.tc : Thread Cert.AdamQGainIdeal.nD Cert.AdamQGainIdeal.τ).loc Cert.AdamQGainIdeal.main_arg3) = m ((c.tc : Thread Cert.AdamQGainIdeal.nD Cert.AdamQGainIdeal.τ).loc Cert.AdamQGainIdeal.main_arg3))
      ∧ r.2.sem = fun _ => 0)

def quiescent_AdamQGainRefIdeal [hAdamQGainRefIdeal : Cert.AdamQGainRefIdeal.Facts] : Prop :=
  ∀ (m : (ℓ : Loc Cert.AdamQGainRefIdeal.nD Cert.AdamQGainRefIdeal.τ Cert.AdamQGainRefIdeal.sig) → Buf (Elt Ideal) ℓ) (g : Dev Cert.AdamQGainRefIdeal.nD → PrngReg), Pre_AdamQGainRefIdeal m →
    θ_run (Cert.AdamQGainRefIdeal.defs (F := Ideal)) (onTc (τ := Cert.AdamQGainRefIdeal.τ) (Cert.AdamQGainRefIdeal.main (F := Ideal))) ⟨m, fun _ => 0, g⟩ (fun r => (∀ c : Dev Cert.AdamQGainRefIdeal.nD,
      r.2.mem ((c.tc : Thread Cert.AdamQGainRefIdeal.nD Cert.AdamQGainRefIdeal.τ).loc Cert.AdamQGainRefIdeal.main_arg0) = m ((c.tc : Thread Cert.AdamQGainRefIdeal.nD Cert.AdamQGainRefIdeal.τ).loc Cert.AdamQGainRefIdeal.main_arg0)
      ∧ r.2.mem ((c.tc : Thread Cert.AdamQGainRefIdeal.nD Cert.AdamQGainRefIdeal.τ).loc Cert.AdamQGainRefIdeal.main_arg1) = m ((c.tc : Thread Cert.AdamQGainRefIdeal.nD Cert.AdamQGainRefIdeal.τ).loc Cert.AdamQGainRefIdeal.main_arg1)
      ∧ r.2.mem ((c.tc : Thread Cert.AdamQGainRefIdeal.nD Cert.AdamQGainRefIdeal.τ).loc Cert.AdamQGainRefIdeal.main_arg2) = m ((c.tc : Thread Cert.AdamQGainRefIdeal.nD Cert.AdamQGainRefIdeal.τ).loc Cert.AdamQGainRefIdeal.main_arg2)
      ∧ r.2.mem ((c.tc : Thread Cert.AdamQGainRefIdeal.nD Cert.AdamQGainRefIdeal.τ).loc Cert.AdamQGainRefIdeal.main_arg3) = m ((c.tc : Thread Cert.AdamQGainRefIdeal.nD Cert.AdamQGainRefIdeal.τ).loc Cert.AdamQGainRefIdeal.main_arg3))
      ∧ r.2.sem = fun _ => 0)

def quiescent_AdamKvGain [hAdamKvGain : Cert.AdamKvGain.Facts] : Prop :=
  ∀ (m : (ℓ : Loc Cert.AdamKvGain.nD Cert.AdamKvGain.τ Cert.AdamKvGain.sig) → Buf (Elt Bits) ℓ) (g : Dev Cert.AdamKvGain.nD → PrngReg), Pre_AdamKvGain m →
    θ_run (Cert.AdamKvGain.defs (F := Bits)) (onTc (τ := Cert.AdamKvGain.τ) (Cert.AdamKvGain.main (F := Bits))) ⟨m, fun _ => 0, g⟩ (fun r => (∀ c : Dev Cert.AdamKvGain.nD,
      r.2.mem ((c.tc : Thread Cert.AdamKvGain.nD Cert.AdamKvGain.τ).loc Cert.AdamKvGain.main_arg0) = m ((c.tc : Thread Cert.AdamKvGain.nD Cert.AdamKvGain.τ).loc Cert.AdamKvGain.main_arg0)
      ∧ r.2.mem ((c.tc : Thread Cert.AdamKvGain.nD Cert.AdamKvGain.τ).loc Cert.AdamKvGain.main_arg1) = m ((c.tc : Thread Cert.AdamKvGain.nD Cert.AdamKvGain.τ).loc Cert.AdamKvGain.main_arg1)
      ∧ r.2.mem ((c.tc : Thread Cert.AdamKvGain.nD Cert.AdamKvGain.τ).loc Cert.AdamKvGain.main_arg2) = m ((c.tc : Thread Cert.AdamKvGain.nD Cert.AdamKvGain.τ).loc Cert.AdamKvGain.main_arg2)
      ∧ r.2.mem ((c.tc : Thread Cert.AdamKvGain.nD Cert.AdamKvGain.τ).loc Cert.AdamKvGain.main_arg3) = m ((c.tc : Thread Cert.AdamKvGain.nD Cert.AdamKvGain.τ).loc Cert.AdamKvGain.main_arg3))
      ∧ r.2.sem = fun _ => 0)

def quiescent_AdamKvGainIdeal [hAdamKvGainIdeal : Cert.AdamKvGainIdeal.Facts] : Prop :=
  ∀ (m : (ℓ : Loc Cert.AdamKvGainIdeal.nD Cert.AdamKvGainIdeal.τ Cert.AdamKvGainIdeal.sig) → Buf (Elt Ideal) ℓ) (g : Dev Cert.AdamKvGainIdeal.nD → PrngReg), Pre_AdamKvGainIdeal m →
    θ_run (Cert.AdamKvGainIdeal.defs (F := Ideal)) (onTc (τ := Cert.AdamKvGainIdeal.τ) (Cert.AdamKvGainIdeal.main (F := Ideal))) ⟨m, fun _ => 0, g⟩ (fun r => (∀ c : Dev Cert.AdamKvGainIdeal.nD,
      r.2.mem ((c.tc : Thread Cert.AdamKvGainIdeal.nD Cert.AdamKvGainIdeal.τ).loc Cert.AdamKvGainIdeal.main_arg0) = m ((c.tc : Thread Cert.AdamKvGainIdeal.nD Cert.AdamKvGainIdeal.τ).loc Cert.AdamKvGainIdeal.main_arg0)
      ∧ r.2.mem ((c.tc : Thread Cert.AdamKvGainIdeal.nD Cert.AdamKvGainIdeal.τ).loc Cert.AdamKvGainIdeal.main_arg1) = m ((c.tc : Thread Cert.AdamKvGainIdeal.nD Cert.AdamKvGainIdeal.τ).loc Cert.AdamKvGainIdeal.main_arg1)
      ∧ r.2.mem ((c.tc : Thread Cert.AdamKvGainIdeal.nD Cert.AdamKvGainIdeal.τ).loc Cert.AdamKvGainIdeal.main_arg2) = m ((c.tc : Thread Cert.AdamKvGainIdeal.nD Cert.AdamKvGainIdeal.τ).loc Cert.AdamKvGainIdeal.main_arg2)
      ∧ r.2.mem ((c.tc : Thread Cert.AdamKvGainIdeal.nD Cert.AdamKvGainIdeal.τ).loc Cert.AdamKvGainIdeal.main_arg3) = m ((c.tc : Thread Cert.AdamKvGainIdeal.nD Cert.AdamKvGainIdeal.τ).loc Cert.AdamKvGainIdeal.main_arg3))
      ∧ r.2.sem = fun _ => 0)

def quiescent_AdamKvGainRefIdeal [hAdamKvGainRefIdeal : Cert.AdamKvGainRefIdeal.Facts] : Prop :=
  ∀ (m : (ℓ : Loc Cert.AdamKvGainRefIdeal.nD Cert.AdamKvGainRefIdeal.τ Cert.AdamKvGainRefIdeal.sig) → Buf (Elt Ideal) ℓ) (g : Dev Cert.AdamKvGainRefIdeal.nD → PrngReg), Pre_AdamKvGainRefIdeal m →
    θ_run (Cert.AdamKvGainRefIdeal.defs (F := Ideal)) (onTc (τ := Cert.AdamKvGainRefIdeal.τ) (Cert.AdamKvGainRefIdeal.main (F := Ideal))) ⟨m, fun _ => 0, g⟩ (fun r => (∀ c : Dev Cert.AdamKvGainRefIdeal.nD,
      r.2.mem ((c.tc : Thread Cert.AdamKvGainRefIdeal.nD Cert.AdamKvGainRefIdeal.τ).loc Cert.AdamKvGainRefIdeal.main_arg0) = m ((c.tc : Thread Cert.AdamKvGainRefIdeal.nD Cert.AdamKvGainRefIdeal.τ).loc Cert.AdamKvGainRefIdeal.main_arg0)
      ∧ r.2.mem ((c.tc : Thread Cert.AdamKvGainRefIdeal.nD Cert.AdamKvGainRefIdeal.τ).loc Cert.AdamKvGainRefIdeal.main_arg1) = m ((c.tc : Thread Cert.AdamKvGainRefIdeal.nD Cert.AdamKvGainRefIdeal.τ).loc Cert.AdamKvGainRefIdeal.main_arg1)
      ∧ r.2.mem ((c.tc : Thread Cert.AdamKvGainRefIdeal.nD Cert.AdamKvGainRefIdeal.τ).loc Cert.AdamKvGainRefIdeal.main_arg2) = m ((c.tc : Thread Cert.AdamKvGainRefIdeal.nD Cert.AdamKvGainRefIdeal.τ).loc Cert.AdamKvGainRefIdeal.main_arg2)
      ∧ r.2.mem ((c.tc : Thread Cert.AdamKvGainRefIdeal.nD Cert.AdamKvGainRefIdeal.τ).loc Cert.AdamKvGainRefIdeal.main_arg3) = m ((c.tc : Thread Cert.AdamKvGainRefIdeal.nD Cert.AdamKvGainRefIdeal.τ).loc Cert.AdamKvGainRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamChannel [hAdamChannel : Cert.AdamChannel.Facts] : Prop :=
  ∀ (m : (ℓ : Loc Cert.AdamChannel.nD Cert.AdamChannel.τ Cert.AdamChannel.sig) → Buf (Elt Bits) ℓ) (g : Dev Cert.AdamChannel.nD → PrngReg), Pre_AdamChannel m →
    θ_run (Cert.AdamChannel.defs (F := Bits)) (onTc (τ := Cert.AdamChannel.τ) (Cert.AdamChannel.main (F := Bits))) ⟨m, fun _ => 0, g⟩ (fun r => (∀ c : Dev Cert.AdamChannel.nD,
      r.2.mem ((c.tc : Thread Cert.AdamChannel.nD Cert.AdamChannel.τ).loc Cert.AdamChannel.main_arg0) = m ((c.tc : Thread Cert.AdamChannel.nD Cert.AdamChannel.τ).loc Cert.AdamChannel.main_arg0)
      ∧ r.2.mem ((c.tc : Thread Cert.AdamChannel.nD Cert.AdamChannel.τ).loc Cert.AdamChannel.main_arg1) = m ((c.tc : Thread Cert.AdamChannel.nD Cert.AdamChannel.τ).loc Cert.AdamChannel.main_arg1)
      ∧ r.2.mem ((c.tc : Thread Cert.AdamChannel.nD Cert.AdamChannel.τ).loc Cert.AdamChannel.main_arg2) = m ((c.tc : Thread Cert.AdamChannel.nD Cert.AdamChannel.τ).loc Cert.AdamChannel.main_arg2)
      ∧ r.2.mem ((c.tc : Thread Cert.AdamChannel.nD Cert.AdamChannel.τ).loc Cert.AdamChannel.main_arg3) = m ((c.tc : Thread Cert.AdamChannel.nD Cert.AdamChannel.τ).loc Cert.AdamChannel.main_arg3))
      ∧ r.2.sem = fun _ => 0)

def quiescent_AdamChannelIdeal [hAdamChannelIdeal : Cert.AdamChannelIdeal.Facts] : Prop :=
  ∀ (m : (ℓ : Loc Cert.AdamChannelIdeal.nD Cert.AdamChannelIdeal.τ Cert.AdamChannelIdeal.sig) → Buf (Elt Ideal) ℓ) (g : Dev Cert.AdamChannelIdeal.nD → PrngReg), Pre_AdamChannelIdeal m →
    θ_run (Cert.AdamChannelIdeal.defs (F := Ideal)) (onTc (τ := Cert.AdamChannelIdeal.τ) (Cert.AdamChannelIdeal.main (F := Ideal))) ⟨m, fun _ => 0, g⟩ (fun r => (∀ c : Dev Cert.AdamChannelIdeal.nD,
      r.2.mem ((c.tc : Thread Cert.AdamChannelIdeal.nD Cert.AdamChannelIdeal.τ).loc Cert.AdamChannelIdeal.main_arg0) = m ((c.tc : Thread Cert.AdamChannelIdeal.nD Cert.AdamChannelIdeal.τ).loc Cert.AdamChannelIdeal.main_arg0)
      ∧ r.2.mem ((c.tc : Thread Cert.AdamChannelIdeal.nD Cert.AdamChannelIdeal.τ).loc Cert.AdamChannelIdeal.main_arg1) = m ((c.tc : Thread Cert.AdamChannelIdeal.nD Cert.AdamChannelIdeal.τ).loc Cert.AdamChannelIdeal.main_arg1)
      ∧ r.2.mem ((c.tc : Thread Cert.AdamChannelIdeal.nD Cert.AdamChannelIdeal.τ).loc Cert.AdamChannelIdeal.main_arg2) = m ((c.tc : Thread Cert.AdamChannelIdeal.nD Cert.AdamChannelIdeal.τ).loc Cert.AdamChannelIdeal.main_arg2)
      ∧ r.2.mem ((c.tc : Thread Cert.AdamChannelIdeal.nD Cert.AdamChannelIdeal.τ).loc Cert.AdamChannelIdeal.main_arg3) = m ((c.tc : Thread Cert.AdamChannelIdeal.nD Cert.AdamChannelIdeal.τ).loc Cert.AdamChannelIdeal.main_arg3))
      ∧ r.2.sem = fun _ => 0)

def quiescent_AdamChannelRefIdeal [hAdamChannelRefIdeal : Cert.AdamChannelRefIdeal.Facts] : Prop :=
  ∀ (m : (ℓ : Loc Cert.AdamChannelRefIdeal.nD Cert.AdamChannelRefIdeal.τ Cert.AdamChannelRefIdeal.sig) → Buf (Elt Ideal) ℓ) (g : Dev Cert.AdamChannelRefIdeal.nD → PrngReg), Pre_AdamChannelRefIdeal m →
    θ_run (Cert.AdamChannelRefIdeal.defs (F := Ideal)) (onTc (τ := Cert.AdamChannelRefIdeal.τ) (Cert.AdamChannelRefIdeal.main (F := Ideal))) ⟨m, fun _ => 0, g⟩ (fun r => (∀ c : Dev Cert.AdamChannelRefIdeal.nD,
      r.2.mem ((c.tc : Thread Cert.AdamChannelRefIdeal.nD Cert.AdamChannelRefIdeal.τ).loc Cert.AdamChannelRefIdeal.main_arg0) = m ((c.tc : Thread Cert.AdamChannelRefIdeal.nD Cert.AdamChannelRefIdeal.τ).loc Cert.AdamChannelRefIdeal.main_arg0)
      ∧ r.2.mem ((c.tc : Thread Cert.AdamChannelRefIdeal.nD Cert.AdamChannelRefIdeal.τ).loc Cert.AdamChannelRefIdeal.main_arg1) = m ((c.tc : Thread Cert.AdamChannelRefIdeal.nD Cert.AdamChannelRefIdeal.τ).loc Cert.AdamChannelRefIdeal.main_arg1)
      ∧ r.2.mem ((c.tc : Thread Cert.AdamChannelRefIdeal.nD Cert.AdamChannelRefIdeal.τ).loc Cert.AdamChannelRefIdeal.main_arg2) = m ((c.tc : Thread Cert.AdamChannelRefIdeal.nD Cert.AdamChannelRefIdeal.τ).loc Cert.AdamChannelRefIdeal.main_arg2)
      ∧ r.2.mem ((c.tc : Thread Cert.AdamChannelRefIdeal.nD Cert.AdamChannelRefIdeal.τ).loc Cert.AdamChannelRefIdeal.main_arg3) = m ((c.tc : Thread Cert.AdamChannelRefIdeal.nD Cert.AdamChannelRefIdeal.τ).loc Cert.AdamChannelRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_SumGains [hSumGains : Cert.SumGains.Facts] : Prop :=
  ∀ (m : (ℓ : Loc Cert.SumGains.nD Cert.SumGains.τ Cert.SumGains.sig) → Buf (Elt Bits) ℓ) (g : Dev Cert.SumGains.nD → PrngReg), Pre_SumGains m →
    θ_run (Cert.SumGains.defs (F := Bits)) (onTc (τ := Cert.SumGains.τ) (Cert.SumGains.main (F := Bits))) ⟨m, fun _ => 0, g⟩ (fun r => (∀ c : Dev Cert.SumGains.nD,
      r.2.mem ((c.tc : Thread Cert.SumGains.nD Cert.SumGains.τ).loc Cert.SumGains.main_arg0) = m ((c.tc : Thread Cert.SumGains.nD Cert.SumGains.τ).loc Cert.SumGains.main_arg0))
      ∧ r.2.sem = fun _ => 0)

def quiescent_SumGainsIdeal [hSumGainsIdeal : Cert.SumGainsIdeal.Facts] : Prop :=
  ∀ (m : (ℓ : Loc Cert.SumGainsIdeal.nD Cert.SumGainsIdeal.τ Cert.SumGainsIdeal.sig) → Buf (Elt Ideal) ℓ) (g : Dev Cert.SumGainsIdeal.nD → PrngReg), Pre_SumGainsIdeal m →
    θ_run (Cert.SumGainsIdeal.defs (F := Ideal)) (onTc (τ := Cert.SumGainsIdeal.τ) (Cert.SumGainsIdeal.main (F := Ideal))) ⟨m, fun _ => 0, g⟩ (fun r => (∀ c : Dev Cert.SumGainsIdeal.nD,
      r.2.mem ((c.tc : Thread Cert.SumGainsIdeal.nD Cert.SumGainsIdeal.τ).loc Cert.SumGainsIdeal.main_arg0) = m ((c.tc : Thread Cert.SumGainsIdeal.nD Cert.SumGainsIdeal.τ).loc Cert.SumGainsIdeal.main_arg0))
      ∧ r.2.sem = fun _ => 0)

def quiescent_SumGainsRefIdeal [hSumGainsRefIdeal : Cert.SumGainsRefIdeal.Facts] : Prop :=
  ∀ (m : (ℓ : Loc Cert.SumGainsRefIdeal.nD Cert.SumGainsRefIdeal.τ Cert.SumGainsRefIdeal.sig) → Buf (Elt Ideal) ℓ) (g : Dev Cert.SumGainsRefIdeal.nD → PrngReg), Pre_SumGainsRefIdeal m →
    θ_run (Cert.SumGainsRefIdeal.defs (F := Ideal)) (onTc (τ := Cert.SumGainsRefIdeal.τ) (Cert.SumGainsRefIdeal.main (F := Ideal))) ⟨m, fun _ => 0, g⟩ (fun r => (∀ c : Dev Cert.SumGainsRefIdeal.nD,
      r.2.mem ((c.tc : Thread Cert.SumGainsRefIdeal.nD Cert.SumGainsRefIdeal.τ).loc Cert.SumGainsRefIdeal.main_arg0) = m ((c.tc : Thread Cert.SumGainsRefIdeal.nD Cert.SumGainsRefIdeal.τ).loc Cert.SumGainsRefIdeal.main_arg0))
      ∧ r.2.sem = fun _ => 0)

def quiescent_SumChannels [hSumChannels : Cert.SumChannels.Facts] : Prop :=
  ∀ (m : (ℓ : Loc Cert.SumChannels.nD Cert.SumChannels.τ Cert.SumChannels.sig) → Buf (Elt Bits) ℓ) (g : Dev Cert.SumChannels.nD → PrngReg), Pre_SumChannels m →
    θ_run (Cert.SumChannels.defs (F := Bits)) (onTc (τ := Cert.SumChannels.τ) (Cert.SumChannels.main (F := Bits))) ⟨m, fun _ => 0, g⟩ (fun r => (∀ c : Dev Cert.SumChannels.nD,
      r.2.mem ((c.tc : Thread Cert.SumChannels.nD Cert.SumChannels.τ).loc Cert.SumChannels.main_arg0) = m ((c.tc : Thread Cert.SumChannels.nD Cert.SumChannels.τ).loc Cert.SumChannels.main_arg0))
      ∧ r.2.sem = fun _ => 0)

def quiescent_SumChannelsIdeal [hSumChannelsIdeal : Cert.SumChannelsIdeal.Facts] : Prop :=
  ∀ (m : (ℓ : Loc Cert.SumChannelsIdeal.nD Cert.SumChannelsIdeal.τ Cert.SumChannelsIdeal.sig) → Buf (Elt Ideal) ℓ) (g : Dev Cert.SumChannelsIdeal.nD → PrngReg), Pre_SumChannelsIdeal m →
    θ_run (Cert.SumChannelsIdeal.defs (F := Ideal)) (onTc (τ := Cert.SumChannelsIdeal.τ) (Cert.SumChannelsIdeal.main (F := Ideal))) ⟨m, fun _ => 0, g⟩ (fun r => (∀ c : Dev Cert.SumChannelsIdeal.nD,
      r.2.mem ((c.tc : Thread Cert.SumChannelsIdeal.nD Cert.SumChannelsIdeal.τ).loc Cert.SumChannelsIdeal.main_arg0) = m ((c.tc : Thread Cert.SumChannelsIdeal.nD Cert.SumChannelsIdeal.τ).loc Cert.SumChannelsIdeal.main_arg0))
      ∧ r.2.sem = fun _ => 0)

def quiescent_SumChannelsRefIdeal [hSumChannelsRefIdeal : Cert.SumChannelsRefIdeal.Facts] : Prop :=
  ∀ (m : (ℓ : Loc Cert.SumChannelsRefIdeal.nD Cert.SumChannelsRefIdeal.τ Cert.SumChannelsRefIdeal.sig) → Buf (Elt Ideal) ℓ) (g : Dev Cert.SumChannelsRefIdeal.nD → PrngReg), Pre_SumChannelsRefIdeal m →
    θ_run (Cert.SumChannelsRefIdeal.defs (F := Ideal)) (onTc (τ := Cert.SumChannelsRefIdeal.τ) (Cert.SumChannelsRefIdeal.main (F := Ideal))) ⟨m, fun _ => 0, g⟩ (fun r => (∀ c : Dev Cert.SumChannelsRefIdeal.nD,
      r.2.mem ((c.tc : Thread Cert.SumChannelsRefIdeal.nD Cert.SumChannelsRefIdeal.τ).loc Cert.SumChannelsRefIdeal.main_arg0) = m ((c.tc : Thread Cert.SumChannelsRefIdeal.nD Cert.SumChannelsRefIdeal.τ).loc Cert.SumChannelsRefIdeal.main_arg0))
      ∧ r.2.sem = fun _ => 0)

def quiescent_SumQ [hSumQ : Cert.SumQ.Facts] : Prop :=
  ∀ (m : (ℓ : Loc Cert.SumQ.nD Cert.SumQ.τ Cert.SumQ.sig) → Buf (Elt Bits) ℓ) (g : Dev Cert.SumQ.nD → PrngReg), Pre_SumQ m →
    θ_run (Cert.SumQ.defs (F := Bits)) (onTc (τ := Cert.SumQ.τ) (Cert.SumQ.main (F := Bits))) ⟨m, fun _ => 0, g⟩ (fun r => (∀ c : Dev Cert.SumQ.nD,
      r.2.mem ((c.tc : Thread Cert.SumQ.nD Cert.SumQ.τ).loc Cert.SumQ.main_arg0) = m ((c.tc : Thread Cert.SumQ.nD Cert.SumQ.τ).loc Cert.SumQ.main_arg0))
      ∧ r.2.sem = fun _ => 0)

def quiescent_SumQIdeal [hSumQIdeal : Cert.SumQIdeal.Facts] : Prop :=
  ∀ (m : (ℓ : Loc Cert.SumQIdeal.nD Cert.SumQIdeal.τ Cert.SumQIdeal.sig) → Buf (Elt Ideal) ℓ) (g : Dev Cert.SumQIdeal.nD → PrngReg), Pre_SumQIdeal m →
    θ_run (Cert.SumQIdeal.defs (F := Ideal)) (onTc (τ := Cert.SumQIdeal.τ) (Cert.SumQIdeal.main (F := Ideal))) ⟨m, fun _ => 0, g⟩ (fun r => (∀ c : Dev Cert.SumQIdeal.nD,
      r.2.mem ((c.tc : Thread Cert.SumQIdeal.nD Cert.SumQIdeal.τ).loc Cert.SumQIdeal.main_arg0) = m ((c.tc : Thread Cert.SumQIdeal.nD Cert.SumQIdeal.τ).loc Cert.SumQIdeal.main_arg0))
      ∧ r.2.sem = fun _ => 0)

def quiescent_SumQRefIdeal [hSumQRefIdeal : Cert.SumQRefIdeal.Facts] : Prop :=
  ∀ (m : (ℓ : Loc Cert.SumQRefIdeal.nD Cert.SumQRefIdeal.τ Cert.SumQRefIdeal.sig) → Buf (Elt Ideal) ℓ) (g : Dev Cert.SumQRefIdeal.nD → PrngReg), Pre_SumQRefIdeal m →
    θ_run (Cert.SumQRefIdeal.defs (F := Ideal)) (onTc (τ := Cert.SumQRefIdeal.τ) (Cert.SumQRefIdeal.main (F := Ideal))) ⟨m, fun _ => 0, g⟩ (fun r => (∀ c : Dev Cert.SumQRefIdeal.nD,
      r.2.mem ((c.tc : Thread Cert.SumQRefIdeal.nD Cert.SumQRefIdeal.τ).loc Cert.SumQRefIdeal.main_arg0) = m ((c.tc : Thread Cert.SumQRefIdeal.nD Cert.SumQRefIdeal.τ).loc Cert.SumQRefIdeal.main_arg0))
      ∧ r.2.sem = fun _ => 0)

def quiescent_SumKv [hSumKv : Cert.SumKv.Facts] : Prop :=
  ∀ (m : (ℓ : Loc Cert.SumKv.nD Cert.SumKv.τ Cert.SumKv.sig) → Buf (Elt Bits) ℓ) (g : Dev Cert.SumKv.nD → PrngReg), Pre_SumKv m →
    θ_run (Cert.SumKv.defs (F := Bits)) (onTc (τ := Cert.SumKv.τ) (Cert.SumKv.main (F := Bits))) ⟨m, fun _ => 0, g⟩ (fun r => (∀ c : Dev Cert.SumKv.nD,
      r.2.mem ((c.tc : Thread Cert.SumKv.nD Cert.SumKv.τ).loc Cert.SumKv.main_arg0) = m ((c.tc : Thread Cert.SumKv.nD Cert.SumKv.τ).loc Cert.SumKv.main_arg0))
      ∧ r.2.sem = fun _ => 0)

def quiescent_SumKvIdeal [hSumKvIdeal : Cert.SumKvIdeal.Facts] : Prop :=
  ∀ (m : (ℓ : Loc Cert.SumKvIdeal.nD Cert.SumKvIdeal.τ Cert.SumKvIdeal.sig) → Buf (Elt Ideal) ℓ) (g : Dev Cert.SumKvIdeal.nD → PrngReg), Pre_SumKvIdeal m →
    θ_run (Cert.SumKvIdeal.defs (F := Ideal)) (onTc (τ := Cert.SumKvIdeal.τ) (Cert.SumKvIdeal.main (F := Ideal))) ⟨m, fun _ => 0, g⟩ (fun r => (∀ c : Dev Cert.SumKvIdeal.nD,
      r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ r.2.sem = fun _ => 0)

def quiescent_SumKvRefIdeal [hSumKvRefIdeal : Cert.SumKvRefIdeal.Facts] : Prop :=
  ∀ (m : (ℓ : Loc Cert.SumKvRefIdeal.nD Cert.SumKvRefIdeal.τ Cert.SumKvRefIdeal.sig) → Buf (Elt Ideal) ℓ) (g : Dev Cert.SumKvRefIdeal.nD → PrngReg), Pre_SumKvRefIdeal m →
    θ_run (Cert.SumKvRefIdeal.defs (F := Ideal)) (onTc (τ := Cert.SumKvRefIdeal.τ) (Cert.SumKvRefIdeal.main (F := Ideal))) ⟨m, fun _ => 0, g⟩ (fun r => (∀ c : Dev Cert.SumKvRefIdeal.nD,
      r.2.mem ((c.tc : Thread Cert.SumKvRefIdeal.nD Cert.SumKvRefIdeal.τ).loc Cert.SumKvRefIdeal.main_arg0) = m ((c.tc : Thread Cert.SumKvRefIdeal.nD Cert.SumKvRefIdeal.τ).loc Cert.SumKvRefIdeal.main_arg0))
      ∧ r.2.sem = fun _ => 0)

def quiescent_SumPool [hSumPool : Cert.SumPool.Facts] : Prop :=
  ∀ (m : (ℓ : Loc Cert.SumPool.nD Cert.SumPool.τ Cert.SumPool.sig) → Buf (Elt Bits) ℓ) (g : Dev Cert.SumPool.nD → PrngReg), Pre_SumPool m →
    θ_run (Cert.SumPool.defs (F := Bits)) (onTc (τ := Cert.SumPool.τ) (Cert.SumPool.main (F := Bits))) ⟨m, fun _ => 0, g⟩ (fun r => (∀ c : Dev Cert.SumPool.nD,
      r.2.mem ((c.tc : Thread Cert.SumPool.nD Cert.SumPool.τ).loc Cert.SumPool.main_arg0) = m ((c.tc : Thread Cert.SumPool.nD Cert.SumPool.τ).loc Cert.SumPool.main_arg0))
      ∧ r.2.sem = fun _ => 0)

def quiescent_SumPoolIdeal [hSumPoolIdeal : Cert.SumPoolIdeal.Facts] : Prop :=
  ∀ (m : (ℓ : Loc Cert.SumPoolIdeal.nD Cert.SumPoolIdeal.τ Cert.SumPoolIdeal.sig) → Buf (Elt Ideal) ℓ) (g : Dev Cert.SumPoolIdeal.nD → PrngReg), Pre_SumPoolIdeal m →
    θ_run (Cert.SumPoolIdeal.defs (F := Ideal)) (onTc (τ := Cert.SumPoolIdeal.τ) (Cert.SumPoolIdeal.main (F := Ideal))) ⟨m, fun _ => 0, g⟩ (fun r => (∀ c : Dev Cert.SumPoolIdeal.nD,
      r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0))
      ∧ r.2.sem = fun _ => 0)

def quiescent_SumPoolRefIdeal [hSumPoolRefIdeal : Cert.SumPoolRefIdeal.Facts] : Prop :=
  ∀ (m : (ℓ : Loc Cert.SumPoolRefIdeal.nD Cert.SumPoolRefIdeal.τ Cert.SumPoolRefIdeal.sig) → Buf (Elt Ideal) ℓ) (g : Dev Cert.SumPoolRefIdeal.nD → PrngReg), Pre_SumPoolRefIdeal m →
    θ_run (Cert.SumPoolRefIdeal.defs (F := Ideal)) (onTc (τ := Cert.SumPoolRefIdeal.τ) (Cert.SumPoolRefIdeal.main (F := Ideal))) ⟨m, fun _ => 0, g⟩ (fun r => (∀ c : Dev Cert.SumPoolRefIdeal.nD,
      r.2.mem ((c.tc : Thread Cert.SumPoolRefIdeal.nD Cert.SumPoolRefIdeal.τ).loc Cert.SumPoolRefIdeal.main_arg0) = m ((c.tc : Thread Cert.SumPoolRefIdeal.nD Cert.SumPoolRefIdeal.τ).loc Cert.SumPoolRefIdeal.main_arg0))
      ∧ r.2.sem = fun _ => 0)

def quiescent_SumLast [hSumLast : Cert.SumLast.Facts] : Prop :=
  ∀ (m : (ℓ : Loc Cert.SumLast.nD Cert.SumLast.τ Cert.SumLast.sig) → Buf (Elt Bits) ℓ) (g : Dev Cert.SumLast.nD → PrngReg), Pre_SumLast m →
    θ_run (Cert.SumLast.defs (F := Bits)) (onTc (τ := Cert.SumLast.τ) (Cert.SumLast.main (F := Bits))) ⟨m, fun _ => 0, g⟩ (fun r => (∀ c : Dev Cert.SumLast.nD,
      r.2.mem ((c.tc : Thread Cert.SumLast.nD Cert.SumLast.τ).loc Cert.SumLast.main_arg0) = m ((c.tc : Thread Cert.SumLast.nD Cert.SumLast.τ).loc Cert.SumLast.main_arg0))
      ∧ r.2.sem = fun _ => 0)

def quiescent_SumLastIdeal [hSumLastIdeal : Cert.SumLastIdeal.Facts] : Prop :=
  ∀ (m : (ℓ : Loc Cert.SumLastIdeal.nD Cert.SumLastIdeal.τ Cert.SumLastIdeal.sig) → Buf (Elt Ideal) ℓ) (g : Dev Cert.SumLastIdeal.nD → PrngReg), Pre_SumLastIdeal m →
    θ_run (Cert.SumLastIdeal.defs (F := Ideal)) (onTc (τ := Cert.SumLastIdeal.τ) (Cert.SumLastIdeal.main (F := Ideal))) ⟨m, fun _ => 0, g⟩ (fun r => (∀ c : Dev Cert.SumLastIdeal.nD,
      r.2.mem ((c.tc : Thread Cert.SumLastIdeal.nD Cert.SumLastIdeal.τ).loc Cert.SumLastIdeal.main_arg0) = m ((c.tc : Thread Cert.SumLastIdeal.nD Cert.SumLastIdeal.τ).loc Cert.SumLastIdeal.main_arg0))
      ∧ r.2.sem = fun _ => 0)

def quiescent_SumLastRefIdeal [hSumLastRefIdeal : Cert.SumLastRefIdeal.Facts] : Prop :=
  ∀ (m : (ℓ : Loc Cert.SumLastRefIdeal.nD Cert.SumLastRefIdeal.τ Cert.SumLastRefIdeal.sig) → Buf (Elt Ideal) ℓ) (g : Dev Cert.SumLastRefIdeal.nD → PrngReg), Pre_SumLastRefIdeal m →
    θ_run (Cert.SumLastRefIdeal.defs (F := Ideal)) (onTc (τ := Cert.SumLastRefIdeal.τ) (Cert.SumLastRefIdeal.main (F := Ideal))) ⟨m, fun _ => 0, g⟩ (fun r => (∀ c : Dev Cert.SumLastRefIdeal.nD,
      r.2.mem ((c.tc : Thread Cert.SumLastRefIdeal.nD Cert.SumLastRefIdeal.τ).loc Cert.SumLastRefIdeal.main_arg0) = m ((c.tc : Thread Cert.SumLastRefIdeal.nD Cert.SumLastRefIdeal.τ).loc Cert.SumLastRefIdeal.main_arg0))
      ∧ r.2.sem = fun _ => 0)

def quiescent_LayersIn [hLayersIn : Cert.LayersIn.Facts] : Prop :=
  ∀ (m : (ℓ : Loc Cert.LayersIn.nD Cert.LayersIn.τ Cert.LayersIn.sig) → Buf (Elt Bits) ℓ) (g : Dev Cert.LayersIn.nD → PrngReg), Pre_LayersIn m →
    θ_run (Cert.LayersIn.defs (F := Bits)) (onTc (τ := Cert.LayersIn.τ) (Cert.LayersIn.main (F := Bits))) ⟨m, fun _ => 0, g⟩ (fun r => (∀ c : Dev Cert.LayersIn.nD,
      r.2.mem ((c.tc : Thread Cert.LayersIn.nD Cert.LayersIn.τ).loc Cert.LayersIn.main_arg0) = m ((c.tc : Thread Cert.LayersIn.nD Cert.LayersIn.τ).loc Cert.LayersIn.main_arg0)
      ∧ r.2.mem ((c.tc : Thread Cert.LayersIn.nD Cert.LayersIn.τ).loc Cert.LayersIn.main_arg1) = m ((c.tc : Thread Cert.LayersIn.nD Cert.LayersIn.τ).loc Cert.LayersIn.main_arg1))
      ∧ r.2.sem = fun _ => 0)

def quiescent_LayersInIdeal [hLayersInIdeal : Cert.LayersInIdeal.Facts] : Prop :=
  ∀ (m : (ℓ : Loc Cert.LayersInIdeal.nD Cert.LayersInIdeal.τ Cert.LayersInIdeal.sig) → Buf (Elt Ideal) ℓ) (g : Dev Cert.LayersInIdeal.nD → PrngReg), Pre_LayersInIdeal m →
    θ_run (Cert.LayersInIdeal.defs (F := Ideal)) (onTc (τ := Cert.LayersInIdeal.τ) (Cert.LayersInIdeal.main (F := Ideal))) ⟨m, fun _ => 0, g⟩ (fun r => (∀ c : Dev Cert.LayersInIdeal.nD,
      r.2.mem ((c.tc : Thread Cert.LayersInIdeal.nD Cert.LayersInIdeal.τ).loc Cert.LayersInIdeal.main_arg0) = m ((c.tc : Thread Cert.LayersInIdeal.nD Cert.LayersInIdeal.τ).loc Cert.LayersInIdeal.main_arg0)
      ∧ r.2.mem ((c.tc : Thread Cert.LayersInIdeal.nD Cert.LayersInIdeal.τ).loc Cert.LayersInIdeal.main_arg1) = m ((c.tc : Thread Cert.LayersInIdeal.nD Cert.LayersInIdeal.τ).loc Cert.LayersInIdeal.main_arg1))
      ∧ r.2.sem = fun _ => 0)

def quiescent_LayersInRefIdeal [hLayersInRefIdeal : Cert.LayersInRefIdeal.Facts] : Prop :=
  ∀ (m : (ℓ : Loc Cert.LayersInRefIdeal.nD Cert.LayersInRefIdeal.τ Cert.LayersInRefIdeal.sig) → Buf (Elt Ideal) ℓ) (g : Dev Cert.LayersInRefIdeal.nD → PrngReg), Pre_LayersInRefIdeal m →
    θ_run (Cert.LayersInRefIdeal.defs (F := Ideal)) (onTc (τ := Cert.LayersInRefIdeal.τ) (Cert.LayersInRefIdeal.main (F := Ideal))) ⟨m, fun _ => 0, g⟩ (fun r => (∀ c : Dev Cert.LayersInRefIdeal.nD,
      r.2.mem ((c.tc : Thread Cert.LayersInRefIdeal.nD Cert.LayersInRefIdeal.τ).loc Cert.LayersInRefIdeal.main_arg0) = m ((c.tc : Thread Cert.LayersInRefIdeal.nD Cert.LayersInRefIdeal.τ).loc Cert.LayersInRefIdeal.main_arg0)
      ∧ r.2.mem ((c.tc : Thread Cert.LayersInRefIdeal.nD Cert.LayersInRefIdeal.τ).loc Cert.LayersInRefIdeal.main_arg1) = m ((c.tc : Thread Cert.LayersInRefIdeal.nD Cert.LayersInRefIdeal.τ).loc Cert.LayersInRefIdeal.main_arg1))
      ∧ r.2.sem = fun _ => 0)

def quiescent_LayersQ [hLayersQ : Cert.LayersQ.Facts] : Prop :=
  ∀ (m : (ℓ : Loc Cert.LayersQ.nD Cert.LayersQ.τ Cert.LayersQ.sig) → Buf (Elt Bits) ℓ) (g : Dev Cert.LayersQ.nD → PrngReg), Pre_LayersQ m →
    θ_run (Cert.LayersQ.defs (F := Bits)) (onTc (τ := Cert.LayersQ.τ) (Cert.LayersQ.main (F := Bits))) ⟨m, fun _ => 0, g⟩ (fun r => (∀ c : Dev Cert.LayersQ.nD,
      r.2.mem ((c.tc : Thread Cert.LayersQ.nD Cert.LayersQ.τ).loc Cert.LayersQ.main_arg0) = m ((c.tc : Thread Cert.LayersQ.nD Cert.LayersQ.τ).loc Cert.LayersQ.main_arg0)
      ∧ r.2.mem ((c.tc : Thread Cert.LayersQ.nD Cert.LayersQ.τ).loc Cert.LayersQ.main_arg1) = m ((c.tc : Thread Cert.LayersQ.nD Cert.LayersQ.τ).loc Cert.LayersQ.main_arg1))
      ∧ r.2.sem = fun _ => 0)

def quiescent_LayersQIdeal [hLayersQIdeal : Cert.LayersQIdeal.Facts] : Prop :=
  ∀ (m : (ℓ : Loc Cert.LayersQIdeal.nD Cert.LayersQIdeal.τ Cert.LayersQIdeal.sig) → Buf (Elt Ideal) ℓ) (g : Dev Cert.LayersQIdeal.nD → PrngReg), Pre_LayersQIdeal m →
    θ_run (Cert.LayersQIdeal.defs (F := Ideal)) (onTc (τ := Cert.LayersQIdeal.τ) (Cert.LayersQIdeal.main (F := Ideal))) ⟨m, fun _ => 0, g⟩ (fun r => (∀ c : Dev Cert.LayersQIdeal.nD,
      r.2.mem ((c.tc : Thread Cert.LayersQIdeal.nD Cert.LayersQIdeal.τ).loc Cert.LayersQIdeal.main_arg0) = m ((c.tc : Thread Cert.LayersQIdeal.nD Cert.LayersQIdeal.τ).loc Cert.LayersQIdeal.main_arg0)
      ∧ r.2.mem ((c.tc : Thread Cert.LayersQIdeal.nD Cert.LayersQIdeal.τ).loc Cert.LayersQIdeal.main_arg1) = m ((c.tc : Thread Cert.LayersQIdeal.nD Cert.LayersQIdeal.τ).loc Cert.LayersQIdeal.main_arg1))
      ∧ r.2.sem = fun _ => 0)

def quiescent_LayersQRefIdeal [hLayersQRefIdeal : Cert.LayersQRefIdeal.Facts] : Prop :=
  ∀ (m : (ℓ : Loc Cert.LayersQRefIdeal.nD Cert.LayersQRefIdeal.τ Cert.LayersQRefIdeal.sig) → Buf (Elt Ideal) ℓ) (g : Dev Cert.LayersQRefIdeal.nD → PrngReg), Pre_LayersQRefIdeal m →
    θ_run (Cert.LayersQRefIdeal.defs (F := Ideal)) (onTc (τ := Cert.LayersQRefIdeal.τ) (Cert.LayersQRefIdeal.main (F := Ideal))) ⟨m, fun _ => 0, g⟩ (fun r => (∀ c : Dev Cert.LayersQRefIdeal.nD,
      r.2.mem ((c.tc : Thread Cert.LayersQRefIdeal.nD Cert.LayersQRefIdeal.τ).loc Cert.LayersQRefIdeal.main_arg0) = m ((c.tc : Thread Cert.LayersQRefIdeal.nD Cert.LayersQRefIdeal.τ).loc Cert.LayersQRefIdeal.main_arg0)
      ∧ r.2.mem ((c.tc : Thread Cert.LayersQRefIdeal.nD Cert.LayersQRefIdeal.τ).loc Cert.LayersQRefIdeal.main_arg1) = m ((c.tc : Thread Cert.LayersQRefIdeal.nD Cert.LayersQRefIdeal.τ).loc Cert.LayersQRefIdeal.main_arg1))
      ∧ r.2.sem = fun _ => 0)

def quiescent_LayersKv [hLayersKv : Cert.LayersKv.Facts] : Prop :=
  ∀ (m : (ℓ : Loc Cert.LayersKv.nD Cert.LayersKv.τ Cert.LayersKv.sig) → Buf (Elt Bits) ℓ) (g : Dev Cert.LayersKv.nD → PrngReg), Pre_LayersKv m →
    θ_run (Cert.LayersKv.defs (F := Bits)) (onTc (τ := Cert.LayersKv.τ) (Cert.LayersKv.main (F := Bits))) ⟨m, fun _ => 0, g⟩ (fun r => (∀ c : Dev Cert.LayersKv.nD,
      r.2.mem ((c.tc : Thread Cert.LayersKv.nD Cert.LayersKv.τ).loc Cert.LayersKv.main_arg0) = m ((c.tc : Thread Cert.LayersKv.nD Cert.LayersKv.τ).loc Cert.LayersKv.main_arg0)
      ∧ r.2.mem ((c.tc : Thread Cert.LayersKv.nD Cert.LayersKv.τ).loc Cert.LayersKv.main_arg1) = m ((c.tc : Thread Cert.LayersKv.nD Cert.LayersKv.τ).loc Cert.LayersKv.main_arg1))
      ∧ r.2.sem = fun _ => 0)

def quiescent_LayersKvIdeal [hLayersKvIdeal : Cert.LayersKvIdeal.Facts] : Prop :=
  ∀ (m : (ℓ : Loc Cert.LayersKvIdeal.nD Cert.LayersKvIdeal.τ Cert.LayersKvIdeal.sig) → Buf (Elt Ideal) ℓ) (g : Dev Cert.LayersKvIdeal.nD → PrngReg), Pre_LayersKvIdeal m →
    θ_run (Cert.LayersKvIdeal.defs (F := Ideal)) (onTc (τ := Cert.LayersKvIdeal.τ) (Cert.LayersKvIdeal.main (F := Ideal))) ⟨m, fun _ => 0, g⟩ (fun r => (∀ c : Dev Cert.LayersKvIdeal.nD,
      r.2.mem ((c.tc : Thread Cert.LayersKvIdeal.nD Cert.LayersKvIdeal.τ).loc Cert.LayersKvIdeal.main_arg0) = m ((c.tc : Thread Cert.LayersKvIdeal.nD Cert.LayersKvIdeal.τ).loc Cert.LayersKvIdeal.main_arg0)
      ∧ r.2.mem ((c.tc : Thread Cert.LayersKvIdeal.nD Cert.LayersKvIdeal.τ).loc Cert.LayersKvIdeal.main_arg1) = m ((c.tc : Thread Cert.LayersKvIdeal.nD Cert.LayersKvIdeal.τ).loc Cert.LayersKvIdeal.main_arg1))
      ∧ r.2.sem = fun _ => 0)

def quiescent_LayersKvRefIdeal [hLayersKvRefIdeal : Cert.LayersKvRefIdeal.Facts] : Prop :=
  ∀ (m : (ℓ : Loc Cert.LayersKvRefIdeal.nD Cert.LayersKvRefIdeal.τ Cert.LayersKvRefIdeal.sig) → Buf (Elt Ideal) ℓ) (g : Dev Cert.LayersKvRefIdeal.nD → PrngReg), Pre_LayersKvRefIdeal m →
    θ_run (Cert.LayersKvRefIdeal.defs (F := Ideal)) (onTc (τ := Cert.LayersKvRefIdeal.τ) (Cert.LayersKvRefIdeal.main (F := Ideal))) ⟨m, fun _ => 0, g⟩ (fun r => (∀ c : Dev Cert.LayersKvRefIdeal.nD,
      r.2.mem ((c.tc : Thread Cert.LayersKvRefIdeal.nD Cert.LayersKvRefIdeal.τ).loc Cert.LayersKvRefIdeal.main_arg0) = m ((c.tc : Thread Cert.LayersKvRefIdeal.nD Cert.LayersKvRefIdeal.τ).loc Cert.LayersKvRefIdeal.main_arg0)
      ∧ r.2.mem ((c.tc : Thread Cert.LayersKvRefIdeal.nD Cert.LayersKvRefIdeal.τ).loc Cert.LayersKvRefIdeal.main_arg1) = m ((c.tc : Thread Cert.LayersKvRefIdeal.nD Cert.LayersKvRefIdeal.τ).loc Cert.LayersKvRefIdeal.main_arg1))
      ∧ r.2.sem = fun _ => 0)

def quiescent_LayersOut [hLayersOut : Cert.LayersOut.Facts] : Prop :=
  ∀ (m : (ℓ : Loc Cert.LayersOut.nD Cert.LayersOut.τ Cert.LayersOut.sig) → Buf (Elt Bits) ℓ) (g : Dev Cert.LayersOut.nD → PrngReg), Pre_LayersOut m →
    θ_run (Cert.LayersOut.defs (F := Bits)) (onTc (τ := Cert.LayersOut.τ) (Cert.LayersOut.main (F := Bits))) ⟨m, fun _ => 0, g⟩ (fun r => (∀ c : Dev Cert.LayersOut.nD,
      r.2.mem ((c.tc : Thread Cert.LayersOut.nD Cert.LayersOut.τ).loc Cert.LayersOut.main_arg0) = m ((c.tc : Thread Cert.LayersOut.nD Cert.LayersOut.τ).loc Cert.LayersOut.main_arg0)
      ∧ r.2.mem ((c.tc : Thread Cert.LayersOut.nD Cert.LayersOut.τ).loc Cert.LayersOut.main_arg1) = m ((c.tc : Thread Cert.LayersOut.nD Cert.LayersOut.τ).loc Cert.LayersOut.main_arg1))
      ∧ r.2.sem = fun _ => 0)

def quiescent_LayersOutIdeal [hLayersOutIdeal : Cert.LayersOutIdeal.Facts] : Prop :=
  ∀ (m : (ℓ : Loc Cert.LayersOutIdeal.nD Cert.LayersOutIdeal.τ Cert.LayersOutIdeal.sig) → Buf (Elt Ideal) ℓ) (g : Dev Cert.LayersOutIdeal.nD → PrngReg), Pre_LayersOutIdeal m →
    θ_run (Cert.LayersOutIdeal.defs (F := Ideal)) (onTc (τ := Cert.LayersOutIdeal.τ) (Cert.LayersOutIdeal.main (F := Ideal))) ⟨m, fun _ => 0, g⟩ (fun r => (∀ c : Dev Cert.LayersOutIdeal.nD,
      r.2.mem ((c.tc : Thread Cert.LayersOutIdeal.nD Cert.LayersOutIdeal.τ).loc Cert.LayersOutIdeal.main_arg0) = m ((c.tc : Thread Cert.LayersOutIdeal.nD Cert.LayersOutIdeal.τ).loc Cert.LayersOutIdeal.main_arg0)
      ∧ r.2.mem ((c.tc : Thread Cert.LayersOutIdeal.nD Cert.LayersOutIdeal.τ).loc Cert.LayersOutIdeal.main_arg1) = m ((c.tc : Thread Cert.LayersOutIdeal.nD Cert.LayersOutIdeal.τ).loc Cert.LayersOutIdeal.main_arg1))
      ∧ r.2.sem = fun _ => 0)

def quiescent_LayersOutRefIdeal [hLayersOutRefIdeal : Cert.LayersOutRefIdeal.Facts] : Prop :=
  ∀ (m : (ℓ : Loc Cert.LayersOutRefIdeal.nD Cert.LayersOutRefIdeal.τ Cert.LayersOutRefIdeal.sig) → Buf (Elt Ideal) ℓ) (g : Dev Cert.LayersOutRefIdeal.nD → PrngReg), Pre_LayersOutRefIdeal m →
    θ_run (Cert.LayersOutRefIdeal.defs (F := Ideal)) (onTc (τ := Cert.LayersOutRefIdeal.τ) (Cert.LayersOutRefIdeal.main (F := Ideal))) ⟨m, fun _ => 0, g⟩ (fun r => (∀ c : Dev Cert.LayersOutRefIdeal.nD,
      r.2.mem ((c.tc : Thread Cert.LayersOutRefIdeal.nD Cert.LayersOutRefIdeal.τ).loc Cert.LayersOutRefIdeal.main_arg0) = m ((c.tc : Thread Cert.LayersOutRefIdeal.nD Cert.LayersOutRefIdeal.τ).loc Cert.LayersOutRefIdeal.main_arg0)
      ∧ r.2.mem ((c.tc : Thread Cert.LayersOutRefIdeal.nD Cert.LayersOutRefIdeal.τ).loc Cert.LayersOutRefIdeal.main_arg1) = m ((c.tc : Thread Cert.LayersOutRefIdeal.nD Cert.LayersOutRefIdeal.τ).loc Cert.LayersOutRefIdeal.main_arg1))
      ∧ r.2.sem = fun _ => 0)

def quiescent_LayersMix [hLayersMix : Cert.LayersMix.Facts] : Prop :=
  ∀ (m : (ℓ : Loc Cert.LayersMix.nD Cert.LayersMix.τ Cert.LayersMix.sig) → Buf (Elt Bits) ℓ) (g : Dev Cert.LayersMix.nD → PrngReg), Pre_LayersMix m →
    θ_run (Cert.LayersMix.defs (F := Bits)) (onTc (τ := Cert.LayersMix.τ) (Cert.LayersMix.main (F := Bits))) ⟨m, fun _ => 0, g⟩ (fun r => (∀ c : Dev Cert.LayersMix.nD,
      r.2.mem ((c.tc : Thread Cert.LayersMix.nD Cert.LayersMix.τ).loc Cert.LayersMix.main_arg0) = m ((c.tc : Thread Cert.LayersMix.nD Cert.LayersMix.τ).loc Cert.LayersMix.main_arg0)
      ∧ r.2.mem ((c.tc : Thread Cert.LayersMix.nD Cert.LayersMix.τ).loc Cert.LayersMix.main_arg1) = m ((c.tc : Thread Cert.LayersMix.nD Cert.LayersMix.τ).loc Cert.LayersMix.main_arg1))
      ∧ r.2.sem = fun _ => 0)

def quiescent_LayersMixIdeal [hLayersMixIdeal : Cert.LayersMixIdeal.Facts] : Prop :=
  ∀ (m : (ℓ : Loc Cert.LayersMixIdeal.nD Cert.LayersMixIdeal.τ Cert.LayersMixIdeal.sig) → Buf (Elt Ideal) ℓ) (g : Dev Cert.LayersMixIdeal.nD → PrngReg), Pre_LayersMixIdeal m →
    θ_run (Cert.LayersMixIdeal.defs (F := Ideal)) (onTc (τ := Cert.LayersMixIdeal.τ) (Cert.LayersMixIdeal.main (F := Ideal))) ⟨m, fun _ => 0, g⟩ (fun r => (∀ c : Dev Cert.LayersMixIdeal.nD,
      r.2.mem ((c.tc : Thread Cert.LayersMixIdeal.nD Cert.LayersMixIdeal.τ).loc Cert.LayersMixIdeal.main_arg0) = m ((c.tc : Thread Cert.LayersMixIdeal.nD Cert.LayersMixIdeal.τ).loc Cert.LayersMixIdeal.main_arg0)
      ∧ r.2.mem ((c.tc : Thread Cert.LayersMixIdeal.nD Cert.LayersMixIdeal.τ).loc Cert.LayersMixIdeal.main_arg1) = m ((c.tc : Thread Cert.LayersMixIdeal.nD Cert.LayersMixIdeal.τ).loc Cert.LayersMixIdeal.main_arg1))
      ∧ r.2.sem = fun _ => 0)

def quiescent_LayersMixRefIdeal [hLayersMixRefIdeal : Cert.LayersMixRefIdeal.Facts] : Prop :=
  ∀ (m : (ℓ : Loc Cert.LayersMixRefIdeal.nD Cert.LayersMixRefIdeal.τ Cert.LayersMixRefIdeal.sig) → Buf (Elt Ideal) ℓ) (g : Dev Cert.LayersMixRefIdeal.nD → PrngReg), Pre_LayersMixRefIdeal m →
    θ_run (Cert.LayersMixRefIdeal.defs (F := Ideal)) (onTc (τ := Cert.LayersMixRefIdeal.τ) (Cert.LayersMixRefIdeal.main (F := Ideal))) ⟨m, fun _ => 0, g⟩ (fun r => (∀ c : Dev Cert.LayersMixRefIdeal.nD,
      r.2.mem ((c.tc : Thread Cert.LayersMixRefIdeal.nD Cert.LayersMixRefIdeal.τ).loc Cert.LayersMixRefIdeal.main_arg0) = m ((c.tc : Thread Cert.LayersMixRefIdeal.nD Cert.LayersMixRefIdeal.τ).loc Cert.LayersMixRefIdeal.main_arg0)
      ∧ r.2.mem ((c.tc : Thread Cert.LayersMixRefIdeal.nD Cert.LayersMixRefIdeal.τ).loc Cert.LayersMixRefIdeal.main_arg1) = m ((c.tc : Thread Cert.LayersMixRefIdeal.nD Cert.LayersMixRefIdeal.τ).loc Cert.LayersMixRefIdeal.main_arg1))
      ∧ r.2.sem = fun _ => 0)

def quiescent_LayersUp [hLayersUp : Cert.LayersUp.Facts] : Prop :=
  ∀ (m : (ℓ : Loc Cert.LayersUp.nD Cert.LayersUp.τ Cert.LayersUp.sig) → Buf (Elt Bits) ℓ) (g : Dev Cert.LayersUp.nD → PrngReg), Pre_LayersUp m →
    θ_run (Cert.LayersUp.defs (F := Bits)) (onTc (τ := Cert.LayersUp.τ) (Cert.LayersUp.main (F := Bits))) ⟨m, fun _ => 0, g⟩ (fun r => (∀ c : Dev Cert.LayersUp.nD,
      r.2.mem ((c.tc : Thread Cert.LayersUp.nD Cert.LayersUp.τ).loc Cert.LayersUp.main_arg0) = m ((c.tc : Thread Cert.LayersUp.nD Cert.LayersUp.τ).loc Cert.LayersUp.main_arg0)
      ∧ r.2.mem ((c.tc : Thread Cert.LayersUp.nD Cert.LayersUp.τ).loc Cert.LayersUp.main_arg1) = m ((c.tc : Thread Cert.LayersUp.nD Cert.LayersUp.τ).loc Cert.LayersUp.main_arg1))
      ∧ r.2.sem = fun _ => 0)

def quiescent_LayersUpIdeal [hLayersUpIdeal : Cert.LayersUpIdeal.Facts] : Prop :=
  ∀ (m : (ℓ : Loc Cert.LayersUpIdeal.nD Cert.LayersUpIdeal.τ Cert.LayersUpIdeal.sig) → Buf (Elt Ideal) ℓ) (g : Dev Cert.LayersUpIdeal.nD → PrngReg), Pre_LayersUpIdeal m →
    θ_run (Cert.LayersUpIdeal.defs (F := Ideal)) (onTc (τ := Cert.LayersUpIdeal.τ) (Cert.LayersUpIdeal.main (F := Ideal))) ⟨m, fun _ => 0, g⟩ (fun r => (∀ c : Dev Cert.LayersUpIdeal.nD,
      r.2.mem ((c.tc : Thread Cert.LayersUpIdeal.nD Cert.LayersUpIdeal.τ).loc Cert.LayersUpIdeal.main_arg0) = m ((c.tc : Thread Cert.LayersUpIdeal.nD Cert.LayersUpIdeal.τ).loc Cert.LayersUpIdeal.main_arg0)
      ∧ r.2.mem ((c.tc : Thread Cert.LayersUpIdeal.nD Cert.LayersUpIdeal.τ).loc Cert.LayersUpIdeal.main_arg1) = m ((c.tc : Thread Cert.LayersUpIdeal.nD Cert.LayersUpIdeal.τ).loc Cert.LayersUpIdeal.main_arg1))
      ∧ r.2.sem = fun _ => 0)

def quiescent_LayersUpRefIdeal [hLayersUpRefIdeal : Cert.LayersUpRefIdeal.Facts] : Prop :=
  ∀ (m : (ℓ : Loc Cert.LayersUpRefIdeal.nD Cert.LayersUpRefIdeal.τ Cert.LayersUpRefIdeal.sig) → Buf (Elt Ideal) ℓ) (g : Dev Cert.LayersUpRefIdeal.nD → PrngReg), Pre_LayersUpRefIdeal m →
    θ_run (Cert.LayersUpRefIdeal.defs (F := Ideal)) (onTc (τ := Cert.LayersUpRefIdeal.τ) (Cert.LayersUpRefIdeal.main (F := Ideal))) ⟨m, fun _ => 0, g⟩ (fun r => (∀ c : Dev Cert.LayersUpRefIdeal.nD,
      r.2.mem ((c.tc : Thread Cert.LayersUpRefIdeal.nD Cert.LayersUpRefIdeal.τ).loc Cert.LayersUpRefIdeal.main_arg0) = m ((c.tc : Thread Cert.LayersUpRefIdeal.nD Cert.LayersUpRefIdeal.τ).loc Cert.LayersUpRefIdeal.main_arg0)
      ∧ r.2.mem ((c.tc : Thread Cert.LayersUpRefIdeal.nD Cert.LayersUpRefIdeal.τ).loc Cert.LayersUpRefIdeal.main_arg1) = m ((c.tc : Thread Cert.LayersUpRefIdeal.nD Cert.LayersUpRefIdeal.τ).loc Cert.LayersUpRefIdeal.main_arg1))
      ∧ r.2.sem = fun _ => 0)

def quiescent_LayersDown [hLayersDown : Cert.LayersDown.Facts] : Prop :=
  ∀ (m : (ℓ : Loc Cert.LayersDown.nD Cert.LayersDown.τ Cert.LayersDown.sig) → Buf (Elt Bits) ℓ) (g : Dev Cert.LayersDown.nD → PrngReg), Pre_LayersDown m →
    θ_run (Cert.LayersDown.defs (F := Bits)) (onTc (τ := Cert.LayersDown.τ) (Cert.LayersDown.main (F := Bits))) ⟨m, fun _ => 0, g⟩ (fun r => (∀ c : Dev Cert.LayersDown.nD,
      r.2.mem ((c.tc : Thread Cert.LayersDown.nD Cert.LayersDown.τ).loc Cert.LayersDown.main_arg0) = m ((c.tc : Thread Cert.LayersDown.nD Cert.LayersDown.τ).loc Cert.LayersDown.main_arg0)
      ∧ r.2.mem ((c.tc : Thread Cert.LayersDown.nD Cert.LayersDown.τ).loc Cert.LayersDown.main_arg1) = m ((c.tc : Thread Cert.LayersDown.nD Cert.LayersDown.τ).loc Cert.LayersDown.main_arg1))
      ∧ r.2.sem = fun _ => 0)

def quiescent_LayersDownIdeal [hLayersDownIdeal : Cert.LayersDownIdeal.Facts] : Prop :=
  ∀ (m : (ℓ : Loc Cert.LayersDownIdeal.nD Cert.LayersDownIdeal.τ Cert.LayersDownIdeal.sig) → Buf (Elt Ideal) ℓ) (g : Dev Cert.LayersDownIdeal.nD → PrngReg), Pre_LayersDownIdeal m →
    θ_run (Cert.LayersDownIdeal.defs (F := Ideal)) (onTc (τ := Cert.LayersDownIdeal.τ) (Cert.LayersDownIdeal.main (F := Ideal))) ⟨m, fun _ => 0, g⟩ (fun r => (∀ c : Dev Cert.LayersDownIdeal.nD,
      r.2.mem ((c.tc : Thread Cert.LayersDownIdeal.nD Cert.LayersDownIdeal.τ).loc Cert.LayersDownIdeal.main_arg0) = m ((c.tc : Thread Cert.LayersDownIdeal.nD Cert.LayersDownIdeal.τ).loc Cert.LayersDownIdeal.main_arg0)
      ∧ r.2.mem ((c.tc : Thread Cert.LayersDownIdeal.nD Cert.LayersDownIdeal.τ).loc Cert.LayersDownIdeal.main_arg1) = m ((c.tc : Thread Cert.LayersDownIdeal.nD Cert.LayersDownIdeal.τ).loc Cert.LayersDownIdeal.main_arg1))
      ∧ r.2.sem = fun _ => 0)

def quiescent_LayersDownRefIdeal [hLayersDownRefIdeal : Cert.LayersDownRefIdeal.Facts] : Prop :=
  ∀ (m : (ℓ : Loc Cert.LayersDownRefIdeal.nD Cert.LayersDownRefIdeal.τ Cert.LayersDownRefIdeal.sig) → Buf (Elt Ideal) ℓ) (g : Dev Cert.LayersDownRefIdeal.nD → PrngReg), Pre_LayersDownRefIdeal m →
    θ_run (Cert.LayersDownRefIdeal.defs (F := Ideal)) (onTc (τ := Cert.LayersDownRefIdeal.τ) (Cert.LayersDownRefIdeal.main (F := Ideal))) ⟨m, fun _ => 0, g⟩ (fun r => (∀ c : Dev Cert.LayersDownRefIdeal.nD,
      r.2.mem ((c.tc : Thread Cert.LayersDownRefIdeal.nD Cert.LayersDownRefIdeal.τ).loc Cert.LayersDownRefIdeal.main_arg0) = m ((c.tc : Thread Cert.LayersDownRefIdeal.nD Cert.LayersDownRefIdeal.τ).loc Cert.LayersDownRefIdeal.main_arg0)
      ∧ r.2.mem ((c.tc : Thread Cert.LayersDownRefIdeal.nD Cert.LayersDownRefIdeal.τ).loc Cert.LayersDownRefIdeal.main_arg1) = m ((c.tc : Thread Cert.LayersDownRefIdeal.nD Cert.LayersDownRefIdeal.τ).loc Cert.LayersDownRefIdeal.main_arg1))
      ∧ r.2.sem = fun _ => 0)

def preserves_Flash_FlashIdeal : Prop :=
  IdealRules.named_const.Statement Cert.FlashIdeal.κ "scale_inv_ln2" .f32 0x3E16C740#32 (((Real.sqrt 96)⁻¹ * (Real.log 2)⁻¹ : ℝ) : EReal)
  ∧ IdealRules.named_const.Statement Cert.FlashIdeal.κ "inv_ln2" .f32 0x3FB8AA3B#32 (((Real.log 2)⁻¹ : ℝ) : EReal)
  ∧ IdealRules.named_const.Statement Cert.FlashIdeal.κ "scale" .f32 0x3DD105EC#32 (((Real.sqrt 96)⁻¹ : ℝ) : EReal)

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v40_0)) (v1 : (c : Dev Cert.FlashIdeal.nD) → Buf (Elt Ideal) ((c.tc : Thread Cert.FlashIdeal.nD Cert.FlashIdeal.τ).loc Cert.FlashIdeal.main_v40_1)) (v2 : (c : Dev Cert.FlashIdeal.nD) → Buf (Elt Ideal) ((c.tc : Thread Cert.FlashIdeal.nD Cert.FlashIdeal.τ).loc Cert.FlashIdeal.main_v40_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v40_0) = v0 c
          ∧ r.2.mem ((c.tc : Thread Cert.FlashIdeal.nD Cert.FlashIdeal.τ).loc Cert.FlashIdeal.main_v40_1) = v1 c
          ∧ r.2.mem ((c.tc : Thread Cert.FlashIdeal.nD Cert.FlashIdeal.τ).loc Cert.FlashIdeal.main_v40_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v72) = v0 c
          ∧ r.2.mem ((c.tc : Thread Cert.FlashRefIdeal.nD Cert.FlashRefIdeal.τ).loc Cert.FlashRefIdeal.main_v73) = v1 c
          ∧ r.2.mem ((c.tc : Thread Cert.FlashRefIdeal.nD Cert.FlashRefIdeal.τ).loc Cert.FlashRefIdeal.main_v75) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Merge_MergeIdeal : Prop :=
  True

def algebraic_MergeIdeal_MergeRefIdeal_on_merge_written [hMergeIdeal : Cert.MergeIdeal.Facts] [hMergeRefIdeal : Cert.MergeRefIdeal.Facts] [hOn_merge_written : Cert.On_merge_written.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).1 i = 1#1 → r.2.mem ((c.tc : Thread Cert.MergeIdeal.nD Cert.MergeIdeal.τ).loc Cert.MergeIdeal.main_v0_0) i = v0 c i)
          ∧ (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.1 i = 1#1 → r.2.mem ((c.tc : Thread Cert.MergeIdeal.nD Cert.MergeIdeal.τ).loc Cert.MergeIdeal.main_v0_1) i = v1 c i)
          ∧ (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.1 i = 1#1 → r.2.mem ((c.tc : Thread Cert.MergeIdeal.nD Cert.MergeIdeal.τ).loc Cert.MergeIdeal.main_v0_2) i = v2 c i)
          ∧ (∀ i : (⟨2, ![4096, 5376]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2 i = 1#1 → r.2.mem ((c.tc : Thread Cert.MergeIdeal.nD Cert.MergeIdeal.τ).loc Cert.MergeIdeal.main_v0_3) i = v3 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).1 i = 1#1 → r.2.mem ((c.tc : Thread Cert.MergeRefIdeal.nD Cert.MergeRefIdeal.τ).loc Cert.MergeRefIdeal.main_v39) i = v0 c i)
          ∧ (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.1 i = 1#1 → r.2.mem ((c.tc : Thread Cert.MergeRefIdeal.nD Cert.MergeRefIdeal.τ).loc Cert.MergeRefIdeal.main_v40) i = v1 c i)
          ∧ (∀ i : (⟨2, ![4096, 1024]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.1 i = 1#1 → r.2.mem ((c.tc : Thread Cert.MergeRefIdeal.nD Cert.MergeRefIdeal.τ).loc Cert.MergeRefIdeal.main_v41) i = v2 c i)
          ∧ (∀ i : (⟨2, ![4096, 5376]⟩ : Shape).Idx, (Cert.On_merge_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2 i = 1#1 → r.2.mem ((c.tc : Thread Cert.MergeRefIdeal.nD Cert.MergeRefIdeal.τ).loc Cert.MergeRefIdeal.main_v42) i = v3 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v9) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_DownBwd_DownBwdIdeal : Prop :=
  True

def algebraic_DownBwdIdeal_DownBwdRefIdeal_pre_ffn_down_finite [hDownBwdIdeal : Cert.DownBwdIdeal.Facts] [hDownBwdRefIdeal : Cert.DownBwdRefIdeal.Facts] [hPre_ffn_down_finite : Cert.Pre_ffn_down_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_ffn_down_finite m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v0_0)) (v1 : (c : Dev Cert.DownBwdIdeal.nD) → Buf (Elt Ideal) ((c.tc : Thread Cert.DownBwdIdeal.nD Cert.DownBwdIdeal.τ).loc Cert.DownBwdIdeal.main_v0_1)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0_0) = v0 c
          ∧ r.2.mem ((c.tc : Thread Cert.DownBwdIdeal.nD Cert.DownBwdIdeal.τ).loc Cert.DownBwdIdeal.main_v0_1) = v1 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v11) = v0 c
          ∧ r.2.mem ((c.tc : Thread Cert.DownBwdRefIdeal.nD Cert.DownBwdRefIdeal.τ).loc Cert.DownBwdRefIdeal.main_v12) = v1 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v10) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v8) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_AttnDw_AttnDwIdeal : Prop :=
  True

def algebraic_AttnDwIdeal_AttnDwRefIdeal [hAttnDwIdeal : Cert.AttnDwIdeal.Facts] [hAttnDwRefIdeal : Cert.AttnDwRefIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg)
    (m' : (ℓ : Loc Cert.AttnDwRefIdeal.nD Cert.AttnDwRefIdeal.τ Cert.AttnDwRefIdeal.sig) → Buf (Elt Ideal) ℓ) (g' : Dev Cert.AttnDwRefIdeal.nD → PrngReg), Pre_AttnDwIdeal m →
    (∀ c : Dev Cert.AttnDwIdeal.nD,
      m' ((c.tc : Thread Cert.AttnDwRefIdeal.nD Cert.AttnDwRefIdeal.τ).loc Cert.AttnDwRefIdeal.main_arg0) = m ((c.tc : Thread Cert.AttnDwIdeal.nD Cert.AttnDwIdeal.τ).loc Cert.AttnDwIdeal.main_arg0)
      ∧ m' ((c.tc : Thread Cert.AttnDwRefIdeal.nD Cert.AttnDwRefIdeal.τ).loc Cert.AttnDwRefIdeal.main_arg1) = m ((c.tc : Thread Cert.AttnDwIdeal.nD Cert.AttnDwIdeal.τ).loc Cert.AttnDwIdeal.main_arg1)) →
    ∃ (v0 : (c : Dev Cert.AttnDwIdeal.nD) → Buf (Elt Ideal) ((c.tc : Thread Cert.AttnDwIdeal.nD Cert.AttnDwIdeal.τ).loc Cert.AttnDwIdeal.main_v0)),
      θ_run (Cert.AttnDwIdeal.defs (F := Ideal)) (onTc (τ := Cert.AttnDwIdeal.τ) (Cert.AttnDwIdeal.main (F := Ideal))) ⟨m, fun _ => 0, g⟩ (fun r => ∀ c : Dev Cert.AttnDwIdeal.nD,
          r.2.mem ((c.tc : Thread Cert.AttnDwIdeal.nD Cert.AttnDwIdeal.τ).loc Cert.AttnDwIdeal.main_v0) = v0 c
          ∧ r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
          ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ θ_run (Cert.AttnDwRefIdeal.defs (F := Ideal)) (onTc (τ := Cert.AttnDwRefIdeal.τ) (Cert.AttnDwRefIdeal.main (F := Ideal))) ⟨m', fun _ => 0, g'⟩ (fun r => ∀ c : Dev Cert.AttnDwRefIdeal.nD,
          r.2.mem ((c.tc : Thread Cert.AttnDwRefIdeal.nD Cert.AttnDwRefIdeal.τ).loc Cert.AttnDwRefIdeal.main_v8) = v0 c
          ∧ r.2.mem ((c.tc : Thread Cert.AttnDwRefIdeal.nD Cert.AttnDwRefIdeal.τ).loc Cert.AttnDwRefIdeal.main_arg0) = m' ((c.tc : Thread Cert.AttnDwRefIdeal.nD Cert.AttnDwRefIdeal.τ).loc Cert.AttnDwRefIdeal.main_arg0)
          ∧ r.2.mem ((c.tc : Thread Cert.AttnDwRefIdeal.nD Cert.AttnDwRefIdeal.τ).loc Cert.AttnDwRefIdeal.main_arg1) = m' ((c.tc : Thread Cert.AttnDwRefIdeal.nD Cert.AttnDwRefIdeal.τ).loc Cert.AttnDwRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v8) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v8) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_PoolDx_PoolDxIdeal : Prop :=
  True

def algebraic_PoolDxIdeal_PoolDxRefIdeal [hPoolDxIdeal : Cert.PoolDxIdeal.Facts] [hPoolDxRefIdeal : Cert.PoolDxRefIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v2)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v2) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v4) = v0 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)
      ∧ m' ((c.tc : Thread Cert.BranchesRefIdeal.nD Cert.BranchesRefIdeal.τ).loc Cert.BranchesRefIdeal.main_arg5) = m ((c.tc : Thread Cert.BranchesIdeal.nD Cert.BranchesIdeal.τ).loc Cert.BranchesIdeal.main_arg5)
      ∧ m' ((c.tc : Thread Cert.BranchesRefIdeal.nD Cert.BranchesRefIdeal.τ).loc Cert.BranchesRefIdeal.main_arg6) = m ((c.tc : Thread Cert.BranchesIdeal.nD Cert.BranchesIdeal.τ).loc Cert.BranchesIdeal.main_arg6)) →
    ∃ (v0 : (c : Dev Cert.BranchesIdeal.nD) → Buf (Elt Ideal) ((c.tc : Thread Cert.BranchesIdeal.nD Cert.BranchesIdeal.τ).loc Cert.BranchesIdeal.main_v6_0)) (v1 : (c : Dev Cert.BranchesIdeal.nD) → Buf (Elt Ideal) ((c.tc : Thread Cert.BranchesIdeal.nD Cert.BranchesIdeal.τ).loc Cert.BranchesIdeal.main_v6_1)) (v2 : (c : Dev Cert.BranchesIdeal.nD) → Buf (Elt Ideal) ((c.tc : Thread Cert.BranchesIdeal.nD Cert.BranchesIdeal.τ).loc Cert.BranchesIdeal.main_v6_2)) (v3 : (c : Dev Cert.BranchesIdeal.nD) → Buf (Elt Ideal) ((c.tc : Thread Cert.BranchesIdeal.nD Cert.BranchesIdeal.τ).loc Cert.BranchesIdeal.main_v6_3)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v6_0) = v0 c
          ∧ r.2.mem ((c.tc : Thread Cert.BranchesIdeal.nD Cert.BranchesIdeal.τ).loc Cert.BranchesIdeal.main_v6_1) = v1 c
          ∧ r.2.mem ((c.tc : Thread Cert.BranchesIdeal.nD Cert.BranchesIdeal.τ).loc Cert.BranchesIdeal.main_v6_2) = v2 c
          ∧ r.2.mem ((c.tc : Thread Cert.BranchesIdeal.nD Cert.BranchesIdeal.τ).loc Cert.BranchesIdeal.main_v6_3) = v3 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
          ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
          ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v3) = v0 c
          ∧ r.2.mem ((c.tc : Thread Cert.BranchesRefIdeal.nD Cert.BranchesRefIdeal.τ).loc Cert.BranchesRefIdeal.main_v7) = v1 c
          ∧ r.2.mem ((c.tc : Thread Cert.BranchesRefIdeal.nD Cert.BranchesRefIdeal.τ).loc Cert.BranchesRefIdeal.main_v11) = v2 c
          ∧ r.2.mem ((c.tc : Thread Cert.BranchesRefIdeal.nD Cert.BranchesRefIdeal.τ).loc Cert.BranchesRefIdeal.main_v31) = v3 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4)
          ∧ r.2.mem ((c.tc : Thread Cert.BranchesRefIdeal.nD Cert.BranchesRefIdeal.τ).loc Cert.BranchesRefIdeal.main_arg5) = m' ((c.tc : Thread Cert.BranchesRefIdeal.nD Cert.BranchesRefIdeal.τ).loc Cert.BranchesRefIdeal.main_arg5)
          ∧ r.2.mem ((c.tc : Thread Cert.BranchesRefIdeal.nD Cert.BranchesRefIdeal.τ).loc Cert.BranchesRefIdeal.main_arg6) = m' ((c.tc : Thread Cert.BranchesRefIdeal.nD Cert.BranchesRefIdeal.τ).loc Cert.BranchesRefIdeal.main_arg6))

def preserves_AttnOutBwd_AttnOutBwdIdeal : Prop :=
  True

def algebraic_AttnOutBwdIdeal_AttnOutBwdRefIdeal [hAttnOutBwdIdeal : Cert.AttnOutBwdIdeal.Facts] [hAttnOutBwdRefIdeal : Cert.AttnOutBwdRefIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg)
    (m' : (ℓ : Loc Cert.AttnOutBwdRefIdeal.nD Cert.AttnOutBwdRefIdeal.τ Cert.AttnOutBwdRefIdeal.sig) → Buf (Elt Ideal) ℓ) (g' : Dev Cert.AttnOutBwdRefIdeal.nD → PrngReg), Pre_AttnOutBwdIdeal m →
    (∀ c : Dev Cert.AttnOutBwdIdeal.nD,
      m' ((c.tc : Thread Cert.AttnOutBwdRefIdeal.nD Cert.AttnOutBwdRefIdeal.τ).loc Cert.AttnOutBwdRefIdeal.main_arg0) = m ((c.tc : Thread Cert.AttnOutBwdIdeal.nD Cert.AttnOutBwdIdeal.τ).loc Cert.AttnOutBwdIdeal.main_arg0)
      ∧ m' ((c.tc : Thread Cert.AttnOutBwdRefIdeal.nD Cert.AttnOutBwdRefIdeal.τ).loc Cert.AttnOutBwdRefIdeal.main_arg1) = m ((c.tc : Thread Cert.AttnOutBwdIdeal.nD Cert.AttnOutBwdIdeal.τ).loc Cert.AttnOutBwdIdeal.main_arg1)
      ∧ m' ((c.tc : Thread Cert.AttnOutBwdRefIdeal.nD Cert.AttnOutBwdRefIdeal.τ).loc Cert.AttnOutBwdRefIdeal.main_arg2) = m ((c.tc : Thread Cert.AttnOutBwdIdeal.nD Cert.AttnOutBwdIdeal.τ).loc Cert.AttnOutBwdIdeal.main_arg2)) →
    ∃ (v0 : (c : Dev Cert.AttnOutBwdIdeal.nD) → Buf (Elt Ideal) ((c.tc : Thread Cert.AttnOutBwdIdeal.nD Cert.AttnOutBwdIdeal.τ).loc Cert.AttnOutBwdIdeal.main_v2_0)) (v1 : (c : Dev Cert.AttnOutBwdIdeal.nD) → Buf (Elt Ideal) ((c.tc : Thread Cert.AttnOutBwdIdeal.nD Cert.AttnOutBwdIdeal.τ).loc Cert.AttnOutBwdIdeal.main_v2_1)),
      θ_run (Cert.AttnOutBwdIdeal.defs (F := Ideal)) (onTc (τ := Cert.AttnOutBwdIdeal.τ) (Cert.AttnOutBwdIdeal.main (F := Ideal))) ⟨m, fun _ => 0, g⟩ (fun r => ∀ c : Dev Cert.AttnOutBwdIdeal.nD,
          r.2.mem ((c.tc : Thread Cert.AttnOutBwdIdeal.nD Cert.AttnOutBwdIdeal.τ).loc Cert.AttnOutBwdIdeal.main_v2_0) = v0 c
          ∧ r.2.mem ((c.tc : Thread Cert.AttnOutBwdIdeal.nD Cert.AttnOutBwdIdeal.τ).loc Cert.AttnOutBwdIdeal.main_v2_1) = v1 c
          ∧ r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
          ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1)
          ∧ r.2.mem ((c.tc : Thread Cert.AttnOutBwdIdeal.nD Cert.AttnOutBwdIdeal.τ).loc Cert.AttnOutBwdIdeal.main_arg2) = m ((c.tc : Thread Cert.AttnOutBwdIdeal.nD Cert.AttnOutBwdIdeal.τ).loc Cert.AttnOutBwdIdeal.main_arg2))
      ∧ θ_run (Cert.AttnOutBwdRefIdeal.defs (F := Ideal)) (onTc (τ := Cert.AttnOutBwdRefIdeal.τ) (Cert.AttnOutBwdRefIdeal.main (F := Ideal))) ⟨m', fun _ => 0, g'⟩ (fun r => ∀ c : Dev Cert.AttnOutBwdRefIdeal.nD,
          r.2.mem ((c.tc : Thread Cert.AttnOutBwdRefIdeal.nD Cert.AttnOutBwdRefIdeal.τ).loc Cert.AttnOutBwdRefIdeal.main_v12) = v0 c
          ∧ r.2.mem ((c.tc : Thread Cert.AttnOutBwdRefIdeal.nD Cert.AttnOutBwdRefIdeal.τ).loc Cert.AttnOutBwdRefIdeal.main_v13) = v1 c
          ∧ r.2.mem ((c.tc : Thread Cert.AttnOutBwdRefIdeal.nD Cert.AttnOutBwdRefIdeal.τ).loc Cert.AttnOutBwdRefIdeal.main_arg0) = m' ((c.tc : Thread Cert.AttnOutBwdRefIdeal.nD Cert.AttnOutBwdRefIdeal.τ).loc Cert.AttnOutBwdRefIdeal.main_arg0)
          ∧ r.2.mem ((c.tc : Thread Cert.AttnOutBwdRefIdeal.nD Cert.AttnOutBwdRefIdeal.τ).loc Cert.AttnOutBwdRefIdeal.main_arg1) = m' ((c.tc : Thread Cert.AttnOutBwdRefIdeal.nD Cert.AttnOutBwdRefIdeal.τ).loc Cert.AttnOutBwdRefIdeal.main_arg1)
          ∧ r.2.mem ((c.tc : Thread Cert.AttnOutBwdRefIdeal.nD Cert.AttnOutBwdRefIdeal.τ).loc Cert.AttnOutBwdRefIdeal.main_arg2) = m' ((c.tc : Thread Cert.AttnOutBwdRefIdeal.nD Cert.AttnOutBwdRefIdeal.τ).loc Cert.AttnOutBwdRefIdeal.main_arg2))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQGain_AdamQGainIdeal : Prop :=
  True

def algebraic_AdamQGainIdeal_AdamQGainRefIdeal [hAdamQGainIdeal : Cert.AdamQGainIdeal.Facts] [hAdamQGainRefIdeal : Cert.AdamQGainRefIdeal.Facts] : Prop :=
  ∀ (m : (ℓ : Loc Cert.AdamQGainIdeal.nD Cert.AdamQGainIdeal.τ Cert.AdamQGainIdeal.sig) → Buf (Elt Ideal) ℓ) (g : Dev Cert.AdamQGainIdeal.nD → PrngReg)
    (m' : (ℓ : Loc Cert.AdamQGainRefIdeal.nD Cert.AdamQGainRefIdeal.τ Cert.AdamQGainRefIdeal.sig) → Buf (Elt Ideal) ℓ) (g' : Dev Cert.AdamQGainRefIdeal.nD → PrngReg), Pre_AdamQGainIdeal m →
    (∀ c : Dev Cert.AdamQGainIdeal.nD,
      m' ((c.tc : Thread Cert.AdamQGainRefIdeal.nD Cert.AdamQGainRefIdeal.τ).loc Cert.AdamQGainRefIdeal.main_arg0) = m ((c.tc : Thread Cert.AdamQGainIdeal.nD Cert.AdamQGainIdeal.τ).loc Cert.AdamQGainIdeal.main_arg0)
      ∧ m' ((c.tc : Thread Cert.AdamQGainRefIdeal.nD Cert.AdamQGainRefIdeal.τ).loc Cert.AdamQGainRefIdeal.main_arg1) = m ((c.tc : Thread Cert.AdamQGainIdeal.nD Cert.AdamQGainIdeal.τ).loc Cert.AdamQGainIdeal.main_arg1)
      ∧ m' ((c.tc : Thread Cert.AdamQGainRefIdeal.nD Cert.AdamQGainRefIdeal.τ).loc Cert.AdamQGainRefIdeal.main_arg2) = m ((c.tc : Thread Cert.AdamQGainIdeal.nD Cert.AdamQGainIdeal.τ).loc Cert.AdamQGainIdeal.main_arg2)
      ∧ m' ((c.tc : Thread Cert.AdamQGainRefIdeal.nD Cert.AdamQGainRefIdeal.τ).loc Cert.AdamQGainRefIdeal.main_arg3) = m ((c.tc : Thread Cert.AdamQGainIdeal.nD Cert.AdamQGainIdeal.τ).loc Cert.AdamQGainIdeal.main_arg3)) →
    ∃ (v0 : (c : Dev Cert.AdamQGainIdeal.nD) → Buf (Elt Ideal) ((c.tc : Thread Cert.AdamQGainIdeal.nD Cert.AdamQGainIdeal.τ).loc Cert.AdamQGainIdeal.main_v0_0)) (v1 : (c : Dev Cert.AdamQGainIdeal.nD) → Buf (Elt Ideal) ((c.tc : Thread Cert.AdamQGainIdeal.nD Cert.AdamQGainIdeal.τ).loc Cert.AdamQGainIdeal.main_v0_1)) (v2 : (c : Dev Cert.AdamQGainIdeal.nD) → Buf (Elt Ideal) ((c.tc : Thread Cert.AdamQGainIdeal.nD Cert.AdamQGainIdeal.τ).loc Cert.AdamQGainIdeal.main_v0_2)),
      θ_run (Cert.AdamQGainIdeal.defs (F := Ideal)) (onTc (τ := Cert.AdamQGainIdeal.τ) (Cert.AdamQGainIdeal.main (F := Ideal))) ⟨m, fun _ => 0, g⟩ (fun r => ∀ c : Dev Cert.AdamQGainIdeal.nD,
          r.2.mem ((c.tc : Thread Cert.AdamQGainIdeal.nD Cert.AdamQGainIdeal.τ).loc Cert.AdamQGainIdeal.main_v0_0) = v0 c
          ∧ r.2.mem ((c.tc : Thread Cert.AdamQGainIdeal.nD Cert.AdamQGainIdeal.τ).loc Cert.AdamQGainIdeal.main_v0_1) = v1 c
          ∧ r.2.mem ((c.tc : Thread Cert.AdamQGainIdeal.nD Cert.AdamQGainIdeal.τ).loc Cert.AdamQGainIdeal.main_v0_2) = v2 c
          ∧ r.2.mem ((c.tc : Thread Cert.AdamQGainIdeal.nD Cert.AdamQGainIdeal.τ).loc Cert.AdamQGainIdeal.main_arg0) = m ((c.tc : Thread Cert.AdamQGainIdeal.nD Cert.AdamQGainIdeal.τ).loc Cert.AdamQGainIdeal.main_arg0)
          ∧ r.2.mem ((c.tc : Thread Cert.AdamQGainIdeal.nD Cert.AdamQGainIdeal.τ).loc Cert.AdamQGainIdeal.main_arg1) = m ((c.tc : Thread Cert.AdamQGainIdeal.nD Cert.AdamQGainIdeal.τ).loc Cert.AdamQGainIdeal.main_arg1)
          ∧ r.2.mem ((c.tc : Thread Cert.AdamQGainIdeal.nD Cert.AdamQGainIdeal.τ).loc Cert.AdamQGainIdeal.main_arg2) = m ((c.tc : Thread Cert.AdamQGainIdeal.nD Cert.AdamQGainIdeal.τ).loc Cert.AdamQGainIdeal.main_arg2)
          ∧ r.2.mem ((c.tc : Thread Cert.AdamQGainIdeal.nD Cert.AdamQGainIdeal.τ).loc Cert.AdamQGainIdeal.main_arg3) = m ((c.tc : Thread Cert.AdamQGainIdeal.nD Cert.AdamQGainIdeal.τ).loc Cert.AdamQGainIdeal.main_arg3))
      ∧ θ_run (Cert.AdamQGainRefIdeal.defs (F := Ideal)) (onTc (τ := Cert.AdamQGainRefIdeal.τ) (Cert.AdamQGainRefIdeal.main (F := Ideal))) ⟨m', fun _ => 0, g'⟩ (fun r => ∀ c : Dev Cert.AdamQGainRefIdeal.nD,
          r.2.mem ((c.tc : Thread Cert.AdamQGainRefIdeal.nD Cert.AdamQGainRefIdeal.τ).loc Cert.AdamQGainRefIdeal.main_v23) = v0 c
          ∧ r.2.mem ((c.tc : Thread Cert.AdamQGainRefIdeal.nD Cert.AdamQGainRefIdeal.τ).loc Cert.AdamQGainRefIdeal.main_v4) = v1 c
          ∧ r.2.mem ((c.tc : Thread Cert.AdamQGainRefIdeal.nD Cert.AdamQGainRefIdeal.τ).loc Cert.AdamQGainRefIdeal.main_v10) = v2 c
          ∧ r.2.mem ((c.tc : Thread Cert.AdamQGainRefIdeal.nD Cert.AdamQGainRefIdeal.τ).loc Cert.AdamQGainRefIdeal.main_arg0) = m' ((c.tc : Thread Cert.AdamQGainRefIdeal.nD Cert.AdamQGainRefIdeal.τ).loc Cert.AdamQGainRefIdeal.main_arg0)
          ∧ r.2.mem ((c.tc : Thread Cert.AdamQGainRefIdeal.nD Cert.AdamQGainRefIdeal.τ).loc Cert.AdamQGainRefIdeal.main_arg1) = m' ((c.tc : Thread Cert.AdamQGainRefIdeal.nD Cert.AdamQGainRefIdeal.τ).loc Cert.AdamQGainRefIdeal.main_arg1)
          ∧ r.2.mem ((c.tc : Thread Cert.AdamQGainRefIdeal.nD Cert.AdamQGainRefIdeal.τ).loc Cert.AdamQGainRefIdeal.main_arg2) = m' ((c.tc : Thread Cert.AdamQGainRefIdeal.nD Cert.AdamQGainRefIdeal.τ).loc Cert.AdamQGainRefIdeal.main_arg2)
          ∧ r.2.mem ((c.tc : Thread Cert.AdamQGainRefIdeal.nD Cert.AdamQGainRefIdeal.τ).loc Cert.AdamQGainRefIdeal.main_arg3) = m' ((c.tc : Thread Cert.AdamQGainRefIdeal.nD Cert.AdamQGainRefIdeal.τ).loc Cert.AdamQGainRefIdeal.main_arg3))

def preserves_AdamKvGain_AdamKvGainIdeal : Prop :=
  True

def algebraic_AdamKvGainIdeal_AdamKvGainRefIdeal [hAdamKvGainIdeal : Cert.AdamKvGainIdeal.Facts] [hAdamKvGainRefIdeal : Cert.AdamKvGainRefIdeal.Facts] : Prop :=
  ∀ (m : (ℓ : Loc Cert.AdamKvGainIdeal.nD Cert.AdamKvGainIdeal.τ Cert.AdamKvGainIdeal.sig) → Buf (Elt Ideal) ℓ) (g : Dev Cert.AdamKvGainIdeal.nD → PrngReg)
    (m' : (ℓ : Loc Cert.AdamKvGainRefIdeal.nD Cert.AdamKvGainRefIdeal.τ Cert.AdamKvGainRefIdeal.sig) → Buf (Elt Ideal) ℓ) (g' : Dev Cert.AdamKvGainRefIdeal.nD → PrngReg), Pre_AdamKvGainIdeal m →
    (∀ c : Dev Cert.AdamKvGainIdeal.nD,
      m' ((c.tc : Thread Cert.AdamKvGainRefIdeal.nD Cert.AdamKvGainRefIdeal.τ).loc Cert.AdamKvGainRefIdeal.main_arg0) = m ((c.tc : Thread Cert.AdamKvGainIdeal.nD Cert.AdamKvGainIdeal.τ).loc Cert.AdamKvGainIdeal.main_arg0)
      ∧ m' ((c.tc : Thread Cert.AdamKvGainRefIdeal.nD Cert.AdamKvGainRefIdeal.τ).loc Cert.AdamKvGainRefIdeal.main_arg1) = m ((c.tc : Thread Cert.AdamKvGainIdeal.nD Cert.AdamKvGainIdeal.τ).loc Cert.AdamKvGainIdeal.main_arg1)
      ∧ m' ((c.tc : Thread Cert.AdamKvGainRefIdeal.nD Cert.AdamKvGainRefIdeal.τ).loc Cert.AdamKvGainRefIdeal.main_arg2) = m ((c.tc : Thread Cert.AdamKvGainIdeal.nD Cert.AdamKvGainIdeal.τ).loc Cert.AdamKvGainIdeal.main_arg2)
      ∧ m' ((c.tc : Thread Cert.AdamKvGainRefIdeal.nD Cert.AdamKvGainRefIdeal.τ).loc Cert.AdamKvGainRefIdeal.main_arg3) = m ((c.tc : Thread Cert.AdamKvGainIdeal.nD Cert.AdamKvGainIdeal.τ).loc Cert.AdamKvGainIdeal.main_arg3)) →
    ∃ (v0 : (c : Dev Cert.AdamKvGainIdeal.nD) → Buf (Elt Ideal) ((c.tc : Thread Cert.AdamKvGainIdeal.nD Cert.AdamKvGainIdeal.τ).loc Cert.AdamKvGainIdeal.main_v0_0)) (v1 : (c : Dev Cert.AdamKvGainIdeal.nD) → Buf (Elt Ideal) ((c.tc : Thread Cert.AdamKvGainIdeal.nD Cert.AdamKvGainIdeal.τ).loc Cert.AdamKvGainIdeal.main_v0_1)) (v2 : (c : Dev Cert.AdamKvGainIdeal.nD) → Buf (Elt Ideal) ((c.tc : Thread Cert.AdamKvGainIdeal.nD Cert.AdamKvGainIdeal.τ).loc Cert.AdamKvGainIdeal.main_v0_2)),
      θ_run (Cert.AdamKvGainIdeal.defs (F := Ideal)) (onTc (τ := Cert.AdamKvGainIdeal.τ) (Cert.AdamKvGainIdeal.main (F := Ideal))) ⟨m, fun _ => 0, g⟩ (fun r => ∀ c : Dev Cert.AdamKvGainIdeal.nD,
          r.2.mem ((c.tc : Thread Cert.AdamKvGainIdeal.nD Cert.AdamKvGainIdeal.τ).loc Cert.AdamKvGainIdeal.main_v0_0) = v0 c
          ∧ r.2.mem ((c.tc : Thread Cert.AdamKvGainIdeal.nD Cert.AdamKvGainIdeal.τ).loc Cert.AdamKvGainIdeal.main_v0_1) = v1 c
          ∧ r.2.mem ((c.tc : Thread Cert.AdamKvGainIdeal.nD Cert.AdamKvGainIdeal.τ).loc Cert.AdamKvGainIdeal.main_v0_2) = v2 c
          ∧ r.2.mem ((c.tc : Thread Cert.AdamKvGainIdeal.nD Cert.AdamKvGainIdeal.τ).loc Cert.AdamKvGainIdeal.main_arg0) = m ((c.tc : Thread Cert.AdamKvGainIdeal.nD Cert.AdamKvGainIdeal.τ).loc Cert.AdamKvGainIdeal.main_arg0)
          ∧ r.2.mem ((c.tc : Thread Cert.AdamKvGainIdeal.nD Cert.AdamKvGainIdeal.τ).loc Cert.AdamKvGainIdeal.main_arg1) = m ((c.tc : Thread Cert.AdamKvGainIdeal.nD Cert.AdamKvGainIdeal.τ).loc Cert.AdamKvGainIdeal.main_arg1)
          ∧ r.2.mem ((c.tc : Thread Cert.AdamKvGainIdeal.nD Cert.AdamKvGainIdeal.τ).loc Cert.AdamKvGainIdeal.main_arg2) = m ((c.tc : Thread Cert.AdamKvGainIdeal.nD Cert.AdamKvGainIdeal.τ).loc Cert.AdamKvGainIdeal.main_arg2)
          ∧ r.2.mem ((c.tc : Thread Cert.AdamKvGainIdeal.nD Cert.AdamKvGainIdeal.τ).loc Cert.AdamKvGainIdeal.main_arg3) = m ((c.tc : Thread Cert.AdamKvGainIdeal.nD Cert.AdamKvGainIdeal.τ).loc Cert.AdamKvGainIdeal.main_arg3))
      ∧ θ_run (Cert.AdamKvGainRefIdeal.defs (F := Ideal)) (onTc (τ := Cert.AdamKvGainRefIdeal.τ) (Cert.AdamKvGainRefIdeal.main (F := Ideal))) ⟨m', fun _ => 0, g'⟩ (fun r => ∀ c : Dev Cert.AdamKvGainRefIdeal.nD,
          r.2.mem ((c.tc : Thread Cert.AdamKvGainRefIdeal.nD Cert.AdamKvGainRefIdeal.τ).loc Cert.AdamKvGainRefIdeal.main_v23) = v0 c
          ∧ r.2.mem ((c.tc : Thread Cert.AdamKvGainRefIdeal.nD Cert.AdamKvGainRefIdeal.τ).loc Cert.AdamKvGainRefIdeal.main_v4) = v1 c
          ∧ r.2.mem ((c.tc : Thread Cert.AdamKvGainRefIdeal.nD Cert.AdamKvGainRefIdeal.τ).loc Cert.AdamKvGainRefIdeal.main_v10) = v2 c
          ∧ r.2.mem ((c.tc : Thread Cert.AdamKvGainRefIdeal.nD Cert.AdamKvGainRefIdeal.τ).loc Cert.AdamKvGainRefIdeal.main_arg0) = m' ((c.tc : Thread Cert.AdamKvGainRefIdeal.nD Cert.AdamKvGainRefIdeal.τ).loc Cert.AdamKvGainRefIdeal.main_arg0)
          ∧ r.2.mem ((c.tc : Thread Cert.AdamKvGainRefIdeal.nD Cert.AdamKvGainRefIdeal.τ).loc Cert.AdamKvGainRefIdeal.main_arg1) = m' ((c.tc : Thread Cert.AdamKvGainRefIdeal.nD Cert.AdamKvGainRefIdeal.τ).loc Cert.AdamKvGainRefIdeal.main_arg1)
          ∧ r.2.mem ((c.tc : Thread Cert.AdamKvGainRefIdeal.nD Cert.AdamKvGainRefIdeal.τ).loc Cert.AdamKvGainRefIdeal.main_arg2) = m' ((c.tc : Thread Cert.AdamKvGainRefIdeal.nD Cert.AdamKvGainRefIdeal.τ).loc Cert.AdamKvGainRefIdeal.main_arg2)
          ∧ r.2.mem ((c.tc : Thread Cert.AdamKvGainRefIdeal.nD Cert.AdamKvGainRefIdeal.τ).loc Cert.AdamKvGainRefIdeal.main_arg3) = m' ((c.tc : Thread Cert.AdamKvGainRefIdeal.nD Cert.AdamKvGainRefIdeal.τ).loc Cert.AdamKvGainRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v23) = v0 c
          ∧ r.2.mem ((c.tc : Thread Cert.AdamTapsRefIdeal.nD Cert.AdamTapsRefIdeal.τ).loc Cert.AdamTapsRefIdeal.main_v4) = v1 c
          ∧ r.2.mem ((c.tc : Thread Cert.AdamTapsRefIdeal.nD Cert.AdamTapsRefIdeal.τ).loc Cert.AdamTapsRefIdeal.main_v10) = v2 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamChannel_AdamChannelIdeal : Prop :=
  True

def algebraic_AdamChannelIdeal_AdamChannelRefIdeal [hAdamChannelIdeal : Cert.AdamChannelIdeal.Facts] [hAdamChannelRefIdeal : Cert.AdamChannelRefIdeal.Facts] : Prop :=
  ∀ (m : (ℓ : Loc Cert.AdamChannelIdeal.nD Cert.AdamChannelIdeal.τ Cert.AdamChannelIdeal.sig) → Buf (Elt Ideal) ℓ) (g : Dev Cert.AdamChannelIdeal.nD → PrngReg)
    (m' : (ℓ : Loc Cert.AdamChannelRefIdeal.nD Cert.AdamChannelRefIdeal.τ Cert.AdamChannelRefIdeal.sig) → Buf (Elt Ideal) ℓ) (g' : Dev Cert.AdamChannelRefIdeal.nD → PrngReg), Pre_AdamChannelIdeal m →
    (∀ c : Dev Cert.AdamChannelIdeal.nD,
      m' ((c.tc : Thread Cert.AdamChannelRefIdeal.nD Cert.AdamChannelRefIdeal.τ).loc Cert.AdamChannelRefIdeal.main_arg0) = m ((c.tc : Thread Cert.AdamChannelIdeal.nD Cert.AdamChannelIdeal.τ).loc Cert.AdamChannelIdeal.main_arg0)
      ∧ m' ((c.tc : Thread Cert.AdamChannelRefIdeal.nD Cert.AdamChannelRefIdeal.τ).loc Cert.AdamChannelRefIdeal.main_arg1) = m ((c.tc : Thread Cert.AdamChannelIdeal.nD Cert.AdamChannelIdeal.τ).loc Cert.AdamChannelIdeal.main_arg1)
      ∧ m' ((c.tc : Thread Cert.AdamChannelRefIdeal.nD Cert.AdamChannelRefIdeal.τ).loc Cert.AdamChannelRefIdeal.main_arg2) = m ((c.tc : Thread Cert.AdamChannelIdeal.nD Cert.AdamChannelIdeal.τ).loc Cert.AdamChannelIdeal.main_arg2)
      ∧ m' ((c.tc : Thread Cert.AdamChannelRefIdeal.nD Cert.AdamChannelRefIdeal.τ).loc Cert.AdamChannelRefIdeal.main_arg3) = m ((c.tc : Thread Cert.AdamChannelIdeal.nD Cert.AdamChannelIdeal.τ).loc Cert.AdamChannelIdeal.main_arg3)) →
    ∃ (v0 : (c : Dev Cert.AdamChannelIdeal.nD) → Buf (Elt Ideal) ((c.tc : Thread Cert.AdamChannelIdeal.nD Cert.AdamChannelIdeal.τ).loc Cert.AdamChannelIdeal.main_v0_0)) (v1 : (c : Dev Cert.AdamChannelIdeal.nD) → Buf (Elt Ideal) ((c.tc : Thread Cert.AdamChannelIdeal.nD Cert.AdamChannelIdeal.τ).loc Cert.AdamChannelIdeal.main_v0_1)) (v2 : (c : Dev Cert.AdamChannelIdeal.nD) → Buf (Elt Ideal) ((c.tc : Thread Cert.AdamChannelIdeal.nD Cert.AdamChannelIdeal.τ).loc Cert.AdamChannelIdeal.main_v0_2)),
      θ_run (Cert.AdamChannelIdeal.defs (F := Ideal)) (onTc (τ := Cert.AdamChannelIdeal.τ) (Cert.AdamChannelIdeal.main (F := Ideal))) ⟨m, fun _ => 0, g⟩ (fun r => ∀ c : Dev Cert.AdamChannelIdeal.nD,
          r.2.mem ((c.tc : Thread Cert.AdamChannelIdeal.nD Cert.AdamChannelIdeal.τ).loc Cert.AdamChannelIdeal.main_v0_0) = v0 c
          ∧ r.2.mem ((c.tc : Thread Cert.AdamChannelIdeal.nD Cert.AdamChannelIdeal.τ).loc Cert.AdamChannelIdeal.main_v0_1) = v1 c
          ∧ r.2.mem ((c.tc : Thread Cert.AdamChannelIdeal.nD Cert.AdamChannelIdeal.τ).loc Cert.AdamChannelIdeal.main_v0_2) = v2 c
          ∧ r.2.mem ((c.tc : Thread Cert.AdamChannelIdeal.nD Cert.AdamChannelIdeal.τ).loc Cert.AdamChannelIdeal.main_arg0) = m ((c.tc : Thread Cert.AdamChannelIdeal.nD Cert.AdamChannelIdeal.τ).loc Cert.AdamChannelIdeal.main_arg0)
          ∧ r.2.mem ((c.tc : Thread Cert.AdamChannelIdeal.nD Cert.AdamChannelIdeal.τ).loc Cert.AdamChannelIdeal.main_arg1) = m ((c.tc : Thread Cert.AdamChannelIdeal.nD Cert.AdamChannelIdeal.τ).loc Cert.AdamChannelIdeal.main_arg1)
          ∧ r.2.mem ((c.tc : Thread Cert.AdamChannelIdeal.nD Cert.AdamChannelIdeal.τ).loc Cert.AdamChannelIdeal.main_arg2) = m ((c.tc : Thread Cert.AdamChannelIdeal.nD Cert.AdamChannelIdeal.τ).loc Cert.AdamChannelIdeal.main_arg2)
          ∧ r.2.mem ((c.tc : Thread Cert.AdamChannelIdeal.nD Cert.AdamChannelIdeal.τ).loc Cert.AdamChannelIdeal.main_arg3) = m ((c.tc : Thread Cert.AdamChannelIdeal.nD Cert.AdamChannelIdeal.τ).loc Cert.AdamChannelIdeal.main_arg3))
      ∧ θ_run (Cert.AdamChannelRefIdeal.defs (F := Ideal)) (onTc (τ := Cert.AdamChannelRefIdeal.τ) (Cert.AdamChannelRefIdeal.main (F := Ideal))) ⟨m', fun _ => 0, g'⟩ (fun r => ∀ c : Dev Cert.AdamChannelRefIdeal.nD,
          r.2.mem ((c.tc : Thread Cert.AdamChannelRefIdeal.nD Cert.AdamChannelRefIdeal.τ).loc Cert.AdamChannelRefIdeal.main_v23) = v0 c
          ∧ r.2.mem ((c.tc : Thread Cert.AdamChannelRefIdeal.nD Cert.AdamChannelRefIdeal.τ).loc Cert.AdamChannelRefIdeal.main_v4) = v1 c
          ∧ r.2.mem ((c.tc : Thread Cert.AdamChannelRefIdeal.nD Cert.AdamChannelRefIdeal.τ).loc Cert.AdamChannelRefIdeal.main_v10) = v2 c
          ∧ r.2.mem ((c.tc : Thread Cert.AdamChannelRefIdeal.nD Cert.AdamChannelRefIdeal.τ).loc Cert.AdamChannelRefIdeal.main_arg0) = m' ((c.tc : Thread Cert.AdamChannelRefIdeal.nD Cert.AdamChannelRefIdeal.τ).loc Cert.AdamChannelRefIdeal.main_arg0)
          ∧ r.2.mem ((c.tc : Thread Cert.AdamChannelRefIdeal.nD Cert.AdamChannelRefIdeal.τ).loc Cert.AdamChannelRefIdeal.main_arg1) = m' ((c.tc : Thread Cert.AdamChannelRefIdeal.nD Cert.AdamChannelRefIdeal.τ).loc Cert.AdamChannelRefIdeal.main_arg1)
          ∧ r.2.mem ((c.tc : Thread Cert.AdamChannelRefIdeal.nD Cert.AdamChannelRefIdeal.τ).loc Cert.AdamChannelRefIdeal.main_arg2) = m' ((c.tc : Thread Cert.AdamChannelRefIdeal.nD Cert.AdamChannelRefIdeal.τ).loc Cert.AdamChannelRefIdeal.main_arg2)
          ∧ r.2.mem ((c.tc : Thread Cert.AdamChannelRefIdeal.nD Cert.AdamChannelRefIdeal.τ).loc Cert.AdamChannelRefIdeal.main_arg3) = m' ((c.tc : Thread Cert.AdamChannelRefIdeal.nD Cert.AdamChannelRefIdeal.τ).loc Cert.AdamChannelRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v23) = v0 c
          ∧ r.2.mem ((c.tc : Thread Cert.AdamMixRefIdeal.nD Cert.AdamMixRefIdeal.τ).loc Cert.AdamMixRefIdeal.main_v4) = v1 c
          ∧ r.2.mem ((c.tc : Thread Cert.AdamMixRefIdeal.nD Cert.AdamMixRefIdeal.τ).loc Cert.AdamMixRefIdeal.main_v10) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_SumGains_SumGainsIdeal : Prop :=
  True

def algebraic_SumGainsIdeal_SumGainsRefIdeal [hSumGainsIdeal : Cert.SumGainsIdeal.Facts] [hSumGainsRefIdeal : Cert.SumGainsRefIdeal.Facts] : Prop :=
  ∀ (m : (ℓ : Loc Cert.SumGainsIdeal.nD Cert.SumGainsIdeal.τ Cert.SumGainsIdeal.sig) → Buf (Elt Ideal) ℓ) (g : Dev Cert.SumGainsIdeal.nD → PrngReg)
    (m' : (ℓ : Loc Cert.SumGainsRefIdeal.nD Cert.SumGainsRefIdeal.τ Cert.SumGainsRefIdeal.sig) → Buf (Elt Ideal) ℓ) (g' : Dev Cert.SumGainsRefIdeal.nD → PrngReg), Pre_SumGainsIdeal m →
    (∀ c : Dev Cert.SumGainsIdeal.nD,
      m' ((c.tc : Thread Cert.SumGainsRefIdeal.nD Cert.SumGainsRefIdeal.τ).loc Cert.SumGainsRefIdeal.main_arg0) = m ((c.tc : Thread Cert.SumGainsIdeal.nD Cert.SumGainsIdeal.τ).loc Cert.SumGainsIdeal.main_arg0)) →
    ∃ (v0 : (c : Dev Cert.SumGainsIdeal.nD) → Buf (Elt Ideal) ((c.tc : Thread Cert.SumGainsIdeal.nD Cert.SumGainsIdeal.τ).loc Cert.SumGainsIdeal.main_v0)),
      θ_run (Cert.SumGainsIdeal.defs (F := Ideal)) (onTc (τ := Cert.SumGainsIdeal.τ) (Cert.SumGainsIdeal.main (F := Ideal))) ⟨m, fun _ => 0, g⟩ (fun r => ∀ c : Dev Cert.SumGainsIdeal.nD,
          r.2.mem ((c.tc : Thread Cert.SumGainsIdeal.nD Cert.SumGainsIdeal.τ).loc Cert.SumGainsIdeal.main_v0) = v0 c
          ∧ r.2.mem ((c.tc : Thread Cert.SumGainsIdeal.nD Cert.SumGainsIdeal.τ).loc Cert.SumGainsIdeal.main_arg0) = m ((c.tc : Thread Cert.SumGainsIdeal.nD Cert.SumGainsIdeal.τ).loc Cert.SumGainsIdeal.main_arg0))
      ∧ θ_run (Cert.SumGainsRefIdeal.defs (F := Ideal)) (onTc (τ := Cert.SumGainsRefIdeal.τ) (Cert.SumGainsRefIdeal.main (F := Ideal))) ⟨m', fun _ => 0, g'⟩ (fun r => ∀ c : Dev Cert.SumGainsRefIdeal.nD,
          r.2.mem ((c.tc : Thread Cert.SumGainsRefIdeal.nD Cert.SumGainsRefIdeal.τ).loc Cert.SumGainsRefIdeal.main_v0) = v0 c
          ∧ r.2.mem ((c.tc : Thread Cert.SumGainsRefIdeal.nD Cert.SumGainsRefIdeal.τ).loc Cert.SumGainsRefIdeal.main_arg0) = m' ((c.tc : Thread Cert.SumGainsRefIdeal.nD Cert.SumGainsRefIdeal.τ).loc Cert.SumGainsRefIdeal.main_arg0))

def preserves_SumChannels_SumChannelsIdeal : Prop :=
  True

def algebraic_SumChannelsIdeal_SumChannelsRefIdeal [hSumChannelsIdeal : Cert.SumChannelsIdeal.Facts] [hSumChannelsRefIdeal : Cert.SumChannelsRefIdeal.Facts] : Prop :=
  ∀ (m : (ℓ : Loc Cert.SumChannelsIdeal.nD Cert.SumChannelsIdeal.τ Cert.SumChannelsIdeal.sig) → Buf (Elt Ideal) ℓ) (g : Dev Cert.SumChannelsIdeal.nD → PrngReg)
    (m' : (ℓ : Loc Cert.SumChannelsRefIdeal.nD Cert.SumChannelsRefIdeal.τ Cert.SumChannelsRefIdeal.sig) → Buf (Elt Ideal) ℓ) (g' : Dev Cert.SumChannelsRefIdeal.nD → PrngReg), Pre_SumChannelsIdeal m →
    (∀ c : Dev Cert.SumChannelsIdeal.nD,
      m' ((c.tc : Thread Cert.SumChannelsRefIdeal.nD Cert.SumChannelsRefIdeal.τ).loc Cert.SumChannelsRefIdeal.main_arg0) = m ((c.tc : Thread Cert.SumChannelsIdeal.nD Cert.SumChannelsIdeal.τ).loc Cert.SumChannelsIdeal.main_arg0)) →
    ∃ (v0 : (c : Dev Cert.SumChannelsIdeal.nD) → Buf (Elt Ideal) ((c.tc : Thread Cert.SumChannelsIdeal.nD Cert.SumChannelsIdeal.τ).loc Cert.SumChannelsIdeal.main_v0)),
      θ_run (Cert.SumChannelsIdeal.defs (F := Ideal)) (onTc (τ := Cert.SumChannelsIdeal.τ) (Cert.SumChannelsIdeal.main (F := Ideal))) ⟨m, fun _ => 0, g⟩ (fun r => ∀ c : Dev Cert.SumChannelsIdeal.nD,
          r.2.mem ((c.tc : Thread Cert.SumChannelsIdeal.nD Cert.SumChannelsIdeal.τ).loc Cert.SumChannelsIdeal.main_v0) = v0 c
          ∧ r.2.mem ((c.tc : Thread Cert.SumChannelsIdeal.nD Cert.SumChannelsIdeal.τ).loc Cert.SumChannelsIdeal.main_arg0) = m ((c.tc : Thread Cert.SumChannelsIdeal.nD Cert.SumChannelsIdeal.τ).loc Cert.SumChannelsIdeal.main_arg0))
      ∧ θ_run (Cert.SumChannelsRefIdeal.defs (F := Ideal)) (onTc (τ := Cert.SumChannelsRefIdeal.τ) (Cert.SumChannelsRefIdeal.main (F := Ideal))) ⟨m', fun _ => 0, g'⟩ (fun r => ∀ c : Dev Cert.SumChannelsRefIdeal.nD,
          r.2.mem ((c.tc : Thread Cert.SumChannelsRefIdeal.nD Cert.SumChannelsRefIdeal.τ).loc Cert.SumChannelsRefIdeal.main_v0) = v0 c
          ∧ r.2.mem ((c.tc : Thread Cert.SumChannelsRefIdeal.nD Cert.SumChannelsRefIdeal.τ).loc Cert.SumChannelsRefIdeal.main_arg0) = m' ((c.tc : Thread Cert.SumChannelsRefIdeal.nD Cert.SumChannelsRefIdeal.τ).loc Cert.SumChannelsRefIdeal.main_arg0))

def preserves_SumQ_SumQIdeal : Prop :=
  True

def algebraic_SumQIdeal_SumQRefIdeal [hSumQIdeal : Cert.SumQIdeal.Facts] [hSumQRefIdeal : Cert.SumQRefIdeal.Facts] : Prop :=
  ∀ (m : (ℓ : Loc Cert.SumQIdeal.nD Cert.SumQIdeal.τ Cert.SumQIdeal.sig) → Buf (Elt Ideal) ℓ) (g : Dev Cert.SumQIdeal.nD → PrngReg)
    (m' : (ℓ : Loc Cert.SumQRefIdeal.nD Cert.SumQRefIdeal.τ Cert.SumQRefIdeal.sig) → Buf (Elt Ideal) ℓ) (g' : Dev Cert.SumQRefIdeal.nD → PrngReg), Pre_SumQIdeal m →
    (∀ c : Dev Cert.SumQIdeal.nD,
      m' ((c.tc : Thread Cert.SumQRefIdeal.nD Cert.SumQRefIdeal.τ).loc Cert.SumQRefIdeal.main_arg0) = m ((c.tc : Thread Cert.SumQIdeal.nD Cert.SumQIdeal.τ).loc Cert.SumQIdeal.main_arg0)) →
    ∃ (v0 : (c : Dev Cert.SumQIdeal.nD) → Buf (Elt Ideal) ((c.tc : Thread Cert.SumQIdeal.nD Cert.SumQIdeal.τ).loc Cert.SumQIdeal.main_v0)),
      θ_run (Cert.SumQIdeal.defs (F := Ideal)) (onTc (τ := Cert.SumQIdeal.τ) (Cert.SumQIdeal.main (F := Ideal))) ⟨m, fun _ => 0, g⟩ (fun r => ∀ c : Dev Cert.SumQIdeal.nD,
          r.2.mem ((c.tc : Thread Cert.SumQIdeal.nD Cert.SumQIdeal.τ).loc Cert.SumQIdeal.main_v0) = v0 c
          ∧ r.2.mem ((c.tc : Thread Cert.SumQIdeal.nD Cert.SumQIdeal.τ).loc Cert.SumQIdeal.main_arg0) = m ((c.tc : Thread Cert.SumQIdeal.nD Cert.SumQIdeal.τ).loc Cert.SumQIdeal.main_arg0))
      ∧ θ_run (Cert.SumQRefIdeal.defs (F := Ideal)) (onTc (τ := Cert.SumQRefIdeal.τ) (Cert.SumQRefIdeal.main (F := Ideal))) ⟨m', fun _ => 0, g'⟩ (fun r => ∀ c : Dev Cert.SumQRefIdeal.nD,
          r.2.mem ((c.tc : Thread Cert.SumQRefIdeal.nD Cert.SumQRefIdeal.τ).loc Cert.SumQRefIdeal.main_v0) = v0 c
          ∧ r.2.mem ((c.tc : Thread Cert.SumQRefIdeal.nD Cert.SumQRefIdeal.τ).loc Cert.SumQRefIdeal.main_arg0) = m' ((c.tc : Thread Cert.SumQRefIdeal.nD Cert.SumQRefIdeal.τ).loc Cert.SumQRefIdeal.main_arg0))

def preserves_SumKv_SumKvIdeal : Prop :=
  True

def algebraic_SumKvIdeal_SumKvRefIdeal [hSumKvIdeal : Cert.SumKvIdeal.Facts] [hSumKvRefIdeal : Cert.SumKvRefIdeal.Facts] : Prop :=
  ∀ (m : (ℓ : Loc Cert.SumKvIdeal.nD Cert.SumKvIdeal.τ Cert.SumKvIdeal.sig) → Buf (Elt Ideal) ℓ) (g : Dev Cert.SumKvIdeal.nD → PrngReg)
    (m' : (ℓ : Loc Cert.SumKvRefIdeal.nD Cert.SumKvRefIdeal.τ Cert.SumKvRefIdeal.sig) → Buf (Elt Ideal) ℓ) (g' : Dev Cert.SumKvRefIdeal.nD → PrngReg), Pre_SumKvIdeal m →
    (∀ c : Dev Cert.SumKvIdeal.nD,
      m' ((c.tc : Thread Cert.SumKvRefIdeal.nD Cert.SumKvRefIdeal.τ).loc Cert.SumKvRefIdeal.main_arg0) = m ((c.tc : Thread Cert.SumKvIdeal.nD Cert.SumKvIdeal.τ).loc Cert.SumKvIdeal.main_arg0)) →
    ∃ (v0 : (c : Dev Cert.SumKvIdeal.nD) → Buf (Elt Ideal) ((c.tc : Thread Cert.SumKvIdeal.nD Cert.SumKvIdeal.τ).loc Cert.SumKvIdeal.main_v0)),
      θ_run (Cert.SumKvIdeal.defs (F := Ideal)) (onTc (τ := Cert.SumKvIdeal.τ) (Cert.SumKvIdeal.main (F := Ideal))) ⟨m, fun _ => 0, g⟩ (fun r => ∀ c : Dev Cert.SumKvIdeal.nD,
          r.2.mem ((c.tc : Thread Cert.SumKvIdeal.nD Cert.SumKvIdeal.τ).loc Cert.SumKvIdeal.main_v0) = v0 c
          ∧ r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ θ_run (Cert.SumKvRefIdeal.defs (F := Ideal)) (onTc (τ := Cert.SumKvRefIdeal.τ) (Cert.SumKvRefIdeal.main (F := Ideal))) ⟨m', fun _ => 0, g'⟩ (fun r => ∀ c : Dev Cert.SumKvRefIdeal.nD,
          r.2.mem ((c.tc : Thread Cert.SumKvRefIdeal.nD Cert.SumKvRefIdeal.τ).loc Cert.SumKvRefIdeal.main_v0) = v0 c
          ∧ r.2.mem ((c.tc : Thread Cert.SumKvRefIdeal.nD Cert.SumKvRefIdeal.τ).loc Cert.SumKvRefIdeal.main_arg0) = m' ((c.tc : Thread Cert.SumKvRefIdeal.nD Cert.SumKvRefIdeal.τ).loc Cert.SumKvRefIdeal.main_arg0))

def preserves_SumPool_SumPoolIdeal : Prop :=
  True

def algebraic_SumPoolIdeal_SumPoolRefIdeal [hSumPoolIdeal : Cert.SumPoolIdeal.Facts] [hSumPoolRefIdeal : Cert.SumPoolRefIdeal.Facts] : Prop :=
  ∀ (m : (ℓ : Loc Cert.SumPoolIdeal.nD Cert.SumPoolIdeal.τ Cert.SumPoolIdeal.sig) → Buf (Elt Ideal) ℓ) (g : Dev Cert.SumPoolIdeal.nD → PrngReg)
    (m' : (ℓ : Loc Cert.SumPoolRefIdeal.nD Cert.SumPoolRefIdeal.τ Cert.SumPoolRefIdeal.sig) → Buf (Elt Ideal) ℓ) (g' : Dev Cert.SumPoolRefIdeal.nD → PrngReg), Pre_SumPoolIdeal m →
    (∀ c : Dev Cert.SumPoolIdeal.nD,
      m' ((c.tc : Thread Cert.SumPoolRefIdeal.nD Cert.SumPoolRefIdeal.τ).loc Cert.SumPoolRefIdeal.main_arg0) = m ((c.tc : Thread Cert.SumPoolIdeal.nD Cert.SumPoolIdeal.τ).loc Cert.SumPoolIdeal.main_arg0)) →
    ∃ (v0 : (c : Dev Cert.SumPoolIdeal.nD) → Buf (Elt Ideal) ((c.tc : Thread Cert.SumPoolIdeal.nD Cert.SumPoolIdeal.τ).loc Cert.SumPoolIdeal.main_v0)),
      θ_run (Cert.SumPoolIdeal.defs (F := Ideal)) (onTc (τ := Cert.SumPoolIdeal.τ) (Cert.SumPoolIdeal.main (F := Ideal))) ⟨m, fun _ => 0, g⟩ (fun r => ∀ c : Dev Cert.SumPoolIdeal.nD,
          r.2.mem ((c.tc : Thread Cert.SumPoolIdeal.nD Cert.SumPoolIdeal.τ).loc Cert.SumPoolIdeal.main_v0) = v0 c
          ∧ r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0))
      ∧ θ_run (Cert.SumPoolRefIdeal.defs (F := Ideal)) (onTc (τ := Cert.SumPoolRefIdeal.τ) (Cert.SumPoolRefIdeal.main (F := Ideal))) ⟨m', fun _ => 0, g'⟩ (fun r => ∀ c : Dev Cert.SumPoolRefIdeal.nD,
          r.2.mem ((c.tc : Thread Cert.SumPoolRefIdeal.nD Cert.SumPoolRefIdeal.τ).loc Cert.SumPoolRefIdeal.main_v0) = v0 c
          ∧ r.2.mem ((c.tc : Thread Cert.SumPoolRefIdeal.nD Cert.SumPoolRefIdeal.τ).loc Cert.SumPoolRefIdeal.main_arg0) = m' ((c.tc : Thread Cert.SumPoolRefIdeal.nD Cert.SumPoolRefIdeal.τ).loc Cert.SumPoolRefIdeal.main_arg0))

def preserves_SumLast_SumLastIdeal : Prop :=
  True

def algebraic_SumLastIdeal_SumLastRefIdeal [hSumLastIdeal : Cert.SumLastIdeal.Facts] [hSumLastRefIdeal : Cert.SumLastRefIdeal.Facts] : Prop :=
  ∀ (m : (ℓ : Loc Cert.SumLastIdeal.nD Cert.SumLastIdeal.τ Cert.SumLastIdeal.sig) → Buf (Elt Ideal) ℓ) (g : Dev Cert.SumLastIdeal.nD → PrngReg)
    (m' : (ℓ : Loc Cert.SumLastRefIdeal.nD Cert.SumLastRefIdeal.τ Cert.SumLastRefIdeal.sig) → Buf (Elt Ideal) ℓ) (g' : Dev Cert.SumLastRefIdeal.nD → PrngReg), Pre_SumLastIdeal m →
    (∀ c : Dev Cert.SumLastIdeal.nD,
      m' ((c.tc : Thread Cert.SumLastRefIdeal.nD Cert.SumLastRefIdeal.τ).loc Cert.SumLastRefIdeal.main_arg0) = m ((c.tc : Thread Cert.SumLastIdeal.nD Cert.SumLastIdeal.τ).loc Cert.SumLastIdeal.main_arg0)) →
    ∃ (v0 : (c : Dev Cert.SumLastIdeal.nD) → Buf (Elt Ideal) ((c.tc : Thread Cert.SumLastIdeal.nD Cert.SumLastIdeal.τ).loc Cert.SumLastIdeal.main_v0)),
      θ_run (Cert.SumLastIdeal.defs (F := Ideal)) (onTc (τ := Cert.SumLastIdeal.τ) (Cert.SumLastIdeal.main (F := Ideal))) ⟨m, fun _ => 0, g⟩ (fun r => ∀ c : Dev Cert.SumLastIdeal.nD,
          r.2.mem ((c.tc : Thread Cert.SumLastIdeal.nD Cert.SumLastIdeal.τ).loc Cert.SumLastIdeal.main_v0) = v0 c
          ∧ r.2.mem ((c.tc : Thread Cert.SumLastIdeal.nD Cert.SumLastIdeal.τ).loc Cert.SumLastIdeal.main_arg0) = m ((c.tc : Thread Cert.SumLastIdeal.nD Cert.SumLastIdeal.τ).loc Cert.SumLastIdeal.main_arg0))
      ∧ θ_run (Cert.SumLastRefIdeal.defs (F := Ideal)) (onTc (τ := Cert.SumLastRefIdeal.τ) (Cert.SumLastRefIdeal.main (F := Ideal))) ⟨m', fun _ => 0, g'⟩ (fun r => ∀ c : Dev Cert.SumLastRefIdeal.nD,
          r.2.mem ((c.tc : Thread Cert.SumLastRefIdeal.nD Cert.SumLastRefIdeal.τ).loc Cert.SumLastRefIdeal.main_v0) = v0 c
          ∧ r.2.mem ((c.tc : Thread Cert.SumLastRefIdeal.nD Cert.SumLastRefIdeal.τ).loc Cert.SumLastRefIdeal.main_arg0) = m' ((c.tc : Thread Cert.SumLastRefIdeal.nD Cert.SumLastRefIdeal.τ).loc Cert.SumLastRefIdeal.main_arg0))

def preserves_LayersIn_LayersInIdeal : Prop :=
  True

def algebraic_LayersInIdeal_LayersInRefIdeal [hLayersInIdeal : Cert.LayersInIdeal.Facts] [hLayersInRefIdeal : Cert.LayersInRefIdeal.Facts] : Prop :=
  ∀ (m : (ℓ : Loc Cert.LayersInIdeal.nD Cert.LayersInIdeal.τ Cert.LayersInIdeal.sig) → Buf (Elt Ideal) ℓ) (g : Dev Cert.LayersInIdeal.nD → PrngReg)
    (m' : (ℓ : Loc Cert.LayersInRefIdeal.nD Cert.LayersInRefIdeal.τ Cert.LayersInRefIdeal.sig) → Buf (Elt Ideal) ℓ) (g' : Dev Cert.LayersInRefIdeal.nD → PrngReg), Pre_LayersInIdeal m →
    (∀ c : Dev Cert.LayersInIdeal.nD,
      m' ((c.tc : Thread Cert.LayersInRefIdeal.nD Cert.LayersInRefIdeal.τ).loc Cert.LayersInRefIdeal.main_arg0) = m ((c.tc : Thread Cert.LayersInIdeal.nD Cert.LayersInIdeal.τ).loc Cert.LayersInIdeal.main_arg0)
      ∧ m' ((c.tc : Thread Cert.LayersInRefIdeal.nD Cert.LayersInRefIdeal.τ).loc Cert.LayersInRefIdeal.main_arg1) = m ((c.tc : Thread Cert.LayersInIdeal.nD Cert.LayersInIdeal.τ).loc Cert.LayersInIdeal.main_arg1)) →
    ∃ (v0 : (c : Dev Cert.LayersInIdeal.nD) → Buf (Elt Ideal) ((c.tc : Thread Cert.LayersInIdeal.nD Cert.LayersInIdeal.τ).loc Cert.LayersInIdeal.main_v0)),
      θ_run (Cert.LayersInIdeal.defs (F := Ideal)) (onTc (τ := Cert.LayersInIdeal.τ) (Cert.LayersInIdeal.main (F := Ideal))) ⟨m, fun _ => 0, g⟩ (fun r => ∀ c : Dev Cert.LayersInIdeal.nD,
          r.2.mem ((c.tc : Thread Cert.LayersInIdeal.nD Cert.LayersInIdeal.τ).loc Cert.LayersInIdeal.main_v0) = v0 c
          ∧ r.2.mem ((c.tc : Thread Cert.LayersInIdeal.nD Cert.LayersInIdeal.τ).loc Cert.LayersInIdeal.main_arg0) = m ((c.tc : Thread Cert.LayersInIdeal.nD Cert.LayersInIdeal.τ).loc Cert.LayersInIdeal.main_arg0)
          ∧ r.2.mem ((c.tc : Thread Cert.LayersInIdeal.nD Cert.LayersInIdeal.τ).loc Cert.LayersInIdeal.main_arg1) = m ((c.tc : Thread Cert.LayersInIdeal.nD Cert.LayersInIdeal.τ).loc Cert.LayersInIdeal.main_arg1))
      ∧ θ_run (Cert.LayersInRefIdeal.defs (F := Ideal)) (onTc (τ := Cert.LayersInRefIdeal.τ) (Cert.LayersInRefIdeal.main (F := Ideal))) ⟨m', fun _ => 0, g'⟩ (fun r => ∀ c : Dev Cert.LayersInRefIdeal.nD,
          r.2.mem ((c.tc : Thread Cert.LayersInRefIdeal.nD Cert.LayersInRefIdeal.τ).loc Cert.LayersInRefIdeal.main_v6) = v0 c
          ∧ r.2.mem ((c.tc : Thread Cert.LayersInRefIdeal.nD Cert.LayersInRefIdeal.τ).loc Cert.LayersInRefIdeal.main_arg0) = m' ((c.tc : Thread Cert.LayersInRefIdeal.nD Cert.LayersInRefIdeal.τ).loc Cert.LayersInRefIdeal.main_arg0)
          ∧ r.2.mem ((c.tc : Thread Cert.LayersInRefIdeal.nD Cert.LayersInRefIdeal.τ).loc Cert.LayersInRefIdeal.main_arg1) = m' ((c.tc : Thread Cert.LayersInRefIdeal.nD Cert.LayersInRefIdeal.τ).loc Cert.LayersInRefIdeal.main_arg1))

def preserves_LayersQ_LayersQIdeal : Prop :=
  True

def algebraic_LayersQIdeal_LayersQRefIdeal [hLayersQIdeal : Cert.LayersQIdeal.Facts] [hLayersQRefIdeal : Cert.LayersQRefIdeal.Facts] : Prop :=
  ∀ (m : (ℓ : Loc Cert.LayersQIdeal.nD Cert.LayersQIdeal.τ Cert.LayersQIdeal.sig) → Buf (Elt Ideal) ℓ) (g : Dev Cert.LayersQIdeal.nD → PrngReg)
    (m' : (ℓ : Loc Cert.LayersQRefIdeal.nD Cert.LayersQRefIdeal.τ Cert.LayersQRefIdeal.sig) → Buf (Elt Ideal) ℓ) (g' : Dev Cert.LayersQRefIdeal.nD → PrngReg), Pre_LayersQIdeal m →
    (∀ c : Dev Cert.LayersQIdeal.nD,
      m' ((c.tc : Thread Cert.LayersQRefIdeal.nD Cert.LayersQRefIdeal.τ).loc Cert.LayersQRefIdeal.main_arg0) = m ((c.tc : Thread Cert.LayersQIdeal.nD Cert.LayersQIdeal.τ).loc Cert.LayersQIdeal.main_arg0)
      ∧ m' ((c.tc : Thread Cert.LayersQRefIdeal.nD Cert.LayersQRefIdeal.τ).loc Cert.LayersQRefIdeal.main_arg1) = m ((c.tc : Thread Cert.LayersQIdeal.nD Cert.LayersQIdeal.τ).loc Cert.LayersQIdeal.main_arg1)) →
    ∃ (v0 : (c : Dev Cert.LayersQIdeal.nD) → Buf (Elt Ideal) ((c.tc : Thread Cert.LayersQIdeal.nD Cert.LayersQIdeal.τ).loc Cert.LayersQIdeal.main_v0)),
      θ_run (Cert.LayersQIdeal.defs (F := Ideal)) (onTc (τ := Cert.LayersQIdeal.τ) (Cert.LayersQIdeal.main (F := Ideal))) ⟨m, fun _ => 0, g⟩ (fun r => ∀ c : Dev Cert.LayersQIdeal.nD,
          r.2.mem ((c.tc : Thread Cert.LayersQIdeal.nD Cert.LayersQIdeal.τ).loc Cert.LayersQIdeal.main_v0) = v0 c
          ∧ r.2.mem ((c.tc : Thread Cert.LayersQIdeal.nD Cert.LayersQIdeal.τ).loc Cert.LayersQIdeal.main_arg0) = m ((c.tc : Thread Cert.LayersQIdeal.nD Cert.LayersQIdeal.τ).loc Cert.LayersQIdeal.main_arg0)
          ∧ r.2.mem ((c.tc : Thread Cert.LayersQIdeal.nD Cert.LayersQIdeal.τ).loc Cert.LayersQIdeal.main_arg1) = m ((c.tc : Thread Cert.LayersQIdeal.nD Cert.LayersQIdeal.τ).loc Cert.LayersQIdeal.main_arg1))
      ∧ θ_run (Cert.LayersQRefIdeal.defs (F := Ideal)) (onTc (τ := Cert.LayersQRefIdeal.τ) (Cert.LayersQRefIdeal.main (F := Ideal))) ⟨m', fun _ => 0, g'⟩ (fun r => ∀ c : Dev Cert.LayersQRefIdeal.nD,
          r.2.mem ((c.tc : Thread Cert.LayersQRefIdeal.nD Cert.LayersQRefIdeal.τ).loc Cert.LayersQRefIdeal.main_v6) = v0 c
          ∧ r.2.mem ((c.tc : Thread Cert.LayersQRefIdeal.nD Cert.LayersQRefIdeal.τ).loc Cert.LayersQRefIdeal.main_arg0) = m' ((c.tc : Thread Cert.LayersQRefIdeal.nD Cert.LayersQRefIdeal.τ).loc Cert.LayersQRefIdeal.main_arg0)
          ∧ r.2.mem ((c.tc : Thread Cert.LayersQRefIdeal.nD Cert.LayersQRefIdeal.τ).loc Cert.LayersQRefIdeal.main_arg1) = m' ((c.tc : Thread Cert.LayersQRefIdeal.nD Cert.LayersQRefIdeal.τ).loc Cert.LayersQRefIdeal.main_arg1))

def preserves_LayersKv_LayersKvIdeal : Prop :=
  True

def algebraic_LayersKvIdeal_LayersKvRefIdeal [hLayersKvIdeal : Cert.LayersKvIdeal.Facts] [hLayersKvRefIdeal : Cert.LayersKvRefIdeal.Facts] : Prop :=
  ∀ (m : (ℓ : Loc Cert.LayersKvIdeal.nD Cert.LayersKvIdeal.τ Cert.LayersKvIdeal.sig) → Buf (Elt Ideal) ℓ) (g : Dev Cert.LayersKvIdeal.nD → PrngReg)
    (m' : (ℓ : Loc Cert.LayersKvRefIdeal.nD Cert.LayersKvRefIdeal.τ Cert.LayersKvRefIdeal.sig) → Buf (Elt Ideal) ℓ) (g' : Dev Cert.LayersKvRefIdeal.nD → PrngReg), Pre_LayersKvIdeal m →
    (∀ c : Dev Cert.LayersKvIdeal.nD,
      m' ((c.tc : Thread Cert.LayersKvRefIdeal.nD Cert.LayersKvRefIdeal.τ).loc Cert.LayersKvRefIdeal.main_arg0) = m ((c.tc : Thread Cert.LayersKvIdeal.nD Cert.LayersKvIdeal.τ).loc Cert.LayersKvIdeal.main_arg0)
      ∧ m' ((c.tc : Thread Cert.LayersKvRefIdeal.nD Cert.LayersKvRefIdeal.τ).loc Cert.LayersKvRefIdeal.main_arg1) = m ((c.tc : Thread Cert.LayersKvIdeal.nD Cert.LayersKvIdeal.τ).loc Cert.LayersKvIdeal.main_arg1)) →
    ∃ (v0 : (c : Dev Cert.LayersKvIdeal.nD) → Buf (Elt Ideal) ((c.tc : Thread Cert.LayersKvIdeal.nD Cert.LayersKvIdeal.τ).loc Cert.LayersKvIdeal.main_v0)),
      θ_run (Cert.LayersKvIdeal.defs (F := Ideal)) (onTc (τ := Cert.LayersKvIdeal.τ) (Cert.LayersKvIdeal.main (F := Ideal))) ⟨m, fun _ => 0, g⟩ (fun r => ∀ c : Dev Cert.LayersKvIdeal.nD,
          r.2.mem ((c.tc : Thread Cert.LayersKvIdeal.nD Cert.LayersKvIdeal.τ).loc Cert.LayersKvIdeal.main_v0) = v0 c
          ∧ r.2.mem ((c.tc : Thread Cert.LayersKvIdeal.nD Cert.LayersKvIdeal.τ).loc Cert.LayersKvIdeal.main_arg0) = m ((c.tc : Thread Cert.LayersKvIdeal.nD Cert.LayersKvIdeal.τ).loc Cert.LayersKvIdeal.main_arg0)
          ∧ r.2.mem ((c.tc : Thread Cert.LayersKvIdeal.nD Cert.LayersKvIdeal.τ).loc Cert.LayersKvIdeal.main_arg1) = m ((c.tc : Thread Cert.LayersKvIdeal.nD Cert.LayersKvIdeal.τ).loc Cert.LayersKvIdeal.main_arg1))
      ∧ θ_run (Cert.LayersKvRefIdeal.defs (F := Ideal)) (onTc (τ := Cert.LayersKvRefIdeal.τ) (Cert.LayersKvRefIdeal.main (F := Ideal))) ⟨m', fun _ => 0, g'⟩ (fun r => ∀ c : Dev Cert.LayersKvRefIdeal.nD,
          r.2.mem ((c.tc : Thread Cert.LayersKvRefIdeal.nD Cert.LayersKvRefIdeal.τ).loc Cert.LayersKvRefIdeal.main_v6) = v0 c
          ∧ r.2.mem ((c.tc : Thread Cert.LayersKvRefIdeal.nD Cert.LayersKvRefIdeal.τ).loc Cert.LayersKvRefIdeal.main_arg0) = m' ((c.tc : Thread Cert.LayersKvRefIdeal.nD Cert.LayersKvRefIdeal.τ).loc Cert.LayersKvRefIdeal.main_arg0)
          ∧ r.2.mem ((c.tc : Thread Cert.LayersKvRefIdeal.nD Cert.LayersKvRefIdeal.τ).loc Cert.LayersKvRefIdeal.main_arg1) = m' ((c.tc : Thread Cert.LayersKvRefIdeal.nD Cert.LayersKvRefIdeal.τ).loc Cert.LayersKvRefIdeal.main_arg1))

def preserves_LayersOut_LayersOutIdeal : Prop :=
  True

def algebraic_LayersOutIdeal_LayersOutRefIdeal [hLayersOutIdeal : Cert.LayersOutIdeal.Facts] [hLayersOutRefIdeal : Cert.LayersOutRefIdeal.Facts] : Prop :=
  ∀ (m : (ℓ : Loc Cert.LayersOutIdeal.nD Cert.LayersOutIdeal.τ Cert.LayersOutIdeal.sig) → Buf (Elt Ideal) ℓ) (g : Dev Cert.LayersOutIdeal.nD → PrngReg)
    (m' : (ℓ : Loc Cert.LayersOutRefIdeal.nD Cert.LayersOutRefIdeal.τ Cert.LayersOutRefIdeal.sig) → Buf (Elt Ideal) ℓ) (g' : Dev Cert.LayersOutRefIdeal.nD → PrngReg), Pre_LayersOutIdeal m →
    (∀ c : Dev Cert.LayersOutIdeal.nD,
      m' ((c.tc : Thread Cert.LayersOutRefIdeal.nD Cert.LayersOutRefIdeal.τ).loc Cert.LayersOutRefIdeal.main_arg0) = m ((c.tc : Thread Cert.LayersOutIdeal.nD Cert.LayersOutIdeal.τ).loc Cert.LayersOutIdeal.main_arg0)
      ∧ m' ((c.tc : Thread Cert.LayersOutRefIdeal.nD Cert.LayersOutRefIdeal.τ).loc Cert.LayersOutRefIdeal.main_arg1) = m ((c.tc : Thread Cert.LayersOutIdeal.nD Cert.LayersOutIdeal.τ).loc Cert.LayersOutIdeal.main_arg1)) →
    ∃ (v0 : (c : Dev Cert.LayersOutIdeal.nD) → Buf (Elt Ideal) ((c.tc : Thread Cert.LayersOutIdeal.nD Cert.LayersOutIdeal.τ).loc Cert.LayersOutIdeal.main_v0)),
      θ_run (Cert.LayersOutIdeal.defs (F := Ideal)) (onTc (τ := Cert.LayersOutIdeal.τ) (Cert.LayersOutIdeal.main (F := Ideal))) ⟨m, fun _ => 0, g⟩ (fun r => ∀ c : Dev Cert.LayersOutIdeal.nD,
          r.2.mem ((c.tc : Thread Cert.LayersOutIdeal.nD Cert.LayersOutIdeal.τ).loc Cert.LayersOutIdeal.main_v0) = v0 c
          ∧ r.2.mem ((c.tc : Thread Cert.LayersOutIdeal.nD Cert.LayersOutIdeal.τ).loc Cert.LayersOutIdeal.main_arg0) = m ((c.tc : Thread Cert.LayersOutIdeal.nD Cert.LayersOutIdeal.τ).loc Cert.LayersOutIdeal.main_arg0)
          ∧ r.2.mem ((c.tc : Thread Cert.LayersOutIdeal.nD Cert.LayersOutIdeal.τ).loc Cert.LayersOutIdeal.main_arg1) = m ((c.tc : Thread Cert.LayersOutIdeal.nD Cert.LayersOutIdeal.τ).loc Cert.LayersOutIdeal.main_arg1))
      ∧ θ_run (Cert.LayersOutRefIdeal.defs (F := Ideal)) (onTc (τ := Cert.LayersOutRefIdeal.τ) (Cert.LayersOutRefIdeal.main (F := Ideal))) ⟨m', fun _ => 0, g'⟩ (fun r => ∀ c : Dev Cert.LayersOutRefIdeal.nD,
          r.2.mem ((c.tc : Thread Cert.LayersOutRefIdeal.nD Cert.LayersOutRefIdeal.τ).loc Cert.LayersOutRefIdeal.main_v6) = v0 c
          ∧ r.2.mem ((c.tc : Thread Cert.LayersOutRefIdeal.nD Cert.LayersOutRefIdeal.τ).loc Cert.LayersOutRefIdeal.main_arg0) = m' ((c.tc : Thread Cert.LayersOutRefIdeal.nD Cert.LayersOutRefIdeal.τ).loc Cert.LayersOutRefIdeal.main_arg0)
          ∧ r.2.mem ((c.tc : Thread Cert.LayersOutRefIdeal.nD Cert.LayersOutRefIdeal.τ).loc Cert.LayersOutRefIdeal.main_arg1) = m' ((c.tc : Thread Cert.LayersOutRefIdeal.nD Cert.LayersOutRefIdeal.τ).loc Cert.LayersOutRefIdeal.main_arg1))

def preserves_LayersMix_LayersMixIdeal : Prop :=
  True

def algebraic_LayersMixIdeal_LayersMixRefIdeal [hLayersMixIdeal : Cert.LayersMixIdeal.Facts] [hLayersMixRefIdeal : Cert.LayersMixRefIdeal.Facts] : Prop :=
  ∀ (m : (ℓ : Loc Cert.LayersMixIdeal.nD Cert.LayersMixIdeal.τ Cert.LayersMixIdeal.sig) → Buf (Elt Ideal) ℓ) (g : Dev Cert.LayersMixIdeal.nD → PrngReg)
    (m' : (ℓ : Loc Cert.LayersMixRefIdeal.nD Cert.LayersMixRefIdeal.τ Cert.LayersMixRefIdeal.sig) → Buf (Elt Ideal) ℓ) (g' : Dev Cert.LayersMixRefIdeal.nD → PrngReg), Pre_LayersMixIdeal m →
    (∀ c : Dev Cert.LayersMixIdeal.nD,
      m' ((c.tc : Thread Cert.LayersMixRefIdeal.nD Cert.LayersMixRefIdeal.τ).loc Cert.LayersMixRefIdeal.main_arg0) = m ((c.tc : Thread Cert.LayersMixIdeal.nD Cert.LayersMixIdeal.τ).loc Cert.LayersMixIdeal.main_arg0)
      ∧ m' ((c.tc : Thread Cert.LayersMixRefIdeal.nD Cert.LayersMixRefIdeal.τ).loc Cert.LayersMixRefIdeal.main_arg1) = m ((c.tc : Thread Cert.LayersMixIdeal.nD Cert.LayersMixIdeal.τ).loc Cert.LayersMixIdeal.main_arg1)) →
    ∃ (v0 : (c : Dev Cert.LayersMixIdeal.nD) → Buf (Elt Ideal) ((c.tc : Thread Cert.LayersMixIdeal.nD Cert.LayersMixIdeal.τ).loc Cert.LayersMixIdeal.main_v0)),
      θ_run (Cert.LayersMixIdeal.defs (F := Ideal)) (onTc (τ := Cert.LayersMixIdeal.τ) (Cert.LayersMixIdeal.main (F := Ideal))) ⟨m, fun _ => 0, g⟩ (fun r => ∀ c : Dev Cert.LayersMixIdeal.nD,
          r.2.mem ((c.tc : Thread Cert.LayersMixIdeal.nD Cert.LayersMixIdeal.τ).loc Cert.LayersMixIdeal.main_v0) = v0 c
          ∧ r.2.mem ((c.tc : Thread Cert.LayersMixIdeal.nD Cert.LayersMixIdeal.τ).loc Cert.LayersMixIdeal.main_arg0) = m ((c.tc : Thread Cert.LayersMixIdeal.nD Cert.LayersMixIdeal.τ).loc Cert.LayersMixIdeal.main_arg0)
          ∧ r.2.mem ((c.tc : Thread Cert.LayersMixIdeal.nD Cert.LayersMixIdeal.τ).loc Cert.LayersMixIdeal.main_arg1) = m ((c.tc : Thread Cert.LayersMixIdeal.nD Cert.LayersMixIdeal.τ).loc Cert.LayersMixIdeal.main_arg1))
      ∧ θ_run (Cert.LayersMixRefIdeal.defs (F := Ideal)) (onTc (τ := Cert.LayersMixRefIdeal.τ) (Cert.LayersMixRefIdeal.main (F := Ideal))) ⟨m', fun _ => 0, g'⟩ (fun r => ∀ c : Dev Cert.LayersMixRefIdeal.nD,
          r.2.mem ((c.tc : Thread Cert.LayersMixRefIdeal.nD Cert.LayersMixRefIdeal.τ).loc Cert.LayersMixRefIdeal.main_v6) = v0 c
          ∧ r.2.mem ((c.tc : Thread Cert.LayersMixRefIdeal.nD Cert.LayersMixRefIdeal.τ).loc Cert.LayersMixRefIdeal.main_arg0) = m' ((c.tc : Thread Cert.LayersMixRefIdeal.nD Cert.LayersMixRefIdeal.τ).loc Cert.LayersMixRefIdeal.main_arg0)
          ∧ r.2.mem ((c.tc : Thread Cert.LayersMixRefIdeal.nD Cert.LayersMixRefIdeal.τ).loc Cert.LayersMixRefIdeal.main_arg1) = m' ((c.tc : Thread Cert.LayersMixRefIdeal.nD Cert.LayersMixRefIdeal.τ).loc Cert.LayersMixRefIdeal.main_arg1))

def preserves_LayersUp_LayersUpIdeal : Prop :=
  True

def algebraic_LayersUpIdeal_LayersUpRefIdeal [hLayersUpIdeal : Cert.LayersUpIdeal.Facts] [hLayersUpRefIdeal : Cert.LayersUpRefIdeal.Facts] : Prop :=
  ∀ (m : (ℓ : Loc Cert.LayersUpIdeal.nD Cert.LayersUpIdeal.τ Cert.LayersUpIdeal.sig) → Buf (Elt Ideal) ℓ) (g : Dev Cert.LayersUpIdeal.nD → PrngReg)
    (m' : (ℓ : Loc Cert.LayersUpRefIdeal.nD Cert.LayersUpRefIdeal.τ Cert.LayersUpRefIdeal.sig) → Buf (Elt Ideal) ℓ) (g' : Dev Cert.LayersUpRefIdeal.nD → PrngReg), Pre_LayersUpIdeal m →
    (∀ c : Dev Cert.LayersUpIdeal.nD,
      m' ((c.tc : Thread Cert.LayersUpRefIdeal.nD Cert.LayersUpRefIdeal.τ).loc Cert.LayersUpRefIdeal.main_arg0) = m ((c.tc : Thread Cert.LayersUpIdeal.nD Cert.LayersUpIdeal.τ).loc Cert.LayersUpIdeal.main_arg0)
      ∧ m' ((c.tc : Thread Cert.LayersUpRefIdeal.nD Cert.LayersUpRefIdeal.τ).loc Cert.LayersUpRefIdeal.main_arg1) = m ((c.tc : Thread Cert.LayersUpIdeal.nD Cert.LayersUpIdeal.τ).loc Cert.LayersUpIdeal.main_arg1)) →
    ∃ (v0 : (c : Dev Cert.LayersUpIdeal.nD) → Buf (Elt Ideal) ((c.tc : Thread Cert.LayersUpIdeal.nD Cert.LayersUpIdeal.τ).loc Cert.LayersUpIdeal.main_v0)),
      θ_run (Cert.LayersUpIdeal.defs (F := Ideal)) (onTc (τ := Cert.LayersUpIdeal.τ) (Cert.LayersUpIdeal.main (F := Ideal))) ⟨m, fun _ => 0, g⟩ (fun r => ∀ c : Dev Cert.LayersUpIdeal.nD,
          r.2.mem ((c.tc : Thread Cert.LayersUpIdeal.nD Cert.LayersUpIdeal.τ).loc Cert.LayersUpIdeal.main_v0) = v0 c
          ∧ r.2.mem ((c.tc : Thread Cert.LayersUpIdeal.nD Cert.LayersUpIdeal.τ).loc Cert.LayersUpIdeal.main_arg0) = m ((c.tc : Thread Cert.LayersUpIdeal.nD Cert.LayersUpIdeal.τ).loc Cert.LayersUpIdeal.main_arg0)
          ∧ r.2.mem ((c.tc : Thread Cert.LayersUpIdeal.nD Cert.LayersUpIdeal.τ).loc Cert.LayersUpIdeal.main_arg1) = m ((c.tc : Thread Cert.LayersUpIdeal.nD Cert.LayersUpIdeal.τ).loc Cert.LayersUpIdeal.main_arg1))
      ∧ θ_run (Cert.LayersUpRefIdeal.defs (F := Ideal)) (onTc (τ := Cert.LayersUpRefIdeal.τ) (Cert.LayersUpRefIdeal.main (F := Ideal))) ⟨m', fun _ => 0, g'⟩ (fun r => ∀ c : Dev Cert.LayersUpRefIdeal.nD,
          r.2.mem ((c.tc : Thread Cert.LayersUpRefIdeal.nD Cert.LayersUpRefIdeal.τ).loc Cert.LayersUpRefIdeal.main_v6) = v0 c
          ∧ r.2.mem ((c.tc : Thread Cert.LayersUpRefIdeal.nD Cert.LayersUpRefIdeal.τ).loc Cert.LayersUpRefIdeal.main_arg0) = m' ((c.tc : Thread Cert.LayersUpRefIdeal.nD Cert.LayersUpRefIdeal.τ).loc Cert.LayersUpRefIdeal.main_arg0)
          ∧ r.2.mem ((c.tc : Thread Cert.LayersUpRefIdeal.nD Cert.LayersUpRefIdeal.τ).loc Cert.LayersUpRefIdeal.main_arg1) = m' ((c.tc : Thread Cert.LayersUpRefIdeal.nD Cert.LayersUpRefIdeal.τ).loc Cert.LayersUpRefIdeal.main_arg1))

def preserves_LayersDown_LayersDownIdeal : Prop :=
  True

def algebraic_LayersDownIdeal_LayersDownRefIdeal [hLayersDownIdeal : Cert.LayersDownIdeal.Facts] [hLayersDownRefIdeal : Cert.LayersDownRefIdeal.Facts] : Prop :=
  ∀ (m : (ℓ : Loc Cert.LayersDownIdeal.nD Cert.LayersDownIdeal.τ Cert.LayersDownIdeal.sig) → Buf (Elt Ideal) ℓ) (g : Dev Cert.LayersDownIdeal.nD → PrngReg)
    (m' : (ℓ : Loc Cert.LayersDownRefIdeal.nD Cert.LayersDownRefIdeal.τ Cert.LayersDownRefIdeal.sig) → Buf (Elt Ideal) ℓ) (g' : Dev Cert.LayersDownRefIdeal.nD → PrngReg), Pre_LayersDownIdeal m →
    (∀ c : Dev Cert.LayersDownIdeal.nD,
      m' ((c.tc : Thread Cert.LayersDownRefIdeal.nD Cert.LayersDownRefIdeal.τ).loc Cert.LayersDownRefIdeal.main_arg0) = m ((c.tc : Thread Cert.LayersDownIdeal.nD Cert.LayersDownIdeal.τ).loc Cert.LayersDownIdeal.main_arg0)
      ∧ m' ((c.tc : Thread Cert.LayersDownRefIdeal.nD Cert.LayersDownRefIdeal.τ).loc Cert.LayersDownRefIdeal.main_arg1) = m ((c.tc : Thread Cert.LayersDownIdeal.nD Cert.LayersDownIdeal.τ).loc Cert.LayersDownIdeal.main_arg1)) →
    ∃ (v0 : (c : Dev Cert.LayersDownIdeal.nD) → Buf (Elt Ideal) ((c.tc : Thread Cert.LayersDownIdeal.nD Cert.LayersDownIdeal.τ).loc Cert.LayersDownIdeal.main_v0)),
      θ_run (Cert.LayersDownIdeal.defs (F := Ideal)) (onTc (τ := Cert.LayersDownIdeal.τ) (Cert.LayersDownIdeal.main (F := Ideal))) ⟨m, fun _ => 0, g⟩ (fun r => ∀ c : Dev Cert.LayersDownIdeal.nD,
          r.2.mem ((c.tc : Thread Cert.LayersDownIdeal.nD Cert.LayersDownIdeal.τ).loc Cert.LayersDownIdeal.main_v0) = v0 c
          ∧ r.2.mem ((c.tc : Thread Cert.LayersDownIdeal.nD Cert.LayersDownIdeal.τ).loc Cert.LayersDownIdeal.main_arg0) = m ((c.tc : Thread Cert.LayersDownIdeal.nD Cert.LayersDownIdeal.τ).loc Cert.LayersDownIdeal.main_arg0)
          ∧ r.2.mem ((c.tc : Thread Cert.LayersDownIdeal.nD Cert.LayersDownIdeal.τ).loc Cert.LayersDownIdeal.main_arg1) = m ((c.tc : Thread Cert.LayersDownIdeal.nD Cert.LayersDownIdeal.τ).loc Cert.LayersDownIdeal.main_arg1))
      ∧ θ_run (Cert.LayersDownRefIdeal.defs (F := Ideal)) (onTc (τ := Cert.LayersDownRefIdeal.τ) (Cert.LayersDownRefIdeal.main (F := Ideal))) ⟨m', fun _ => 0, g'⟩ (fun r => ∀ c : Dev Cert.LayersDownRefIdeal.nD,
          r.2.mem ((c.tc : Thread Cert.LayersDownRefIdeal.nD Cert.LayersDownRefIdeal.τ).loc Cert.LayersDownRefIdeal.main_v6) = v0 c
          ∧ r.2.mem ((c.tc : Thread Cert.LayersDownRefIdeal.nD Cert.LayersDownRefIdeal.τ).loc Cert.LayersDownRefIdeal.main_arg0) = m' ((c.tc : Thread Cert.LayersDownRefIdeal.nD Cert.LayersDownRefIdeal.τ).loc Cert.LayersDownRefIdeal.main_arg0)
          ∧ r.2.mem ((c.tc : Thread Cert.LayersDownRefIdeal.nD Cert.LayersDownRefIdeal.τ).loc Cert.LayersDownRefIdeal.main_arg1) = m' ((c.tc : Thread Cert.LayersDownRefIdeal.nD Cert.LayersDownRefIdeal.τ).loc Cert.LayersDownRefIdeal.main_arg1))

def Claim : Prop :=
  ∃ (hFlash : Cert.Flash.Facts) (hFlashIdeal : Cert.FlashIdeal.Facts) (hFlashRefIdeal : Cert.FlashRefIdeal.Facts) (hMerge : Cert.Merge.Facts) (hMergeIdeal : Cert.MergeIdeal.Facts) (hMergeRefIdeal : Cert.MergeRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hUpDx : Cert.UpDx.Facts) (hUpDxIdeal : Cert.UpDxIdeal.Facts) (hUpDxRefIdeal : Cert.UpDxRefIdeal.Facts) (hDownBwd : Cert.DownBwd.Facts) (hDownBwdIdeal : Cert.DownBwdIdeal.Facts) (hDownBwdRefIdeal : Cert.DownBwdRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixDw : Cert.MixDw.Facts) (hMixDwIdeal : Cert.MixDwIdeal.Facts) (hMixDwRefIdeal : Cert.MixDwRefIdeal.Facts) (hBranchDw : Cert.BranchDw.Facts) (hBranchDwIdeal : Cert.BranchDwIdeal.Facts) (hBranchDwRefIdeal : Cert.BranchDwRefIdeal.Facts) (hAttnDw : Cert.AttnDw.Facts) (hAttnDwIdeal : Cert.AttnDwIdeal.Facts) (hAttnDwRefIdeal : Cert.AttnDwRefIdeal.Facts) (hQDw : Cert.QDw.Facts) (hQDwIdeal : Cert.QDwIdeal.Facts) (hQDwRefIdeal : Cert.QDwRefIdeal.Facts) (hKvDw : Cert.KvDw.Facts) (hKvDwIdeal : Cert.KvDwIdeal.Facts) (hKvDwRefIdeal : Cert.KvDwRefIdeal.Facts) (hPoolDx : Cert.PoolDx.Facts) (hPoolDxIdeal : Cert.PoolDxIdeal.Facts) (hPoolDxRefIdeal : Cert.PoolDxRefIdeal.Facts) (hMixOut : Cert.MixOut.Facts) (hMixOutIdeal : Cert.MixOutIdeal.Facts) (hMixOutRefIdeal : Cert.MixOutRefIdeal.Facts) (hBranches : Cert.Branches.Facts) (hBranchesIdeal : Cert.BranchesIdeal.Facts) (hBranchesRefIdeal : Cert.BranchesRefIdeal.Facts) (hAttnOutBwd : Cert.AttnOutBwd.Facts) (hAttnOutBwdIdeal : Cert.AttnOutBwdIdeal.Facts) (hAttnOutBwdRefIdeal : Cert.AttnOutBwdRefIdeal.Facts) (hAdamGain : Cert.AdamGain.Facts) (hAdamGainIdeal : Cert.AdamGainIdeal.Facts) (hAdamGainRefIdeal : Cert.AdamGainRefIdeal.Facts) (hAdamIn : Cert.AdamIn.Facts) (hAdamInIdeal : Cert.AdamInIdeal.Facts) (hAdamInRefIdeal : Cert.AdamInRefIdeal.Facts) (hAdamQGain : Cert.AdamQGain.Facts) (hAdamQGainIdeal : Cert.AdamQGainIdeal.Facts) (hAdamQGainRefIdeal : Cert.AdamQGainRefIdeal.Facts) (hAdamKvGain : Cert.AdamKvGain.Facts) (hAdamKvGainIdeal : Cert.AdamKvGainIdeal.Facts) (hAdamKvGainRefIdeal : Cert.AdamKvGainRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hAdamTaps : Cert.AdamTaps.Facts) (hAdamTapsIdeal : Cert.AdamTapsIdeal.Facts) (hAdamTapsRefIdeal : Cert.AdamTapsRefIdeal.Facts) (hAdamChannel : Cert.AdamChannel.Facts) (hAdamChannelIdeal : Cert.AdamChannelIdeal.Facts) (hAdamChannelRefIdeal : Cert.AdamChannelRefIdeal.Facts) (hAdamMix : Cert.AdamMix.Facts) (hAdamMixIdeal : Cert.AdamMixIdeal.Facts) (hAdamMixRefIdeal : Cert.AdamMixRefIdeal.Facts) (hAdamFfn : Cert.AdamFfn.Facts) (hAdamFfnIdeal : Cert.AdamFfnIdeal.Facts) (hAdamFfnRefIdeal : Cert.AdamFfnRefIdeal.Facts) (hSumGains : Cert.SumGains.Facts) (hSumGainsIdeal : Cert.SumGainsIdeal.Facts) (hSumGainsRefIdeal : Cert.SumGainsRefIdeal.Facts) (hSumChannels : Cert.SumChannels.Facts) (hSumChannelsIdeal : Cert.SumChannelsIdeal.Facts) (hSumChannelsRefIdeal : Cert.SumChannelsRefIdeal.Facts) (hSumQ : Cert.SumQ.Facts) (hSumQIdeal : Cert.SumQIdeal.Facts) (hSumQRefIdeal : Cert.SumQRefIdeal.Facts) (hSumKv : Cert.SumKv.Facts) (hSumKvIdeal : Cert.SumKvIdeal.Facts) (hSumKvRefIdeal : Cert.SumKvRefIdeal.Facts) (hSumPool : Cert.SumPool.Facts) (hSumPoolIdeal : Cert.SumPoolIdeal.Facts) (hSumPoolRefIdeal : Cert.SumPoolRefIdeal.Facts) (hSumLast : Cert.SumLast.Facts) (hSumLastIdeal : Cert.SumLastIdeal.Facts) (hSumLastRefIdeal : Cert.SumLastRefIdeal.Facts) (hLayersIn : Cert.LayersIn.Facts) (hLayersInIdeal : Cert.LayersInIdeal.Facts) (hLayersInRefIdeal : Cert.LayersInRefIdeal.Facts) (hLayersQ : Cert.LayersQ.Facts) (hLayersQIdeal : Cert.LayersQIdeal.Facts) (hLayersQRefIdeal : Cert.LayersQRefIdeal.Facts) (hLayersKv : Cert.LayersKv.Facts) (hLayersKvIdeal : Cert.LayersKvIdeal.Facts) (hLayersKvRefIdeal : Cert.LayersKvRefIdeal.Facts) (hLayersOut : Cert.LayersOut.Facts) (hLayersOutIdeal : Cert.LayersOutIdeal.Facts) (hLayersOutRefIdeal : Cert.LayersOutRefIdeal.Facts) (hLayersMix : Cert.LayersMix.Facts) (hLayersMixIdeal : Cert.LayersMixIdeal.Facts) (hLayersMixRefIdeal : Cert.LayersMixRefIdeal.Facts) (hLayersUp : Cert.LayersUp.Facts) (hLayersUpIdeal : Cert.LayersUpIdeal.Facts) (hLayersUpRefIdeal : Cert.LayersUpRefIdeal.Facts) (hLayersDown : Cert.LayersDown.Facts) (hLayersDownIdeal : Cert.LayersDownIdeal.Facts) (hLayersDownRefIdeal : Cert.LayersDownRefIdeal.Facts) (hPre_flash_finite : Cert.Pre_flash_finite.Facts) (hPre_ffn_down_finite : Cert.Pre_ffn_down_finite.Facts) (hOn_merge_written : Cert.On_merge_written.Facts),
    quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Merge (hMerge := hMerge)
    ∧ quiescent_MergeIdeal (hMergeIdeal := hMergeIdeal)
    ∧ quiescent_MergeRefIdeal (hMergeRefIdeal := hMergeRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownBwd (hDownBwd := hDownBwd)
    ∧ quiescent_DownBwdIdeal (hDownBwdIdeal := hDownBwdIdeal)
    ∧ quiescent_DownBwdIdeal_pre_ffn_down_finite (hDownBwdIdeal := hDownBwdIdeal) (hPre_ffn_down_finite := hPre_ffn_down_finite)
    ∧ quiescent_DownBwdRefIdeal (hDownBwdRefIdeal := hDownBwdRefIdeal)
    ∧ quiescent_DownBwdRefIdeal_pre_ffn_down_finite (hDownBwdRefIdeal := hDownBwdRefIdeal) (hPre_ffn_down_finite := hPre_ffn_down_finite)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_AttnDw (hAttnDw := hAttnDw)
    ∧ quiescent_AttnDwIdeal (hAttnDwIdeal := hAttnDwIdeal)
    ∧ quiescent_AttnDwRefIdeal (hAttnDwRefIdeal := hAttnDwRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_PoolDx (hPoolDx := hPoolDx)
    ∧ quiescent_PoolDxIdeal (hPoolDxIdeal := hPoolDxIdeal)
    ∧ quiescent_PoolDxRefIdeal (hPoolDxRefIdeal := hPoolDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_AttnOutBwd (hAttnOutBwd := hAttnOutBwd)
    ∧ quiescent_AttnOutBwdIdeal (hAttnOutBwdIdeal := hAttnOutBwdIdeal)
    ∧ quiescent_AttnOutBwdRefIdeal (hAttnOutBwdRefIdeal := hAttnOutBwdRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQGain (hAdamQGain := hAdamQGain)
    ∧ quiescent_AdamQGainIdeal (hAdamQGainIdeal := hAdamQGainIdeal)
    ∧ quiescent_AdamQGainRefIdeal (hAdamQGainRefIdeal := hAdamQGainRefIdeal)
    ∧ quiescent_AdamKvGain (hAdamKvGain := hAdamKvGain)
    ∧ quiescent_AdamKvGainIdeal (hAdamKvGainIdeal := hAdamKvGainIdeal)
    ∧ quiescent_AdamKvGainRefIdeal (hAdamKvGainRefIdeal := hAdamKvGainRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamChannel (hAdamChannel := hAdamChannel)
    ∧ quiescent_AdamChannelIdeal (hAdamChannelIdeal := hAdamChannelIdeal)
    ∧ quiescent_AdamChannelRefIdeal (hAdamChannelRefIdeal := hAdamChannelRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_SumGains (hSumGains := hSumGains)
    ∧ quiescent_SumGainsIdeal (hSumGainsIdeal := hSumGainsIdeal)
    ∧ quiescent_SumGainsRefIdeal (hSumGainsRefIdeal := hSumGainsRefIdeal)
    ∧ quiescent_SumChannels (hSumChannels := hSumChannels)
    ∧ quiescent_SumChannelsIdeal (hSumChannelsIdeal := hSumChannelsIdeal)
    ∧ quiescent_SumChannelsRefIdeal (hSumChannelsRefIdeal := hSumChannelsRefIdeal)
    ∧ quiescent_SumQ (hSumQ := hSumQ)
    ∧ quiescent_SumQIdeal (hSumQIdeal := hSumQIdeal)
    ∧ quiescent_SumQRefIdeal (hSumQRefIdeal := hSumQRefIdeal)
    ∧ quiescent_SumKv (hSumKv := hSumKv)
    ∧ quiescent_SumKvIdeal (hSumKvIdeal := hSumKvIdeal)
    ∧ quiescent_SumKvRefIdeal (hSumKvRefIdeal := hSumKvRefIdeal)
    ∧ quiescent_SumPool (hSumPool := hSumPool)
    ∧ quiescent_SumPoolIdeal (hSumPoolIdeal := hSumPoolIdeal)
    ∧ quiescent_SumPoolRefIdeal (hSumPoolRefIdeal := hSumPoolRefIdeal)
    ∧ quiescent_SumLast (hSumLast := hSumLast)
    ∧ quiescent_SumLastIdeal (hSumLastIdeal := hSumLastIdeal)
    ∧ quiescent_SumLastRefIdeal (hSumLastRefIdeal := hSumLastRefIdeal)
    ∧ quiescent_LayersIn (hLayersIn := hLayersIn)
    ∧ quiescent_LayersInIdeal (hLayersInIdeal := hLayersInIdeal)
    ∧ quiescent_LayersInRefIdeal (hLayersInRefIdeal := hLayersInRefIdeal)
    ∧ quiescent_LayersQ (hLayersQ := hLayersQ)
    ∧ quiescent_LayersQIdeal (hLayersQIdeal := hLayersQIdeal)
    ∧ quiescent_LayersQRefIdeal (hLayersQRefIdeal := hLayersQRefIdeal)
    ∧ quiescent_LayersKv (hLayersKv := hLayersKv)
    ∧ quiescent_LayersKvIdeal (hLayersKvIdeal := hLayersKvIdeal)
    ∧ quiescent_LayersKvRefIdeal (hLayersKvRefIdeal := hLayersKvRefIdeal)
    ∧ quiescent_LayersOut (hLayersOut := hLayersOut)
    ∧ quiescent_LayersOutIdeal (hLayersOutIdeal := hLayersOutIdeal)
    ∧ quiescent_LayersOutRefIdeal (hLayersOutRefIdeal := hLayersOutRefIdeal)
    ∧ quiescent_LayersMix (hLayersMix := hLayersMix)
    ∧ quiescent_LayersMixIdeal (hLayersMixIdeal := hLayersMixIdeal)
    ∧ quiescent_LayersMixRefIdeal (hLayersMixRefIdeal := hLayersMixRefIdeal)
    ∧ quiescent_LayersUp (hLayersUp := hLayersUp)
    ∧ quiescent_LayersUpIdeal (hLayersUpIdeal := hLayersUpIdeal)
    ∧ quiescent_LayersUpRefIdeal (hLayersUpRefIdeal := hLayersUpRefIdeal)
    ∧ quiescent_LayersDown (hLayersDown := hLayersDown)
    ∧ quiescent_LayersDownIdeal (hLayersDownIdeal := hLayersDownIdeal)
    ∧ quiescent_LayersDownRefIdeal (hLayersDownRefIdeal := hLayersDownRefIdeal)
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Merge_MergeIdeal
    ∧ algebraic_MergeIdeal_MergeRefIdeal_on_merge_written (hMergeIdeal := hMergeIdeal) (hMergeRefIdeal := hMergeRefIdeal) (hOn_merge_written := hOn_merge_written)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_UpDx_UpDxIdeal
    ∧ algebraic_UpDxIdeal_UpDxRefIdeal (hUpDxIdeal := hUpDxIdeal) (hUpDxRefIdeal := hUpDxRefIdeal)
    ∧ preserves_DownBwd_DownBwdIdeal
    ∧ algebraic_DownBwdIdeal_DownBwdRefIdeal_pre_ffn_down_finite (hDownBwdIdeal := hDownBwdIdeal) (hDownBwdRefIdeal := hDownBwdRefIdeal) (hPre_ffn_down_finite := hPre_ffn_down_finite)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixDw_MixDwIdeal
    ∧ algebraic_MixDwIdeal_MixDwRefIdeal (hMixDwIdeal := hMixDwIdeal) (hMixDwRefIdeal := hMixDwRefIdeal)
    ∧ preserves_BranchDw_BranchDwIdeal
    ∧ algebraic_BranchDwIdeal_BranchDwRefIdeal (hBranchDwIdeal := hBranchDwIdeal) (hBranchDwRefIdeal := hBranchDwRefIdeal)
    ∧ preserves_AttnDw_AttnDwIdeal
    ∧ algebraic_AttnDwIdeal_AttnDwRefIdeal (hAttnDwIdeal := hAttnDwIdeal) (hAttnDwRefIdeal := hAttnDwRefIdeal)
    ∧ preserves_QDw_QDwIdeal
    ∧ algebraic_QDwIdeal_QDwRefIdeal (hQDwIdeal := hQDwIdeal) (hQDwRefIdeal := hQDwRefIdeal)
    ∧ preserves_KvDw_KvDwIdeal
    ∧ algebraic_KvDwIdeal_KvDwRefIdeal (hKvDwIdeal := hKvDwIdeal) (hKvDwRefIdeal := hKvDwRefIdeal)
    ∧ preserves_PoolDx_PoolDxIdeal
    ∧ algebraic_PoolDxIdeal_PoolDxRefIdeal (hPoolDxIdeal := hPoolDxIdeal) (hPoolDxRefIdeal := hPoolDxRefIdeal)
    ∧ preserves_MixOut_MixOutIdeal
    ∧ algebraic_MixOutIdeal_MixOutRefIdeal (hMixOutIdeal := hMixOutIdeal) (hMixOutRefIdeal := hMixOutRefIdeal)
    ∧ preserves_Branches_BranchesIdeal
    ∧ algebraic_BranchesIdeal_BranchesRefIdeal (hBranchesIdeal := hBranchesIdeal) (hBranchesRefIdeal := hBranchesRefIdeal)
    ∧ preserves_AttnOutBwd_AttnOutBwdIdeal
    ∧ algebraic_AttnOutBwdIdeal_AttnOutBwdRefIdeal (hAttnOutBwdIdeal := hAttnOutBwdIdeal) (hAttnOutBwdRefIdeal := hAttnOutBwdRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamIn_AdamInIdeal
    ∧ algebraic_AdamInIdeal_AdamInRefIdeal (hAdamInIdeal := hAdamInIdeal) (hAdamInRefIdeal := hAdamInRefIdeal)
    ∧ preserves_AdamQGain_AdamQGainIdeal
    ∧ algebraic_AdamQGainIdeal_AdamQGainRefIdeal (hAdamQGainIdeal := hAdamQGainIdeal) (hAdamQGainRefIdeal := hAdamQGainRefIdeal)
    ∧ preserves_AdamKvGain_AdamKvGainIdeal
    ∧ algebraic_AdamKvGainIdeal_AdamKvGainRefIdeal (hAdamKvGainIdeal := hAdamKvGainIdeal) (hAdamKvGainRefIdeal := hAdamKvGainRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamChannel_AdamChannelIdeal
    ∧ algebraic_AdamChannelIdeal_AdamChannelRefIdeal (hAdamChannelIdeal := hAdamChannelIdeal) (hAdamChannelRefIdeal := hAdamChannelRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_SumGains_SumGainsIdeal
    ∧ algebraic_SumGainsIdeal_SumGainsRefIdeal (hSumGainsIdeal := hSumGainsIdeal) (hSumGainsRefIdeal := hSumGainsRefIdeal)
    ∧ preserves_SumChannels_SumChannelsIdeal
    ∧ algebraic_SumChannelsIdeal_SumChannelsRefIdeal (hSumChannelsIdeal := hSumChannelsIdeal) (hSumChannelsRefIdeal := hSumChannelsRefIdeal)
    ∧ preserves_SumQ_SumQIdeal
    ∧ algebraic_SumQIdeal_SumQRefIdeal (hSumQIdeal := hSumQIdeal) (hSumQRefIdeal := hSumQRefIdeal)
    ∧ preserves_SumKv_SumKvIdeal
    ∧ algebraic_SumKvIdeal_SumKvRefIdeal (hSumKvIdeal := hSumKvIdeal) (hSumKvRefIdeal := hSumKvRefIdeal)
    ∧ preserves_SumPool_SumPoolIdeal
    ∧ algebraic_SumPoolIdeal_SumPoolRefIdeal (hSumPoolIdeal := hSumPoolIdeal) (hSumPoolRefIdeal := hSumPoolRefIdeal)
    ∧ preserves_SumLast_SumLastIdeal
    ∧ algebraic_SumLastIdeal_SumLastRefIdeal (hSumLastIdeal := hSumLastIdeal) (hSumLastRefIdeal := hSumLastRefIdeal)
    ∧ preserves_LayersIn_LayersInIdeal
    ∧ algebraic_LayersInIdeal_LayersInRefIdeal (hLayersInIdeal := hLayersInIdeal) (hLayersInRefIdeal := hLayersInRefIdeal)
    ∧ preserves_LayersQ_LayersQIdeal
    ∧ algebraic_LayersQIdeal_LayersQRefIdeal (hLayersQIdeal := hLayersQIdeal) (hLayersQRefIdeal := hLayersQRefIdeal)
    ∧ preserves_LayersKv_LayersKvIdeal
    ∧ algebraic_LayersKvIdeal_LayersKvRefIdeal (hLayersKvIdeal := hLayersKvIdeal) (hLayersKvRefIdeal := hLayersKvRefIdeal)
    ∧ preserves_LayersOut_LayersOutIdeal
    ∧ algebraic_LayersOutIdeal_LayersOutRefIdeal (hLayersOutIdeal := hLayersOutIdeal) (hLayersOutRefIdeal := hLayersOutRefIdeal)
    ∧ preserves_LayersMix_LayersMixIdeal
    ∧ algebraic_LayersMixIdeal_LayersMixRefIdeal (hLayersMixIdeal := hLayersMixIdeal) (hLayersMixRefIdeal := hLayersMixRefIdeal)
    ∧ preserves_LayersUp_LayersUpIdeal
    ∧ algebraic_LayersUpIdeal_LayersUpRefIdeal (hLayersUpIdeal := hLayersUpIdeal) (hLayersUpRefIdeal := hLayersUpRefIdeal)
    ∧ preserves_LayersDown_LayersDownIdeal
    ∧ algebraic_LayersDownIdeal_LayersDownRefIdeal (hLayersDownIdeal := hLayersDownIdeal) (hLayersDownRefIdeal := hLayersDownRefIdeal)
-- ==== On_merge_written.lean ====
abbrev S4096x5376 : Shape := ⟨2, ![4096, 5376]⟩
abbrev S4096x1024 : Shape := ⟨2, ![4096, 1024]⟩
abbrev S1024x1024 : Shape := ⟨2, ![1024, 1024]⟩
abbrev S_ : Shape := ⟨0, ![]⟩
abbrev S5376 : Shape := ⟨1, ![5376]⟩
abbrev S1x5376 : Shape := ⟨2, ![1, 5376]⟩

class Facts : Prop where
  bcast_S_S4096x1024 : S_.BroadcastsInDim S4096x1024 (![] : Fin 0 → Fin S4096x1024.rank)
  bcast_S5376_S1x5376_1 : S5376.BroadcastsInDim S1x5376 (![1] : Fin 1 → Fin S1x5376.rank)
  bcast_S_S1x5376 : S_.BroadcastsInDim S1x5376 (![] : Fin 0 → Fin S1x5376.rank)
  bcast_S1x5376_S4096x5376_0_1 : S1x5376.BroadcastsInDim S4096x5376 (![0, 1] : Fin 2 → Fin S4096x5376.rank)

variable [Facts]

def fn {F : FTy → Type} [FloatOps F] (main_arg0 : FVec F S4096x5376 .bf16) (main_arg1 : FVec F S4096x1024 .bf16) (main_arg2 : FVec F S4096x1024 .bf16) (main_arg3 : FVec F S4096x1024 .bf16) (main_arg4 : FVec F S4096x1024 .bf16) (main_arg5 : FVec F S1024x1024 .bf16) : IVec S4096x1024 1 × IVec S4096x1024 1 × IVec S4096x1024 1 × IVec S4096x5376 1 :=
  let main_c : IVec S_ 1 := constantI S_ 1 1#1
  let main_v0 : IVec S4096x1024 1 := broadcastInDim S4096x1024 ![] bcast_S_S4096x1024 main_c
  let main_v1 : IVec S5376 32 := iotaInDim S5376 32 0
  let main_v2 : IVec S1x5376 32 := broadcastInDim S1x5376 ![1] bcast_S5376_S1x5376_1 main_v1
  let main_c_0 : IVec S_ 32 := constantI S_ 32 3072#32
  let main_v3 : IVec S1x5376 32 := broadcastInDim S1x5376 ![] bcast_S_S1x5376 main_c_0
  let main_v4 : IVec S1x5376 1 := cmpi .slt main_v2 main_v3
  let main_v5 : IVec S4096x5376 1 := broadcastInDim S4096x5376 ![0, 1] bcast_S1x5376_S4096x5376_0_1 main_v4
  (main_v0, main_v0, main_v0, main_v5)
-- ==== Pre_ffn_down_finite.lean ====
abbrev S4096x1024 : Shape := ⟨2, ![4096, 1024]⟩
abbrev S3072x1024 : Shape := ⟨2, ![3072, 1024]⟩
abbrev S4096x3072 : Shape := ⟨2, ![4096, 3072]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn {F : FTy → Type} [FloatOps F] (main_arg0 : FVec F S4096x1024 .bf16) (main_arg1 : FVec F S3072x1024 .bf16) (main_arg2 : FVec F S4096x3072 .bf16) (main_arg3 : FVec F S4096x3072 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S3072x1024 .f32 := (extf .f32 · bitsLt_bf16_f32) main_arg1
  let main_v6 : FVec F S3072x1024 .f32 := Host.absf main_v5
  let main_cst_0 : FVec F S_ .f32 := constant S_ .f32 0x7F800000#32
  let main_v7 : FVec F S3072x1024 .f32 := broadcastInDim S3072x1024 ![] bcast_S_S3072x1024 main_cst_0
  let main_v8 : IVec S3072x1024 1 := cmpf .olt main_v6 main_v7
  let main_c_1 : IVec S_ 1 := constantI S_ 1 1#1
  let main_v9 : IVec S_ 1 := (fun x v => Host.reduce IntOp.andi x v reducesTo_S3072x1024_S_d0_1 h_S_) main_v8 main_c_1
  let main_v10 : IVec S_ 1 := andi main_v4 main_v9
  let main_v11 : FVec F S4096x3072 .f32 := (extf .f32 · bitsLt_bf16_f32) main_arg3
  let main_v12 : FVec F S4096x3072 .f32 := Host.absf main_v11
  let main_cst_2 : FVec F S_ .f32 := constant S_ .f32 0x7F800000#32
  let main_v13 : FVec F S4096x3072 .f32 := broadcastInDim S4096x3072 ![] bcast_S_S4096x3072 main_cst_2
  let main_v14 : IVec S4096x3072 1 := cmpf .olt main_v12 main_v13
  let main_c_3 : IVec S_ 1 := constantI S_ 1 1#1
  let main_v15 : IVec S_ 1 := (fun x v => Host.reduce IntOp.andi x v reducesTo_S4096x3072_S_d0_1 h_S_) main_v14 main_c_3
  let main_v16 : IVec S_ 1 := andi main_v10 main_v15
  main_v16
-- ==== Pre_flash_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v18 : IVec S4096x1024 1) (main_c : IVec S_ 1) : IVec S_ 1 :=
  let main_v19 : IVec S_ 1 := (fun x v => Host.reduce IntOp.andi x v reducesTo_S4096x1024_S_d0_1 h_S_) main_v18 main_c
  main_v19

def fn {F : FTy → Type} [FloatOps F] (main_arg0 : FVec F S4096x1024 .bf16) (main_arg1 : FVec F S4096x1024 .bf16) (main_arg2 : FVec F S4096x1024 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v3 main_v7
  let main_v9 : FVec F S4096x1024 .f32 := (extf .f32 · bitsLt_bf16_f32) main_arg2
  let main_v10 : FVec F S4096x1024 .f32 := Host.absf main_v9
  let main_cst_1 : FVec F S_ .f32 := constant S_ .f32 0x7F800000#32
  let main_v11 : FVec F S4096x1024 .f32 := broadcastInDim S4096x1024 ![] bcast_S_S4096x1024 main_cst_1
  let main_v12 : IVec S4096x1024 1 := cmpf .olt main_v10 main_v11
  let main_v13 : IVec S4096x1024 1 := andi main_v8 main_v12
  let main_v14 : FVec F S4096x1024 .f32 := (extf .f32 · bitsLt_bf16_f32) main_arg3
  let main_v15 : FVec F S4096x1024 .f32 := Host.absf main_v14
  let main_cst_2 : FVec F S_ .f32 := constant S_ .f32 0x7F800000#32
  let main_v16 : FVec F S4096x1024 .f32 := broadcastInDim S4096x1024 ![] bcast_S_S4096x1024 main_cst_2
  let main_v17 : IVec S4096x1024 1 := cmpf .olt main_v15 main_v16
  let main_v18 : IVec S4096x1024 1 := andi main_v13 main_v17
  let main_c : IVec S_ 1 := constantI S_ 1 1#1
  fn_part1 (F := F) main_v18 main_c
-- ==== Flash.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x1 : Shape := ⟨3, ![4096, 8, 1]⟩
abbrev S4096x8 : Shape := ⟨2, ![4096, 8]⟩
abbrev S4096x128 : Shape := ⟨2, ![4096, 128]⟩
abbrev S512x128 : Shape := ⟨2, ![512, 128]⟩
abbrev S512x512 : Shape := ⟨2, ![512, 512]⟩
abbrev S512x1 : Shape := ⟨2, ![512, 1]⟩

abbrev nBuf : Space → Nat
  | .hbm => 55
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S8x4096x4096, .f32⟩
  | .hbm, ⟨9, _⟩ => ⟨S_, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x1x4096, .i32⟩
  | .hbm, ⟨15, _⟩ => ⟨S1x4096x1, .i32⟩
  | .hbm, ⟨16, _⟩ => ⟨S1x4096x4096, .i32⟩
  | .hbm, ⟨17, _⟩ => ⟨S1x4096x4096, .i32⟩
  | .hbm, ⟨18, _⟩ => ⟨S1x4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S4096x1024, .f32⟩
  | .hbm, ⟨36, _⟩ => ⟨S4096x8x128, .f32⟩
  | .hbm, ⟨37, _⟩ => ⟨S8x128x4096, .f32⟩
  | .hbm, ⟨38, _⟩ => ⟨S4096x8x128, .f32⟩
  | .hbm, ⟨39, _⟩ => ⟨S8x4096x1, .f32⟩
  | .hbm, ⟨40, _⟩ => ⟨S8x4096x1, .f32⟩
  | .hbm, ⟨41, _⟩ => ⟨S4096x8x1, .f32⟩
  | .hbm, ⟨42, _⟩ => ⟨S4096x1024, .f32⟩
  | .hbm, ⟨43, _⟩ => ⟨S4096x8x128, .f32⟩
  | .hbm, ⟨44, _⟩ => ⟨S4096x8x128, .f32⟩
  | .hbm, ⟨45, _⟩ => ⟨S_, .f32⟩
  | .hbm, ⟨46, _⟩ => ⟨S4096x8, .f32⟩
  | .hbm, ⟨47, _⟩ => ⟨S4096x8x1, .f32⟩
  | .hbm, ⟨48, _⟩ => ⟨S4096x8x128, .f32⟩
  | .hbm, ⟨49, _⟩ => ⟨S4096x1024, .f32⟩
  | .hbm, ⟨50, _⟩ => ⟨S4096x8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_4 : Index := 0#32
  ![v8.toNat, 0]
def k0_off2 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  let c0_10 : Index := 0#32
  ![v22.toNat, 0]
@[reducible] def k0_t1_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_20 : BitVec 32 := 1#32
  let v55 : BitVec 32 := Scalar.divsi v53 c1_i32_20
  let v56 : BitVec 32 := Scalar.muli v55 c1_i32_20
  let v57 : BitVec 32 := Scalar.addi v52 v56
  let c1_i32_21 : BitVec 32 := 1#32
  ⟨v52, v57, c1_i32_21⟩
def k0_mult2 (i : grid0.Coords) (k0_t1 : Fin (k0_t1_loop i).trips) : BitVec 32 :=
  let arg1 : BitVec 32 := BitVec.ofNat 32 (i 1).val
  let c1_i32 : BitVec 32 := 1#32
  let v52 : BitVec 32 := Scalar.addi arg1 c1_i32
  let c1_i32_21 : BitVec 32 := 1#32
  let arg11 : BitVec 32 := Scf.iv v52 c1_i32_21 k0_t1
  let c512_i32_28 : BitVec 32 := 512#32
  let v65 : BitVec 32 := Scalar.muli arg11 c512_i32_28
  v65
def k0_off3 (i : grid0.Coords) (k0_t1 : Fin (k0_t1_loop i).trips) : Fin 2 → Nat :=
  let arg1 : BitVec 32 := BitVec.ofNat 32 (i 1).val
  let c1_i32 : BitVec 32 := 1#32
  let v52 : BitVec 32 := Scalar.addi arg1 c1_i32
  let c1_i32_21 : BitVec 32 := 1#32
  let arg11 : BitVec 32 := Scf.iv v52 c1_i32_21 k0_t1
  let c512_i32_28 : BitVec 32 := 512#32
  let v65 : BitVec 32 := Scalar.muli arg11 c512_i32_28
  let v66 : BitVec 32 := v65
  let v67 : Index := Scalar.indexCast v66
  let c0_29 : Index := 0#32
  ![v67.toNat, 0]
def k0_off4 (i : grid0.Coords) (k0_t1 : Fin (k0_t1_loop i).trips) : Fin 2 → Nat :=
  let arg1 : BitVec 32 := BitVec.ofNat 32 (i 1).val
  let c1_i32 : BitVec 32 := 1#32
  let v52 : BitVec 32 := Scalar.addi arg1 c1_i32
  let c1_i32_21 : BitVec 32 := 1#32
  let arg11 : BitVec 32 := Scf.iv v52 c1_i32_21 k0_t1
  let c512_i32_28 : BitVec 32 := 512#32
  let v65 : BitVec 32 := Scalar.muli arg11 c512_i32_28
  let v66 : BitVec 32 := v65
  let v74 : Index := Scalar.indexCast v66
  let c0_33 : Index := 0#32
  ![v74.toNat, 0]
@[reducible] def k0_t2_loop (i : grid0.Coords) : Scf.Loop 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_20 : BitVec 32 := 1#32
  let v55 : BitVec 32 := Scalar.divsi v53 c1_i32_20
  let v56 : BitVec 32 := Scalar.muli v55 c1_i32_20
  let v57 : BitVec 32 := Scalar.addi v52 v56
  let v54 : BitVec 32 := Scalar.addi v52 v53
  let c1_i32_22 : BitVec 32 := 1#32
  ⟨v57, v54, c1_i32_22⟩
def k0_mult3 (i : grid0.Coords) (k0_t2 : Fin (k0_t2_loop i).trips) : BitVec 32 :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_20 : BitVec 32 := 1#32
  let v55 : BitVec 32 := Scalar.divsi v53 c1_i32_20
  let v56 : BitVec 32 := Scalar.muli v55 c1_i32_20
  let v57 : BitVec 32 := Scalar.addi v52 v56
  let c1_i32_22 : BitVec 32 := 1#32
  let arg11 : BitVec 32 := Scf.iv v57 c1_i32_22 k0_t2
  let c512_i32_28 : BitVec 32 := 512#32
  let v65 : BitVec 32 := Scalar.muli arg11 c512_i32_28
  v65
def k0_off5 (i : grid0.Coords) (k0_t2 : Fin (k0_t2_loop i).trips) : Fin 2 → Nat :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_20 : BitVec 32 := 1#32
  let v55 : BitVec 32 := Scalar.divsi v53 c1_i32_20
  let v56 : BitVec 32 := Scalar.muli v55 c1_i32_20
  let v57 : BitVec 32 := Scalar.addi v52 v56
  let c1_i32_22 : BitVec 32 := 1#32
  let arg11 : BitVec 32 := Scf.iv v57 c1_i32_22 k0_t2
  let c512_i32_28 : BitVec 32 := 512#32
  let v65 : BitVec 32 := Scalar.muli arg11 c512_i32_28
  let v66 : BitVec 32 := v65
  let v67 : Index := Scalar.indexCast v66
  let c0_29 : Index := 0#32
  ![v67.toNat, 0]
def k0_off6 (i : grid0.Coords) (k0_t2 : Fin (k0_t2_loop i).trips) : Fin 2 → Nat :=
  let arg1 : BitVec 32 := BitVec.ofNat 32 (i 1).val
  let c1_i32 : BitVec 32 := 1#32
  let v52 : BitVec 32 := Scalar.addi arg1 c1_i32
  let c8_i32 : BitVec 32 := 8#32
  let v53 : BitVec 32 := Scalar.subi c8_i32 v52
  let c1_i32_20 : BitVec 32 := 1#32
  let v55 : BitVec 32 := Scalar.divsi v53 c1_i32_20
  let v56 : BitVec 32 := Scalar.muli v55 c1_i32_20
  let v57 : BitVec 32 := Scalar.addi v52 v56
  let c1_i32_22 : BitVec 32 := 1#32
  let arg11 : BitVec 32 := Scf.iv v57 c1_i32_22 k0_t2
  let c512_i32_28 : BitVec 32 := 512#32
  let v65 : BitVec 32 := Scalar.muli arg11 c512_i32_28
  let v66 : BitVec 32 := v65
  let v74 : Index := Scalar.indexCast v66
  let c0_33 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashIdeal.lean ====
variable {F : FTy → Type} [FloatOps F] [Named F]
def κ : String → Option EReal := fun
  | "inv_ln2" => some (((Real.log 2)⁻¹ : ℝ) : EReal)
  | "scale" => some (((Real.sqrt 96)⁻¹ : ℝ) : EReal)
  | "scale_inv_ln2" => some (((Real.sqrt 96)⁻¹ * (Real.log 2)⁻¹ : ℝ) : EReal)
  | _ => none
-- ==== FlashRefIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x1x4096, .i32⟩
  | .hbm, ⟨17, _⟩ => ⟨S1x4096x1, .i32⟩
  | .hbm, ⟨18, _⟩ => ⟨S1x4096x4096, .i32⟩
  | .hbm, ⟨19, _⟩ => ⟨S1x4096x4096, .i32⟩
  | .hbm, ⟨20, _⟩ => ⟨S1x4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x128x4096, .f32⟩
  | .hbm, ⟨67, _⟩ => ⟨S4096x8x128, .f32⟩
  | .hbm, ⟨68, _⟩ => ⟨S4096x1024, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x128, .f32⟩
  | .hbm, ⟨94, _⟩ => ⟨S4096x8x128, .f32⟩
  | .hbm, ⟨95, _⟩ => ⟨S8x4096x128, .f32⟩
  | .hbm, ⟨96, _⟩ => ⟨S4096x8x128, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Merge.lean ====
abbrev S4096x5376 : Shape := ⟨2, ![4096, 5376]⟩
abbrev S4096x1024 : Shape := ⟨2, ![4096, 1024]⟩
abbrev S1024x1024 : Shape := ⟨2, ![1024, 1024]⟩
abbrev S256x1024 : Shape := ⟨2, ![256, 1024]⟩
abbrev S256x3072 : Shape := ⟨2, ![256, 3072]⟩

abbrev nBuf : Space → Nat
  | .hbm => 10
  | .vmem => 23
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x5376, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x3072, .bf16⟩
  | .local _ .vmem, ⟨22, _⟩ => ⟨S256x3072, .bf16⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4096x5376 : Shape := ⟨2, ![4096, 5376]⟩
abbrev S4096x1024 : Shape := ⟨2, ![4096, 1024]⟩
abbrev S1024x1024 : Shape := ⟨2, ![1024, 1024]⟩
abbrev S4096x3072 : Shape := ⟨2, ![4096, 3072]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S4096x5376, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x3072, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S4096x5376, .f32⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x5376, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== DownDw.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x1024 : Shape := ⟨2, ![4096, 1024]⟩
abbrev S4096x3072 : Shape := ⟨2, ![4096, 3072]⟩
abbrev S8x1024x384 : Shape := ⟨3, ![8, 1024, 384]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024x384, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S2x1024x384, .bf16⟩
  | .local _ .vmem, ⟨4, _⟩ => ⟨S2x1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x8x384, .bf16⟩
  | .hbm, ⟨11, _⟩ => ⟨S8x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDw.lean ====
abbrev S4096x1024 : Shape := ⟨2, ![4096, 1024]⟩
abbrev S4096x5376 : Shape := ⟨2, ![4096, 5376]⟩
abbrev S1024x5376 : Shape := ⟨2, ![1024, 5376]⟩
abbrev S4096x768 : Shape := ⟨2, ![4096, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5376, .bf16⟩
  | .hbm, ⟨2, _⟩ => ⟨S1024x5376, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S4096x1024 : Shape := ⟨2, ![4096, 1024]⟩
abbrev S4096x5376 : Shape := ⟨2, ![4096, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5376, .bf16⟩
  | .hbm, ⟨2, _⟩ => ⟨S_, .f32⟩
  | .hbm, ⟨3, _⟩ => ⟨S1024x5376, .f32⟩
  | .hbm, ⟨4, _⟩ => ⟨S4096x1024, .f32⟩
  | .hbm, ⟨5, _⟩ => ⟨S4096x5376, .f32⟩
  | .hbm, ⟨6, _⟩ => ⟨S4096x5376, .f32⟩
  | .hbm, ⟨7, _⟩ => ⟨S5376x1024, .f32⟩
  | .hbm, ⟨8, _⟩ => ⟨S1024x5376, .f32⟩
  | .hbm, ⟨9, _⟩ => ⟨S1024x5376, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x5376 : Shape := ⟨2, ![4096, 5376]⟩
abbrev S1024x5376 : Shape := ⟨2, ![1024, 5376]⟩
abbrev S4096x1024 : Shape := ⟨2, ![4096, 1024]⟩
abbrev S512x5376 : Shape := ⟨2, ![512, 5376]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5376, .bf16⟩
  | .hbm, ⟨1, _⟩ => ⟨S1024x5376, .bf16⟩
  | .hbm, ⟨2, _⟩ => ⟨S4096x1024, .f32⟩
  | .local _ .vmem, ⟨0, _⟩ => ⟨S512x5376, .bf16⟩
  | .local _ .vmem, ⟨1, _⟩ => ⟨S512x5376, .bf16⟩
  | .local _ .vmem, ⟨2, _⟩ => ⟨S512x5376, .bf16⟩
  | .local _ .vmem, ⟨3, _⟩ => ⟨S512x5376, .bf16⟩
  | .local _ .vmem, ⟨4, _⟩ => ⟨S512x512, .f32⟩
  | .local _ .vmem, ⟨5, _⟩ => ⟨S512x512, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDxRefIdeal.lean ====
abbrev S4096x5376 : Shape := ⟨2, ![4096, 5376]⟩
abbrev S1024x5376 : Shape := ⟨2, ![1024, 5376]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S1024x5376, .bf16⟩
  | .hbm, ⟨2, _⟩ => ⟨S_, .f32⟩
  | .hbm, ⟨3, _⟩ => ⟨S4096x1024, .f32⟩
  | .hbm, ⟨4, _⟩ => ⟨S1024x5376, .f32⟩
  | .hbm, ⟨5, _⟩ => ⟨S4096x5376, .f32⟩
  | .hbm, ⟨6, _⟩ => ⟨S4096x5376, .f32⟩
  | .hbm, ⟨7, _⟩ => ⟨S4096x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S4096x3072 : Shape := ⟨2, ![4096, 3072]⟩
abbrev S1024x3072 : Shape := ⟨2, ![1024, 3072]⟩
abbrev S1024x8x384 : Shape := ⟨3, ![1024, 8, 384]⟩
abbrev S8x1024x384 : Shape := ⟨3, ![8, 1024, 384]⟩
abbrev S4096x1024 : Shape := ⟨2, ![4096, 1024]⟩
abbrev S8x256x384 : Shape := ⟨3, ![8, 256, 384]⟩
abbrev S1024x256 : Shape := ⟨2, ![1024, 256]⟩
abbrev S1x256x384 : Shape := ⟨3, ![1, 256, 384]⟩
abbrev S256x384 : Shape := ⟨2, ![256, 384]⟩
abbrev S256x3072 : Shape := ⟨2, ![256, 3072]⟩

abbrev nBuf : Space → Nat
  | .hbm => 9
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S1024x8x384, .bf16⟩
  | .hbm, ⟨5, _⟩ => ⟨S8x1024x384, .bf16⟩
  | .hbm, ⟨6, _⟩ => ⟨S1024x8x384, .bf16⟩
  | .hbm, ⟨7, _⟩ => ⟨S8x1024x384, .bf16⟩
  | .hbm, ⟨8, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S8x256x384, .bf16⟩
  | .local _ .vmem, ⟨5, _⟩ => ⟨S8x256x384, .bf16⟩
  | .local _ .vmem, ⟨6, _⟩ => ⟨S8x256x384, .bf16⟩
  | .local _ .vmem, ⟨7, _⟩ => ⟨S8x256x384, .bf16⟩
  | .local _ .vmem, ⟨8, _⟩ => ⟨S1024x256, .f32⟩
  | .local _ .vmem, ⟨9, _⟩ => ⟨S1024x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpDxRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S_, .f32⟩
  | .hbm, ⟨5, _⟩ => ⟨S4096x1024, .f32⟩
  | .hbm, ⟨6, _⟩ => ⟨S1024x3072, .f32⟩
  | .hbm, ⟨7, _⟩ => ⟨S4096x3072, .f32⟩
  | .hbm, ⟨8, _⟩ => ⟨S1024x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DownBwd.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .hbm, ⟨3, _⟩ => ⟨S4096x3072, .bf16⟩
  | .hbm, ⟨4, _⟩ => ⟨S4096x3072, .bf16⟩
  | .hbm, ⟨5, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBwdRefIdeal.lean ====
abbrev S4096x1024 : Shape := ⟨2, ![4096, 1024]⟩
abbrev S3072x1024 : Shape := ⟨2, ![3072, 1024]⟩
abbrev S4096x3072 : Shape := ⟨2, ![4096, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .hbm, ⟨3, _⟩ => ⟨S4096x3072, .bf16⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S3072x1024, .f32⟩
  | .hbm, ⟨21, _⟩ => ⟨S4096x1024, .f32⟩
  | .hbm, ⟨22, _⟩ => ⟨S4096x1024, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .bf16⟩
  | .hbm, ⟨31, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== InProj.lean ====
abbrev S4096x1024 : Shape := ⟨2, ![4096, 1024]⟩
abbrev S1024x5376 : Shape := ⟨2, ![1024, 5376]⟩
abbrev S4096x5376 : Shape := ⟨2, ![4096, 5376]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .bf16⟩
  | .hbm, ⟨2, _⟩ => ⟨S4096x5376, .bf16⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .bf16⟩
  | .local _ .vmem, ⟨5, _⟩ => ⟨S2048x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x1024 : Shape := ⟨2, ![4096, 1024]⟩
abbrev S1024x5376 : Shape := ⟨2, ![1024, 5376]⟩
abbrev S4096x5376 : Shape := ⟨2, ![4096, 5376]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .bf16⟩
  | .hbm, ⟨2, _⟩ => ⟨S4096x1024, .f32⟩
  | .hbm, ⟨3, _⟩ => ⟨S1024x5376, .f32⟩
  | .hbm, ⟨4, _⟩ => ⟨S4096x5376, .f32⟩
  | .hbm, ⟨5, _⟩ => ⟨S4096x5376, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S4096x1024 : Shape := ⟨2, ![4096, 1024]⟩
abbrev S1024x3072 : Shape := ⟨2, ![1024, 3072]⟩
abbrev S1024x8x384 : Shape := ⟨3, ![1024, 8, 384]⟩
abbrev S8x1024x384 : Shape := ⟨3, ![8, 1024, 384]⟩
abbrev S4096x3072 : Shape := ⟨2, ![4096, 3072]⟩
abbrev S1024x1024 : Shape := ⟨2, ![1024, 1024]⟩
abbrev S2x1024x384 : Shape := ⟨3, ![2, 1024, 384]⟩
abbrev S1024x768 : Shape := ⟨2, ![1024, 768]⟩
abbrev S1x1024x384 : Shape := ⟨3, ![1, 1024, 384]⟩
abbrev S1024x384 : Shape := ⟨2, ![1024, 384]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S1024x8x384, .bf16⟩
  | .hbm, ⟨4, _⟩ => ⟨S8x1024x384, .bf16⟩
  | .hbm, ⟨5, _⟩ => ⟨S1024x8x384, .bf16⟩
  | .hbm, ⟨6, _⟩ => ⟨S8x1024x384, .bf16⟩
  | .hbm, ⟨7, _⟩ => ⟨S4096x3072, .bf16⟩
  | .hbm, ⟨8, _⟩ => ⟨S4096x3072, .bf16⟩
  | .hbm, ⟨9, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024x384, .bf16⟩
  | .local _ .vmem, ⟨3, _⟩ => ⟨S2x1024x384, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | .hbm, ⟨7, _⟩ => ⟨S1024x3072, .f32⟩
  | .hbm, ⟨8, _⟩ => ⟨S4096x3072, .f32⟩
  | .hbm, ⟨9, _⟩ => ⟨S4096x3072, .bf16⟩
  | .hbm, ⟨10, _⟩ => ⟨S4096x3072, .bf16⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== FfnDown.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x3072, .f32⟩
  | .hbm, ⟨3, _⟩ => ⟨S3072x1024, .f32⟩
  | .hbm, ⟨4, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDw.lean ====
abbrev S4096x512 : Shape := ⟨2, ![4096, 512]⟩
abbrev S4096x1024 : Shape := ⟨2, ![4096, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S8x512x128, .bf16⟩
  | .local _ .vmem, ⟨0, _⟩ => ⟨S4096x512, .bf16⟩
  | .local _ .vmem, ⟨1, _⟩ => ⟨S4096x1024, .bf16⟩
  | .local _ .vmem, ⟨2, _⟩ => ⟨S8x512x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x8x128, .bf16⟩
  | .hbm, ⟨11, _⟩ => ⟨S8x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttnDw.lean ====
abbrev S4096x1024 : Shape := ⟨2, ![4096, 1024]⟩
abbrev S8x1024x128 : Shape := ⟨3, ![8, 1024, 128]⟩
abbrev S4096x512 : Shape := ⟨2, ![4096, 512]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1024x128, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4x1024x128, .bf16⟩
  | .local _ .vmem, ⟨4, _⟩ => ⟨S4x1024x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDwRefIdeal.lean ====
abbrev S4096x1024 : Shape := ⟨2, ![4096, 1024]⟩
abbrev S_ : Shape := ⟨0, ![]⟩
abbrev S1024x1024 : Shape := ⟨2, ![1024, 1024]⟩
abbrev S1024x8x128 : Shape := ⟨3, ![1024, 8, 128]⟩
abbrev S8x1024x128 : Shape := ⟨3, ![8, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x8x128, .bf16⟩
  | .hbm, ⟨11, _⟩ => ⟨S8x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QDw.lean ====
abbrev S4096x384 : Shape := ⟨2, ![4096, 384]⟩
abbrev S4096x1024 : Shape := ⟨2, ![4096, 1024]⟩
abbrev S8x384x128 : Shape := ⟨3, ![8, 384, 128]⟩
abbrev S384x1024 : Shape := ⟨2, ![384, 1024]⟩
abbrev S384x128 : Shape := ⟨2, ![384, 128]⟩
abbrev S1x384x128 : Shape := ⟨3, ![1, 384, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S8x384x128, .bf16⟩
  | .local _ .vmem, ⟨0, _⟩ => ⟨S4096x384, .bf16⟩
  | .local _ .vmem, ⟨1, _⟩ => ⟨S4096x1024, .bf16⟩
  | .local _ .vmem, ⟨2, _⟩ => ⟨S8x384x128, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== QDwRefIdeal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩
abbrev S384x8x128 : Shape := ⟨3, ![384, 8, 128]⟩
abbrev S8x384x128 : Shape := ⟨3, ![8, 384, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S_, .f32⟩
  | .hbm, ⟨3, _⟩ => ⟨S384x1024, .f32⟩
  | .hbm, ⟨4, _⟩ => ⟨S4096x384, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S384x1024, .bf16⟩
  | .hbm, ⟨10, _⟩ => ⟨S384x8x128, .bf16⟩
  | .hbm, ⟨11, _⟩ => ⟨S8x384x128, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvDw.lean ====
abbrev S4096x256 : Shape := ⟨2, ![4096, 256]⟩
abbrev S4096x1024 : Shape := ⟨2, ![4096, 1024]⟩
abbrev S8x256x128 : Shape := ⟨3, ![8, 256, 128]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S8x256x128, .bf16⟩
  | .local _ .vmem, ⟨0, _⟩ => ⟨S4096x256, .bf16⟩
  | .local _ .vmem, ⟨1, _⟩ => ⟨S4096x1024, .bf16⟩
  | .local _ .vmem, ⟨2, _⟩ => ⟨S8x256x128, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== KvDwRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x8x128, .bf16⟩
  | .hbm, ⟨11, _⟩ => ⟨S8x256x128, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PoolDx.lean ====
abbrev S4096x1024 : Shape := ⟨2, ![4096, 1024]⟩
abbrev S512x1024 : Shape := ⟨2, ![512, 1024]⟩
abbrev S512x8x128 : Shape := ⟨3, ![512, 8, 128]⟩
abbrev S8x512x128 : Shape := ⟨3, ![8, 512, 128]⟩
abbrev S4096x512 : Shape := ⟨2, ![4096, 512]⟩
abbrev S2048x1024 : Shape := ⟨2, ![2048, 1024]⟩
abbrev S2048x512 : Shape := ⟨2, ![2048, 512]⟩
abbrev S1x512x128 : Shape := ⟨3, ![1, 512, 128]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x8x128, .bf16⟩
  | .hbm, ⟨3, _⟩ => ⟨S8x512x128, .bf16⟩
  | .hbm, ⟨4, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S8x512x128, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branches.lean ====
abbrev S4096x5376 : Shape := ⟨2, ![4096, 5376]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S1024x8x128 : Shape := ⟨3, ![1024, 8, 128]⟩
abbrev S8x1024x128 : Shape := ⟨3, ![8, 1024, 128]⟩
abbrev S512x8x128 : Shape := ⟨3, ![512, 8, 128]⟩
abbrev S8x512x128 : Shape := ⟨3, ![8, 512, 128]⟩
abbrev S512x512 : Shape := ⟨2, ![512, 512]⟩
abbrev S1x1024x128 : Shape := ⟨3, ![1, 1024, 128]⟩
abbrev S1024x128 : Shape := ⟨2, ![1024, 128]⟩
abbrev S1x512x128 : Shape := ⟨3, ![1, 512, 128]⟩
abbrev S512x128 : Shape := ⟨2, ![512, 128]⟩

abbrev nBuf : Space → Nat
  | .hbm => 17
  | .vmem => 23
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1024x8x128, .bf16⟩
  | .hbm, ⟨8, _⟩ => ⟨S8x1024x128, .bf16⟩
  | .hbm, ⟨9, _⟩ => ⟨S512x8x128, .bf16⟩
  | .hbm, ⟨10, _⟩ => ⟨S8x512x128, .bf16⟩
  | .hbm, ⟨11, _⟩ => ⟨S512x8x128, .bf16⟩
  | .hbm, ⟨12, _⟩ => ⟨S8x512x128, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x1024x128, .bf16⟩
  | .local _ .vmem, ⟨13, _⟩ => ⟨S8x512x128, .bf16⟩
  | .local _ .vmem, ⟨14, _⟩ => ⟨S8x512x128, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== BranchesRefIdeal.lean ====
abbrev S4096x5376 : Shape := ⟨2, ![4096, 5376]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S4096x3072 : Shape := ⟨2, ![4096, 3072]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S512x1024, .f32⟩
  | .hbm, ⟨13, _⟩ => ⟨S4096x1024, .f32⟩
  | .hbm, ⟨14, _⟩ => ⟨S4096x1024, .bf16⟩
  | .hbm, ⟨15, _⟩ => ⟨S4096x512, .f32⟩
  | .hbm, ⟨16, _⟩ => ⟨S512x1024, .f32⟩
  | .hbm, ⟨17, _⟩ => ⟨S4096x1024, .f32⟩
  | .hbm, ⟨18, _⟩ => ⟨S4096x1024, .bf16⟩
  | .hbm, ⟨19, _⟩ => ⟨S4096x3072, .bf16⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== AttnOutBwd.lean ====
abbrev S4096x1024 : Shape := ⟨2, ![4096, 1024]⟩
abbrev S1024x1024 : Shape := ⟨2, ![1024, 1024]⟩
abbrev S1024x8x128 : Shape := ⟨3, ![1024, 8, 128]⟩
abbrev S8x1024x128 : Shape := ⟨3, ![8, 1024, 128]⟩
abbrev S512x1024 : Shape := ⟨2, ![512, 1024]⟩
abbrev S1x1024x128 : Shape := ⟨3, ![1, 1024, 128]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x8x128, .bf16⟩
  | .hbm, ⟨4, _⟩ => ⟨S8x1024x128, .bf16⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S8x1024x128, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutBwdRefIdeal.lean ====
abbrev S4096x1024 : Shape := ⟨2, ![4096, 1024]⟩
abbrev S1024x1024 : Shape := ⟨2, ![1024, 1024]⟩
abbrev S_ : Shape := ⟨0, ![]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x8x128, .f32⟩
  | .hbm, ⟨10, _⟩ => ⟨S4096x1024, .f32⟩
  | .hbm, ⟨11, _⟩ => ⟨S4096x8x128, .f32⟩
  | .hbm, ⟨12, _⟩ => ⟨S4096x8x128, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S4096x8x128, .f32⟩
  | .hbm, ⟨17, _⟩ => ⟨S4096x1024, .f32⟩
  | .hbm, ⟨18, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdamGain.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S660x2x1024 : Shape := ⟨3, ![660, 2, 1024]⟩
abbrev S60x2x1024 : Shape := ⟨3, ![60, 2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S660x2x1024, .f32⟩
  | .hbm, ⟨1, _⟩ => ⟨S660x2x1024, .f32⟩
  | .hbm, ⟨2, _⟩ => ⟨S660x2x1024, .f32⟩
  | .hbm, ⟨3, _⟩ => ⟨S660x2x1024, .f32⟩
  | .hbm, ⟨4, _⟩ => ⟨S660x2x1024, .f32⟩
  | .hbm, ⟨5, _⟩ => ⟨S660x2x1024, .f32⟩
  | .hbm, ⟨6, _⟩ => ⟨S660x2x1024, .f32⟩
  | .local _ .vmem, ⟨0, _⟩ => ⟨S60x2x1024, .f32⟩
  | .local _ .vmem, ⟨1, _⟩ => ⟨S60x2x1024, .f32⟩
  | .local _ .vmem, ⟨2, _⟩ => ⟨S60x2x1024, .f32⟩
  | .local _ .vmem, ⟨3, _⟩ => ⟨S60x2x1024, .f32⟩
  | .local _ .vmem, ⟨4, _⟩ => ⟨S60x2x1024, .f32⟩
  | .local _ .vmem, ⟨5, _⟩ => ⟨S60x2x1024, .f32⟩
  | .local _ .vmem, ⟨6, _⟩ => ⟨S60x2x1024, .f32⟩
  | .local _ .vmem, ⟨7, _⟩ => ⟨S60x2x1024, .f32⟩
  | .local _ .vmem, ⟨8, _⟩ => ⟨S60x2x1024, .f32⟩
  | .local _ .vmem, ⟨9, _⟩ => ⟨S60x2x1024, .f32⟩
  | .local _ .vmem, ⟨10, _⟩ => ⟨S60x2x1024, .f32⟩
  | .local _ .vmem, ⟨11, _⟩ => ⟨S60x2x1024, .f32⟩
  | .local _ .vmem, ⟨12, _⟩ => ⟨S60x2x1024, .f32⟩
  | .local _ .vmem, ⟨13, _⟩ => ⟨S60x2x1024, .f32⟩
  | _, _ => ⟨S660x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S60x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S60x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S60x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S60x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S60x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S60x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S60x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S660x2x1024 : Shape := ⟨3, ![660, 2, 1024]⟩
abbrev S60x2x1024 : Shape := ⟨3, ![60, 2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S660x2x1024, .f32⟩
  | .hbm, ⟨1, _⟩ => ⟨S660x2x1024, .f32⟩
  | .hbm, ⟨2, _⟩ => ⟨S660x2x1024, .f32⟩
  | .hbm, ⟨3, _⟩ => ⟨S660x2x1024, .f32⟩
  | .hbm, ⟨4, _⟩ => ⟨S660x2x1024, .f32⟩
  | .hbm, ⟨5, _⟩ => ⟨S660x2x1024, .f32⟩
  | .hbm, ⟨6, _⟩ => ⟨S660x2x1024, .f32⟩
  | .local _ .vmem, ⟨0, _⟩ => ⟨S60x2x1024, .f32⟩
  | .local _ .vmem, ⟨1, _⟩ => ⟨S60x2x1024, .f32⟩
  | .local _ .vmem, ⟨2, _⟩ => ⟨S60x2x1024, .f32⟩
  | .local _ .vmem, ⟨3, _⟩ => ⟨S60x2x1024, .f32⟩
  | .local _ .vmem, ⟨4, _⟩ => ⟨S60x2x1024, .f32⟩
  | .local _ .vmem, ⟨5, _⟩ => ⟨S60x2x1024, .f32⟩
  | .local _ .vmem, ⟨6, _⟩ => ⟨S60x2x1024, .f32⟩
  | .local _ .vmem, ⟨7, _⟩ => ⟨S60x2x1024, .f32⟩
  | .local _ .vmem, ⟨8, _⟩ => ⟨S60x2x1024, .f32⟩
  | .local _ .vmem, ⟨9, _⟩ => ⟨S60x2x1024, .f32⟩
  | .local _ .vmem, ⟨10, _⟩ => ⟨S60x2x1024, .f32⟩
  | .local _ .vmem, ⟨11, _⟩ => ⟨S60x2x1024, .f32⟩
  | .local _ .vmem, ⟨12, _⟩ => ⟨S60x2x1024, .f32⟩
  | .local _ .vmem, ⟨13, _⟩ => ⟨S60x2x1024, .f32⟩
  | _, _ => ⟨S660x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S60x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S60x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S60x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S60x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S60x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S60x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S60x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S660x2x1024 : Shape := ⟨3, ![660, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S660x2x1024, .f32⟩
  | .hbm, ⟨1, _⟩ => ⟨S660x2x1024, .f32⟩
  | .hbm, ⟨2, _⟩ => ⟨S660x2x1024, .f32⟩
  | .hbm, ⟨3, _⟩ => ⟨S660x2x1024, .f32⟩
  | .hbm, ⟨4, _⟩ => ⟨S_, .f32⟩
  | .hbm, ⟨5, _⟩ => ⟨S660x2x1024, .f32⟩
  | .hbm, ⟨6, _⟩ => ⟨S660x2x1024, .f32⟩
  | .hbm, ⟨7, _⟩ => ⟨S_, .f32⟩
  | .hbm, ⟨8, _⟩ => ⟨S660x2x1024, .f32⟩
  | .hbm, ⟨9, _⟩ => ⟨S660x2x1024, .f32⟩
  | .hbm, ⟨10, _⟩ => ⟨S660x2x1024, .f32⟩
  | .hbm, ⟨11, _⟩ => ⟨S_, .f32⟩
  | .hbm, ⟨12, _⟩ => ⟨S660x2x1024, .f32⟩
  | .hbm, ⟨13, _⟩ => ⟨S660x2x1024, .f32⟩
  | .hbm, ⟨14, _⟩ => ⟨S660x2x1024, .f32⟩
  | .hbm, ⟨15, _⟩ => ⟨S_, .f32⟩
  | .hbm, ⟨16, _⟩ => ⟨S660x2x1024, .f32⟩
  | .hbm, ⟨17, _⟩ => ⟨S660x2x1024, .f32⟩
  | .hbm, ⟨18, _⟩ => ⟨S660x2x1024, .f32⟩
  | .hbm, ⟨19, _⟩ => ⟨S_, .f32⟩
  | .hbm, ⟨20, _⟩ => ⟨S660x2x1024, .f32⟩
  | .hbm, ⟨21, _⟩ => ⟨S660x2x1024, .f32⟩
  | .hbm, ⟨22, _⟩ => ⟨S_, .f32⟩
  | .hbm, ⟨23, _⟩ => ⟨S660x2x1024, .f32⟩
  | .hbm, ⟨24, _⟩ => ⟨S660x2x1024, .f32⟩
  | .hbm, ⟨25, _⟩ => ⟨S660x2x1024, .f32⟩
  | .hbm, ⟨26, _⟩ => ⟨S_, .f32⟩
  | .hbm, ⟨27, _⟩ => ⟨S660x2x1024, .f32⟩
  | .hbm, ⟨28, _⟩ => ⟨S660x2x1024, .f32⟩
  | .hbm, ⟨29, _⟩ => ⟨S660x2x1024, .f32⟩
  | .hbm, ⟨30, _⟩ => ⟨S_, .f32⟩
  | .hbm, ⟨31, _⟩ => ⟨S660x2x1024, .f32⟩
  | .hbm, ⟨32, _⟩ => ⟨S660x2x1024, .f32⟩
  | .hbm, ⟨33, _⟩ => ⟨S660x2x1024, .f32⟩
  | .hbm, ⟨34, _⟩ => ⟨S_, .f32⟩
  | .hbm, ⟨35, _⟩ => ⟨S660x2x1024, .f32⟩
  | .hbm, ⟨36, _⟩ => ⟨S660x2x1024, .f32⟩
  | _, _ => ⟨S660x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQGain.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQGainIdeal.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQGainRefIdeal.lean ====
abbrev S2x384 : Shape := ⟨2, ![2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvGain.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvGainIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvGainRefIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S192x384 : Shape := ⟨2, ![192, 384]⟩

abbrev nBuf : Space → Nat
  | .hbm => 7
  | .vmem => 7
  | .smem => 0
  | _ => 0

abbrev bufTy : (tb : Table) → Fin (tcTables nBuf tb) → BufTy
  | .hbm, ⟨0, _⟩ => ⟨S192x384, .f32⟩
  | .hbm, ⟨1, _⟩ => ⟨S192x384, .f32⟩
  | .hbm, ⟨2, _⟩ => ⟨S192x384, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S192x384, .f32⟩
  | .local _ .vmem, ⟨0, _⟩ => ⟨S192x384, .f32⟩
  | .local _ .vmem, ⟨1, _⟩ => ⟨S192x384, .f32⟩
  | .local _ .vmem, ⟨2, _⟩ => ⟨S192x384, .f32⟩
  | .local _ .vmem, ⟨3, _⟩ => ⟨S192x384, .f32⟩
  | .local _ .vmem, ⟨4, _⟩ => ⟨S192x384, .f32⟩
  | .local _ .vmem, ⟨5, _⟩ => ⟨S192x384, .f32⟩
  | .local _ .vmem, ⟨6, _⟩ => ⟨S192x384, .f32⟩
  | _, _ => ⟨S192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQIdeal.lean ====
abbrev S192x384 : Shape := ⟨2, ![192, 384]⟩

abbrev nBuf : Space → Nat
  | .hbm => 7
  | .vmem => 7
  | .smem => 0
  | _ => 0

abbrev bufTy : (tb : Table) → Fin (tcTables nBuf tb) → BufTy
  | .hbm, ⟨0, _⟩ => ⟨S192x384, .f32⟩
  | .hbm, ⟨1, _⟩ => ⟨S192x384, .f32⟩
  | .hbm, ⟨2, _⟩ => ⟨S192x384, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S192x384, .f32⟩
  | .local _ .vmem, ⟨0, _⟩ => ⟨S192x384, .f32⟩
  | .local _ .vmem, ⟨1, _⟩ => ⟨S192x384, .f32⟩
  | .local _ .vmem, ⟨2, _⟩ => ⟨S192x384, .f32⟩
  | .local _ .vmem, ⟨3, _⟩ => ⟨S192x384, .f32⟩
  | .local _ .vmem, ⟨4, _⟩ => ⟨S192x384, .f32⟩
  | .local _ .vmem, ⟨5, _⟩ => ⟨S192x384, .f32⟩
  | .local _ .vmem, ⟨6, _⟩ => ⟨S192x384, .f32⟩
  | _, _ => ⟨S192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQRefIdeal.lean ====
abbrev S192x384 : Shape := ⟨2, ![192, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x384, .f32⟩
  | .hbm, ⟨1, _⟩ => ⟨S192x384, .f32⟩
  | .hbm, ⟨2, _⟩ => ⟨S192x384, .f32⟩
  | .hbm, ⟨3, _⟩ => ⟨S192x384, .f32⟩
  | .hbm, ⟨4, _⟩ => ⟨S_, .f32⟩
  | .hbm, ⟨5, _⟩ => ⟨S192x384, .f32⟩
  | .hbm, ⟨6, _⟩ => ⟨S192x384, .f32⟩
  | .hbm, ⟨7, _⟩ => ⟨S_, .f32⟩
  | .hbm, ⟨8, _⟩ => ⟨S192x384, .f32⟩
  | .hbm, ⟨9, _⟩ => ⟨S192x384, .f32⟩
  | .hbm, ⟨10, _⟩ => ⟨S192x384, .f32⟩
  | .hbm, ⟨11, _⟩ => ⟨S_, .f32⟩
  | .hbm, ⟨12, _⟩ => ⟨S192x384, .f32⟩
  | .hbm, ⟨13, _⟩ => ⟨S192x384, .f32⟩
  | .hbm, ⟨14, _⟩ => ⟨S192x384, .f32⟩
  | .hbm, ⟨15, _⟩ => ⟨S_, .f32⟩
  | .hbm, ⟨16, _⟩ => ⟨S192x384, .f32⟩
  | .hbm, ⟨17, _⟩ => ⟨S192x384, .f32⟩
  | .hbm, ⟨18, _⟩ => ⟨S192x384, .f32⟩
  | .hbm, ⟨19, _⟩ => ⟨S_, .f32⟩
  | .hbm, ⟨20, _⟩ => ⟨S192x384, .f32⟩
  | .hbm, ⟨21, _⟩ => ⟨S192x384, .f32⟩
  | .hbm, ⟨22, _⟩ => ⟨S_, .f32⟩
  | .hbm, ⟨23, _⟩ => ⟨S192x384, .f32⟩
  | .hbm, ⟨24, _⟩ => ⟨S192x384, .f32⟩
  | .hbm, ⟨25, _⟩ => ⟨S192x384, .f32⟩
  | .hbm, ⟨26, _⟩ => ⟨S_, .f32⟩
  | .hbm, ⟨27, _⟩ => ⟨S192x384, .f32⟩
  | .hbm, ⟨28, _⟩ => ⟨S192x384, .f32⟩
  | .hbm, ⟨29, _⟩ => ⟨S192x384, .f32⟩
  | .hbm, ⟨30, _⟩ => ⟨S_, .f32⟩
  | .hbm, ⟨31, _⟩ => ⟨S192x384, .f32⟩
  | .hbm, ⟨32, _⟩ => ⟨S192x384, .f32⟩
  | .hbm, ⟨33, _⟩ => ⟨S192x384, .f32⟩
  | .hbm, ⟨34, _⟩ => ⟨S_, .f32⟩
  | .hbm, ⟨35, _⟩ => ⟨S192x384, .f32⟩
  | .hbm, ⟨36, _⟩ => ⟨S192x384, .f32⟩
  | _, _ => ⟨S192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvIdeal.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvRefIdeal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S62x64 : Shape := ⟨2, ![62, 64]⟩

abbrev nBuf : Space → Nat
  | .hbm => 7
  | .vmem => 7
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsIdeal.lean ====
abbrev S62x64 : Shape := ⟨2, ![62, 64]⟩

abbrev nBuf : Space → Nat
  | .hbm => 7
  | .vmem => 7
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsRefIdeal.lean ====
abbrev S62x64 : Shape := ⟨2, ![62, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S_, .f32⟩
  | .hbm, ⟨5, _⟩ => ⟨S62x64, .f32⟩
  | .hbm, ⟨6, _⟩ => ⟨S62x64, .f32⟩
  | .hbm, ⟨7, _⟩ => ⟨S_, .f32⟩
  | .hbm, ⟨8, _⟩ => ⟨S62x64, .f32⟩
  | .hbm, ⟨9, _⟩ => ⟨S62x64, .f32⟩
  | .hbm, ⟨10, _⟩ => ⟨S62x64, .f32⟩
  | .hbm, ⟨11, _⟩ => ⟨S_, .f32⟩
  | .hbm, ⟨12, _⟩ => ⟨S62x64, .f32⟩
  | .hbm, ⟨13, _⟩ => ⟨S62x64, .f32⟩
  | .hbm, ⟨14, _⟩ => ⟨S62x64, .f32⟩
  | .hbm, ⟨15, _⟩ => ⟨S_, .f32⟩
  | .hbm, ⟨16, _⟩ => ⟨S62x64, .f32⟩
  | .hbm, ⟨17, _⟩ => ⟨S62x64, .f32⟩
  | .hbm, ⟨18, _⟩ => ⟨S62x64, .f32⟩
  | .hbm, ⟨19, _⟩ => ⟨S_, .f32⟩
  | .hbm, ⟨20, _⟩ => ⟨S62x64, .f32⟩
  | .hbm, ⟨21, _⟩ => ⟨S62x64, .f32⟩
  | .hbm, ⟨22, _⟩ => ⟨S_, .f32⟩
  | .hbm, ⟨23, _⟩ => ⟨S62x64, .f32⟩
  | .hbm, ⟨24, _⟩ => ⟨S62x64, .f32⟩
  | .hbm, ⟨25, _⟩ => ⟨S62x64, .f32⟩
  | .hbm, ⟨26, _⟩ => ⟨S_, .f32⟩
  | .hbm, ⟨27, _⟩ => ⟨S62x64, .f32⟩
  | .hbm, ⟨28, _⟩ => ⟨S62x64, .f32⟩
  | .hbm, ⟨29, _⟩ => ⟨S62x64, .f32⟩
  | .hbm, ⟨30, _⟩ => ⟨S_, .f32⟩
  | .hbm, ⟨31, _⟩ => ⟨S62x64, .f32⟩
  | .hbm, ⟨32, _⟩ => ⟨S62x64, .f32⟩
  | .hbm, ⟨33, _⟩ => ⟨S62x64, .f32⟩
  | .hbm, ⟨34, _⟩ => ⟨S_, .f32⟩
  | .hbm, ⟨35, _⟩ => ⟨S62x64, .f32⟩
  | .hbm, ⟨36, _⟩ => ⟨S62x64, .f32⟩
  | _, _ => ⟨S62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamChannel.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChannelIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChannelRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumGains.lean ====
abbrev S8x64x1024 : Shape := ⟨3, ![8, 64, 1024]⟩
abbrev S64x1024 : Shape := ⟨2, ![64, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x32x1024, .f32⟩
  | .local _ .vmem, ⟨1, _⟩ => ⟨S8x32x1024, .f32⟩
  | .local _ .vmem, ⟨2, _⟩ => ⟨S32x1024, .f32⟩
  | .local _ .vmem, ⟨3, _⟩ => ⟨S32x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGainsIdeal.lean ====
abbrev S8x64x1024 : Shape := ⟨3, ![8, 64, 1024]⟩
abbrev S64x1024 : Shape := ⟨2, ![64, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x32x1024, .f32⟩
  | .local _ .vmem, ⟨1, _⟩ => ⟨S8x32x1024, .f32⟩
  | .local _ .vmem, ⟨2, _⟩ => ⟨S32x1024, .f32⟩
  | .local _ .vmem, ⟨3, _⟩ => ⟨S32x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGainsRefIdeal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumChannels.lean ====
abbrev S8x128x512 : Shape := ⟨3, ![8, 128, 512]⟩
abbrev S128x512 : Shape := ⟨2, ![128, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x128x512, .f32⟩
  | .hbm, ⟨1, _⟩ => ⟨S128x512, .f32⟩
  | .local _ .vmem, ⟨0, _⟩ => ⟨S8x64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChannelsIdeal.lean ====
abbrev S8x128x512 : Shape := ⟨3, ![8, 128, 512]⟩
abbrev S128x512 : Shape := ⟨2, ![128, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x128x512, .f32⟩
  | .hbm, ⟨1, _⟩ => ⟨S128x512, .f32⟩
  | .local _ .vmem, ⟨0, _⟩ => ⟨S8x64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChannelsRefIdeal.lean ====
abbrev S8x128x512 : Shape := ⟨3, ![8, 128, 512]⟩
abbrev S_ : Shape := ⟨0, ![]⟩
abbrev S128x512 : Shape := ⟨2, ![128, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S_, .f32⟩
  | .hbm, ⟨2, _⟩ => ⟨S128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumQ.lean ====
abbrev S8x16x384 : Shape := ⟨3, ![8, 16, 384]⟩
abbrev S16x384 : Shape := ⟨2, ![16, 384]⟩
abbrev S1x16x384 : Shape := ⟨3, ![1, 16, 384]⟩

abbrev nBuf : Space → Nat
  | .hbm => 2
  | .vmem => 2
  | .smem => 0
  | _ => 0

abbrev bufTy : (tb : Table) → Fin (tcTables nBuf tb) → BufTy
  | .hbm, ⟨0, _⟩ => ⟨S8x16x384, .f32⟩
  | .hbm, ⟨1, _⟩ => ⟨S16x384, .f32⟩
  | .local _ .vmem, ⟨0, _⟩ => ⟨S8x16x384, .f32⟩
  | .local _ .vmem, ⟨1, _⟩ => ⟨S16x384, .f32⟩
  | _, _ => ⟨S8x16x384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumQIdeal.lean ====
abbrev S8x16x384 : Shape := ⟨3, ![8, 16, 384]⟩
abbrev S16x384 : Shape := ⟨2, ![16, 384]⟩
abbrev S1x16x384 : Shape := ⟨3, ![1, 16, 384]⟩

abbrev nBuf : Space → Nat
  | .hbm => 2
  | .vmem => 2
  | .smem => 0
  | _ => 0

abbrev bufTy : (tb : Table) → Fin (tcTables nBuf tb) → BufTy
  | .hbm, ⟨0, _⟩ => ⟨S8x16x384, .f32⟩
  | .hbm, ⟨1, _⟩ => ⟨S16x384, .f32⟩
  | .local _ .vmem, ⟨0, _⟩ => ⟨S8x16x384, .f32⟩
  | .local _ .vmem, ⟨1, _⟩ => ⟨S16x384, .f32⟩
  | _, _ => ⟨S8x16x384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumQRefIdeal.lean ====
abbrev S8x16x384 : Shape := ⟨3, ![8, 16, 384]⟩
abbrev S_ : Shape := ⟨0, ![]⟩
abbrev S16x384 : Shape := ⟨2, ![16, 384]⟩

abbrev nBuf : Space → Nat
  | .hbm => 3
  | .vmem => 0
  | .smem => 0
  | _ => 0

abbrev bufTy : (tb : Table) → Fin (tcTables nBuf tb) → BufTy
  | .hbm, ⟨0, _⟩ => ⟨S8x16x384, .f32⟩
  | .hbm, ⟨1, _⟩ => ⟨S_, .f32⟩
  | .hbm, ⟨2, _⟩ => ⟨S16x384, .f32⟩
  | _, _ => ⟨S8x16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumKv.lean ====
abbrev S8x16x256 : Shape := ⟨3, ![8, 16, 256]⟩
abbrev S16x256 : Shape := ⟨2, ![16, 256]⟩
abbrev S1x16x256 : Shape := ⟨3, ![1, 16, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .local _ .vmem, ⟨0, _⟩ => ⟨S8x16x256, .f32⟩
  | .local _ .vmem, ⟨1, _⟩ => ⟨S16x256, .f32⟩
  | _, _ => ⟨S8x16x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumKvIdeal.lean ====
abbrev S8x16x256 : Shape := ⟨3, ![8, 16, 256]⟩
abbrev S16x256 : Shape := ⟨2, ![16, 256]⟩
abbrev S1x16x256 : Shape := ⟨3, ![1, 16, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .local _ .vmem, ⟨0, _⟩ => ⟨S8x16x256, .f32⟩
  | .local _ .vmem, ⟨1, _⟩ => ⟨S16x256, .f32⟩
  | _, _ => ⟨S8x16x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumKvRefIdeal.lean ====
abbrev S8x16x256 : Shape := ⟨3, ![8, 16, 256]⟩
abbrev S_ : Shape := ⟨0, ![]⟩
abbrev S16x256 : Shape := ⟨2, ![16, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S_, .f32⟩
  | .hbm, ⟨2, _⟩ => ⟨S16x256, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumPool.lean ====
abbrev S8x1024x128 : Shape := ⟨3, ![8, 1024, 128]⟩
abbrev S1024x128 : Shape := ⟨2, ![1024, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPoolIdeal.lean ====
abbrev S8x1024x128 : Shape := ⟨3, ![8, 1024, 128]⟩
abbrev S1024x128 : Shape := ⟨2, ![1024, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPoolRefIdeal.lean ====
abbrev S8x1024x128 : Shape := ⟨3, ![8, 1024, 128]⟩
abbrev S_ : Shape := ⟨0, ![]⟩
abbrev S1024x128 : Shape := ⟨2, ![1024, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S_, .f32⟩
  | .hbm, ⟨2, _⟩ => ⟨S1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumLast.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLastRefIdeal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LayersIn.lean ====
abbrev S4x1024x660 : Shape := ⟨3, ![4, 1024, 660]⟩
abbrev S8x1024x660 : Shape := ⟨3, ![8, 1024, 660]⟩
abbrev S2x1024x660 : Shape := ⟨3, ![2, 1024, 660]⟩
abbrev S4x256x660 : Shape := ⟨3, ![4, 256, 660]⟩
abbrev S8x256x660 : Shape := ⟨3, ![8, 256, 660]⟩
abbrev S1x256x660 : Shape := ⟨3, ![1, 256, 660]⟩
abbrev S256x660 : Shape := ⟨2, ![256, 660]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x660, .bf16⟩
  | .hbm, ⟨1, _⟩ => ⟨S8x1024x660, .bf16⟩
  | .hbm, ⟨2, _⟩ => ⟨S2x1024x660, .f32⟩
  | .local _ .vmem, ⟨0, _⟩ => ⟨S4x256x660, .bf16⟩
  | .local _ .vmem, ⟨1, _⟩ => ⟨S4x256x660, .bf16⟩
  | .local _ .vmem, ⟨2, _⟩ => ⟨S8x256x660, .bf16⟩
  | .local _ .vmem, ⟨3, _⟩ => ⟨S8x256x660, .bf16⟩
  | .local _ .vmem, ⟨4, _⟩ => ⟨S1x256x660, .f32⟩
  | .local _ .vmem, ⟨5, _⟩ => ⟨S1x256x660, .f32⟩
  | _, _ => ⟨S4x1024x660, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x660 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x660 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x660 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersInIdeal.lean ====
abbrev S4x1024x660 : Shape := ⟨3, ![4, 1024, 660]⟩
abbrev S8x1024x660 : Shape := ⟨3, ![8, 1024, 660]⟩
abbrev S2x1024x660 : Shape := ⟨3, ![2, 1024, 660]⟩
abbrev S4x256x660 : Shape := ⟨3, ![4, 256, 660]⟩
abbrev S8x256x660 : Shape := ⟨3, ![8, 256, 660]⟩
abbrev S1x256x660 : Shape := ⟨3, ![1, 256, 660]⟩
abbrev S256x660 : Shape := ⟨2, ![256, 660]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x660, .bf16⟩
  | .hbm, ⟨1, _⟩ => ⟨S8x1024x660, .bf16⟩
  | .hbm, ⟨2, _⟩ => ⟨S2x1024x660, .f32⟩
  | .local _ .vmem, ⟨0, _⟩ => ⟨S4x256x660, .bf16⟩
  | .local _ .vmem, ⟨1, _⟩ => ⟨S4x256x660, .bf16⟩
  | .local _ .vmem, ⟨2, _⟩ => ⟨S8x256x660, .bf16⟩
  | .local _ .vmem, ⟨3, _⟩ => ⟨S8x256x660, .bf16⟩
  | .local _ .vmem, ⟨4, _⟩ => ⟨S1x256x660, .f32⟩
  | .local _ .vmem, ⟨5, _⟩ => ⟨S1x256x660, .f32⟩
  | _, _ => ⟨S4x1024x660, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x660 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x660 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x660 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersInRefIdeal.lean ====
abbrev S4x1024x660 : Shape := ⟨3, ![4, 1024, 660]⟩
abbrev S8x1024x660 : Shape := ⟨3, ![8, 1024, 660]⟩
abbrev S_ : Shape := ⟨0, ![]⟩
abbrev S1024x660 : Shape := ⟨2, ![1024, 660]⟩
abbrev S1x1024x660 : Shape := ⟨3, ![1, 1024, 660]⟩
abbrev S2x1024x660 : Shape := ⟨3, ![2, 1024, 660]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x660, .bf16⟩
  | .hbm, ⟨1, _⟩ => ⟨S8x1024x660, .bf16⟩
  | .hbm, ⟨2, _⟩ => ⟨S4x1024x660, .f32⟩
  | .hbm, ⟨3, _⟩ => ⟨S_, .f32⟩
  | .hbm, ⟨4, _⟩ => ⟨S1024x660, .f32⟩
  | .hbm, ⟨5, _⟩ => ⟨S8x1024x660, .f32⟩
  | .hbm, ⟨6, _⟩ => ⟨S_, .f32⟩
  | .hbm, ⟨7, _⟩ => ⟨S1024x660, .f32⟩
  | .hbm, ⟨8, _⟩ => ⟨S1x1024x660, .f32⟩
  | .hbm, ⟨9, _⟩ => ⟨S1x1024x660, .f32⟩
  | .hbm, ⟨10, _⟩ => ⟨S2x1024x660, .f32⟩
  | _, _ => ⟨S4x1024x660, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersQ.lean ====
abbrev S4x384x128 : Shape := ⟨3, ![4, 384, 128]⟩
abbrev S8x384x128 : Shape := ⟨3, ![8, 384, 128]⟩
abbrev S2x384x128 : Shape := ⟨3, ![2, 384, 128]⟩
abbrev S1x384x128 : Shape := ⟨3, ![1, 384, 128]⟩
abbrev S384x128 : Shape := ⟨2, ![384, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x384x128, .bf16⟩
  | .hbm, ⟨1, _⟩ => ⟨S8x384x128, .bf16⟩
  | .hbm, ⟨2, _⟩ => ⟨S2x384x128, .f32⟩
  | .local _ .vmem, ⟨0, _⟩ => ⟨S4x384x128, .bf16⟩
  | .local _ .vmem, ⟨1, _⟩ => ⟨S4x384x128, .bf16⟩
  | .local _ .vmem, ⟨2, _⟩ => ⟨S8x384x128, .bf16⟩
  | .local _ .vmem, ⟨3, _⟩ => ⟨S8x384x128, .bf16⟩
  | .local _ .vmem, ⟨4, _⟩ => ⟨S1x384x128, .f32⟩
  | .local _ .vmem, ⟨5, _⟩ => ⟨S1x384x128, .f32⟩
  | _, _ => ⟨S4x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersQIdeal.lean ====
abbrev S4x384x128 : Shape := ⟨3, ![4, 384, 128]⟩
abbrev S8x384x128 : Shape := ⟨3, ![8, 384, 128]⟩
abbrev S2x384x128 : Shape := ⟨3, ![2, 384, 128]⟩
abbrev S1x384x128 : Shape := ⟨3, ![1, 384, 128]⟩
abbrev S384x128 : Shape := ⟨2, ![384, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x384x128, .bf16⟩
  | .hbm, ⟨1, _⟩ => ⟨S8x384x128, .bf16⟩
  | .hbm, ⟨2, _⟩ => ⟨S2x384x128, .f32⟩
  | .local _ .vmem, ⟨0, _⟩ => ⟨S4x384x128, .bf16⟩
  | .local _ .vmem, ⟨1, _⟩ => ⟨S4x384x128, .bf16⟩
  | .local _ .vmem, ⟨2, _⟩ => ⟨S8x384x128, .bf16⟩
  | .local _ .vmem, ⟨3, _⟩ => ⟨S8x384x128, .bf16⟩
  | .local _ .vmem, ⟨4, _⟩ => ⟨S1x384x128, .f32⟩
  | .local _ .vmem, ⟨5, _⟩ => ⟨S1x384x128, .f32⟩
  | _, _ => ⟨S4x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersQRefIdeal.lean ====
abbrev S4x384x128 : Shape := ⟨3, ![4, 384, 128]⟩
abbrev S8x384x128 : Shape := ⟨3, ![8, 384, 128]⟩
abbrev S_ : Shape := ⟨0, ![]⟩
abbrev S384x128 : Shape := ⟨2, ![384, 128]⟩
abbrev S1x384x128 : Shape := ⟨3, ![1, 384, 128]⟩
abbrev S2x384x128 : Shape := ⟨3, ![2, 384, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x384x128, .bf16⟩
  | .hbm, ⟨1, _⟩ => ⟨S8x384x128, .bf16⟩
  | .hbm, ⟨2, _⟩ => ⟨S4x384x128, .f32⟩
  | .hbm, ⟨3, _⟩ => ⟨S_, .f32⟩
  | .hbm, ⟨4, _⟩ => ⟨S384x128, .f32⟩
  | .hbm, ⟨5, _⟩ => ⟨S8x384x128, .f32⟩
  | .hbm, ⟨6, _⟩ => ⟨S_, .f32⟩
  | .hbm, ⟨7, _⟩ => ⟨S384x128, .f32⟩
  | .hbm, ⟨8, _⟩ => ⟨S1x384x128, .f32⟩
  | .hbm, ⟨9, _⟩ => ⟨S1x384x128, .f32⟩
  | .hbm, ⟨10, _⟩ => ⟨S2x384x128, .f32⟩
  | _, _ => ⟨S4x384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersKv.lean ====
abbrev S4x256x128 : Shape := ⟨3, ![4, 256, 128]⟩
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x256x128, .bf16⟩
  | .hbm, ⟨1, _⟩ => ⟨S8x256x128, .bf16⟩
  | .hbm, ⟨2, _⟩ => ⟨S2x256x128, .f32⟩
  | .local _ .vmem, ⟨0, _⟩ => ⟨S4x256x128, .bf16⟩
  | .local _ .vmem, ⟨1, _⟩ => ⟨S4x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersKvIdeal.lean ====
abbrev S4x256x128 : Shape := ⟨3, ![4, 256, 128]⟩
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x256x128, .bf16⟩
  | .hbm, ⟨1, _⟩ => ⟨S8x256x128, .bf16⟩
  | .hbm, ⟨2, _⟩ => ⟨S2x256x128, .f32⟩
  | .local _ .vmem, ⟨0, _⟩ => ⟨S4x256x128, .bf16⟩
  | .local _ .vmem, ⟨1, _⟩ => ⟨S4x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersKvRefIdeal.lean ====
abbrev S4x256x128 : Shape := ⟨3, ![4, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩
abbrev S2x256x128 : Shape := ⟨3, ![2, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x256x128, .bf16⟩
  | .hbm, ⟨1, _⟩ => ⟨S8x256x128, .bf16⟩
  | .hbm, ⟨2, _⟩ => ⟨S4x256x128, .f32⟩
  | .hbm, ⟨3, _⟩ => ⟨S_, .f32⟩
  | .hbm, ⟨4, _⟩ => ⟨S256x128, .f32⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S1x256x128, .f32⟩
  | .hbm, ⟨9, _⟩ => ⟨S1x256x128, .f32⟩
  | .hbm, ⟨10, _⟩ => ⟨S2x256x128, .f32⟩
  | _, _ => ⟨S4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersOut.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersOutIdeal.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersOutRefIdeal.lean ====
abbrev S8x512x128 : Shape := ⟨3, ![8, 512, 128]⟩
abbrev S_ : Shape := ⟨0, ![]⟩
abbrev S512x128 : Shape := ⟨2, ![512, 128]⟩
abbrev S1x512x128 : Shape := ⟨3, ![1, 512, 128]⟩
abbrev S2x512x128 : Shape := ⟨3, ![2, 512, 128]⟩

abbrev nBuf : Space → Nat
  | .hbm => 11
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S8x512x128, .f32⟩
  | .hbm, ⟨3, _⟩ => ⟨S_, .f32⟩
  | .hbm, ⟨4, _⟩ => ⟨S512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S1x512x128, .f32⟩
  | .hbm, ⟨9, _⟩ => ⟨S1x512x128, .f32⟩
  | .hbm, ⟨10, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersMix.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersMixIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersMixRefIdeal.lean ====
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S2x128x1024 : Shape := ⟨3, ![2, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .f32⟩
  | .hbm, ⟨3, _⟩ => ⟨S_, .f32⟩
  | .hbm, ⟨4, _⟩ => ⟨S128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S1x128x1024, .f32⟩
  | .hbm, ⟨10, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersUp.lean ====
abbrev S8x1024x384 : Shape := ⟨3, ![8, 1024, 384]⟩
abbrev S2x1024x384 : Shape := ⟨3, ![2, 1024, 384]⟩
abbrev S8x512x384 : Shape := ⟨3, ![8, 512, 384]⟩
abbrev S1x512x384 : Shape := ⟨3, ![1, 512, 384]⟩
abbrev S512x384 : Shape := ⟨2, ![512, 384]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .local _ .vmem, ⟨0, _⟩ => ⟨S8x512x384, .bf16⟩
  | .local _ .vmem, ⟨1, _⟩ => ⟨S8x512x384, .bf16⟩
  | .local _ .vmem, ⟨2, _⟩ => ⟨S8x512x384, .bf16⟩
  | .local _ .vmem, ⟨3, _⟩ => ⟨S8x512x384, .bf16⟩
  | .local _ .vmem, ⟨4, _⟩ => ⟨S1x512x384, .f32⟩
  | .local _ .vmem, ⟨5, _⟩ => ⟨S1x512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersUpIdeal.lean ====
abbrev S8x1024x384 : Shape := ⟨3, ![8, 1024, 384]⟩
abbrev S2x1024x384 : Shape := ⟨3, ![2, 1024, 384]⟩
abbrev S8x512x384 : Shape := ⟨3, ![8, 512, 384]⟩
abbrev S1x512x384 : Shape := ⟨3, ![1, 512, 384]⟩
abbrev S512x384 : Shape := ⟨2, ![512, 384]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .local _ .vmem, ⟨0, _⟩ => ⟨S8x512x384, .bf16⟩
  | .local _ .vmem, ⟨1, _⟩ => ⟨S8x512x384, .bf16⟩
  | .local _ .vmem, ⟨2, _⟩ => ⟨S8x512x384, .bf16⟩
  | .local _ .vmem, ⟨3, _⟩ => ⟨S8x512x384, .bf16⟩
  | .local _ .vmem, ⟨4, _⟩ => ⟨S1x512x384, .f32⟩
  | .local _ .vmem, ⟨5, _⟩ => ⟨S1x512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersUpRefIdeal.lean ====
abbrev S8x1024x384 : Shape := ⟨3, ![8, 1024, 384]⟩
abbrev S_ : Shape := ⟨0, ![]⟩
abbrev S1024x384 : Shape := ⟨2, ![1024, 384]⟩
abbrev S1x1024x384 : Shape := ⟨3, ![1, 1024, 384]⟩
abbrev S2x1024x384 : Shape := ⟨3, ![2, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S8x1024x384, .f32⟩
  | .hbm, ⟨3, _⟩ => ⟨S_, .f32⟩
  | .hbm, ⟨4, _⟩ => ⟨S1024x384, .f32⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S1x1024x384, .f32⟩
  | .hbm, ⟨9, _⟩ => ⟨S1x1024x384, .f32⟩
  | .hbm, ⟨10, _⟩ => ⟨S2x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LayersDown.lean ====
abbrev S8x384x1024 : Shape := ⟨3, ![8, 384, 1024]⟩
abbrev S2x384x1024 : Shape := ⟨3, ![2, 384, 1024]⟩
abbrev S8x192x1024 : Shape := ⟨3, ![8, 192, 1024]⟩
abbrev S1x192x1024 : Shape := ⟨3, ![1, 192, 1024]⟩
abbrev S192x1024 : Shape := ⟨2, ![192, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S2x384x1024, .f32⟩
  | .local _ .vmem, ⟨0, _⟩ => ⟨S8x192x1024, .bf16⟩
  | .local _ .vmem, ⟨1, _⟩ => ⟨S8x192x1024, .bf16⟩
  | .local _ .vmem, ⟨2, _⟩ => ⟨S8x192x1024, .bf16⟩
  | .local _ .vmem, ⟨3, _⟩ => ⟨S8x192x1024, .bf16⟩
  | .local _ .vmem, ⟨4, _⟩ => ⟨S1x192x1024, .f32⟩
  | .local _ .vmem, ⟨5, _⟩ => ⟨S1x192x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayersDownRefIdeal.lean ====
abbrev S8x384x1024 : Shape := ⟨3, ![8, 384, 1024]⟩
abbrev S_ : Shape := ⟨0, ![]⟩
abbrev S384x1024 : Shape := ⟨2, ![384, 1024]⟩
abbrev S1x384x1024 : Shape := ⟨3, ![1, 384, 1024]⟩
abbrev S2x384x1024 : Shape := ⟨3, ![2, 384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S8x384x1024, .f32⟩
  | .hbm, ⟨3, _⟩ => ⟨S_, .f32⟩
  | .hbm, ⟨4, _⟩ => ⟨S384x1024, .f32⟩
  | .hbm, ⟨5, _⟩ => ⟨S8x384x1024, .f32⟩
  | .hbm, ⟨6, _⟩ => ⟨S_, .f32⟩
  | .hbm, ⟨7, _⟩ => ⟨S384x1024, .f32⟩
  | .hbm, ⟨8, _⟩ => ⟨S1x384x1024, .f32⟩
  | .hbm, ⟨9, _⟩ => ⟨S1x384x1024, .f32⟩
  | .hbm, ⟨10, _⟩ => ⟨S2x384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.DownDwClaim.lean ====
/- The gradient of the feed-forward's down projection, at an index, and its claim. -/
module

public import proofs.«01_k».proof.Defs
public import proofs.«01_k».proof.Proof.Gen.DownDwIdeal.Value
public import proofs.«01_k».proof.Proof.Gen.DownDwRefIdeal.Read
public import Idealize.ShloMosaic.Lib.Pipeline.ValueKit
public import Idealize.ShloMosaic.Lib.Pointwise

@[expose] public section

noncomputable section

namespace Cert.DownDwIdeal.Hand

open Cert.DownDwIdeal Cert.DownDwIdeal.Gen Cert.DownDwIdeal.Value
open Cert.DownDwRefIdeal.Read (val_main_cst val_main_v0 val_main_v1 val_main_v2 val_main_v3 val_main_v4 val_main_v5 val_main_v6)
open Idealize.ShloMosaic Idealize.ShloMosaic.TcCoe Idealize.SL.Sem

variable (m : (ℓ : Loc nD τ sig) → Buf (Elt Ideal) ℓ)

/-- The product the call computes, entry by entry. -/
def prod (a : S4096x3072.Idx → EReal) (b : S4096x1024.Idx → EReal) (i : Fin 3072) (j : Fin 1024) : EReal :=
  ∑ k : Fin 4096, a (ix2 k i) * b (ix2 k j)

/-- The reference's result is that product. -/
theorem ref_apply (a : S4096x3072.Idx → EReal) (b : S4096x1024.Idx → EReal) (i : S3072x1024.Idx) :
    val_main_v6 (F := Ideal) a b i = prod a b (i 0) (i 1) := by
  pointwise [val_main_cst, val_main_v0, val_main_v1, val_main_v2, val_main_v3, val_main_v4, val_main_v5, val_main_v6]
  unfold prod
  refine Finset.sum_congr rfl fun k _ => ?_
  first | rfl | exact mul_comm _ _

theorem pay_apply (v0 : S4096x512.Idx → EReal) (v1 : S4096x1024.Idx → EReal) (y : S1024x512.Idx) :
    k0_pay1 (F := Ideal) v0 v1 y = ∑ k : Fin 4096, v1 (ix2 k (y 0)) * v0 (ix2 k (y 1)) := by
  pointwise [k0_pay1]

theorem e0 : ∀ t : Fin cfg0.N, win0_0.index t = ![0, t.val / 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

/-- Row `r` of the block of point `t`, in the array. -/
abbrev row (t : Fin cfg0.N) (r : Fin 1024) : Fin 3072 :=
  ⟨1024 * (t.val / 2) + r.val, by have := lt_of_lt_of_eq t.isLt (show cfg0.N = 6 from N_0); have := r.isLt; omega⟩
/-- Column `r` of the block of point `t`, in the array. -/
abbrev col (t : Fin cfg0.N) (r : Fin 512) : Fin 1024 :=
  ⟨512 * (t.val % 2) + r.val, by have := r.isLt; omega⟩

theorem blk0_apply (c : Dev nD) (t : Fin cfg0.N) (y : S4096x1024.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x512.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S3072x1024.Idx → EReal :=
  val_main_v6 (F := Ideal) (m ((c : Thread nD τ).loc main_arg0)) (m ((c : Thread nD τ).loc main_arg1))

/-- One block of the result. -/
theorem point (c : Dev nD) (t : Fin cfg0.N) (y : S1024x512.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_DownDwIdeal_DownDwRefIdeal := by
  intro m g m' g' _ hagree
  refine ⟨want m, (θ_run _ _ _).mono (fun r h c => ?_) (run_blocks m g), (θ_run Cert.DownDwRefIdeal.defs _ _).mono (fun r h c => ?_) (Cert.DownDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.DownDwIdeal.Hand

end
-- ==== Proof.UpDwClaim.lean ====
/- The gradient of one of the feed-forward's up projections, by blocks of columns: the call's result at an index, and its claim. -/
module

public import proofs.«01_k».proof.Defs
public import proofs.«01_k».proof.Proof.Gen.UpDwIdeal.Value
public import proofs.«01_k».proof.Proof.Gen.UpDwRefIdeal.Read
public import Idealize.ShloMosaic.Lib.Pipeline.ValueKit
public import Idealize.ShloMosaic.Lib.Pointwise

@[expose] public section

noncomputable section

namespace Cert.UpDwIdeal.Hand

open Cert.UpDwIdeal Cert.UpDwIdeal.Gen Cert.UpDwIdeal.Value
open Cert.UpDwRefIdeal.Read (val_main_cst val_main_v0 val_main_v1 val_main_v2 val_main_v3 val_main_v4 val_main_v5 val_main_v6 val_main_v7 val_main_v8)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S4096x3072.Idx → EReal) (i : Fin 1024) (j : Fin 3072) : EReal :=
  ∑ k : Fin 4096, a (ix2 k i) * b (ix2 k j)

/-- The reference's result is that product, by blocks of 384 columns. -/
theorem ref_apply (a : S4096x1024.Idx → EReal) (b : S4096x3072.Idx → EReal) (i : S8x1024x384.Idx) :
    val_main_v8 (F := Ideal) a b i = prod a b (i 1) ⟨384 * (i 0).val + (i 2).val, by have h0 : (i 0).val < 8 := (i 0).isLt; have h2 : (i 2).val < 384 := (i 2).isLt; omega⟩ := by
  have h0 : (i 0).val < 8 := (i 0).isLt
  have h1 : (i 1).val < 1024 := (i 1).isLt
  have h2 : (i 2).val < 384 := (i 2).isLt
  pointwise [val_main_cst, val_main_v0, val_main_v1, val_main_v2, val_main_v3, val_main_v4, val_main_v5, val_main_v6, val_main_v7, val_main_v8]
  unfold prod
  refine Finset.sum_congr rfl fun k _ => ?_
  refine (mul_comm _ _).trans (congrArg₂ _ (congrArg _ ?_) (congrArg _ ?_))
  all_goals
    refine congrArg _ (Fin.ext ?_)
    first
      | rfl
      | (dsimp only
         omega)

theorem out_apply (x0 : S4096x1024.Idx → EReal) (x1 : S4096x768.Idx → EReal) (y : S2x1024x384.Idx) :
    (out0_2 (F := Ideal) x0 x1 y : EReal) = ∑ k : Fin 4096, x0 (ix2 k (y 1)) * x1 (ix2 k ⟨384 * (y 0).val + (y 2).val, by have h0 : (y 0).val < 2 := (y 0).isLt; have h2 : (y 2).val < 384 := (y 2).isLt; omega⟩) := by
  unfold out0_2
  refine View.canon_apply_of_pieces (Val := Elt Ideal) (fun y : S2x1024x384.Idx => (∑ k : Fin 4096, x0 (ix2 k (y 1)) * x1 (ix2 k ⟨384 * (y 0).val + (y 2).val, by have h0 : (y 0).val < 2 := (y 0).isLt; have h2 : (y 2).val < 384 := (y 2).isLt; omega⟩) : EReal)) _ ?_ y (cover0_2 _ _ y)
  intro p hp x
  simp only [List.mem_cons, List.not_mem_nil, or_false] at hp
  rcases hp with rfl|rfl
  · have h0 : (x 0).val < 1 := (x 0).isLt
    pointwise [k0_pay1, k0_pay2, k0_pay3]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 384 + (x 2).val = 384 * (1 + 1 * (x 0).val) + (0 + 1 * (x 2).val)
      omega
  · have h0 : (x 0).val < 1 := (x 0).isLt
    pointwise [k0_pay1, k0_pay2, k0_pay3]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show (x 2).val = 384 * (0 + 1 * (x 0).val) + (0 + 1 * (x 2).val)
      omega

theorem e0 : ∀ t : Fin cfg0.N, win0_0.index t = ![0, t.val / 4] := (by decide +kernel : ∀ t : Fin grid0.N, _)
theorem e1 : ∀ t : Fin cfg0.N, win0_1.index t = ![0, t.val % 4] := (by decide +kernel : ∀ t : Fin grid0.N, _)
theorem e2 : ∀ t : Fin cfg0.N, win0_2.index t = ![t.val % 4, t.val / 4, 0] := (by decide +kernel : ∀ t : Fin grid0.N, _)

/-- Row `r` of the block of point `t`, in the array. -/
abbrev row (t : Fin cfg0.N) (r : Fin 1024) : Fin 1024 :=
  ⟨1024 * (t.val / 4) + r.val, by have := lt_of_lt_of_eq t.isLt (show cfg0.N = 4 from N_0); have := r.isLt; omega⟩
/-- Column `r` of the block of point `t`, in the array. -/
abbrev col (t : Fin cfg0.N) (r : Fin 768) : Fin 3072 :=
  ⟨768 * (t.val % 4) + r.val, by have := r.isLt; omega⟩
/-- Block `r` of point `t`, among the eight. -/
abbrev mem (t : Fin cfg0.N) (r : Fin 2) : Fin 8 :=
  ⟨2 * (t.val % 4) + r.val, by have := r.isLt; omega⟩

theorem blk0_apply (c : Dev nD) (t : Fin cfg0.N) (y : S4096x1024.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x768.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S8x1024x384.Idx → EReal :=
  val_main_v8 (F := Ideal) (m ((c : Thread nD τ).loc main_arg0)) (m ((c : Thread nD τ).loc main_arg1))

/-- One block of the result. -/
theorem point (c : Dev nD) (t : Fin cfg0.N) (y : S2x1024x384.Idx) :
    (out0_2 (F := Ideal) (iblk m c 0 t) (iblk m c 1 t) y : EReal) = want m c (ix3 (mem t (y 0)) (row t (y 1)) (y 2)) := by
  rw [out_apply]
  unfold want
  rw [ref_apply]
  unfold prod
  refine Finset.sum_congr rfl fun k _ => ?_
  rw [blk0_apply, blk1_apply]
  refine congrArg₂ _ rfl (congrArg _ (congrArg (ix2 k) (Fin.ext ?_)))
  show 768 * (t.val % 4) + (384 * (y 0).val + (y 2).val) = 384 * (2 * (t.val % 4) + (y 0).val) + (y 2).val
  omega

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (mem t (y 0)) (row t (y 1)) (y 2) by blk_ext [e2]]
  exact point m c t y

theorem algebraic : Cert.algebraic_UpDwIdeal_UpDwRefIdeal := by
  intro m g m' g' _ hagree
  refine ⟨want m, (θ_run _ _ _).mono (fun r h c => ?_) (run_blocks m g), (θ_run Cert.UpDwRefIdeal.defs _ _).mono (fun r h c => ?_) (Cert.UpDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.UpDwIdeal.Hand

end
-- ==== Proof.InDwClaim.lean ====
/- The gradient of the input projection, at an index, and its claim. -/
module

public import proofs.«01_k».proof.Defs
public import proofs.«01_k».proof.Proof.Gen.InDwIdeal.Value
public import proofs.«01_k».proof.Proof.Gen.InDwRefIdeal.Read
public import Idealize.ShloMosaic.Lib.Pipeline.ValueKit
public import Idealize.ShloMosaic.Lib.Pointwise

@[expose] public section

noncomputable section

namespace Cert.InDwIdeal.Hand

open Cert.InDwIdeal Cert.InDwIdeal.Gen Cert.InDwIdeal.Value
open Cert.InDwRefIdeal.Read (val_main_cst val_main_v0 val_main_v1 val_main_v2 val_main_v3 val_main_v4 val_main_v5 val_main_v6)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S4096x5376.Idx → EReal) (i : Fin 1024) (j : Fin 5376) : EReal :=
  ∑ k : Fin 4096, a (ix2 k i) * b (ix2 k j)

/-- The reference's result is that product. -/
theorem ref_apply (a : S4096x1024.Idx → EReal) (b : S4096x5376.Idx → EReal) (i : S1024x5376.Idx) :
    val_main_v6 (F := Ideal) a b i = prod a b (i 0) (i 1) := by
  pointwise [val_main_cst, val_main_v0, val_main_v1, val_main_v2, val_main_v3, val_main_v4, val_main_v5, val_main_v6]
  unfold prod
  refine Finset.sum_congr rfl fun k _ => ?_
  first | rfl | exact mul_comm _ _

theorem pay_apply (v0 : S4096x768.Idx → EReal) (v1 : S4096x1024.Idx → EReal) (y : S1024x768.Idx) :
    k0_pay1 (F := Ideal) v0 v1 y = ∑ k : Fin 4096, v1 (ix2 k (y 0)) * v0 (ix2 k (y 1)) := by
  pointwise [k0_pay1]

theorem e0 : ∀ t : Fin cfg0.N, win0_0.index t = ![0, t.val / 7] := (by decide +kernel : ∀ t : Fin grid0.N, _)
theorem e1 : ∀ t : Fin cfg0.N, win0_1.index t = ![0, t.val % 7] := (by decide +kernel : ∀ t : Fin grid0.N, _)
theorem e2 : ∀ t : Fin cfg0.N, win0_2.index t = ![t.val / 7, t.val % 7] := (by decide +kernel : ∀ t : Fin grid0.N, _)

/-- Row `r` of the block of point `t`, in the array. -/
abbrev row (t : Fin cfg0.N) (r : Fin 1024) : Fin 1024 :=
  ⟨1024 * (t.val / 7) + r.val, by have := lt_of_lt_of_eq t.isLt (show cfg0.N = 7 from N_0); have := r.isLt; omega⟩
/-- Column `r` of the block of point `t`, in the array. -/
abbrev col (t : Fin cfg0.N) (r : Fin 768) : Fin 5376 :=
  ⟨768 * (t.val % 7) + r.val, by have := r.isLt; omega⟩

theorem blk0_apply (c : Dev nD) (t : Fin cfg0.N) (y : S4096x1024.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x768.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S1024x5376.Idx → EReal :=
  val_main_v6 (F := Ideal) (m ((c : Thread nD τ).loc main_arg0)) (m ((c : Thread nD τ).loc main_arg1))

/-- One block of the result. -/
theorem point (c : Dev nD) (t : Fin cfg0.N) (y : S1024x768.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_InDwIdeal_InDwRefIdeal := by
  intro m g m' g' _ hagree
  refine ⟨want m, (θ_run _ _ _).mono (fun r h c => ?_) (run_blocks m g), (θ_run Cert.InDwRefIdeal.defs _ _).mono (fun r h c => ?_) (Cert.InDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.InDwIdeal.Hand

end
-- ==== Proof.InDxClaim.lean ====
/- The input projection's gradient at its argument, at an index, and its claim. -/
module

public import proofs.«01_k».proof.Defs
public import proofs.«01_k».proof.Proof.Gen.InDxIdeal.Value
public import proofs.«01_k».proof.Proof.Gen.InDxRefIdeal.Read
public import Idealize.ShloMosaic.Lib.Pipeline.ValueKit
public import Idealize.ShloMosaic.Lib.Pointwise

@[expose] public section

noncomputable section

namespace Cert.InDxIdeal.Hand

open Cert.InDxIdeal Cert.InDxIdeal.Gen Cert.InDxIdeal.Value
open Cert.InDxRefIdeal.Read (val_main_cst val_main_v0 val_main_v1 val_main_v2 val_main_v3 val_main_v4)
open Idealize.ShloMosaic Idealize.ShloMosaic.TcCoe Idealize.SL.Sem

variable (m : (ℓ : Loc nD τ sig) → Buf (Elt Ideal) ℓ)

/-- The product the call computes, entry by entry. -/
def prod (a : S4096x5376.Idx → EReal) (b : S1024x5376.Idx → EReal) (i : Fin 4096) (j : Fin 1024) : EReal :=
  ∑ k : Fin 5376, a (ix2 i k) * b (ix2 j k)

/-- The reference's result is that product. -/
theorem ref_apply (a : S4096x5376.Idx → EReal) (b : S1024x5376.Idx → EReal) (i : S4096x1024.Idx) :
    val_main_v4 (F := Ideal) a b i = prod a b (i 0) (i 1) := by
  pointwise [val_main_cst, val_main_v0, val_main_v1, val_main_v2, val_main_v3, val_main_v4]
  unfold prod
  refine Finset.sum_congr rfl fun k _ => ?_
  first | rfl | exact mul_comm _ _

theorem pay_apply (v0 : S512x5376.Idx → EReal) (v1 : S512x5376.Idx → EReal) (y : S512x512.Idx) :
    k0_pay1 (F := Ideal) v0 v1 y = ∑ k : Fin 5376, v1 (ix2 (y 0) k) * v0 (ix2 (y 1) k) := by
  pointwise [k0_pay1]

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)

/-- Row `r` of the block of point `t`, in the array. -/
abbrev row (t : Fin cfg0.N) (r : Fin 512) : Fin 4096 :=
  ⟨512 * (t.val / 2) + r.val, by have := lt_of_lt_of_eq t.isLt (show cfg0.N = 16 from N_0); have := r.isLt; omega⟩
/-- Column `r` of the block of point `t`, in the array. -/
abbrev col (t : Fin cfg0.N) (r : Fin 512) : Fin 1024 :=
  ⟨512 * (t.val % 2) + r.val, by have := r.isLt; omega⟩

theorem blk0_apply (c : Dev nD) (t : Fin cfg0.N) (y : S512x5376.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S512x5376.Idx) :
    iblk m c 1 t y = m ((c : Thread nD τ).loc main_arg1) (ix2 (col t (y 0)) (y 1)) := by
  blk_simp [iblk]
  rw [V_main_arg1]
  refine congrArg _ ?_
  blk_ext [e1]

/-- The reference's result over this launch's arguments. -/
abbrev want (c : Dev nD) : S4096x1024.Idx → EReal :=
  val_main_v4 (F := Ideal) (m ((c : Thread nD τ).loc main_arg0)) (m ((c : Thread nD τ).loc main_arg1))

/-- One block of the result. -/
theorem point (c : Dev nD) (t : Fin cfg0.N) (y : S512x512.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_InDxIdeal_InDxRefIdeal := by
  intro m g m' g' _ hagree
  refine ⟨want m, (θ_run _ _ _).mono (fun r h c => ?_) (run_blocks m g), (θ_run Cert.InDxRefIdeal.defs _ _).mono (fun r h c => ?_) (Cert.InDxRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.InDxIdeal.Hand

end
-- ==== Proof.UpDxClaim.lean ====
/- The gradient of the feed-forward's up projections at their argument: at an index, and its claim. -/
module

public import proofs.«01_k».proof.Defs
public import proofs.«01_k».proof.Proof.Gen.UpDxIdeal.Value
public import proofs.«01_k».proof.Proof.Gen.UpDxRefIdeal.Read
public import Idealize.ShloMosaic.Lib.Pipeline.ValueKit
public import Idealize.ShloMosaic.Lib.Pointwise
public import Idealize.ShloMosaic.Lib.StableHlo.ReadAt

@[expose] public section

noncomputable section

namespace Cert.UpDxIdeal.Hand

open Cert.UpDxIdeal Cert.UpDxIdeal.Gen Cert.UpDxIdeal.Value
open Cert.UpDxRefIdeal.Read (val_main_cst val_main_v0 val_main_v1 val_main_v2 val_main_v3 val_main_v4 val_main_v5 val_main_v6 val_main_v7 val_main_v8 val_main_v9)
open Idealize.ShloMosaic Idealize.ShloMosaic.TcCoe Idealize.SL.Sem

variable (m : (ℓ : Loc nD τ sig) → Buf (Elt Ideal) ℓ)

/-- A weight, by its eight blocks of columns. -/
def byBlocks (w : FVec Ideal S1024x3072 .bf16) : FVec Ideal S8x1024x384 .bf16 :=
  transpose S8x1024x384 [1, 0, 2] (shapeCast S1024x8x384 w shapeCasts_S1024x3072_S1024x8x384) transposes_S1024x8x384_S8x1024x384_1_0_2

theorem byBlocks_apply (w : S1024x3072.Idx → EReal) (i : S8x1024x384.Idx) :
    (byBlocks w i : EReal) = w (ix2 (i 1) ⟨384 * (i 0).val + (i 2).val, by have h0 : (i 0).val < 8 := (i 0).isLt; have h2 : (i 2).val < 384 := (i 2).isLt; omega⟩) := by
  have h0 : (i 0).val < 8 := (i 0).isLt
  have h1 : (i 1).val < 1024 := (i 1).isLt
  have h2 : (i 2).val < 384 := (i 2).isLt
  pointwise [byBlocks]
  first
    | rfl
    | (refine congrArg w ?_
       blk_ext [])

theorem v1_eq (c : Dev nD) : V m c main_v1 = byBlocks (m ((c : Thread nD τ).loc main_arg2)) := by
  unfold V
  after_reads_simp
  all_goals try simp -implicitDefEqProofs only [StableHlo.TRef.toBuf, StableHlo.TRef.ofBuf, cast_cast, cast_eq]
  rfl

theorem v3_eq (c : Dev nD) : V m c main_v3 = byBlocks (m ((c : Thread nD τ).loc main_arg3)) := by
  unfold V
  after_reads_simp
  all_goals try simp -implicitDefEqProofs only [StableHlo.TRef.toBuf, StableHlo.TRef.ofBuf, cast_cast, cast_eq]
  rfl

/-- The eight blocks of a weight's columns, laid side by side. -/
theorem pay2_eq (A : S8x256x384.Idx → EReal) :
    k0_pay2 (F := Ideal) (View.ld A r0_0) (View.ld A r0_1) (View.ld A r0_2) (View.ld A r0_3) (View.ld A r0_4) (View.ld A r0_5) (View.ld A r0_6) (View.ld A r0_7) = fun j : S256x3072.Idx => (A (ix3 ⟨(j 1).val / 384, by have h : (j 1).val < 3072 := (j 1).isLt; omega⟩ (j 0) ⟨(j 1).val % 384, Nat.mod_lt _ (by decide)⟩) : EReal) := by
  funext j
  have h1 : (j 1).val < 3072 := (j 1).isLt
  pointwise [k0_pay2]
  split_ifs
  all_goals
    refine congrArg A ?_
    blk_ext []

theorem pay1_eq (b0 b1 b2 b3 b4 b5 b6 b7 : FVec Ideal S1x256x384 .bf16) (w : FVec Ideal S256x3072 .bf16) (x0 x1 : FVec Ideal S1024x3072 .bf16) :
    k0_pay1 w (k0_pay3 b0) (k0_pay4 b1) (k0_pay5 b2) b3 b4 b5 b6 b7 x0 x1
      = addf (matmul dot_S1024x3072_S256x3072_S1024x256_1_1_0_0_n_n none x0 w (constant S1024x256 .f32 0x00000000#32))
        (matmul dot_S1024x3072_S256x3072_S1024x256_1_1_0_0_n_n none x1 (k0_pay2 b0 b1 b2 b3 b4 b5 b6 b7) (constant S1024x256 .f32 0x00000000#32)) := rfl

/-- Two products of rows with rows, added. -/
theorem two_apply (x0 x1 : S1024x3072.Idx → EReal) (w u : S256x3072.Idx → EReal) (y : S1024x256.Idx) :
    (addf (F := Ideal) (s := S1024x256) (φ := .f32) (matmul (F := Ideal) (φ₁ := .bf16) (φ₂ := .bf16) dot_S1024x3072_S256x3072_S1024x256_1_1_0_0_n_n none x0 w (constant S1024x256 .f32 0x00000000#32))
        (matmul (F := Ideal) (φ₁ := .bf16) (φ₂ := .bf16) dot_S1024x3072_S256x3072_S1024x256_1_1_0_0_n_n none x1 u (constant S1024x256 .f32 0x00000000#32)) y : EReal)
      = (∑ k : Fin 3072, x0 (ix2 (y 0) k) * w (ix2 (y 1) k)) + ∑ k : Fin 3072, x1 (ix2 (y 0) k) * u (ix2 (y 1) k) := by
  pointwise []

theorem e0 : ∀ t : Fin cfg0.N, win0_0.index t = ![t.val / 4, 0] := (by decide +kernel : ∀ t : Fin grid0.N, _)
theorem e1 : ∀ t : Fin cfg0.N, win0_1.index t = ![t.val / 4, 0] := (by decide +kernel : ∀ t : Fin grid0.N, _)
theorem e2 : ∀ t : Fin cfg0.N, win0_2.index t = ![0, t.val % 4, 0] := (by decide +kernel : ∀ t : Fin grid0.N, _)
theorem e3 : ∀ t : Fin cfg0.N, win0_3.index t = ![0, t.val % 4, 0] := (by decide +kernel : ∀ t : Fin grid0.N, _)
theorem e4 : ∀ t : Fin cfg0.N, win0_4.index t = ![t.val / 4, t.val % 4] := (by decide +kernel : ∀ t : Fin grid0.N, _)

/-- Row `r` of the block of point `t`, in the array. -/
abbrev row (t : Fin cfg0.N) (r : Fin 1024) : Fin 4096 :=
  ⟨1024 * (t.val / 4) + r.val, by have := lt_of_lt_of_eq t.isLt (show cfg0.N = 16 from N_0); have := r.isLt; omega⟩
/-- Column `r` of the block of point `t`, in the array. -/
abbrev col (t : Fin cfg0.N) (r : Fin 256) : Fin 1024 :=
  ⟨256 * (t.val % 4) + r.val, by have := r.isLt; omega⟩

theorem blk0_apply (c : Dev nD) (t : Fin cfg0.N) (y : S1024x3072.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S1024x3072.Idx) :
    iblk m c 1 t y = m ((c : Thread nD τ).loc main_arg1) (ix2 (row t (y 0)) (y 1)) := by
  blk_simp [iblk]
  rw [V_main_arg1]
  refine congrArg _ ?_
  blk_ext [e1]

theorem read2 (A : S8x1024x384.Idx → EReal) (t : Fin cfg0.N) (y : S8x256x384.Idx) :
    (win0_2.blk t).view.read (Elt Ideal) A y = A (ix3 (y 0) (col t (y 1)) (y 2)) := by
  blk_simp
  refine congrArg A ?_
  blk_ext [e2]

theorem blk2_apply (c : Dev nD) (t : Fin cfg0.N) (y : S8x256x384.Idx) :
    (iblk m c 2 t y : EReal) = byBlocks (m ((c : Thread nD τ).loc main_arg2)) (ix3 (y 0) (col t (y 1)) (y 2)) :=
  (read2 (V m c main_v1) t y).trans (congrFun (v1_eq m c) _)

theorem read3 (A : S8x1024x384.Idx → EReal) (t : Fin cfg0.N) (y : S8x256x384.Idx) :
    (win0_3.blk t).view.read (Elt Ideal) A y = A (ix3 (y 0) (col t (y 1)) (y 2)) := by
  blk_simp
  refine congrArg A ?_
  blk_ext [e3]

theorem blk3_apply (c : Dev nD) (t : Fin cfg0.N) (y : S8x256x384.Idx) :
    (iblk m c 3 t y : EReal) = byBlocks (m ((c : Thread nD τ).loc main_arg3)) (ix3 (y 0) (col t (y 1)) (y 2)) :=
  (read3 (V m c main_v3) t y).trans (congrFun (v3_eq m c) _)

/-- The reference's result, entry by entry. -/
theorem ref_apply (a b : S4096x3072.Idx → EReal) (w u : S1024x3072.Idx → EReal) (i : S4096x1024.Idx) :
    (val_main_v9 (F := Ideal) a b w u i : EReal) = (∑ k : Fin 3072, a (ix2 (i 0) k) * w (ix2 (i 1) k)) + ∑ k : Fin 3072, b (ix2 (i 0) k) * u (ix2 (i 1) k) := by
  pointwise [val_main_cst, val_main_v0, val_main_v1, val_main_v2, val_main_v3, val_main_v4, val_main_v5, val_main_v6, val_main_v7, val_main_v8, val_main_v9]
  exact add_comm _ _

/-- The reference's result over this launch's arguments. -/
abbrev want (c : Dev nD) : S4096x1024.Idx → EReal := val_main_v9 (F := Ideal) (m ((c : Thread nD τ).loc main_arg0)) (m ((c : Thread nD τ).loc main_arg1)) (m ((c : Thread nD τ).loc main_arg2)) (m ((c : Thread nD τ).loc main_arg3))

theorem blocks_at (c : Dev nD) (t : Fin cfg0.N) (w : S1024x3072.Idx → EReal) (j : Fin 256) (k : Fin 3072) (h : k.val / 384 < 8) :
    (byBlocks w (ix3 ⟨k.val / 384, h⟩ (col t j) ⟨k.val % 384, Nat.mod_lt _ (by decide)⟩) : EReal) = w (ix2 (col t j) k) := by
  rw [byBlocks_apply]
  refine congrArg w (congrArg (ix2 _) (Fin.ext ?_))
  show 384 * (k.val / 384) + k.val % 384 = k.val
  omega

/-- One block of the result. -/
theorem point (c : Dev nD) (t : Fin cfg0.N) (y : S1024x256.Idx) :
    (k0_pay1 (F := Ideal) (k0_pay2 (View.ld (iblk m c 2 t) r0_0) (View.ld (iblk m c 2 t) r0_1) (View.ld (iblk m c 2 t) r0_2) (View.ld (iblk m c 2 t) r0_3) (View.ld (iblk m c 2 t) r0_4) (View.ld (iblk m c 2 t) r0_5) (View.ld (iblk m c 2 t) r0_6) (View.ld (iblk m c 2 t) r0_7)) (k0_pay3 (View.ld (iblk m c 3 t) r0_0)) (k0_pay4 (View.ld (iblk m c 3 t) r0_1)) (k0_pay5 (View.ld (iblk m c 3 t) r0_2)) (View.ld (iblk m c 3 t) r0_3) (View.ld (iblk m c 3 t) r0_4) (View.ld (iblk m c 3 t) r0_5) (View.ld (iblk m c 3 t) r0_6) (View.ld (iblk m c 3 t) r0_7)
      (iblk m c 0 t) (iblk m c 1 t) y : EReal) = want m c (ix2 (row t (y 0)) (col t (y 1))) := by
  rw [pay1_eq]
  refine (two_apply _ _ _ _ y).trans ?_
  refine Eq.trans ?_ (ref_apply _ _ _ _ _).symm
  refine congrArg₂ _ (Finset.sum_congr rfl fun k _ => ?_) (Finset.sum_congr rfl fun k _ => ?_)
  · exact congrArg₂ _ (blk0_apply m c t _) ((congrFun (pay2_eq (iblk m c 2 t)) _).trans ((blk2_apply m c t _).trans (blocks_at c t _ _ k _)))
  · exact congrArg₂ _ (blk1_apply m c t _) ((congrFun (pay2_eq (iblk m c 3 t)) _).trans ((blk3_apply m c t _).trans (blocks_at c t _ _ k _)))

theorem final4 (c : Dev nD) : (dats m 0 c).arrAt 4 cfg0.N = want m c := by
  refine (dats m 0 c).arrAt_eq_of_covers 4 _ (by decide +kernel) fun t hf y => ?_
  blk_simp
  rw [after0_4]
  unfold out0_4
  rw [View.canon_unit_zero (by decide), View.ld_unit_zero (by decide), View.ld_unit_zero (by decide)]
  rw [show (win0_4.blk t).view.emb y = ix2 (row t (y 0)) (col t (y 1)) by blk_ext [e4]]
  exact point m c t y

theorem algebraic : Cert.algebraic_UpDxIdeal_UpDxRefIdeal := by
  intro m g m' g' _ hagree
  refine ⟨want m, (θ_run _ _ _).mono (fun r h c => ?_) (run_blocks m g), (θ_run Cert.UpDxRefIdeal.defs _ _).mono (fun r h c => ?_) (Cert.UpDxRefIdeal.Value.run (F := Ideal) m' g')⟩
  · obtain ⟨h0, h1⟩ := h c
    exact ⟨h0.trans (final4 m c), h1⟩
  · obtain ⟨h0, h1⟩ := h c
    obtain ⟨a0, a1, a2, a3⟩ := hagree c
    refine ⟨?_, h1⟩
    rw [h0, a0, a1, a2, a3]
    rfl

end Cert.UpDxIdeal.Hand

end
-- ==== Proof.GateReal.lean ====
/- The gate's gradient: the factored form and the product rule agree where the incoming gradient is a real number. -/
module

public import Idealize.ShloMosaic.Lib.Pointwise

@[expose] public section

noncomputable section

namespace Cert.Gate

open Idealize.ShloMosaic

/-- The sigmoid. -/
def sig (g : EReal) : EReal := Ideal.div 1 (1 + Ideal.exp (-g))

theorem sig_top : sig ⊤ = 1 := by
  unfold sig
  rw [EReal.neg_top, Ideal.exp_bot, add_zero]
  rw [show (1 : EReal) = ((1 : ℝ) : EReal) from EReal.coe_one.symm, Ideal.div_coe one_ne_zero, div_one, ← EReal.coe_mul, one_mul]

theorem sig_bot : sig ⊥ = 0 := by
  unfold sig
  rw [EReal.neg_bot, Ideal.exp_top, show (1 : EReal) = ((1 : ℝ) : EReal) from EReal.coe_one.symm, EReal.coe_add_top]
  simp [Ideal.div]

theorem sig_coe (r : ℝ) : sig (r : EReal) = ((1 / (1 + Real.exp (-r)) : ℝ) : EReal) := by
  have h : (1 + Real.exp (-r)) ≠ 0 := (add_pos one_pos (Real.exp_pos _)).ne'
  unfold sig
  rw [← EReal.coe_neg, Ideal.exp_coe, show (1 : EReal) = ((1 : ℝ) : EReal) from EReal.coe_one.symm, ← EReal.coe_add, Ideal.div_coe h, ← EReal.coe_mul, one_mul]

/-- The gradient of the gated product at its gate. -/
theorem gate_eq (d g : EReal) (hd : ∃ r : ℝ, d = (r : EReal)) :
    d * (sig g * (1 + g * (1 - sig g))) = d * sig g + g * d * (sig g * (1 - sig g)) := by
  obtain ⟨r, rfl⟩ := hd
  induction g using EReal.rec with
  | bot => rw [sig_bot]; simp
  | top =>
    have h : (1 : EReal) - 1 = 0 := by rw [← EReal.coe_one, ← EReal.coe_sub, sub_self, EReal.coe_zero]
    rw [sig_top, h]; simp
  | coe x =>
    rw [sig_coe, show (1 : EReal) = ((1 : ℝ) : EReal) from EReal.coe_one.symm]
    simp only [← EReal.coe_sub, ← EReal.coe_mul, ← EReal.coe_add]
    exact congrArg _ (by ring)

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem sum_real {n : Nat} (f : Fin n → EReal) (h : ∀ k, ∃ r : ℝ, f k = (r : EReal)) : ∃ r : ℝ, ∑ k, f k = (r : EReal) := by
  classical
  suffices H : ∀ s : Finset (Fin n), ∃ r : ℝ, ∑ k ∈ s, f k = (r : EReal) from H Finset.univ
  intro s
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- A number whose absolute value is less than infinity is real. -/
theorem real_of_abs (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

theorem infinity : Ideal.ofBits FTy.f32 0x7F800000#32 = ⊤ := by
  simp [Ideal.ofBits, Ideal.ieee]

/-- The comparison's bit says that the number is real. -/
theorem real_of_bit (x : EReal) (e : BitVec.ofBool (decide (FloatOps.absf (F := Ideal) (φ := .f32) x < Ideal.ofBits FTy.f32 0x7F800000#32)) = 1#1) :
    ∃ r : ℝ, x = (r : EReal) := by
  rw [infinity] at e
  refine real_of_abs x ?_
  by_contra hn
  have hd : decide (FloatOps.absf (F := Ideal) (φ := .f32) x < ⊤) = false := decide_eq_false hn
  rw [hd] at e
  exact absurd e (by decide)

end Cert.Gate

end
-- ==== Proof.DownBwdClaim.lean ====
/- The gradients of the feed-forward's gate and up arrays: at an index, and its claim. -/
module

public import proofs.«01_k».proof.Defs
public import proofs.«01_k».proof.Proof.Gen.DownBwdIdeal.Value
public import proofs.«01_k».proof.Proof.Gen.DownBwdRefIdeal.Read
public import Idealize.ShloMosaic.Lib.Pipeline.ValueKit
public import Idealize.ShloMosaic.Lib.Pointwise
public import proofs.«01_k».proof.Proof.Gen.Pre_ffn_down_finite
public import proofs.«01_k».proof.Proof.GateReal
public import Idealize.ShloMosaic.Lib.ReduceAll

@[expose] public section

noncomputable section

namespace Cert.DownBwdIdeal.Hand

open Cert.DownBwdIdeal Cert.DownBwdIdeal.Gen Cert.DownBwdIdeal.Value
open Cert.DownBwdRefIdeal.Read (val_main_v0 val_main_v1 val_main_call0_v0 val_main_call0_v1 val_main_call0_cst val_main_call0_v2 val_main_call0_v3 val_main_call0_cst_0 val_main_call0_v4 val_main_v2_2 val_main_call0_cst_1 val_main_call0_v6 val_main_call0_v7 val_main_v2_1 val_main_v2_0 val_main_v3 val_main_v4 val_main_v5 val_main_v6 val_main_v7 val_main_v8 val_main_v9 val_main_call1_v0 val_main_call1_v1 val_main_call1_v2 val_main_v10 val_main_v11 val_main_v12)
open Idealize.ShloMosaic Idealize.ShloMosaic.TcCoe Idealize.SL.Sem

variable (m : (ℓ : Loc nD τ sig) → Buf (Elt Ideal) ℓ)

/-- The gradient of the activation over one block, at an index. -/
theorem pay1_apply (x w : S1024x1024.Idx → EReal) (y : S1024x1024.Idx) :
    (k0_pay1 (F := Ideal) x w y : EReal) = ∑ k : Fin 1024, x (ix2 (y 0) k) * w (ix2 (y 1) k) := by
  pointwise [k0_pay1]

/-- The gradient of the gate, over that of the activation. -/
theorem pay4_apply (x w g u : S1024x1024.Idx → EReal) (y : S1024x1024.Idx) (d : EReal) (h : (k0_pay1 (F := Ideal) x w y : EReal) = d) :
    (k0_pay4 (F := Ideal) x w g u y : EReal) = d * u y * (Cert.Gate.sig (g y) * (1 + g y * (1 - Cert.Gate.sig (g y)))) := by
  subst h
  pointwise [k0_pay4, k0_pay3, k0_pay2]
  unfold Cert.Gate.sig
  simp only [zero_sub]

/-- The gradient of the up array, over that of the activation. -/
theorem pay5_apply (x w g : S1024x1024.Idx → EReal) (y : S1024x1024.Idx) (d : EReal) (h : (k0_pay1 (F := Ideal) x w y : EReal) = d) :
    (k0_pay5 (F := Ideal) x w g y : EReal) = d * g y * Cert.Gate.sig (g y) := by
  subst h
  pointwise [k0_pay5, k0_pay3, k0_pay2]
  unfold Cert.Gate.sig
  simp only [zero_sub]

theorem e0 : ∀ t : Fin cfg0.N, win0_0.index t = ![t.val / 3, 0] := (by decide +kernel : ∀ t : Fin grid0.N, _)
theorem e1 : ∀ t : Fin cfg0.N, win0_1.index t = ![t.val % 3, 0] := (by decide +kernel : ∀ t : Fin grid0.N, _)
theorem e2 : ∀ t : Fin cfg0.N, win0_2.index t = ![t.val / 3, t.val % 3] := (by decide +kernel : ∀ t : Fin grid0.N, _)
theorem e3 : ∀ t : Fin cfg0.N, win0_3.index t = ![t.val / 3, t.val % 3] := (by decide +kernel : ∀ t : Fin grid0.N, _)
theorem e4 : ∀ t : Fin cfg0.N, win0_4.index t = ![t.val / 3, t.val % 3] := (by decide +kernel : ∀ t : Fin grid0.N, _)
theorem e5 : ∀ t : Fin cfg0.N, win0_5.index t = ![t.val / 3, t.val % 3] := (by decide +kernel : ∀ t : Fin grid0.N, _)

/-- Row `r` of the block of point `t`, in the array. -/
abbrev row (t : Fin cfg0.N) (r : Fin 1024) : Fin 4096 :=
  ⟨1024 * (t.val / 3) + r.val, by have := lt_of_lt_of_eq t.isLt (show cfg0.N = 12 from N_0); have := r.isLt; omega⟩
/-- Column `r` of the block of point `t`, in the array. -/
abbrev col (t : Fin cfg0.N) (r : Fin 1024) : Fin 3072 :=
  ⟨1024 * (t.val % 3) + r.val, by have := r.isLt; omega⟩

theorem blk0_apply (c : Dev nD) (t : Fin cfg0.N) (y : S1024x1024.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S1024x1024.Idx) :
    iblk m c 1 t y = m ((c : Thread nD τ).loc main_arg1) (ix2 (col t (y 0)) (y 1)) := by
  blk_simp [iblk]
  rw [V_main_arg1]
  refine congrArg _ ?_
  blk_ext [e1]

theorem blk2_apply (c : Dev nD) (t : Fin cfg0.N) (y : S1024x1024.Idx) :
    iblk m c 2 t y = m ((c : Thread nD τ).loc main_arg2) (ix2 (row t (y 0)) (col t (y 1))) := by
  blk_simp [iblk]
  rw [V_main_arg2]
  refine congrArg _ ?_
  blk_ext [e2]

theorem blk3_apply (c : Dev nD) (t : Fin cfg0.N) (y : S1024x1024.Idx) :
    iblk m c 3 t y = m ((c : Thread nD τ).loc main_arg3) (ix2 (row t (y 0)) (col t (y 1))) := by
  blk_simp [iblk]
  rw [V_main_arg3]
  refine congrArg _ ?_
  blk_ext [e3]

/-- The reference's gradient of the activation, entry by entry. -/
theorem ref_act (x : S4096x1024.Idx → EReal) (w : S3072x1024.Idx → EReal) (i : S4096x3072.Idx) :
    (val_main_v7 (F := Ideal) x w i : EReal) = ∑ k : Fin 1024, x (ix2 (i 0) k) * w (ix2 (i 1) k) := by
  pointwise [val_main_v4, val_main_v6, val_main_v7]

theorem ref_gate (x : S4096x1024.Idx → EReal) (w : S3072x1024.Idx → EReal) (g u : S4096x3072.Idx → EReal) (i : S4096x3072.Idx) :
    (val_main_v11 (F := Ideal) x w g u i : EReal)
      = val_main_v7 (F := Ideal) x w i * u i * Cert.Gate.sig (g i) + g i * (val_main_v7 (F := Ideal) x w i * u i) * (Cert.Gate.sig (g i) * (1 - Cert.Gate.sig (g i))) := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v8, val_main_v9, val_main_call1_v0, val_main_call1_v1, val_main_call1_v2, val_main_v10, val_main_v11, val_main_v12]
  unfold Cert.Gate.sig
  rfl

theorem ref_up (x : S4096x1024.Idx → EReal) (w : S3072x1024.Idx → EReal) (g : S4096x3072.Idx → EReal) (i : S4096x3072.Idx) :
    (val_main_v12 (F := Ideal) x w g i : EReal) = g i * Cert.Gate.sig (g i) * val_main_v7 (F := Ideal) x w i := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v8, val_main_v9, val_main_call1_v0, val_main_call1_v1, val_main_call1_v2, val_main_v10, val_main_v11, val_main_v12]
  unfold Cert.Gate.sig
  rfl

/-- The reference's two results over this launch's arguments. -/
abbrev want0 (c : Dev nD) : S4096x3072.Idx → EReal := val_main_v11 (F := Ideal) (m ((c : Thread nD τ).loc main_arg0)) (m ((c : Thread nD τ).loc main_arg1)) (m ((c : Thread nD τ).loc main_arg2)) (m ((c : Thread nD τ).loc main_arg3))
abbrev want1 (c : Dev nD) : S4096x3072.Idx → EReal := val_main_v12 (F := Ideal) (m ((c : Thread nD τ).loc main_arg0)) (m ((c : Thread nD τ).loc main_arg1)) (m ((c : Thread nD τ).loc main_arg2))

theorem act_point (c : Dev nD) (t : Fin cfg0.N) (y : S1024x1024.Idx) :
    (k0_pay1 (F := Ideal) (iblk m c 0 t) (iblk m c 1 t) y : EReal) = val_main_v7 (F := Ideal) (m ((c : Thread nD τ).loc main_arg0)) (m ((c : Thread nD τ).loc main_arg1)) (ix2 (row t (y 0)) (col t (y 1))) := by
  refine (pay1_apply _ _ y).trans (Eq.trans ?_ (ref_act _ _ _).symm)
  exact Finset.sum_congr rfl fun k _ => congrArg₂ _ (blk0_apply m c t _) (blk1_apply m c t _)

/-- The precondition makes every entry of the three arrays real. -/
theorem real_of_pre (x0 : S4096x1024.Idx → EReal) (x1 : S3072x1024.Idx → EReal) (x2 x3 : S4096x3072.Idx → EReal)
    (h : Cert.Pre_ffn_down_finite.fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h0 := congrFun h (fun a => a.elim0)
  unfold Cert.Pre_ffn_down_finite.fn at h0
  have : Subsingleton Cert.Pre_ffn_down_finite.S_.Idx := ⟨fun a b => funext fun k => k.elim0⟩
  obtain ⟨h0, e3⟩ := IntOp.andi_eq_one.1 h0
  obtain ⟨e0, e1⟩ := IntOp.andi_eq_one.1 h0
  refine ⟨fun i => ?_, fun i => ?_, fun i => ?_⟩
  · have e := Host.reduce_andi_all _ _ _ _ _ e0 i
    clear h h0 e0 e1 e3
    pointwise at e
    exact Cert.Gate.real_of_bit _ e
  · have e := Host.reduce_andi_all _ _ _ _ _ e1 i
    clear h h0 e0 e1 e3
    pointwise at e
    exact Cert.Gate.real_of_bit _ e
  · have e := Host.reduce_andi_all _ _ _ _ _ e3 i
    clear h h0 e0 e1 e3
    pointwise at e
    exact Cert.Gate.real_of_bit _ e

/-- At finite arrays the gradient of the activated gate is a real number. -/
theorem ct_real (x : S4096x1024.Idx → EReal) (w : S3072x1024.Idx → EReal) (u : S4096x3072.Idx → EReal)
    (h0 : ∀ i, ∃ r : ℝ, x i = (r : EReal)) (h1 : ∀ i, ∃ r : ℝ, w i = (r : EReal)) (h3 : ∀ i, ∃ r : ℝ, u i = (r : EReal)) (i : S4096x3072.Idx) :
    ∃ r : ℝ, (val_main_v7 (F := Ideal) x w i * u i : EReal) = (r : EReal) :=
  Cert.Gate.mul_real ((Cert.Gate.sum_real _ fun k => Cert.Gate.mul_real (h0 (ix2 (i 0) k)) (h1 (ix2 (i 1) k))).imp fun r h => (ref_act x w i).trans h) (h3 i)

theorem final4 (c : Dev nD) (hpre : Cert.Pre_DownBwdIdeal_ffn_down_finite m) : (dats m 0 c).arrAt 4 cfg0.N = want0 m c := by
  refine (dats m 0 c).arrAt_eq_of_covers 4 _ (by decide +kernel) fun t hf y => ?_
  blk_simp
  rw [after0_4]
  unfold out0_4
  rw [View.canon_unit_zero (by decide), View.ld_unit_zero (by decide), View.ld_unit_zero (by decide), View.ld_unit_zero (by decide), View.ld_unit_zero (by decide)]
  rw [show (win0_4.blk t).view.emb y = ix2 (row t (y 0)) (col t (y 1)) by blk_ext [e4]]
  obtain ⟨h0, h1, h3⟩ := real_of_pre (m ((c : Thread nD τ).loc main_arg0)) (m ((c : Thread nD τ).loc main_arg1)) (m ((c : Thread nD τ).loc main_arg2)) (m ((c : Thread nD τ).loc main_arg3)) (hpre c)
  refine (pay4_apply _ _ (iblk m c 2 t) (iblk m c 3 t) y _ (act_point m c t y)).trans (Eq.trans ?_ (ref_gate _ _ _ _ _).symm)
  rw [show (iblk m c 2 t y : EReal) = _ from blk2_apply m c t y, show (iblk m c 3 t y : EReal) = _ from blk3_apply m c t y]
  exact Cert.Gate.gate_eq _ _ (ct_real _ _ _ h0 h1 h3 _)

theorem final5 (c : Dev nD) : (dats m 0 c).arrAt 5 cfg0.N = want1 m c := by
  refine (dats m 0 c).arrAt_eq_of_covers 5 _ (by decide +kernel) fun t hf y => ?_
  blk_simp
  rw [after0_5]
  unfold out0_5
  rw [View.canon_unit_zero (by decide), View.ld_unit_zero (by decide), View.ld_unit_zero (by decide), View.ld_unit_zero (by decide)]
  rw [show (win0_5.blk t).view.emb y = ix2 (row t (y 0)) (col t (y 1)) by blk_ext [e5]]
  refine (pay5_apply _ _ (iblk m c 2 t) y _ (act_point m c t y)).trans (Eq.trans ?_ (ref_up _ _ _ _).symm)
  rw [show (iblk m c 2 t y : EReal) = _ from blk2_apply m c t y]
  exact (mul_assoc _ _ _).trans (mul_comm _ _)

theorem algebraic : Cert.algebraic_DownBwdIdeal_DownBwdRefIdeal_pre_ffn_down_finite := by
  intro m g m' g' hpre hagree
  refine ⟨want0 m, want1 m, (θ_run _ _ _).mono (fun r h c => ?_) (run_blocks m g), (θ_run Cert.DownBwdRefIdeal.defs _ _).mono (fun r h c => ?_) (Cert.DownBwdRefIdeal.Value.run (F := Ideal) m' g')⟩
  · obtain ⟨h0, h1, h2⟩ := h c
    exact ⟨h0.trans (final4 m c hpre), h1.trans (final5 m c), h2⟩
  · obtain ⟨h0, h1, h2⟩ := h c
    obtain ⟨a0, a1, a2, a3⟩ := hagree c
    refine ⟨?_, ?_, h2⟩
    · rw [h0, a0, a1, a2, a3]
      rfl
    · rw [h1, a0, a1, a2]
      rfl

end Cert.DownBwdIdeal.Hand

end
-- ==== Proof.InProjClaim.lean ====
/- The input projection, at an index, and its claim. -/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pointwise

@[expose] public section

noncomputable section

namespace Cert.InProjIdeal.Hand

open Cert.InProjIdeal Cert.InProjIdeal.Gen Cert.InProjIdeal.Value
open Cert.InProjRefIdeal.Read (val_main_v0 val_main_v1 val_main_v2 val_main_v3)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S1024x5376.Idx → EReal) (i : Fin 4096) (j : Fin 5376) : EReal :=
  ∑ k : Fin 1024, a (ix2 i k) * b (ix2 k j)

/-- The reference's result is that product. -/
theorem ref_apply (a : S4096x1024.Idx → EReal) (b : S1024x5376.Idx → EReal) (i : S4096x5376.Idx) :
    val_main_v3 (F := Ideal) a b i = prod a b (i 0) (i 1) := by
  pointwise [val_main_v0, val_main_v1, val_main_v2, val_main_v3]
  unfold prod
  refine Finset.sum_congr rfl fun k _ => ?_
  first | rfl | exact mul_comm _ _

theorem pay_apply (v0 : S1024x896.Idx → EReal) (v1 : S2048x1024.Idx → EReal) (y : S2048x896.Idx) :
    k0_pay1 (F := Ideal) v0 v1 y = ∑ k : Fin 1024, v1 (ix2 (y 0) k) * v0 (ix2 k (y 1)) := by
  pointwise [k0_pay1]

theorem e0 : ∀ t : Fin cfg0.N, win0_0.index t = ![t.val / 6, 0] := (by decide +kernel : ∀ t : Fin grid0.N, _)
theorem e1 : ∀ t : Fin cfg0.N, win0_1.index t = ![0, t.val % 6] := (by decide +kernel : ∀ t : Fin grid0.N, _)
theorem e2 : ∀ t : Fin cfg0.N, win0_2.index t = ![t.val / 6, t.val % 6] := (by decide +kernel : ∀ t : Fin grid0.N, _)

/-- Row `r` of the block of point `t`, in the array. -/
abbrev row (t : Fin cfg0.N) (r : Fin 2048) : Fin 4096 :=
  ⟨2048 * (t.val / 6) + r.val, by have := lt_of_lt_of_eq t.isLt (show cfg0.N = 12 from N_0); have := r.isLt; omega⟩
/-- Column `r` of the block of point `t`, in the array. -/
abbrev col (t : Fin cfg0.N) (r : Fin 896) : Fin 5376 :=
  ⟨896 * (t.val % 6) + r.val, by have := r.isLt; omega⟩

theorem blk0_apply (c : Dev nD) (t : Fin cfg0.N) (y : S2048x1024.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S1024x896.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S4096x5376.Idx → EReal :=
  val_main_v3 (F := Ideal) (m ((c : Thread nD τ).loc main_arg0)) (m ((c : Thread nD τ).loc main_arg1))

/-- One block of the result. -/
theorem point (c : Dev nD) (t : Fin cfg0.N) (y : S2048x896.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_InProjIdeal_InProjRefIdeal := by
  intro m g m' g' _ hagree
  refine ⟨want m, (θ_run _ _ _).mono (fun r h c => ?_) (run_blocks m g), (θ_run Cert.InProjRefIdeal.defs _ _).mono (fun r h c => ?_) (Cert.InProjRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.InProjIdeal.Hand

end
-- ==== Proof.FfnUpClaim.lean ====
/- The feed-forward's two up projections and their gated product: at an index, and its claim. -/
module

public import proofs.«01_k».proof.Defs
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pointwise
public import Idealize.ShloMosaic.Lib.StableHlo.ReadAt

@[expose] public section

noncomputable section

namespace Cert.FfnUpIdeal.Hand

open Cert.FfnUpIdeal Cert.FfnUpIdeal.Gen Cert.FfnUpIdeal.Value
open Cert.FfnUpRefIdeal.Read (val_main_v0 val_main_v1 val_main_v2 val_main_v3 val_main_v4 val_main_v5 val_main_v6 val_main_v7 val_main_call0_v0 val_main_call0_v1 val_main_call0_cst val_main_call0_v2 val_main_call0_v3 val_main_call0_cst_0 val_main_call0_v4 val_main_call0_v5 val_main_v8 val_main_v9 val_main_v10)
open Idealize.ShloMosaic Idealize.ShloMosaic.TcCoe Idealize.SL.Sem

variable (m : (ℓ : Loc nD τ sig) → Buf (Elt Ideal) ℓ)

/-- A weight, by its eight blocks of columns. -/
def byBlocks (w : FVec Ideal S1024x3072 .bf16) : FVec Ideal S8x1024x384 .bf16 :=
  transpose S8x1024x384 [1, 0, 2] (shapeCast S1024x8x384 w shapeCasts_S1024x3072_S1024x8x384) transposes_S1024x8x384_S8x1024x384_1_0_2

theorem byBlocks_apply (w : S1024x3072.Idx → EReal) (i : S8x1024x384.Idx) :
    (byBlocks w i : EReal) = w (ix2 (i 1) ⟨384 * (i 0).val + (i 2).val, by have h0 : (i 0).val < 8 := (i 0).isLt; have h2 : (i 2).val < 384 := (i 2).isLt; omega⟩) := by
  have h0 : (i 0).val < 8 := (i 0).isLt
  have h1 : (i 1).val < 1024 := (i 1).isLt
  have h2 : (i 2).val < 384 := (i 2).isLt
  pointwise [byBlocks]
  first
    | rfl
    | (refine congrArg w ?_
       blk_ext [])

theorem v1_eq (c : Dev nD) : V m c main_v1 = byBlocks (m ((c : Thread nD τ).loc main_arg1)) := by
  unfold V
  after_reads_simp
  all_goals try simp -implicitDefEqProofs only [StableHlo.TRef.toBuf, StableHlo.TRef.ofBuf, cast_cast, cast_eq]
  rfl

theorem v3_eq (c : Dev nD) : V m c main_v3 = byBlocks (m ((c : Thread nD τ).loc main_arg2)) := by
  unfold V
  after_reads_simp
  all_goals try simp -implicitDefEqProofs only [StableHlo.TRef.toBuf, StableHlo.TRef.ofBuf, cast_cast, cast_eq]
  rfl

/-- A product with two blocks of columns, entry by entry. -/
theorem pay1_apply (x : S1024x1024.Idx → EReal) (A : S2x1024x384.Idx → EReal) (y : S1024x768.Idx) :
    (k0_pay1 (F := Ideal) x (View.ld A r0_1) (View.ld A r0_2) y : EReal)
      = ∑ k : Fin 1024, x (ix2 (y 0) k) * A (ix3 ⟨(y 1).val / 384, by have h : (y 1).val < 768 := (y 1).isLt; omega⟩ k ⟨(y 1).val % 384, Nat.mod_lt _ (by decide)⟩) := by
  have h1 : (y 1).val < 768 := (y 1).isLt
  pointwise [k0_pay1]
  refine Finset.sum_congr rfl fun k _ => congrArg (x (ix2 (y 0) k) * ·) ?_
  split_ifs
  all_goals
    refine congrArg A ?_
    blk_ext []

theorem pay2_eq (x : FVec Ideal S1024x1024 .bf16) (b0 b1 : Vec Ideal S1x1024x384 .bf16) : k0_pay2 (F := Ideal) x b0 b1 = k0_pay1 (F := Ideal) x b0 b1 := rfl

/-- The gated product of one block, at an index. -/
theorem pay5_apply (x : FVec Ideal S1024x1024 .bf16) (b0 b1 b2 b3 : Vec Ideal S1x1024x384 .bf16) (y : S1024x768.Idx) (g u : EReal)
    (hg : (k0_pay1 (F := Ideal) x b0 b1 y : EReal) = g) (hu : (k0_pay2 (F := Ideal) x b2 b3 y : EReal) = u) :
    (k0_pay5 (F := Ideal) x b0 b1 b2 b3 y : EReal) = g * Ideal.div 1 (1 + Ideal.exp (-g)) * u := by
  subst hg hu
  pointwise [k0_pay5]
  try simp only [zero_sub]

theorem e0 : ∀ t : Fin cfg0.N, win0_0.index t = ![t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val % 4, 0, 0] := (by decide +kernel : ∀ t : Fin grid0.N, _)
theorem e3 : ∀ t : Fin cfg0.N, win0_3.index t = ![t.val / 4, t.val % 4] := (by decide +kernel : ∀ t : Fin grid0.N, _)
theorem e4 : ∀ t : Fin cfg0.N, win0_4.index t = ![t.val / 4, t.val % 4] := (by decide +kernel : ∀ t : Fin grid0.N, _)
theorem e5 : ∀ t : Fin cfg0.N, win0_5.index t = ![t.val / 4, t.val % 4] := (by decide +kernel : ∀ t : Fin grid0.N, _)

/-- Row `r` of the block of point `t`, in the array. -/
abbrev row (t : Fin cfg0.N) (r : Fin 1024) : Fin 4096 :=
  ⟨1024 * (t.val / 4) + r.val, by have := lt_of_lt_of_eq t.isLt (show cfg0.N = 16 from N_0); have := r.isLt; omega⟩
/-- Column `r` of the block of point `t`, in the array. -/
abbrev col (t : Fin cfg0.N) (r : Fin 768) : Fin 3072 :=
  ⟨768 * (t.val % 4) + r.val, by have := r.isLt; omega⟩

/-- Block of columns `r` of point `t`, in the array of the eight blocks. -/
abbrev pick (t : Fin cfg0.N) (r : Fin 2) : Fin 8 :=
  ⟨2 * (t.val % 4) + r.val, by have := r.isLt; omega⟩

theorem blk0_apply (c : Dev nD) (t : Fin cfg0.N) (y : S1024x1024.Idx) :
    iblk m c 0 t y = m ((c : Thread nD τ).loc main_arg0) (ix2 (row t (y 0)) (y 1)) := by
  blk_simp [iblk]
  rw [V_main_arg0]
  refine congrArg _ ?_
  blk_ext [e0]

theorem read1 (A : S8x1024x384.Idx → EReal) (t : Fin cfg0.N) (y : S2x1024x384.Idx) :
    (win0_1.blk t).view.read (Elt Ideal) A y = A (ix3 (pick t (y 0)) (y 1) (y 2)) := by
  blk_simp
  refine congrArg A ?_
  blk_ext [e1]

theorem blk1_apply (c : Dev nD) (t : Fin cfg0.N) (y : S2x1024x384.Idx) :
    (iblk m c 1 t y : EReal) = byBlocks (m ((c : Thread nD τ).loc main_arg1)) (ix3 (pick t (y 0)) (y 1) (y 2)) :=
  (read1 (V m c main_v1) t y).trans (congrFun (v1_eq m c) _)

theorem read2 (A : S8x1024x384.Idx → EReal) (t : Fin cfg0.N) (y : S2x1024x384.Idx) :
    (win0_2.blk t).view.read (Elt Ideal) A y = A (ix3 (pick t (y 0)) (y 1) (y 2)) := by
  blk_simp
  refine congrArg A ?_
  blk_ext [e2]

theorem blk2_apply (c : Dev nD) (t : Fin cfg0.N) (y : S2x1024x384.Idx) :
    (iblk m c 2 t y : EReal) = byBlocks (m ((c : Thread nD τ).loc main_arg2)) (ix3 (pick t (y 0)) (y 1) (y 2)) :=
  (read2 (V m c main_v3) t y).trans (congrFun (v3_eq m c) _)

/-- The reference's first product, entry by entry. -/
theorem ref_gate (a : S4096x1024.Idx → EReal) (w : S1024x3072.Idx → EReal) (i : S4096x3072.Idx) :
    (val_main_v2 (F := Ideal) a w i : EReal) = ∑ k : Fin 1024, a (ix2 (i 0) k) * w (ix2 k (i 1)) := by
  pointwise [val_main_v0, val_main_v1, val_main_v2]

/-- The reference's second product, entry by entry. -/
theorem ref_up (a : S4096x1024.Idx → EReal) (w : S1024x3072.Idx → EReal) (i : S4096x3072.Idx) :
    (val_main_v5 (F := Ideal) a w i : EReal) = ∑ k : Fin 1024, a (ix2 (i 0) k) * w (ix2 k (i 1)) := by
  pointwise [val_main_v3, val_main_v4, val_main_v5]

/-- The reference's gated product, over its two products. -/
theorem ref_act (a : S4096x1024.Idx → EReal) (w u : S1024x3072.Idx → EReal) (i : S4096x3072.Idx) :
    (val_main_v10 (F := Ideal) a w u i : EReal)
      = val_main_v2 (F := Ideal) a w i * Ideal.div 1 (1 + Ideal.exp (-(val_main_v2 (F := Ideal) a w i : EReal))) * val_main_v5 (F := Ideal) a u i := by
  pointwise [val_main_v6, val_main_v7, val_main_call0_v0, val_main_call0_v1, val_main_call0_cst, val_main_call0_v2, val_main_call0_v3, val_main_call0_cst_0, val_main_call0_v4, val_main_call0_v5, val_main_v8, val_main_v9, val_main_v10]

/-- The reference's three results over this launch's arguments. -/
abbrev want0 (c : Dev nD) : S4096x3072.Idx → EReal := val_main_v6 (F := Ideal) (m ((c : Thread nD τ).loc main_arg0)) (m ((c : Thread nD τ).loc main_arg1))
abbrev want1 (c : Dev nD) : S4096x3072.Idx → EReal := val_main_v7 (F := Ideal) (m ((c : Thread nD τ).loc main_arg0)) (m ((c : Thread nD τ).loc main_arg2))
abbrev want2 (c : Dev nD) : S4096x3072.Idx → EReal := val_main_v10 (F := Ideal) (m ((c : Thread nD τ).loc main_arg0)) (m ((c : Thread nD τ).loc main_arg1)) (m ((c : Thread nD τ).loc main_arg2))

theorem ref6 (a : S4096x1024.Idx → EReal) (w : S1024x3072.Idx → EReal) (i : S4096x3072.Idx) :
    (val_main_v6 (F := Ideal) a w i : EReal) = val_main_v2 (F := Ideal) a w i := rfl
theorem ref7 (a : S4096x1024.Idx → EReal) (w : S1024x3072.Idx → EReal) (i : S4096x3072.Idx) :
    (val_main_v7 (F := Ideal) a w i : EReal) = val_main_v5 (F := Ideal) a w i := rfl

theorem blocks_at (t : Fin cfg0.N) (w : S1024x3072.Idx → EReal) (k : Fin 1024) (j : Fin 768) (h : j.val / 384 < 2) :
    (byBlocks w (ix3 (pick t ⟨j.val / 384, h⟩) k ⟨j.val % 384, Nat.mod_lt _ (by decide)⟩) : EReal) = w (ix2 k (col t j)) := by
  rw [byBlocks_apply]
  refine congrArg w (congrArg (ix2 _) (Fin.ext ?_))
  show 384 * (2 * (t.val % 4) + j.val / 384) + j.val % 384 = 768 * (t.val % 4) + j.val
  omega

theorem gate_point (c : Dev nD) (t : Fin cfg0.N) (y : S1024x768.Idx) :
    (k0_pay1 (F := Ideal) (iblk m c 0 t) (View.ld (iblk m c 1 t) r0_1) (View.ld (iblk m c 1 t) r0_2) y : EReal)
      = val_main_v2 (F := Ideal) (m ((c : Thread nD τ).loc main_arg0)) (m ((c : Thread nD τ).loc main_arg1)) (ix2 (row t (y 0)) (col t (y 1))) := by
  refine (pay1_apply _ (iblk m c 1 t) y).trans (Eq.trans ?_ (ref_gate _ _ _).symm)
  refine Finset.sum_congr rfl fun k _ => ?_
  exact congrArg₂ _ (blk0_apply m c t _) ((blk1_apply m c t _).trans (blocks_at t _ _ _ _))

theorem up_point (c : Dev nD) (t : Fin cfg0.N) (y : S1024x768.Idx) :
    (k0_pay2 (F := Ideal) (iblk m c 0 t) (View.ld (iblk m c 2 t) r0_1) (View.ld (iblk m c 2 t) r0_2) y : EReal)
      = val_main_v5 (F := Ideal) (m ((c : Thread nD τ).loc main_arg0)) (m ((c : Thread nD τ).loc main_arg2)) (ix2 (row t (y 0)) (col t (y 1))) := by
  rw [pay2_eq]
  refine (pay1_apply _ (iblk m c 2 t) y).trans (Eq.trans ?_ (ref_up _ _ _).symm)
  refine Finset.sum_congr rfl fun k _ => ?_
  exact congrArg₂ _ (blk0_apply m c t _) ((blk2_apply m c t _).trans (blocks_at t _ _ _ _))

theorem final3 (c : Dev nD) : (dats m 0 c).arrAt 3 cfg0.N = want0 m c := by
  refine (dats m 0 c).arrAt_eq_of_covers 3 _ (by decide +kernel) fun t hf y => ?_
  blk_simp
  rw [after0_3]
  unfold out0_3
  rw [View.canon_unit_zero (by decide), View.ld_unit_zero (by decide)]
  rw [show (win0_3.blk t).view.emb y = ix2 (row t (y 0)) (col t (y 1)) by blk_ext [e3]]
  exact (gate_point m c t y).trans (ref6 _ _ _).symm

theorem final4 (c : Dev nD) : (dats m 0 c).arrAt 4 cfg0.N = want1 m c := by
  refine (dats m 0 c).arrAt_eq_of_covers 4 _ (by decide +kernel) fun t hf y => ?_
  blk_simp
  rw [after0_4]
  unfold out0_4
  rw [View.canon_unit_zero (by decide), View.ld_unit_zero (by decide)]
  rw [show (win0_4.blk t).view.emb y = ix2 (row t (y 0)) (col t (y 1)) by blk_ext [e4]]
  exact (up_point m c t y).trans (ref7 _ _ _).symm

theorem final5 (c : Dev nD) : (dats m 0 c).arrAt 5 cfg0.N = want2 m c := by
  refine (dats m 0 c).arrAt_eq_of_covers 5 _ (by decide +kernel) fun t hf y => ?_
  blk_simp
  rw [after0_5]
  unfold out0_5
  rw [View.canon_unit_zero (by decide), View.ld_unit_zero (by decide)]
  rw [show (win0_5.blk t).view.emb y = ix2 (row t (y 0)) (col t (y 1)) by blk_ext [e5]]
  exact (pay5_apply _ _ _ _ _ y _ _ (gate_point m c t y) (up_point m c t y)).trans (ref_act _ _ _ _).symm

theorem algebraic : Cert.algebraic_FfnUpIdeal_FfnUpRefIdeal := by
  intro m g m' g' _ hagree
  refine ⟨want0 m, want1 m, want2 m, (θ_run _ _ _).mono (fun r h c => ?_) (run_blocks m g), (θ_run Cert.FfnUpRefIdeal.defs _ _).mono (fun r h c => ?_) (Cert.FfnUpRefIdeal.Value.run (F := Ideal) m' g')⟩
  · obtain ⟨h0, h1, h2, h3⟩ := h c
    exact ⟨h0.trans (final3 m c), h1.trans (final4 m c), h2.trans (final5 m c), h3⟩
  · obtain ⟨h0, h1, h2, h3⟩ := h c
    obtain ⟨a0, a1, a2⟩ := hagree c
    refine ⟨?_, ?_, ?_, h3⟩
    · rw [h0, a0, a1]
      rfl
    · rw [h1, a0, a2]
      rfl
    · rw [h2, a0, a1, a2]
      rfl

end Cert.FfnUpIdeal.Hand

end
-- ==== Proof.FfnDownClaim.lean ====
/- The feed-forward's down projection, at an index, and its claim. -/
module

public import proofs.«01_k».proof.Defs
public import proofs.«01_k».proof.Proof.Gen.FfnDownIdeal.Value
public import proofs.«01_k».proof.Proof.Gen.FfnDownRefIdeal.Read
public import Idealize.ShloMosaic.Lib.Pipeline.ValueKit
public import Idealize.ShloMosaic.Lib.Pointwise

@[expose] public section

noncomputable section

namespace Cert.FfnDownIdeal.Hand

open Cert.FfnDownIdeal Cert.FfnDownIdeal.Gen Cert.FfnDownIdeal.Value
open Cert.FfnDownRefIdeal.Read (val_main_v0 val_main_v1 val_main_v2)
open Idealize.ShloMosaic Idealize.ShloMosaic.TcCoe Idealize.SL.Sem

variable (m : (ℓ : Loc nD τ sig) → Buf (Elt Ideal) ℓ)

/-- The product the call computes, entry by entry. -/
def prod (a : S4096x3072.Idx → EReal) (b : S3072x1024.Idx → EReal) (i : Fin 4096) (j : Fin 1024) : EReal :=
  ∑ k : Fin 3072, a (ix2 i k) * b (ix2 k j)

/-- The reference's result is that product. -/
theorem ref_apply (a : S4096x3072.Idx → EReal) (b : S3072x1024.Idx → EReal) (i : S4096x1024.Idx) :
    val_main_v2 (F := Ideal) a b i = prod a b (i 0) (i 1) := by
  pointwise [val_main_v0, val_main_v1, val_main_v2]
  unfold prod
  refine Finset.sum_congr rfl fun k _ => ?_
  first | rfl | exact mul_comm _ _

theorem pay_apply (v0 : S3072x512.Idx → EReal) (v1 : S1024x3072.Idx → EReal) (y : S1024x512.Idx) :
    k0_pay1 (F := Ideal) v0 v1 y = ∑ k : Fin 3072, v1 (ix2 (y 0) k) * v0 (ix2 k (y 1)) := by
  pointwise [k0_pay1]

theorem e0 : ∀ t : Fin cfg0.N, win0_0.index t = ![t.val / 2, 0] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

/-- Row `r` of the block of point `t`, in the array. -/
abbrev row (t : Fin cfg0.N) (r : Fin 1024) : Fin 4096 :=
  ⟨1024 * (t.val / 2) + r.val, by have := lt_of_lt_of_eq t.isLt (show cfg0.N = 8 from N_0); have := r.isLt; omega⟩
/-- Column `r` of the block of point `t`, in the array. -/
abbrev col (t : Fin cfg0.N) (r : Fin 512) : Fin 1024 :=
  ⟨512 * (t.val % 2) + r.val, by have := r.isLt; omega⟩

theorem blk0_apply (c : Dev nD) (t : Fin cfg0.N) (y : S1024x3072.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S3072x512.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S4096x1024.Idx → EReal :=
  val_main_v2 (F := Ideal) (m ((c : Thread nD τ).loc main_arg0)) (m ((c : Thread nD τ).loc main_arg1))

/-- One block of the result. -/
theorem point (c : Dev nD) (t : Fin cfg0.N) (y : S1024x512.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_FfnDownIdeal_FfnDownRefIdeal := by
  intro m g m' g' _ hagree
  refine ⟨want m, (θ_run _ _ _).mono (fun r h c => ?_) (run_blocks m g), (θ_run Cert.FfnDownRefIdeal.defs _ _).mono (fun r h c => ?_) (Cert.FfnDownRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.FfnDownIdeal.Hand

end
-- ==== Proof.MixDwClaim.lean ====
/- The gradient of the mixer's output projection, at an index, and its claim. -/
module

public import proofs.«01_k».proof.Defs
public import proofs.«01_k».proof.Proof.Gen.MixDwIdeal.Value
public import proofs.«01_k».proof.Proof.Gen.MixDwRefIdeal.Read
public import Idealize.ShloMosaic.Lib.Pipeline.ValueKit
public import Idealize.ShloMosaic.Lib.Pointwise

@[expose] public section

noncomputable section

namespace Cert.MixDwIdeal.Hand

open Cert.MixDwIdeal Cert.MixDwIdeal.Gen Cert.MixDwIdeal.Value
open Cert.MixDwRefIdeal.Read (val_main_cst val_main_v0 val_main_v1 val_main_v2 val_main_v3 val_main_v4 val_main_v5 val_main_v6)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S4096x1024.Idx → EReal) (i : Fin 1024) (j : Fin 1024) : EReal :=
  ∑ k : Fin 4096, a (ix2 k i) * b (ix2 k j)

/-- The reference's result is that product. -/
theorem ref_apply (a : S4096x1024.Idx → EReal) (b : S4096x1024.Idx → EReal) (i : S1024x1024.Idx) :
    val_main_v6 (F := Ideal) a b i = prod a b (i 0) (i 1) := by
  pointwise [val_main_cst, val_main_v0, val_main_v1, val_main_v2, val_main_v3, val_main_v4, val_main_v5, val_main_v6]
  unfold prod
  refine Finset.sum_congr rfl fun k _ => ?_
  first | rfl | exact mul_comm _ _

theorem pay_apply (v0 : S4096x512.Idx → EReal) (v1 : S4096x1024.Idx → EReal) (y : S1024x512.Idx) :
    k0_pay1 (F := Ideal) v0 v1 y = ∑ k : Fin 4096, v1 (ix2 k (y 0)) * v0 (ix2 k (y 1)) := by
  pointwise [k0_pay1]

theorem e0 : ∀ t : Fin cfg0.N, win0_0.index t = ![0, t.val / 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

/-- Row `r` of the block of point `t`, in the array. -/
abbrev row (t : Fin cfg0.N) (r : Fin 1024) : Fin 1024 :=
  ⟨1024 * (t.val / 2) + r.val, by have := lt_of_lt_of_eq t.isLt (show cfg0.N = 2 from N_0); have := r.isLt; omega⟩
/-- Column `r` of the block of point `t`, in the array. -/
abbrev col (t : Fin cfg0.N) (r : Fin 512) : Fin 1024 :=
  ⟨512 * (t.val % 2) + r.val, by have := r.isLt; omega⟩

theorem blk0_apply (c : Dev nD) (t : Fin cfg0.N) (y : S4096x1024.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x512.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S1024x1024.Idx → EReal :=
  val_main_v6 (F := Ideal) (m ((c : Thread nD τ).loc main_arg0)) (m ((c : Thread nD τ).loc main_arg1))

/-- One block of the result. -/
theorem point (c : Dev nD) (t : Fin cfg0.N) (y : S1024x512.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_MixDwIdeal_MixDwRefIdeal := by
  intro m g m' g' _ hagree
  refine ⟨want m, (θ_run _ _ _).mono (fun r h c => ?_) (run_blocks m g), (θ_run Cert.MixDwRefIdeal.defs _ _).mono (fun r h c => ?_) (Cert.MixDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.MixDwIdeal.Hand

end
-- ==== Proof.BranchDwClaim.lean ====
/- The gradient of a branch's output projection, by blocks of columns: the call's result at an index, and its claim. -/
module

public import proofs.«01_k».proof.Defs
public import proofs.«01_k».proof.Proof.Gen.BranchDwIdeal.Value
public import proofs.«01_k».proof.Proof.Gen.BranchDwRefIdeal.Read
public import Idealize.ShloMosaic.Lib.Pipeline.ValueKit
public import Idealize.ShloMosaic.Lib.Pointwise

@[expose] public section

noncomputable section

namespace Cert.BranchDwIdeal.Hand

open Cert.BranchDwIdeal Cert.BranchDwIdeal.Gen Cert.BranchDwIdeal.Value
open Cert.BranchDwRefIdeal.Read (val_main_cst val_main_v0 val_main_v1 val_main_v2 val_main_v3 val_main_v4 val_main_v5 val_main_v6 val_main_v7 val_main_v8)
open Idealize.ShloMosaic Idealize.ShloMosaic.TcCoe Idealize.SL.Sem

variable (m : (ℓ : Loc nD τ sig) → Buf (Elt Ideal) ℓ)

/-- The product the call computes, entry by entry. -/
def prod (a : S4096x512.Idx → EReal) (b : S4096x1024.Idx → EReal) (i : Fin 512) (j : Fin 1024) : EReal :=
  ∑ k : Fin 4096, a (ix2 k i) * b (ix2 k j)

/-- The reference's result is that product, by blocks of 128 columns. -/
theorem ref_apply (a : S4096x512.Idx → EReal) (b : S4096x1024.Idx → EReal) (i : S8x512x128.Idx) :
    val_main_v8 (F := Ideal) a b i = prod a b (i 1) ⟨128 * (i 0).val + (i 2).val, by have h0 : (i 0).val < 8 := (i 0).isLt; have h2 : (i 2).val < 128 := (i 2).isLt; omega⟩ := by
  have h0 : (i 0).val < 8 := (i 0).isLt
  have h1 : (i 1).val < 512 := (i 1).isLt
  have h2 : (i 2).val < 128 := (i 2).isLt
  pointwise [val_main_cst, val_main_v0, val_main_v1, val_main_v2, val_main_v3, val_main_v4, val_main_v5, val_main_v6, val_main_v7, val_main_v8]
  unfold prod
  refine Finset.sum_congr rfl fun k _ => ?_
  refine (mul_comm _ _).trans (congrArg₂ _ (congrArg _ ?_) (congrArg _ ?_))
  all_goals
    refine congrArg _ (Fin.ext ?_)
    first
      | rfl
      | (dsimp only
         omega)

theorem out_apply (x0 : S4096x512.Idx → EReal) (x1 : S4096x1024.Idx → EReal) (y : S8x512x128.Idx) :
    (out0_2 (F := Ideal) x0 x1 y : EReal) = ∑ k : Fin 4096, x0 (ix2 k (y 1)) * x1 (ix2 k ⟨128 * (y 0).val + (y 2).val, by have h0 : (y 0).val < 8 := (y 0).isLt; have h2 : (y 2).val < 128 := (y 2).isLt; omega⟩) := by
  unfold out0_2
  refine View.canon_apply_of_pieces (Val := Elt Ideal) (fun y : S8x512x128.Idx => (∑ k : Fin 4096, x0 (ix2 k (y 1)) * x1 (ix2 k ⟨128 * (y 0).val + (y 2).val, by have h0 : (y 0).val < 8 := (y 0).isLt; have h2 : (y 2).val < 128 := (y 2).isLt; omega⟩) : EReal)) _ ?_ y (cover0_2 _ _ _ _ _ _ _ _ y)
  intro p hp x
  simp only [List.mem_cons, List.not_mem_nil, or_false] at hp
  rcases hp with rfl|rfl|rfl|rfl|rfl|rfl|rfl|rfl
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 896 + (x 2).val = 128 * (7 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 768 + (x 2).val = 128 * (6 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 640 + (x 2).val = 128 * (5 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 512 + (x 2).val = 128 * (4 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 384 + (x 2).val = 128 * (3 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 256 + (x 2).val = 128 * (2 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 128 + (x 2).val = 128 * (1 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show (x 2).val = 128 * (0 + 1 * (x 0).val) + (0 + 1 * (x 2).val)
      omega

theorem e0 : ∀ t : Fin cfg0.N, win0_0.index t = ![0, t.val / 1] := (by decide +kernel : ∀ t : Fin grid0.N, _)
theorem e1 : ∀ t : Fin cfg0.N, win0_1.index t = ![0, t.val % 1] := (by decide +kernel : ∀ t : Fin grid0.N, _)
theorem e2 : ∀ t : Fin cfg0.N, win0_2.index t = ![t.val % 1, t.val / 1, 0] := (by decide +kernel : ∀ t : Fin grid0.N, _)

/-- Row `r` of the block of point `t`, in the array. -/
abbrev row (t : Fin cfg0.N) (r : Fin 512) : Fin 512 :=
  ⟨512 * (t.val / 1) + r.val, by have := lt_of_lt_of_eq t.isLt (show cfg0.N = 1 from N_0); have := r.isLt; omega⟩
/-- Column `r` of the block of point `t`, in the array. -/
abbrev col (t : Fin cfg0.N) (r : Fin 1024) : Fin 1024 :=
  ⟨1024 * (t.val % 1) + r.val, by have := r.isLt; omega⟩
/-- Block `r` of point `t`, among the eight. -/
abbrev mem (t : Fin cfg0.N) (r : Fin 8) : Fin 8 :=
  ⟨8 * (t.val % 1) + r.val, by have := r.isLt; omega⟩

theorem blk0_apply (c : Dev nD) (t : Fin cfg0.N) (y : S4096x512.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x1024.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S8x512x128.Idx → EReal :=
  val_main_v8 (F := Ideal) (m ((c : Thread nD τ).loc main_arg0)) (m ((c : Thread nD τ).loc main_arg1))

/-- One block of the result. -/
theorem point (c : Dev nD) (t : Fin cfg0.N) (y : S8x512x128.Idx) :
    (out0_2 (F := Ideal) (iblk m c 0 t) (iblk m c 1 t) y : EReal) = want m c (ix3 (mem t (y 0)) (row t (y 1)) (y 2)) := by
  rw [out_apply]
  unfold want
  rw [ref_apply]
  unfold prod
  refine Finset.sum_congr rfl fun k _ => ?_
  rw [blk0_apply, blk1_apply]
  refine congrArg₂ _ rfl (congrArg _ (congrArg (ix2 k) (Fin.ext ?_)))
  show 1024 * (t.val % 1) + (128 * (y 0).val + (y 2).val) = 128 * (8 * (t.val % 1) + (y 0).val) + (y 2).val
  omega

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (mem t (y 0)) (row t (y 1)) (y 2) by blk_ext [e2]]
  exact point m c t y

theorem algebraic : Cert.algebraic_BranchDwIdeal_BranchDwRefIdeal := by
  intro m g m' g' _ hagree
  refine ⟨want m, (θ_run _ _ _).mono (fun r h c => ?_) (run_blocks m g), (θ_run Cert.BranchDwRefIdeal.defs _ _).mono (fun r h c => ?_) (Cert.BranchDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.BranchDwIdeal.Hand

end
-- ==== Proof.AttnDwClaim.lean ====
/- The gradient of the attention's output projection, by blocks of columns: the call's result at an index, and its claim. -/
module

public import proofs.«01_k».proof.Defs
public import proofs.«01_k».proof.Proof.Gen.AttnDwIdeal.Value
public import proofs.«01_k».proof.Proof.Gen.AttnDwRefIdeal.Read
public import Idealize.ShloMosaic.Lib.Pipeline.ValueKit
public import Idealize.ShloMosaic.Lib.Pointwise

@[expose] public section

noncomputable section

namespace Cert.AttnDwIdeal.Hand

open Cert.AttnDwIdeal Cert.AttnDwIdeal.Gen Cert.AttnDwIdeal.Value
open Cert.AttnDwRefIdeal.Read (val_main_cst val_main_v0 val_main_v1 val_main_v2 val_main_v3 val_main_v4 val_main_v5 val_main_v6 val_main_v7 val_main_v8)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S4096x1024.Idx → EReal) (i : Fin 1024) (j : Fin 1024) : EReal :=
  ∑ k : Fin 4096, a (ix2 k i) * b (ix2 k j)

/-- The reference's result is that product, by blocks of 128 columns. -/
theorem ref_apply (a : S4096x1024.Idx → EReal) (b : S4096x1024.Idx → EReal) (i : S8x1024x128.Idx) :
    val_main_v8 (F := Ideal) a b i = prod a b (i 1) ⟨128 * (i 0).val + (i 2).val, by have h0 : (i 0).val < 8 := (i 0).isLt; have h2 : (i 2).val < 128 := (i 2).isLt; omega⟩ := by
  have h0 : (i 0).val < 8 := (i 0).isLt
  have h1 : (i 1).val < 1024 := (i 1).isLt
  have h2 : (i 2).val < 128 := (i 2).isLt
  pointwise [val_main_cst, val_main_v0, val_main_v1, val_main_v2, val_main_v3, val_main_v4, val_main_v5, val_main_v6, val_main_v7, val_main_v8]
  unfold prod
  refine Finset.sum_congr rfl fun k _ => ?_
  refine (mul_comm _ _).trans (congrArg₂ _ (congrArg _ ?_) (congrArg _ ?_))
  all_goals
    refine congrArg _ (Fin.ext ?_)
    first
      | rfl
      | (dsimp only
         omega)

theorem out_apply (x0 : S4096x1024.Idx → EReal) (x1 : S4096x512.Idx → EReal) (y : S4x1024x128.Idx) :
    (out0_2 (F := Ideal) x0 x1 y : EReal) = ∑ k : Fin 4096, x0 (ix2 k (y 1)) * x1 (ix2 k ⟨128 * (y 0).val + (y 2).val, by have h0 : (y 0).val < 4 := (y 0).isLt; have h2 : (y 2).val < 128 := (y 2).isLt; omega⟩) := by
  unfold out0_2
  refine View.canon_apply_of_pieces (Val := Elt Ideal) (fun y : S4x1024x128.Idx => (∑ k : Fin 4096, x0 (ix2 k (y 1)) * x1 (ix2 k ⟨128 * (y 0).val + (y 2).val, by have h0 : (y 0).val < 4 := (y 0).isLt; have h2 : (y 2).val < 128 := (y 2).isLt; omega⟩) : EReal)) _ ?_ y (cover0_2 _ _ _ _ y)
  intro p hp x
  simp only [List.mem_cons, List.not_mem_nil, or_false] at hp
  rcases hp with rfl|rfl|rfl|rfl
  · have h0 : (x 0).val < 1 := (x 0).isLt
    pointwise [k0_pay1, k0_pay2, k0_pay3, k0_pay4, k0_pay5]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 384 + (x 2).val = 128 * (3 + 1 * (x 0).val) + (0 + 1 * (x 2).val)
      omega
  · have h0 : (x 0).val < 1 := (x 0).isLt
    pointwise [k0_pay1, k0_pay2, k0_pay3, k0_pay4, k0_pay5]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 256 + (x 2).val = 128 * (2 + 1 * (x 0).val) + (0 + 1 * (x 2).val)
      omega
  · have h0 : (x 0).val < 1 := (x 0).isLt
    pointwise [k0_pay1, k0_pay2, k0_pay3, k0_pay4, k0_pay5]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 128 + (x 2).val = 128 * (1 + 1 * (x 0).val) + (0 + 1 * (x 2).val)
      omega
  · have h0 : (x 0).val < 1 := (x 0).isLt
    pointwise [k0_pay1, k0_pay2, k0_pay3, k0_pay4, k0_pay5]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show (x 2).val = 128 * (0 + 1 * (x 0).val) + (0 + 1 * (x 2).val)
      omega

theorem e0 : ∀ t : Fin cfg0.N, win0_0.index t = ![0, t.val / 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val % 2, t.val / 2, 0] := (by decide +kernel : ∀ t : Fin grid0.N, _)

/-- Row `r` of the block of point `t`, in the array. -/
abbrev row (t : Fin cfg0.N) (r : Fin 1024) : Fin 1024 :=
  ⟨1024 * (t.val / 2) + r.val, by have := lt_of_lt_of_eq t.isLt (show cfg0.N = 2 from N_0); have := r.isLt; omega⟩
/-- Column `r` of the block of point `t`, in the array. -/
abbrev col (t : Fin cfg0.N) (r : Fin 512) : Fin 1024 :=
  ⟨512 * (t.val % 2) + r.val, by have := r.isLt; omega⟩
/-- Block `r` of point `t`, among the eight. -/
abbrev mem (t : Fin cfg0.N) (r : Fin 4) : Fin 8 :=
  ⟨4 * (t.val % 2) + r.val, by have := r.isLt; omega⟩

theorem blk0_apply (c : Dev nD) (t : Fin cfg0.N) (y : S4096x1024.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x512.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S8x1024x128.Idx → EReal :=
  val_main_v8 (F := Ideal) (m ((c : Thread nD τ).loc main_arg0)) (m ((c : Thread nD τ).loc main_arg1))

/-- One block of the result. -/
theorem point (c : Dev nD) (t : Fin cfg0.N) (y : S4x1024x128.Idx) :
    (out0_2 (F := Ideal) (iblk m c 0 t) (iblk m c 1 t) y : EReal) = want m c (ix3 (mem t (y 0)) (row t (y 1)) (y 2)) := by
  rw [out_apply]
  unfold want
  rw [ref_apply]
  unfold prod
  refine Finset.sum_congr rfl fun k _ => ?_
  rw [blk0_apply, blk1_apply]
  refine congrArg₂ _ rfl (congrArg _ (congrArg (ix2 k) (Fin.ext ?_)))
  show 512 * (t.val % 2) + (128 * (y 0).val + (y 2).val) = 128 * (4 * (t.val % 2) + (y 0).val) + (y 2).val
  omega

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (mem t (y 0)) (row t (y 1)) (y 2) by blk_ext [e2]]
  exact point m c t y

theorem algebraic : Cert.algebraic_AttnDwIdeal_AttnDwRefIdeal := by
  intro m g m' g' _ hagree
  refine ⟨want m, (θ_run _ _ _).mono (fun r h c => ?_) (run_blocks m g), (θ_run Cert.AttnDwRefIdeal.defs _ _).mono (fun r h c => ?_) (Cert.AttnDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.AttnDwIdeal.Hand

end
-- ==== Proof.QDwClaim.lean ====
/- The gradient of the query's up projection, by blocks of columns: the call's result at an index, and its claim. -/
module

public import proofs.«01_k».proof.Defs
public import proofs.«01_k».proof.Proof.Gen.QDwIdeal.Value
public import proofs.«01_k».proof.Proof.Gen.QDwRefIdeal.Read
public import Idealize.ShloMosaic.Lib.Pipeline.ValueKit
public import Idealize.ShloMosaic.Lib.Pointwise

@[expose] public section

noncomputable section

namespace Cert.QDwIdeal.Hand

open Cert.QDwIdeal Cert.QDwIdeal.Gen Cert.QDwIdeal.Value
open Cert.QDwRefIdeal.Read (val_main_cst val_main_v0 val_main_v1 val_main_v2 val_main_v3 val_main_v4 val_main_v5 val_main_v6 val_main_v7 val_main_v8)
open Idealize.ShloMosaic Idealize.ShloMosaic.TcCoe Idealize.SL.Sem

variable (m : (ℓ : Loc nD τ sig) → Buf (Elt Ideal) ℓ)

/-- The product the call computes, entry by entry. -/
def prod (a : S4096x384.Idx → EReal) (b : S4096x1024.Idx → EReal) (i : Fin 384) (j : Fin 1024) : EReal :=
  ∑ k : Fin 4096, a (ix2 k i) * b (ix2 k j)

/-- The reference's result is that product, by blocks of 128 columns. -/
theorem ref_apply (a : S4096x384.Idx → EReal) (b : S4096x1024.Idx → EReal) (i : S8x384x128.Idx) :
    val_main_v8 (F := Ideal) a b i = prod a b (i 1) ⟨128 * (i 0).val + (i 2).val, by have h0 : (i 0).val < 8 := (i 0).isLt; have h2 : (i 2).val < 128 := (i 2).isLt; omega⟩ := by
  have h0 : (i 0).val < 8 := (i 0).isLt
  have h1 : (i 1).val < 384 := (i 1).isLt
  have h2 : (i 2).val < 128 := (i 2).isLt
  pointwise [val_main_cst, val_main_v0, val_main_v1, val_main_v2, val_main_v3, val_main_v4, val_main_v5, val_main_v6, val_main_v7, val_main_v8]
  unfold prod
  refine Finset.sum_congr rfl fun k _ => ?_
  refine (mul_comm _ _).trans (congrArg₂ _ (congrArg _ ?_) (congrArg _ ?_))
  all_goals
    refine congrArg _ (Fin.ext ?_)
    first
      | rfl
      | (dsimp only
         omega)

theorem out_apply (x0 : S4096x384.Idx → EReal) (x1 : S4096x1024.Idx → EReal) (y : S8x384x128.Idx) :
    (out0_2 (F := Ideal) x0 x1 y : EReal) = ∑ k : Fin 4096, x0 (ix2 k (y 1)) * x1 (ix2 k ⟨128 * (y 0).val + (y 2).val, by have h0 : (y 0).val < 8 := (y 0).isLt; have h2 : (y 2).val < 128 := (y 2).isLt; omega⟩) := by
  unfold out0_2
  refine View.canon_apply_of_pieces (Val := Elt Ideal) (fun y : S8x384x128.Idx => (∑ k : Fin 4096, x0 (ix2 k (y 1)) * x1 (ix2 k ⟨128 * (y 0).val + (y 2).val, by have h0 : (y 0).val < 8 := (y 0).isLt; have h2 : (y 2).val < 128 := (y 2).isLt; omega⟩) : EReal)) _ ?_ y (cover0_2 _ _ _ _ _ _ _ _ y)
  intro p hp x
  simp only [List.mem_cons, List.not_mem_nil, or_false] at hp
  rcases hp with rfl|rfl|rfl|rfl|rfl|rfl|rfl|rfl
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 896 + (x 2).val = 128 * (7 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 768 + (x 2).val = 128 * (6 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 640 + (x 2).val = 128 * (5 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 512 + (x 2).val = 128 * (4 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 384 + (x 2).val = 128 * (3 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 256 + (x 2).val = 128 * (2 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 128 + (x 2).val = 128 * (1 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show (x 2).val = 128 * (0 + 1 * (x 0).val) + (0 + 1 * (x 2).val)
      omega

theorem e0 : ∀ t : Fin cfg0.N, win0_0.index t = ![0, t.val / 1] := (by decide +kernel : ∀ t : Fin grid0.N, _)
theorem e1 : ∀ t : Fin cfg0.N, win0_1.index t = ![0, t.val % 1] := (by decide +kernel : ∀ t : Fin grid0.N, _)
theorem e2 : ∀ t : Fin cfg0.N, win0_2.index t = ![t.val % 1, t.val / 1, 0] := (by decide +kernel : ∀ t : Fin grid0.N, _)

/-- Row `r` of the block of point `t`, in the array. -/
abbrev row (t : Fin cfg0.N) (r : Fin 384) : Fin 384 :=
  ⟨384 * (t.val / 1) + r.val, by have := lt_of_lt_of_eq t.isLt (show cfg0.N = 1 from N_0); have := r.isLt; omega⟩
/-- Column `r` of the block of point `t`, in the array. -/
abbrev col (t : Fin cfg0.N) (r : Fin 1024) : Fin 1024 :=
  ⟨1024 * (t.val % 1) + r.val, by have := r.isLt; omega⟩
/-- Block `r` of point `t`, among the eight. -/
abbrev mem (t : Fin cfg0.N) (r : Fin 8) : Fin 8 :=
  ⟨8 * (t.val % 1) + r.val, by have := r.isLt; omega⟩

theorem blk0_apply (c : Dev nD) (t : Fin cfg0.N) (y : S4096x384.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x1024.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S8x384x128.Idx → EReal :=
  val_main_v8 (F := Ideal) (m ((c : Thread nD τ).loc main_arg0)) (m ((c : Thread nD τ).loc main_arg1))

/-- One block of the result. -/
theorem point (c : Dev nD) (t : Fin cfg0.N) (y : S8x384x128.Idx) :
    (out0_2 (F := Ideal) (iblk m c 0 t) (iblk m c 1 t) y : EReal) = want m c (ix3 (mem t (y 0)) (row t (y 1)) (y 2)) := by
  rw [out_apply]
  unfold want
  rw [ref_apply]
  unfold prod
  refine Finset.sum_congr rfl fun k _ => ?_
  rw [blk0_apply, blk1_apply]
  refine congrArg₂ _ rfl (congrArg _ (congrArg (ix2 k) (Fin.ext ?_)))
  show 1024 * (t.val % 1) + (128 * (y 0).val + (y 2).val) = 128 * (8 * (t.val % 1) + (y 0).val) + (y 2).val
  omega

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (mem t (y 0)) (row t (y 1)) (y 2) by blk_ext [e2]]
  exact point m c t y

theorem algebraic : Cert.algebraic_QDwIdeal_QDwRefIdeal := by
  intro m g m' g' _ hagree
  refine ⟨want m, (θ_run _ _ _).mono (fun r h c => ?_) (run_blocks m g), (θ_run Cert.QDwRefIdeal.defs _ _).mono (fun r h c => ?_) (Cert.QDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.QDwIdeal.Hand

end
-- ==== Proof.KvDwClaim.lean ====
/- The gradient of the key's or the value's up projection, by blocks of columns: the call's result at an index, and its claim. -/
module

public import proofs.«01_k».proof.Defs
public import proofs.«01_k».proof.Proof.Gen.KvDwIdeal.Value
public import proofs.«01_k».proof.Proof.Gen.KvDwRefIdeal.Read
public import Idealize.ShloMosaic.Lib.Pipeline.ValueKit
public import Idealize.ShloMosaic.Lib.Pointwise

@[expose] public section

noncomputable section

namespace Cert.KvDwIdeal.Hand

open Cert.KvDwIdeal Cert.KvDwIdeal.Gen Cert.KvDwIdeal.Value
open Cert.KvDwRefIdeal.Read (val_main_cst val_main_v0 val_main_v1 val_main_v2 val_main_v3 val_main_v4 val_main_v5 val_main_v6 val_main_v7 val_main_v8)
open Idealize.ShloMosaic Idealize.ShloMosaic.TcCoe Idealize.SL.Sem

variable (m : (ℓ : Loc nD τ sig) → Buf (Elt Ideal) ℓ)

/-- The product the call computes, entry by entry. -/
def prod (a : S4096x256.Idx → EReal) (b : S4096x1024.Idx → EReal) (i : Fin 256) (j : Fin 1024) : EReal :=
  ∑ k : Fin 4096, a (ix2 k i) * b (ix2 k j)

/-- The reference's result is that product, by blocks of 128 columns. -/
theorem ref_apply (a : S4096x256.Idx → EReal) (b : S4096x1024.Idx → EReal) (i : S8x256x128.Idx) :
    val_main_v8 (F := Ideal) a b i = prod a b (i 1) ⟨128 * (i 0).val + (i 2).val, by have h0 : (i 0).val < 8 := (i 0).isLt; have h2 : (i 2).val < 128 := (i 2).isLt; omega⟩ := by
  have h0 : (i 0).val < 8 := (i 0).isLt
  have h1 : (i 1).val < 256 := (i 1).isLt
  have h2 : (i 2).val < 128 := (i 2).isLt
  pointwise [val_main_cst, val_main_v0, val_main_v1, val_main_v2, val_main_v3, val_main_v4, val_main_v5, val_main_v6, val_main_v7, val_main_v8]
  unfold prod
  refine Finset.sum_congr rfl fun k _ => ?_
  refine (mul_comm _ _).trans (congrArg₂ _ (congrArg _ ?_) (congrArg _ ?_))
  all_goals
    refine congrArg _ (Fin.ext ?_)
    first
      | rfl
      | (dsimp only
         omega)

theorem out_apply (x0 : S4096x256.Idx → EReal) (x1 : S4096x1024.Idx → EReal) (y : S8x256x128.Idx) :
    (out0_2 (F := Ideal) x0 x1 y : EReal) = ∑ k : Fin 4096, x0 (ix2 k (y 1)) * x1 (ix2 k ⟨128 * (y 0).val + (y 2).val, by have h0 : (y 0).val < 8 := (y 0).isLt; have h2 : (y 2).val < 128 := (y 2).isLt; omega⟩) := by
  unfold out0_2
  refine View.canon_apply_of_pieces (Val := Elt Ideal) (fun y : S8x256x128.Idx => (∑ k : Fin 4096, x0 (ix2 k (y 1)) * x1 (ix2 k ⟨128 * (y 0).val + (y 2).val, by have h0 : (y 0).val < 8 := (y 0).isLt; have h2 : (y 2).val < 128 := (y 2).isLt; omega⟩) : EReal)) _ ?_ y (cover0_2 _ _ _ _ _ _ _ _ y)
  intro p hp x
  simp only [List.mem_cons, List.not_mem_nil, or_false] at hp
  rcases hp with rfl|rfl|rfl|rfl|rfl|rfl|rfl|rfl
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 896 + (x 2).val = 128 * (7 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 768 + (x 2).val = 128 * (6 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 640 + (x 2).val = 128 * (5 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 512 + (x 2).val = 128 * (4 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 384 + (x 2).val = 128 * (3 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 256 + (x 2).val = 128 * (2 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show 128 + (x 2).val = 128 * (1 + 1 * (x 0).val) + (0 + 1 * (x 2).val)
      omega
  · have h0 : (x 0).val < 1 := (x 0).isLt
    pointwise [k0_pay1, k0_pay2, k0_pay3, k0_pay4, k0_pay5, k0_pay6, k0_pay7, k0_pay8, k0_pay9, k0_pay10, k0_pay11]
    refine Finset.sum_congr rfl fun k _ => congrArg₂ _ (congrArg x0 (congrArg (ix2 k) (Fin.ext ?_))) (congrArg x1 (congrArg (ix2 k) (Fin.ext ?_)))
    · show (x 1).val = 0 + 1 * (x 1).val
      omega
    · show (x 2).val = 128 * (0 + 1 * (x 0).val) + (0 + 1 * (x 2).val)
      omega

theorem e0 : ∀ t : Fin cfg0.N, win0_0.index t = ![0, t.val / 1] := (by decide +kernel : ∀ t : Fin grid0.N, _)
theorem e1 : ∀ t : Fin cfg0.N, win0_1.index t = ![0, t.val % 1] := (by decide +kernel : ∀ t : Fin grid0.N, _)
theorem e2 : ∀ t : Fin cfg0.N, win0_2.index t = ![t.val % 1, t.val / 1, 0] := (by decide +kernel : ∀ t : Fin grid0.N, _)

/-- Row `r` of the block of point `t`, in the array. -/
abbrev row (t : Fin cfg0.N) (r : Fin 256) : Fin 256 :=
  ⟨256 * (t.val / 1) + r.val, by have := lt_of_lt_of_eq t.isLt (show cfg0.N = 1 from N_0); have := r.isLt; omega⟩
/-- Column `r` of the block of point `t`, in the array. -/
abbrev col (t : Fin cfg0.N) (r : Fin 1024) : Fin 1024 :=
  ⟨1024 * (t.val % 1) + r.val, by have := r.isLt; omega⟩
/-- Block `r` of point `t`, among the eight. -/
abbrev mem (t : Fin cfg0.N) (r : Fin 8) : Fin 8 :=
  ⟨8 * (t.val % 1) + r.val, by have := r.isLt; omega⟩

theorem blk0_apply (c : Dev nD) (t : Fin cfg0.N) (y : S4096x256.Idx) :
    iblk m c 0 t y = m ((c : Thread nD τ).loc main_arg0) (ix2 (y 0) (row t (y 1))) := by
  blk_simp [iblk]
  rw [V_main_arg0]
  refine congrArg _ ?_
  blk_ext [e0]

theorem blk1_apply (c : Dev nD) (t : Fin cfg0.N) (y : S4096x1024.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S8x256x128.Idx → EReal :=
  val_main_v8 (F := Ideal) (m ((c : Thread nD τ).loc main_arg0)) (m ((c : Thread nD τ).loc main_arg1))

/-- One block of the result. -/
theorem point (c : Dev nD) (t : Fin cfg0.N) (y : S8x256x128.Idx) :
    (out0_2 (F := Ideal) (iblk m c 0 t) (iblk m c 1 t) y : EReal) = want m c (ix3 (mem t (y 0)) (row t (y 1)) (y 2)) := by
  rw [out_apply]
  unfold want
  rw [ref_apply]
  unfold prod
  refine Finset.sum_congr rfl fun k _ => ?_
  rw [blk0_apply, blk1_apply]
  refine congrArg₂ _ rfl (congrArg _ (congrArg (ix2 k) (Fin.ext ?_)))
  show 1024 * (t.val % 1) + (128 * (y 0).val + (y 2).val) = 128 * (8 * (t.val % 1) + (y 0).val) + (y 2).val
  omega

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (mem t (y 0)) (row t (y 1)) (y 2) by blk_ext [e2]]
  exact point m c t y

theorem algebraic : Cert.algebraic_KvDwIdeal_KvDwRefIdeal := by
  intro m g m' g' _ hagree
  refine ⟨want m, (θ_run _ _ _).mono (fun r h c => ?_) (run_blocks m g), (θ_run Cert.KvDwRefIdeal.defs _ _).mono (fun r h c => ?_) (Cert.KvDwRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.KvDwIdeal.Hand

end
-- ==== Proof.PoolDxClaim.lean ====
/- The gradient of the pooled branch's output projection at its argument: at an index, and its claim. -/
module

public import proofs.«01_k».proof.Defs
public import proofs.«01_k».proof.Proof.Gen.PoolDxIdeal.Value
public import proofs.«01_k».proof.Proof.Gen.PoolDxRefIdeal.Read
public import Idealize.ShloMosaic.Lib.Pipeline.ValueKit
public import Idealize.ShloMosaic.Lib.Pointwise
public import Idealize.ShloMosaic.Lib.StableHlo.ReadAt

@[expose] public section

noncomputable section

namespace Cert.PoolDxIdeal.Hand

open Cert.PoolDxIdeal Cert.PoolDxIdeal.Gen Cert.PoolDxIdeal.Value
open Cert.PoolDxRefIdeal.Read (val_main_cst val_main_v0 val_main_v1 val_main_v2 val_main_v3 val_main_v4)
open Idealize.ShloMosaic Idealize.ShloMosaic.TcCoe Idealize.SL.Sem

variable (m : (ℓ : Loc nD τ sig) → Buf (Elt Ideal) ℓ)

/-- A weight, by its eight blocks of columns. -/
def byBlocks (w : FVec Ideal S512x1024 .bf16) : FVec Ideal S8x512x128 .bf16 :=
  transpose S8x512x128 [1, 0, 2] (shapeCast S512x8x128 w shapeCasts_S512x1024_S512x8x128) transposes_S512x8x128_S8x512x128_1_0_2

theorem byBlocks_apply (w : S512x1024.Idx → EReal) (i : S8x512x128.Idx) :
    (byBlocks w i : EReal) = w (ix2 (i 1) ⟨128 * (i 0).val + (i 2).val, by have h0 : (i 0).val < 8 := (i 0).isLt; have h2 : (i 2).val < 128 := (i 2).isLt; omega⟩) := by
  have h0 : (i 0).val < 8 := (i 0).isLt
  have h1 : (i 1).val < 512 := (i 1).isLt
  have h2 : (i 2).val < 128 := (i 2).isLt
  pointwise [byBlocks]
  first
    | rfl
    | (refine congrArg w ?_
       blk_ext [])

theorem v1_eq (c : Dev nD) : V m c main_v1 = byBlocks (m ((c : Thread nD τ).loc main_arg1)) := by
  unfold V
  after_reads_simp
  all_goals try simp -implicitDefEqProofs only [StableHlo.TRef.toBuf, StableHlo.TRef.ofBuf, cast_cast, cast_eq]
  rfl

/-- Eight blocks of columns, laid side by side. -/
def side (b0 b1 b2 b3 b4 b5 b6 b7 : Vec Ideal S1x512x128 .bf16) : FVec Ideal S512x1024 .bf16 :=
  concatenate S512x1024 1 [⟨S512x128, shapeCast S512x128 b0 shapeCasts_S1x512x128_S512x128⟩, ⟨S512x128, shapeCast S512x128 b1 shapeCasts_S1x512x128_S512x128⟩, ⟨S512x128, shapeCast S512x128 b2 shapeCasts_S1x512x128_S512x128⟩, ⟨S512x128, shapeCast S512x128 b3 shapeCasts_S1x512x128_S512x128⟩, ⟨S512x128, shapeCast S512x128 b4 shapeCasts_S1x512x128_S512x128⟩, ⟨S512x128, shapeCast S512x128 b5 shapeCasts_S1x512x128_S512x128⟩, ⟨S512x128, shapeCast S512x128 b6 shapeCasts_S1x512x128_S512x128⟩, ⟨S512x128, shapeCast S512x128 b7 shapeCasts_S1x512x128_S512x128⟩] concatenates_S512x128_S512x128_S512x128_S512x128_S512x128_S512x128_S512x128_S512x128_S512x1024_d1

theorem side_eq (A : S8x512x128.Idx → EReal) :
    side (View.ld A r0_0) (View.ld A r0_1) (View.ld A r0_2) (View.ld A r0_3) (View.ld A r0_4) (View.ld A r0_5) (View.ld A r0_6) (View.ld A r0_7) = fun j : S512x1024.Idx => (A (ix3 ⟨(j 1).val / 128, by have h : (j 1).val < 1024 := (j 1).isLt; omega⟩ (j 0) ⟨(j 1).val % 128, Nat.mod_lt _ (by decide)⟩) : EReal) := by
  funext j
  have h1 : (j 1).val < 1024 := (j 1).isLt
  pointwise [side]
  split_ifs
  all_goals
    refine congrArg A ?_
    blk_ext []

theorem pay1_eq (b0 b1 b2 b3 b4 b5 b6 b7 : Vec Ideal S1x512x128 .bf16) (x : FVec Ideal S2048x1024 .bf16) :
    k0_pay1 (F := Ideal) b0 b1 b2 b3 b4 b5 b6 b7 x = matmul dot_S2048x1024_S512x1024_S2048x512_1_1_0_0_n_n none x (side b0 b1 b2 b3 b4 b5 b6 b7) (constant S2048x512 .f32 0x00000000#32) := rfl

/-- A product of rows with rows. -/
theorem rows_apply (x : S2048x1024.Idx → EReal) (w : S512x1024.Idx → EReal) (y : S2048x512.Idx) :
    (matmul (F := Ideal) (φ₁ := .bf16) (φ₂ := .bf16) dot_S2048x1024_S512x1024_S2048x512_1_1_0_0_n_n none x w (constant S2048x512 .f32 0x00000000#32) y : EReal)
      = ∑ k : Fin 1024, x (ix2 (y 0) k) * w (ix2 (y 1) k) := by
  pointwise []

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)

/-- Row `r` of the block of point `t`, in the array. -/
abbrev row (t : Fin cfg0.N) (r : Fin 2048) : Fin 4096 :=
  ⟨2048 * t.val + r.val, by have := lt_of_lt_of_eq t.isLt (show cfg0.N = 2 from N_0); have := r.isLt; omega⟩

theorem blk0_apply (c : Dev nD) (t : Fin cfg0.N) (y : S2048x1024.Idx) :
    iblk m c 0 t y = m ((c : Thread nD τ).loc main_arg0) (ix2 (row t (y 0)) (y 1)) := by
  blk_simp [iblk]
  rw [V_main_arg0]
  refine congrArg _ ?_
  blk_ext [e0]

theorem read1 (A : S8x512x128.Idx → EReal) (t : Fin cfg0.N) (y : S8x512x128.Idx) :
    (win0_1.blk t).view.read (Elt Ideal) A y = A (ix3 (y 0) (y 1) (y 2)) := by
  blk_simp
  refine congrArg A ?_
  blk_ext [e1]

theorem blk1_apply (c : Dev nD) (t : Fin cfg0.N) (y : S8x512x128.Idx) :
    (iblk m c 1 t y : EReal) = byBlocks (m ((c : Thread nD τ).loc main_arg1)) (ix3 (y 0) (y 1) (y 2)) :=
  (read1 (V m c main_v1) t y).trans (congrFun (v1_eq m c) _)

/-- The reference's result, entry by entry. -/
theorem ref_apply (a : S4096x1024.Idx → EReal) (w : S512x1024.Idx → EReal) (i : S4096x512.Idx) :
    (val_main_v4 (F := Ideal) a w i : EReal) = ∑ k : Fin 1024, a (ix2 (i 0) k) * w (ix2 (i 1) k) := by
  pointwise [val_main_cst, val_main_v0, val_main_v1, val_main_v2, val_main_v3, val_main_v4]

/-- The reference's result over this launch's arguments. -/
abbrev want (c : Dev nD) : S4096x512.Idx → EReal := val_main_v4 (F := Ideal) (m ((c : Thread nD τ).loc main_arg0)) (m ((c : Thread nD τ).loc main_arg1))

theorem blocks_at (w : S512x1024.Idx → EReal) (j : Fin 512) (k : Fin 1024) (h : k.val / 128 < 8) :
    (byBlocks w (ix3 ⟨k.val / 128, h⟩ j ⟨k.val % 128, Nat.mod_lt _ (by decide)⟩) : EReal) = w (ix2 j k) := by
  rw [byBlocks_apply]
  refine congrArg w (congrArg (ix2 _) (Fin.ext ?_))
  show 128 * (k.val / 128) + k.val % 128 = k.val
  omega

/-- One block of the result. -/
theorem point (c : Dev nD) (t : Fin cfg0.N) (y : S2048x512.Idx) :
    (k0_pay1 (F := Ideal) (View.ld (iblk m c 1 t) r0_0) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (iblk m c 0 t) y : EReal) = want m c (ix2 (row t (y 0)) (y 1)) := by
  rw [pay1_eq]
  refine (rows_apply _ _ y).trans ?_
  refine Eq.trans ?_ (ref_apply _ _ _).symm
  refine Finset.sum_congr rfl fun k _ => ?_
  exact congrArg₂ _ (blk0_apply m c t _) ((congrFun (side_eq (iblk m c 1 t)) _).trans ((blk1_apply m c t _).trans (blocks_at _ _ k _)))

theorem final2 (c : Dev nD) : (dats m 0 c).arrAt 2 cfg0.N = want m c := by
  refine (dats m 0 c).arrAt_eq_of_covers 2 _ (by decide +kernel) fun t hf y => ?_
  blk_simp
  rw [after0_2]
  unfold out0_2
  rw [View.canon_unit_zero (by decide), View.ld_unit_zero (by decide)]
  rw [show (win0_2.blk t).view.emb y = ix2 (row t (y 0)) (y 1) by blk_ext [e2]]
  exact point m c t y

theorem algebraic : Cert.algebraic_PoolDxIdeal_PoolDxRefIdeal := by
  intro m g m' g' _ hagree
  refine ⟨want m, (θ_run _ _ _).mono (fun r h c => ?_) (run_blocks m g), (θ_run Cert.PoolDxRefIdeal.defs _ _).mono (fun r h c => ?_) (Cert.PoolDxRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.PoolDxIdeal.Hand

end
-- ==== Proof.MixOutClaim.lean ====
/- The mixer's output projection, at an index, and its claim. -/
module

public import proofs.«01_k».proof.Defs
public import proofs.«01_k».proof.Proof.Gen.MixOutIdeal.Value
public import proofs.«01_k».proof.Proof.Gen.MixOutRefIdeal.Read
public import Idealize.ShloMosaic.Lib.Pipeline.ValueKit
public import Idealize.ShloMosaic.Lib.Pointwise

@[expose] public section

noncomputable section

namespace Cert.MixOutIdeal.Hand

open Cert.MixOutIdeal Cert.MixOutIdeal.Gen Cert.MixOutIdeal.Value
open Cert.MixOutRefIdeal.Read (val_main_v0 val_main_v1 val_main_v2)
open Idealize.ShloMosaic Idealize.ShloMosaic.TcCoe Idealize.SL.Sem

variable (m : (ℓ : Loc nD τ sig) → Buf (Elt Ideal) ℓ)

/-- The product the call computes, entry by entry. -/
def prod (a : S4096x1024.Idx → EReal) (b : S1024x1024.Idx → EReal) (i : Fin 4096) (j : Fin 1024) : EReal :=
  ∑ k : Fin 1024, a (ix2 i k) * b (ix2 k j)

/-- The reference's result is that product. -/
theorem ref_apply (a : S4096x1024.Idx → EReal) (b : S1024x1024.Idx → EReal) (i : S4096x1024.Idx) :
    val_main_v2 (F := Ideal) a b i = prod a b (i 0) (i 1) := by
  pointwise [val_main_v0, val_main_v1, val_main_v2]
  unfold prod
  refine Finset.sum_congr rfl fun k _ => ?_
  first | rfl | exact mul_comm _ _

theorem pay_apply (v0 : S1024x1024.Idx → EReal) (v1 : S2048x1024.Idx → EReal) (y : S2048x1024.Idx) :
    k0_pay1 (F := Ideal) v0 v1 y = ∑ k : Fin 1024, v1 (ix2 (y 0) k) * v0 (ix2 k (y 1)) := by
  pointwise [k0_pay1]

theorem e0 : ∀ t : Fin cfg0.N, win0_0.index t = ![t.val / 1, 0] := (by decide +kernel : ∀ t : Fin grid0.N, _)
theorem e1 : ∀ t : Fin cfg0.N, win0_1.index t = ![0, t.val % 1] := (by decide +kernel : ∀ t : Fin grid0.N, _)
theorem e2 : ∀ t : Fin cfg0.N, win0_2.index t = ![t.val / 1, t.val % 1] := (by decide +kernel : ∀ t : Fin grid0.N, _)

/-- Row `r` of the block of point `t`, in the array. -/
abbrev row (t : Fin cfg0.N) (r : Fin 2048) : Fin 4096 :=
  ⟨2048 * (t.val / 1) + r.val, by have := lt_of_lt_of_eq t.isLt (show cfg0.N = 2 from N_0); have := r.isLt; omega⟩
/-- Column `r` of the block of point `t`, in the array. -/
abbrev col (t : Fin cfg0.N) (r : Fin 1024) : Fin 1024 :=
  ⟨1024 * (t.val % 1) + r.val, by have := r.isLt; omega⟩

theorem blk0_apply (c : Dev nD) (t : Fin cfg0.N) (y : S2048x1024.Idx) :
    iblk m c 0 t y = m ((c : Thread nD τ).loc main_arg0) (ix2 (row t (y 0)) (y 1)) := by
  blk_simp [iblk]
  rw [V_main_arg0]
  refine congrArg _ ?_
  blk_ext [e0]

theorem blk1_apply (c : Dev nD) (t : Fin cfg0.N) (y : S1024x1024.Idx) :
    iblk m c 1 t y = m ((c : Thread nD τ).loc main_arg1) (ix2 (y 0) (col t (y 1))) := by
  blk_simp [iblk]
  rw [V_main_arg1]
  refine congrArg _ ?_
  blk_ext [e1]

/-- The reference's result over this launch's arguments. -/
abbrev want (c : Dev nD) : S4096x1024.Idx → EReal :=
  val_main_v2 (F := Ideal) (m ((c : Thread nD τ).loc main_arg0)) (m ((c : Thread nD τ).loc main_arg1))

/-- One block of the result. -/
theorem point (c : Dev nD) (t : Fin cfg0.N) (y : S2048x1024.Idx) :
    (k0_pay1 (F := Ideal) (iblk m c 1 t) (iblk m c 0 t) y : EReal) = want m c (ix2 (row t (y 0)) (col t (y 1))) := by
  rw [pay_apply]
  unfold want
  rw [ref_apply]
  unfold prod
  refine Finset.sum_congr rfl fun k _ => ?_
  rw [blk0_apply, blk1_apply]
  rfl

theorem final2 (c : Dev nD) : (dats m 0 c).arrAt 2 cfg0.N = want m c := by
  refine (dats m 0 c).arrAt_eq_of_covers 2 _ (by decide +kernel) fun t hf y => ?_
  blk_simp
  rw [after0_2]
  frame_out
  rw [show (win0_2.blk t).view.emb y = ix2 (row t (y 0)) (col t (y 1)) by blk_ext [e2]]
  exact point m c t y

theorem algebraic : Cert.algebraic_MixOutIdeal_MixOutRefIdeal := by
  intro m g m' g' _ hagree
  refine ⟨want m, (θ_run _ _ _).mono (fun r h c => ?_) (run_blocks m g), (θ_run Cert.MixOutRefIdeal.defs _ _).mono (fun r h c => ?_) (Cert.MixOutRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.MixOutIdeal.Hand

end
-- ==== Proof.BranchesClaim.lean ====
/- The three branches' output products and their gated sum: at an index, and its claim. -/
module

public import proofs.«01_k».proof.Defs
public import proofs.«01_k».proof.Proof.Gen.BranchesIdeal.Value
public import proofs.«01_k».proof.Proof.Gen.BranchesRefIdeal.Read
public import Idealize.ShloMosaic.Lib.Pipeline.ValueKit
public import Idealize.ShloMosaic.Lib.Pointwise
public import Idealize.ShloMosaic.Lib.StableHlo.ReadAt

@[expose] public section

noncomputable section

namespace Cert.BranchesIdeal.Hand

open Cert.BranchesIdeal Cert.BranchesIdeal.Gen Cert.BranchesIdeal.Value
open Cert.BranchesRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_cst val_main_v16 val_main_v17 val_main_cst_0 val_main_v18 val_main_v19 val_main_v20 val_main_v21 val_main_v22 val_main_v23 val_main_v24 val_main_v25 val_main_v26 val_main_v27 val_main_v28 val_main_v29 val_main_v30 val_main_v31)
open Idealize.ShloMosaic Idealize.ShloMosaic.TcCoe Idealize.SL.Sem

variable (m : (ℓ : Loc nD τ sig) → Buf (Elt Ideal) ℓ)

/-- A weight, by its eight blocks of columns. -/
def wide (w : FVec Ideal S1024x1024 .bf16) : FVec Ideal S8x1024x128 .bf16 :=
  transpose S8x1024x128 [1, 0, 2] (shapeCast S1024x8x128 w shapeCasts_S1024x1024_S1024x8x128) transposes_S1024x8x128_S8x1024x128_1_0_2

theorem wide_apply (w : S1024x1024.Idx → EReal) (i : S8x1024x128.Idx) :
    (wide w i : EReal) = w (ix2 (i 1) ⟨128 * (i 0).val + (i 2).val, by have h0 : (i 0).val < 8 := (i 0).isLt; have h2 : (i 2).val < 128 := (i 2).isLt; omega⟩) := by
  have h0 : (i 0).val < 8 := (i 0).isLt
  have h1 : (i 1).val < 1024 := (i 1).isLt
  have h2 : (i 2).val < 128 := (i 2).isLt
  pointwise [wide]
  first
    | rfl
    | (refine congrArg w ?_
       blk_ext [])

/-- A weight, by its eight blocks of columns. -/
def narrow (w : FVec Ideal S512x1024 .bf16) : FVec Ideal S8x512x128 .bf16 :=
  transpose S8x512x128 [1, 0, 2] (shapeCast S512x8x128 w shapeCasts_S512x1024_S512x8x128) transposes_S512x8x128_S8x512x128_1_0_2

theorem narrow_apply (w : S512x1024.Idx → EReal) (i : S8x512x128.Idx) :
    (narrow w i : EReal) = w (ix2 (i 1) ⟨128 * (i 0).val + (i 2).val, by have h0 : (i 0).val < 8 := (i 0).isLt; have h2 : (i 2).val < 128 := (i 2).isLt; omega⟩) := by
  have h0 : (i 0).val < 8 := (i 0).isLt
  have h1 : (i 1).val < 512 := (i 1).isLt
  have h2 : (i 2).val < 128 := (i 2).isLt
  pointwise [narrow]
  first
    | rfl
    | (refine congrArg w ?_
       blk_ext [])

theorem v1_eq (c : Dev nD) : V m c main_v1 = wide (m ((c : Thread nD τ).loc main_arg4)) := by
  unfold V
  after_reads_simp
  all_goals try simp -implicitDefEqProofs only [StableHlo.TRef.toBuf, StableHlo.TRef.ofBuf, cast_cast, cast_eq]
  rfl

theorem v3_eq (c : Dev nD) : V m c main_v3 = narrow (m ((c : Thread nD τ).loc main_arg5)) := by
  unfold V
  after_reads_simp
  all_goals try simp -implicitDefEqProofs only [StableHlo.TRef.toBuf, StableHlo.TRef.ofBuf, cast_cast, cast_eq]
  rfl

theorem v5_eq (c : Dev nD) : V m c main_v5 = narrow (m ((c : Thread nD τ).loc main_arg6)) := by
  unfold V
  after_reads_simp
  all_goals try simp -implicitDefEqProofs only [StableHlo.TRef.toBuf, StableHlo.TRef.ofBuf, cast_cast, cast_eq]
  rfl

/-- Eight blocks of a wide weight's columns, side by side. -/
def side (b0 b1 b2 b3 b4 b5 b6 b7 : Vec Ideal S1x1024x128 .bf16) : FVec Ideal S1024x1024 .bf16 :=
  concatenate S1024x1024 1 [⟨S1024x128, shapeCast S1024x128 b0 shapeCasts_S1x1024x128_S1024x128⟩, ⟨S1024x128, shapeCast S1024x128 b1 shapeCasts_S1x1024x128_S1024x128⟩, ⟨S1024x128, shapeCast S1024x128 b2 shapeCasts_S1x1024x128_S1024x128⟩, ⟨S1024x128, shapeCast S1024x128 b3 shapeCasts_S1x1024x128_S1024x128⟩, ⟨S1024x128, shapeCast S1024x128 b4 shapeCasts_S1x1024x128_S1024x128⟩, ⟨S1024x128, shapeCast S1024x128 b5 shapeCasts_S1x1024x128_S1024x128⟩, ⟨S1024x128, shapeCast S1024x128 b6 shapeCasts_S1x1024x128_S1024x128⟩, ⟨S1024x128, shapeCast S1024x128 b7 shapeCasts_S1x1024x128_S1024x128⟩] concatenates_S1024x128_S1024x128_S1024x128_S1024x128_S1024x128_S1024x128_S1024x128_S1024x128_S1024x1024_d1

theorem side_eq (A : S8x1024x128.Idx → EReal) :
    side (View.ld A (Rect.unit (s := S8x1024x128) ![0, 0, 0] ![1, 1024, 128] inb_S8x1024x128_S1x1024x128_0_0_0)) (View.ld A (Rect.unit (s := S8x1024x128) ![1, 0, 0] ![1, 1024, 128] inb_S8x1024x128_S1x1024x128_1_0_0)) (View.ld A (Rect.unit (s := S8x1024x128) ![2, 0, 0] ![1, 1024, 128] inb_S8x1024x128_S1x1024x128_2_0_0)) (View.ld A (Rect.unit (s := S8x1024x128) ![3, 0, 0] ![1, 1024, 128] inb_S8x1024x128_S1x1024x128_3_0_0)) (View.ld A (Rect.unit (s := S8x1024x128) ![4, 0, 0] ![1, 1024, 128] inb_S8x1024x128_S1x1024x128_4_0_0)) (View.ld A (Rect.unit (s := S8x1024x128) ![5, 0, 0] ![1, 1024, 128] inb_S8x1024x128_S1x1024x128_5_0_0)) (View.ld A (Rect.unit (s := S8x1024x128) ![6, 0, 0] ![1, 1024, 128] inb_S8x1024x128_S1x1024x128_6_0_0)) (View.ld A (Rect.unit (s := S8x1024x128) ![7, 0, 0] ![1, 1024, 128] inb_S8x1024x128_S1x1024x128_7_0_0)) = fun j : S1024x1024.Idx => (A (ix3 ⟨(j 1).val / 128, by have h : (j 1).val < 1024 := (j 1).isLt; omega⟩ (j 0) ⟨(j 1).val % 128, Nat.mod_lt _ (by decide)⟩) : EReal) := by
  funext j
  have h1 : (j 1).val < 1024 := (j 1).isLt
  pointwise [side]
  split_ifs
  all_goals
    refine congrArg A ?_
    blk_ext []

theorem side_narrow_eq (A : S8x512x128.Idx → EReal) :
    k0_pay10 (F := Ideal) (View.ld A (Rect.unit (s := S8x512x128) ![0, 0, 0] ![1, 512, 128] inb_S8x512x128_S1x512x128_0_0_0)) (View.ld A (Rect.unit (s := S8x512x128) ![1, 0, 0] ![1, 512, 128] inb_S8x512x128_S1x512x128_1_0_0)) (View.ld A (Rect.unit (s := S8x512x128) ![2, 0, 0] ![1, 512, 128] inb_S8x512x128_S1x512x128_2_0_0)) (View.ld A (Rect.unit (s := S8x512x128) ![3, 0, 0] ![1, 512, 128] inb_S8x512x128_S1x512x128_3_0_0)) (View.ld A (Rect.unit (s := S8x512x128) ![4, 0, 0] ![1, 512, 128] inb_S8x512x128_S1x512x128_4_0_0)) (View.ld A (Rect.unit (s := S8x512x128) ![5, 0, 0] ![1, 512, 128] inb_S8x512x128_S1x512x128_5_0_0)) (View.ld A (Rect.unit (s := S8x512x128) ![6, 0, 0] ![1, 512, 128] inb_S8x512x128_S1x512x128_6_0_0)) (View.ld A (Rect.unit (s := S8x512x128) ![7, 0, 0] ![1, 512, 128] inb_S8x512x128_S1x512x128_7_0_0)) = fun j : S512x1024.Idx => (A (ix3 ⟨(j 1).val / 128, by have h : (j 1).val < 1024 := (j 1).isLt; omega⟩ (j 0) ⟨(j 1).val % 128, Nat.mod_lt _ (by decide)⟩) : EReal) := by
  funext j
  have h1 : (j 1).val < 1024 := (j 1).isLt
  pointwise [k0_pay10]
  split_ifs
  all_goals
    refine congrArg A ?_
    blk_ext []

theorem pay4_eq (b0 b1 b2 b3 b4 b5 b6 b7 : Vec Ideal S1x1024x128 .bf16) (x : FVec Ideal S512x1024 .bf16) :
    k0_pay4 (F := Ideal) b0 b1 b2 b3 b4 b5 b6 b7 x = truncf .bf16 (matmul dot_S512x1024_S1024x1024_S512x1024_1_0_0_1_n_n none x (side b0 b1 b2 b3 b4 b5 b6 b7) (constant S512x1024 .f32 0x00000000#32)) bitsLt_bf16_f32 := rfl

theorem pay8_eq (b0 b1 b2 b3 b4 b5 b6 b7 : FVec Ideal S1x512x128 .bf16) (x : FVec Ideal S512x512 .bf16) :
    k0_pay8 (F := Ideal) b0 b1 b2 b3 b4 b5 b6 b7 x = k0_pay1 (F := Ideal) (k0_pay10 b0 b1 b2 b3 b4 b5 b6 b7) x := rfl

/-- A wide product, entry by entry. -/
theorem wide_rows (x : S512x1024.Idx → EReal) (w : S1024x1024.Idx → EReal) (y : S512x1024.Idx) :
    (truncf (F := Ideal) .bf16 (matmul (F := Ideal) (φ₁ := .bf16) (φ₂ := .bf16) dot_S512x1024_S1024x1024_S512x1024_1_0_0_1_n_n none x w (constant S512x1024 .f32 0x00000000#32)) bitsLt_bf16_f32 y : EReal)
      = ∑ k : Fin 1024, x (ix2 (y 0) k) * w (ix2 k (y 1)) := by
  pointwise []

/-- A narrow product, entry by entry. -/
theorem narrow_rows (x : S512x512.Idx → EReal) (w : S512x1024.Idx → EReal) (y : S512x1024.Idx) :
    (k0_pay1 (F := Ideal) w x y : EReal) = ∑ k : Fin 512, x (ix2 (y 0) k) * w (ix2 k (y 1)) := by
  pointwise [k0_pay1]

/-- The gated sum of the three products, at an index. -/
theorem merged_apply (Y0 Y1 w : S512x1024.Idx → EReal) (x : S512x512.Idx → EReal) (g0 g1 g2 : S512x1024.Idx → EReal) (y : S512x1024.Idx) :
    (k0_pay2 (F := Ideal) (k0_pay9 (F := Ideal) (k0_pay7 (F := Ideal) (k0_pay3 (F := Ideal)) Y0 (k0_pay5 (F := Ideal) g0) (k0_pay6 (F := Ideal))) Y1 g1) w x g2 y : EReal)
      = Ideal.div 1 (1 + Ideal.exp (-(g0 y))) * Y0 y + Ideal.div 1 (1 + Ideal.exp (-(g1 y))) * Y1 y
        + Ideal.div 1 (1 + Ideal.exp (-(g2 y))) * k0_pay1 (F := Ideal) w x y := by
  generalize hp : k0_pay1 (F := Ideal) w x = P
  rw [show k0_pay2 (F := Ideal) (k0_pay9 (F := Ideal) (k0_pay7 (F := Ideal) (k0_pay3 (F := Ideal)) Y0 (k0_pay5 (F := Ideal) g0) (k0_pay6 (F := Ideal))) Y1 g1) w x g2
    = k0_pay9 (F := Ideal) (k0_pay9 (F := Ideal) (k0_pay7 (F := Ideal) (k0_pay3 (F := Ideal)) Y0 (k0_pay5 (F := Ideal) g0) (k0_pay6 (F := Ideal))) Y1 g1) (k0_pay1 (F := Ideal) w x) g2 from rfl, hp]
  pointwise [k0_pay9, k0_pay7, k0_pay3, k0_pay5, k0_pay6]
  simp only [zero_sub, zero_add]

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 2] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![0, 0, 0] := (by decide +kernel : ∀ t : Fin grid0.N, _)

/-- Row `r` of the block of point `t`, in the array. -/
abbrev row (t : Fin cfg0.N) (r : Fin 512) : Fin 4096 := ⟨512 * t.val + r.val, by have := lt_of_lt_of_eq t.isLt (show cfg0.N = 8 from N_0); have := r.isLt; omega⟩
/-- Column `k` of gate `b`, in the projections' array. -/
abbrev col (b : Fin 3) (k : Fin 1024) : Fin 5376 := ⟨1024 * b.val + k.val, by have := b.isLt; have := k.isLt; omega⟩

theorem gate0_apply (c : Dev nD) (t : Fin cfg0.N) (j : S512x1024.Idx) : (X0_0 m c t j : EReal) = m ((c : Thread nD τ).loc main_arg0) (ix2 (row t (j 0)) (col 0 (j 1))) := by
  unfold X0_0 Pipeline.Window.fill
  rw [dif_pos (moved0_0 t j)]
  blk_simp [iblk]
  rw [V_main_arg0]
  refine congrArg _ ?_
  blk_ext [e0]

theorem gate1_apply (c : Dev nD) (t : Fin cfg0.N) (j : S512x1024.Idx) : (X0_1 m c t j : EReal) = m ((c : Thread nD τ).loc main_arg0) (ix2 (row t (j 0)) (col 1 (j 1))) := by
  unfold X0_1 Pipeline.Window.fill
  rw [dif_pos (moved0_1 t j)]
  blk_simp [iblk]
  rw [V_main_arg0]
  refine congrArg _ ?_
  blk_ext [e1]

theorem gate2_apply (c : Dev nD) (t : Fin cfg0.N) (j : S512x1024.Idx) : (X0_2 m c t j : EReal) = m ((c : Thread nD τ).loc main_arg0) (ix2 (row t (j 0)) (col 2 (j 1))) := by
  unfold X0_2 Pipeline.Window.fill
  rw [dif_pos (moved0_2 t j)]
  blk_simp [iblk]
  rw [V_main_arg0]
  refine congrArg _ ?_
  blk_ext [e2]

theorem blk3_apply (c : Dev nD) (t : Fin cfg0.N) (y : S512x1024.Idx) :
    iblk m c 3 t y = m ((c : Thread nD τ).loc main_arg1) (ix2 (row t (y 0)) (y 1)) := by
  blk_simp [iblk]
  rw [V_main_arg1]
  refine congrArg _ ?_
  blk_ext [e3]

theorem blk4_apply (c : Dev nD) (t : Fin cfg0.N) (y : S512x512.Idx) :
    iblk m c 4 t y = m ((c : Thread nD τ).loc main_arg2) (ix2 (row t (y 0)) (y 1)) := by
  blk_simp [iblk]
  rw [V_main_arg2]
  refine congrArg _ ?_
  blk_ext [e4]

theorem blk5_apply (c : Dev nD) (t : Fin cfg0.N) (y : S512x512.Idx) :
    iblk m c 5 t y = m ((c : Thread nD τ).loc main_arg3) (ix2 (row t (y 0)) (y 1)) := by
  blk_simp [iblk]
  rw [V_main_arg3]
  refine congrArg _ ?_
  blk_ext [e5]

theorem read6 (A : S8x1024x128.Idx → EReal) (t : Fin cfg0.N) (y : S8x1024x128.Idx) :
    (win0_6.blk t).view.read (Elt Ideal) A y = A (y) := by
  blk_simp
  refine congrArg A ?_
  blk_ext [e6]

theorem blk6_apply (c : Dev nD) (t : Fin cfg0.N) (y : S8x1024x128.Idx) :
    (iblk m c 6 t y : EReal) = wide (m ((c : Thread nD τ).loc main_arg4)) (y) :=
  (read6 (V m c main_v1) t y).trans (congrFun (v1_eq m c) _)

theorem read7 (A : S8x512x128.Idx → EReal) (t : Fin cfg0.N) (y : S8x512x128.Idx) :
    (win0_7.blk t).view.read (Elt Ideal) A y = A (y) := by
  blk_simp
  refine congrArg A ?_
  blk_ext [e7]

theorem blk7_apply (c : Dev nD) (t : Fin cfg0.N) (y : S8x512x128.Idx) :
    (iblk m c 7 t y : EReal) = narrow (m ((c : Thread nD τ).loc main_arg5)) (y) :=
  (read7 (V m c main_v3) t y).trans (congrFun (v3_eq m c) _)

theorem read8 (A : S8x512x128.Idx → EReal) (t : Fin cfg0.N) (y : S8x512x128.Idx) :
    (win0_8.blk t).view.read (Elt Ideal) A y = A (y) := by
  blk_simp
  refine congrArg A ?_
  blk_ext [e8]

theorem blk8_apply (c : Dev nD) (t : Fin cfg0.N) (y : S8x512x128.Idx) :
    (iblk m c 8 t y : EReal) = narrow (m ((c : Thread nD τ).loc main_arg6)) (y) :=
  (read8 (V m c main_v5) t y).trans (congrFun (v5_eq m c) _)

theorem wide_at (w : S1024x1024.Idx → EReal) (k j : Fin 1024) (h : j.val / 128 < 8) :
    (wide w (ix3 ⟨j.val / 128, h⟩ k ⟨j.val % 128, Nat.mod_lt _ (by decide)⟩) : EReal) = w (ix2 k j) := by
  rw [wide_apply]
  refine congrArg w (congrArg (ix2 _) (Fin.ext ?_))
  show 128 * (j.val / 128) + j.val % 128 = j.val
  omega

theorem narrow_at (w : S512x1024.Idx → EReal) (k : Fin 512) (j : Fin 1024) (h : j.val / 128 < 8) :
    (narrow w (ix3 ⟨j.val / 128, h⟩ k ⟨j.val % 128, Nat.mod_lt _ (by decide)⟩) : EReal) = w (ix2 k j) := by
  rw [narrow_apply]
  refine congrArg w (congrArg (ix2 _) (Fin.ext ?_))
  show 128 * (j.val / 128) + j.val % 128 = j.val
  omega

/-- The reference's product of branch 0, entry by entry. -/
theorem ref_branch0 (a : S4096x1024.Idx → EReal) (w : S1024x1024.Idx → EReal) (i : S4096x1024.Idx) :
    (val_main_v2 (F := Ideal) a w i : EReal) = ∑ k : Fin 1024, a (ix2 (i 0) k) * w (ix2 k (i 1)) := by
  pointwise [val_main_v0, val_main_v1, val_main_v2]

/-- The reference's product of branch 1, entry by entry. -/
theorem ref_branch1 (a : S4096x512.Idx → EReal) (w : S512x1024.Idx → EReal) (i : S4096x1024.Idx) :
    (val_main_v6 (F := Ideal) a w i : EReal) = ∑ k : Fin 512, a (ix2 (i 0) k) * w (ix2 k (i 1)) := by
  pointwise [val_main_v4, val_main_v5, val_main_v6]

/-- The reference's product of branch 2, entry by entry. -/
theorem ref_branch2 (a : S4096x512.Idx → EReal) (w : S512x1024.Idx → EReal) (i : S4096x1024.Idx) :
    (val_main_v10 (F := Ideal) a w i : EReal) = ∑ k : Fin 512, a (ix2 (i 0) k) * w (ix2 k (i 1)) := by
  pointwise [val_main_v8, val_main_v9, val_main_v10]

theorem branch0 (c : Dev nD) (t : Fin cfg0.N) (y : S512x1024.Idx) :
    (k0_pay4 (F := Ideal) (View.ld (iblk m c 6 t) (Rect.unit (s := S8x1024x128) ![0, 0, 0] ![1, 1024, 128] inb_S8x1024x128_S1x1024x128_0_0_0)) (View.ld (iblk m c 6 t) (Rect.unit (s := S8x1024x128) ![1, 0, 0] ![1, 1024, 128] inb_S8x1024x128_S1x1024x128_1_0_0)) (View.ld (iblk m c 6 t) (Rect.unit (s := S8x1024x128) ![2, 0, 0] ![1, 1024, 128] inb_S8x1024x128_S1x1024x128_2_0_0)) (View.ld (iblk m c 6 t) (Rect.unit (s := S8x1024x128) ![3, 0, 0] ![1, 1024, 128] inb_S8x1024x128_S1x1024x128_3_0_0)) (View.ld (iblk m c 6 t) (Rect.unit (s := S8x1024x128) ![4, 0, 0] ![1, 1024, 128] inb_S8x1024x128_S1x1024x128_4_0_0)) (View.ld (iblk m c 6 t) (Rect.unit (s := S8x1024x128) ![5, 0, 0] ![1, 1024, 128] inb_S8x1024x128_S1x1024x128_5_0_0)) (View.ld (iblk m c 6 t) (Rect.unit (s := S8x1024x128) ![6, 0, 0] ![1, 1024, 128] inb_S8x1024x128_S1x1024x128_6_0_0)) (View.ld (iblk m c 6 t) (Rect.unit (s := S8x1024x128) ![7, 0, 0] ![1, 1024, 128] inb_S8x1024x128_S1x1024x128_7_0_0)) (iblk m c 3 t) y : EReal)
      = val_main_v2 (F := Ideal) (m ((c : Thread nD τ).loc main_arg1)) (m ((c : Thread nD τ).loc main_arg4)) (ix2 (row t (y 0)) (y 1)) := by
  refine (congrFun (pay4_eq _ _ _ _ _ _ _ _ (iblk m c 3 t)) y).trans ?_
  refine (congrFun (congrArg (fun w : Vec Ideal S1024x1024 .bf16 => truncf (F := Ideal) .bf16 (matmul (F := Ideal) (φ₁ := .bf16) (φ₂ := .bf16) dot_S512x1024_S1024x1024_S512x1024_1_0_0_1_n_n none (iblk m c 3 t) w (constant S512x1024 .f32 0x00000000#32)) bitsLt_bf16_f32) (side_eq (iblk m c 6 t))) y).trans ?_
  refine (wide_rows _ _ y).trans (Eq.trans ?_ (ref_branch0 _ _ _).symm)
  refine Finset.sum_congr rfl fun k _ => ?_
  exact congrArg₂ _ (blk3_apply m c t _) ((blk6_apply m c t _).trans (wide_at _ _ _ _))

theorem branch1 (c : Dev nD) (t : Fin cfg0.N) (y : S512x1024.Idx) :
    (k0_pay8 (F := Ideal) (View.ld (iblk m c 7 t) (Rect.unit (s := S8x512x128) ![0, 0, 0] ![1, 512, 128] inb_S8x512x128_S1x512x128_0_0_0)) (View.ld (iblk m c 7 t) (Rect.unit (s := S8x512x128) ![1, 0, 0] ![1, 512, 128] inb_S8x512x128_S1x512x128_1_0_0)) (View.ld (iblk m c 7 t) (Rect.unit (s := S8x512x128) ![2, 0, 0] ![1, 512, 128] inb_S8x512x128_S1x512x128_2_0_0)) (View.ld (iblk m c 7 t) (Rect.unit (s := S8x512x128) ![3, 0, 0] ![1, 512, 128] inb_S8x512x128_S1x512x128_3_0_0)) (View.ld (iblk m c 7 t) (Rect.unit (s := S8x512x128) ![4, 0, 0] ![1, 512, 128] inb_S8x512x128_S1x512x128_4_0_0)) (View.ld (iblk m c 7 t) (Rect.unit (s := S8x512x128) ![5, 0, 0] ![1, 512, 128] inb_S8x512x128_S1x512x128_5_0_0)) (View.ld (iblk m c 7 t) (Rect.unit (s := S8x512x128) ![6, 0, 0] ![1, 512, 128] inb_S8x512x128_S1x512x128_6_0_0)) (View.ld (iblk m c 7 t) (Rect.unit (s := S8x512x128) ![7, 0, 0] ![1, 512, 128] inb_S8x512x128_S1x512x128_7_0_0)) (iblk m c 4 t) y : EReal)
      = val_main_v6 (F := Ideal) (m ((c : Thread nD τ).loc main_arg2)) (m ((c : Thread nD τ).loc main_arg5)) (ix2 (row t (y 0)) (y 1)) := by
  refine (congrFun (pay8_eq _ _ _ _ _ _ _ _ (iblk m c 4 t)) y).trans ?_
  refine (congrFun (congrArg (fun w : Vec Ideal S512x1024 .bf16 => k0_pay1 (F := Ideal) w (iblk m c 4 t)) (side_narrow_eq (iblk m c 7 t))) y).trans ?_
  refine (narrow_rows _ _ y).trans (Eq.trans ?_ (ref_branch1 _ _ _).symm)
  refine Finset.sum_congr rfl fun k _ => ?_
  exact congrArg₂ _ (blk4_apply m c t _) ((blk7_apply m c t _).trans (narrow_at _ _ _ _))

theorem branch2 (c : Dev nD) (t : Fin cfg0.N) (y : S512x1024.Idx) :
    (k0_pay1 (F := Ideal) (k0_pay10 (F := Ideal) (View.ld (iblk m c 8 t) (Rect.unit (s := S8x512x128) ![0, 0, 0] ![1, 512, 128] inb_S8x512x128_S1x512x128_0_0_0)) (View.ld (iblk m c 8 t) (Rect.unit (s := S8x512x128) ![1, 0, 0] ![1, 512, 128] inb_S8x512x128_S1x512x128_1_0_0)) (View.ld (iblk m c 8 t) (Rect.unit (s := S8x512x128) ![2, 0, 0] ![1, 512, 128] inb_S8x512x128_S1x512x128_2_0_0)) (View.ld (iblk m c 8 t) (Rect.unit (s := S8x512x128) ![3, 0, 0] ![1, 512, 128] inb_S8x512x128_S1x512x128_3_0_0)) (View.ld (iblk m c 8 t) (Rect.unit (s := S8x512x128) ![4, 0, 0] ![1, 512, 128] inb_S8x512x128_S1x512x128_4_0_0)) (View.ld (iblk m c 8 t) (Rect.unit (s := S8x512x128) ![5, 0, 0] ![1, 512, 128] inb_S8x512x128_S1x512x128_5_0_0)) (View.ld (iblk m c 8 t) (Rect.unit (s := S8x512x128) ![6, 0, 0] ![1, 512, 128] inb_S8x512x128_S1x512x128_6_0_0)) (View.ld (iblk m c 8 t) (Rect.unit (s := S8x512x128) ![7, 0, 0] ![1, 512, 128] inb_S8x512x128_S1x512x128_7_0_0))) (iblk m c 5 t) y : EReal)
      = val_main_v10 (F := Ideal) (m ((c : Thread nD τ).loc main_arg3)) (m ((c : Thread nD τ).loc main_arg6)) (ix2 (row t (y 0)) (y 1)) := by
  refine (congrFun (congrArg (fun w : Vec Ideal S512x1024 .bf16 => k0_pay1 (F := Ideal) w (iblk m c 5 t)) (side_narrow_eq (iblk m c 8 t))) y).trans ?_
  refine (narrow_rows _ _ y).trans (Eq.trans ?_ (ref_branch2 _ _ _).symm)
  refine Finset.sum_congr rfl fun k _ => ?_
  exact congrArg₂ _ (blk5_apply m c t _) ((blk8_apply m c t _).trans (narrow_at _ _ _ _))

/-- The reference's results over this launch's arguments. -/
abbrev want0 (c : Dev nD) : S4096x1024.Idx → EReal := val_main_v3 (F := Ideal) (m ((c : Thread nD τ).loc main_arg1)) (m ((c : Thread nD τ).loc main_arg4))
abbrev want1 (c : Dev nD) : S4096x1024.Idx → EReal := val_main_v7 (F := Ideal) (m ((c : Thread nD τ).loc main_arg2)) (m ((c : Thread nD τ).loc main_arg5))
abbrev want2 (c : Dev nD) : S4096x1024.Idx → EReal := val_main_v11 (F := Ideal) (m ((c : Thread nD τ).loc main_arg3)) (m ((c : Thread nD τ).loc main_arg6))
abbrev want3 (c : Dev nD) : S4096x1024.Idx → EReal := val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem ref3 (a : S4096x1024.Idx → EReal) (w : S1024x1024.Idx → EReal) (i : S4096x1024.Idx) :
    (val_main_v3 (F := Ideal) a w i : EReal) = val_main_v2 (F := Ideal) a w i := rfl
theorem ref7 (a : S4096x512.Idx → EReal) (w : S512x1024.Idx → EReal) (i : S4096x1024.Idx) :
    (val_main_v7 (F := Ideal) a w i : EReal) = val_main_v6 (F := Ideal) a w i := rfl
theorem ref11 (a : S4096x512.Idx → EReal) (w : S512x1024.Idx → EReal) (i : S4096x1024.Idx) :
    (val_main_v11 (F := Ideal) a w i : EReal) = val_main_v10 (F := Ideal) a w i := rfl

/-- The reference's gated sum, over its three products. -/
theorem ref_merged (z : S4096x5376.Idx → EReal) (o : S4096x1024.Idx → EReal) (hc pm : S4096x512.Idx → EReal) (w0 : S1024x1024.Idx → EReal) (w1 w2 : S512x1024.Idx → EReal) (p : Fin 4096) (q : Fin 1024) :
    (val_main_v31 (F := Ideal) z o hc pm w0 w1 w2 (ix2 p q) : EReal)
      = Ideal.div 1 (1 + Ideal.exp (-(z (ix2 p (col 0 q))))) * val_main_v2 (F := Ideal) o w0 (ix2 p q)
        + Ideal.div 1 (1 + Ideal.exp (-(z (ix2 p (col 1 q))))) * val_main_v6 (F := Ideal) hc w1 (ix2 p q)
        + Ideal.div 1 (1 + Ideal.exp (-(z (ix2 p (col 2 q))))) * val_main_v10 (F := Ideal) pm w2 (ix2 p q) := by
  have hk0 : col 0 q = ⟨q.val, by have := q.isLt; omega⟩ := Fin.ext (by show 1024 * 0 + q.val = q.val; omega)
  have hk1 : col 1 q = ⟨1024 + q.val, by have := q.isLt; omega⟩ := Fin.ext (by show 1024 * 1 + q.val = 1024 + q.val; omega)
  have hk2 : col 2 q = ⟨2048 + q.val, by have := q.isLt; omega⟩ := Fin.ext (by show 1024 * 2 + q.val = 2048 + q.val; omega)
  rw [hk0, hk1, hk2]
  pointwise [val_main_v3, val_main_v7, val_main_v11, val_main_v12, val_main_v13, val_main_v14, val_main_v15, val_main_cst, val_main_v16, val_main_v17, val_main_cst_0, val_main_v18, val_main_v19, val_main_v20, val_main_v21, val_main_v22, val_main_v23, val_main_v24, val_main_v25, val_main_v26, val_main_v27, val_main_v28, val_main_v29, val_main_v30, val_main_v31]

theorem final9 (c : Dev nD) : (dats m 0 c).arrAt 9 cfg0.N = want0 m c := by
  refine (dats m 0 c).arrAt_eq_of_covers 9 _ (by decide +kernel) fun t hf y => ?_
  blk_simp
  rw [after0_9]
  unfold outsAt0
  dsimp only
  frame_out
  rw [show (win0_9.blk t).view.emb y = ix2 (row t (y 0)) (y 1) by blk_ext [e9]]
  exact (branch0 m c t y).trans (ref3 _ _ _).symm

theorem final10 (c : Dev nD) : (dats m 0 c).arrAt 10 cfg0.N = want1 m c := by
  refine (dats m 0 c).arrAt_eq_of_covers 10 _ (by decide +kernel) fun t hf y => ?_
  blk_simp
  rw [after0_10]
  unfold outsAt0
  dsimp only
  frame_out
  rw [show (win0_10.blk t).view.emb y = ix2 (row t (y 0)) (y 1) by blk_ext [e10]]
  exact (branch1 m c t y).trans (ref7 _ _ _).symm

theorem final11 (c : Dev nD) : (dats m 0 c).arrAt 11 cfg0.N = want2 m c := by
  refine (dats m 0 c).arrAt_eq_of_covers 11 _ (by decide +kernel) fun t hf y => ?_
  blk_simp
  rw [after0_11]
  unfold outsAt0
  dsimp only
  frame_out
  rw [show (win0_11.blk t).view.emb y = ix2 (row t (y 0)) (y 1) by blk_ext [e11]]
  exact (branch2 m c t y).trans (ref11 _ _ _).symm

theorem final12 (c : Dev nD) : (dats m 0 c).arrAt 12 cfg0.N = want3 m c := by
  refine (dats m 0 c).arrAt_eq_of_covers 12 _ (by decide +kernel) fun t hf y => ?_
  blk_simp
  rw [after0_12]
  unfold outsAt0
  dsimp only
  frame_out
  rw [show (win0_12.blk t).view.emb y = ix2 (row t (y 0)) (y 1) by blk_ext [e12]]
  refine (merged_apply _ _ _ (iblk m c 5 t) (X0_0 m c t) (X0_1 m c t) (X0_2 m c t) y).trans (Eq.trans ?_ (ref_merged _ _ _ _ _ _ _ _ _).symm)
  have h0 := gate0_apply m c t y
  have h1 := gate1_apply m c t y
  have h2 := gate2_apply m c t y
  have f0 := branch0 m c t y
  have f1 := branch1 m c t y
  have f2 := branch2 m c t y
  exact congrArg₂ (fun a b : EReal => a + b) (congrArg₂ (fun a b : EReal => a + b)
    (congrArg₂ (fun g f : EReal => Ideal.div 1 (1 + Ideal.exp (-g)) * f) h0 f0)
    (congrArg₂ (fun g f : EReal => Ideal.div 1 (1 + Ideal.exp (-g)) * f) h1 f1))
    (congrArg₂ (fun g f : EReal => Ideal.div 1 (1 + Ideal.exp (-g)) * f) h2 f2)

theorem algebraic : Cert.algebraic_BranchesIdeal_BranchesRefIdeal := by
  intro m g m' g' _ hagree
  refine ⟨want0 m, want1 m, want2 m, want3 m, (θ_run _ _ _).mono (fun r h c => ?_) (run_blocks m g), (θ_run Cert.BranchesRefIdeal.defs _ _).mono (fun r h c => ?_) (Cert.BranchesRefIdeal.Value.run (F := Ideal) m' g')⟩
  · obtain ⟨h0, h1, h2, h3, h4⟩ := h c
    exact ⟨h0.trans (final9 m c), h1.trans (final10 m c), h2.trans (final11 m c), h3.trans (final12 m c), h4⟩
  · obtain ⟨h0, h1, h2, h3, h4⟩ := h c
    obtain ⟨a0, a1, a2, a3, a4, a5, a6⟩ := hagree c
    refine ⟨?_, ?_, ?_, ?_, h4⟩
    · rw [h0, a1, a4]
      rfl
    · rw [h1, a2, a5]
      rfl
    · rw [h2, a3, a6]
      rfl
    · rw [h3, a0, a1, a2, a3, a4, a5, a6]
      rfl

end Cert.BranchesIdeal.Hand

end
-- ==== Proof.AttnOutBwdClaim.lean ====
/- The transpose of the attention's output product, and every head's row sum of it times the output: at an index, and its claim. -/
module

public import proofs.«01_k».proof.Defs
public import proofs.«01_k».proof.Proof.Gen.AttnOutBwdIdeal.Value
public import proofs.«01_k».proof.Proof.Gen.AttnOutBwdRefIdeal.Read
public import Idealize.ShloMosaic.Lib.Pipeline.ValueKit
public import Idealize.ShloMosaic.Lib.Pointwise
public import Idealize.ShloMosaic.Lib.StableHlo.ReadAt

@[expose] public section

noncomputable section

namespace Cert.AttnOutBwdIdeal.Hand

open Cert.AttnOutBwdIdeal Cert.AttnOutBwdIdeal.Gen Cert.AttnOutBwdIdeal.Value
open Cert.AttnOutBwdRefIdeal.Read (val_main_cst val_main_v0 val_main_v1 val_main_v2 val_main_v3 val_main_v4 val_main_v5 val_main_v6 val_main_v7 val_main_v8 val_main_cst_0 val_main_v9 val_main_v10 val_main_v11 val_main_v12 val_main_v13)
open Idealize.ShloMosaic Idealize.ShloMosaic.TcCoe Idealize.SL.Sem

variable (m : (ℓ : Loc nD τ sig) → Buf (Elt Ideal) ℓ)

/-- A weight, by its eight blocks of columns. -/
def byBlocks (w : FVec Ideal S1024x1024 .bf16) : FVec Ideal S8x1024x128 .bf16 :=
  transpose S8x1024x128 [1, 0, 2] (shapeCast S1024x8x128 w shapeCasts_S1024x1024_S1024x8x128) transposes_S1024x8x128_S8x1024x128_1_0_2

theorem byBlocks_apply (w : S1024x1024.Idx → EReal) (i : S8x1024x128.Idx) :
    (byBlocks w i : EReal) = w (ix2 (i 1) ⟨128 * (i 0).val + (i 2).val, by have h0 : (i 0).val < 8 := (i 0).isLt; have h2 : (i 2).val < 128 := (i 2).isLt; omega⟩) := by
  have h0 : (i 0).val < 8 := (i 0).isLt
  have h1 : (i 1).val < 1024 := (i 1).isLt
  have h2 : (i 2).val < 128 := (i 2).isLt
  pointwise [byBlocks]
  first
    | rfl
    | (refine congrArg w ?_
       blk_ext [])

theorem v1_eq (c : Dev nD) : V m c main_v1 = byBlocks (m ((c : Thread nD τ).loc main_arg1)) := by
  unfold V
  after_reads_simp
  all_goals try simp -implicitDefEqProofs only [StableHlo.TRef.toBuf, StableHlo.TRef.ofBuf, cast_cast, cast_eq]
  rfl

/-- Eight blocks of the weight's columns, side by side. -/
def side (b0 b1 b2 b3 b4 b5 b6 b7 : Vec Ideal S1x1024x128 .bf16) : FVec Ideal S1024x1024 .bf16 :=
  concatenate S1024x1024 1 [⟨S1024x128, shapeCast S1024x128 b0 shapeCasts_S1x1024x128_S1024x128⟩, ⟨S1024x128, shapeCast S1024x128 b1 shapeCasts_S1x1024x128_S1024x128⟩, ⟨S1024x128, shapeCast S1024x128 b2 shapeCasts_S1x1024x128_S1024x128⟩, ⟨S1024x128, shapeCast S1024x128 b3 shapeCasts_S1x1024x128_S1024x128⟩, ⟨S1024x128, shapeCast S1024x128 b4 shapeCasts_S1x1024x128_S1024x128⟩, ⟨S1024x128, shapeCast S1024x128 b5 shapeCasts_S1x1024x128_S1024x128⟩, ⟨S1024x128, shapeCast S1024x128 b6 shapeCasts_S1x1024x128_S1024x128⟩, ⟨S1024x128, shapeCast S1024x128 b7 shapeCasts_S1x1024x128_S1024x128⟩] concatenates_S1024x128_S1024x128_S1024x128_S1024x128_S1024x128_S1024x128_S1024x128_S1024x128_S1024x1024_d1

theorem side_eq (A : S8x1024x128.Idx → EReal) :
    side (View.ld A (Rect.unit (s := S8x1024x128) ![0, 0, 0] ![1, 1024, 128] inb_S8x1024x128_S1x1024x128_0_0_0)) (View.ld A (Rect.unit (s := S8x1024x128) ![1, 0, 0] ![1, 1024, 128] inb_S8x1024x128_S1x1024x128_1_0_0)) (View.ld A (Rect.unit (s := S8x1024x128) ![2, 0, 0] ![1, 1024, 128] inb_S8x1024x128_S1x1024x128_2_0_0)) (View.ld A (Rect.unit (s := S8x1024x128) ![3, 0, 0] ![1, 1024, 128] inb_S8x1024x128_S1x1024x128_3_0_0)) (View.ld A (Rect.unit (s := S8x1024x128) ![4, 0, 0] ![1, 1024, 128] inb_S8x1024x128_S1x1024x128_4_0_0)) (View.ld A (Rect.unit (s := S8x1024x128) ![5, 0, 0] ![1, 1024, 128] inb_S8x1024x128_S1x1024x128_5_0_0)) (View.ld A (Rect.unit (s := S8x1024x128) ![6, 0, 0] ![1, 1024, 128] inb_S8x1024x128_S1x1024x128_6_0_0)) (View.ld A (Rect.unit (s := S8x1024x128) ![7, 0, 0] ![1, 1024, 128] inb_S8x1024x128_S1x1024x128_7_0_0)) = fun j : S1024x1024.Idx => (A (ix3 ⟨(j 1).val / 128, by have h : (j 1).val < 1024 := (j 1).isLt; omega⟩ (j 0) ⟨(j 1).val % 128, Nat.mod_lt _ (by decide)⟩) : EReal) := by
  funext j
  have h1 : (j 1).val < 1024 := (j 1).isLt
  pointwise [side]
  split_ifs
  all_goals
    refine congrArg A ?_
    blk_ext []

/-- The product over the last axes of its operands. -/
def prod (x : FVec Ideal S512x1024 .bf16) (w : FVec Ideal S1024x1024 .bf16) : FVec Ideal S512x1024 .f32 :=
  matmul dot_S512x1024_S1024x1024_S512x1024_1_1_0_0_n_n none x w (constant S512x1024 .f32 0x00000000#32)

theorem pay5_eq (b0 b1 b2 b3 b4 b5 b6 b7 : Vec Ideal S1x1024x128 .bf16) (x : Vec Ideal S512x1024 .bf16) :
    k0_pay5 (F := Ideal) b0 b1 b2 b3 b4 b5 b6 b7 x = prod x (side b0 b1 b2 b3 b4 b5 b6 b7) := rfl

theorem prod_apply (x : S512x1024.Idx → EReal) (w : S1024x1024.Idx → EReal) (y : S512x1024.Idx) :
    (prod x w y : EReal) = ∑ k : Fin 1024, x (ix2 (y 0) k) * w (ix2 (y 1) k) := by
  pointwise [prod]

/-- The first head's row sums, from the whole product. -/
def first (v18 : FVec Ideal S512x1024 .f32) (v20 : Vec Ideal S512x128 .bf16) : FVec Ideal S512x128 .f32 :=
  broadcastTo S512x128 (shapeCast S512x1 (shapeCast S512x1 (multiReduction .add [1] S512 (mulf (extractStridedSlice S512x128 ![0, 0] v18 slices_S512x1024_o0_0_S512x128) (extf .f32 v20 bitsLt_bf16_f32)) 0x00000000#32 reduces_S512x128_S512 (.inl rfl) rfl) shapeCasts_S512_S512x1) shapeCasts_S512x1_S512x1) broadcasts_S512x1_S512x128

/-- The first head's columns. -/
def firstCols (v18 : FVec Ideal S512x1024 .f32) : FVec Ideal S512x128 .f32 :=
  extractStridedSlice S512x128 ![0, 0] v18 slices_S512x1024_o0_0_S512x128

theorem pay6_eq (b0 b1 b2 b3 b4 b5 b6 b7 : Vec Ideal S1x1024x128 .bf16) (x : Vec Ideal S512x1024 .bf16) :
    k0_pay6 (F := Ideal) b0 b1 b2 b3 b4 b5 b6 b7 x = firstCols (k0_pay5 b0 b1 b2 b3 b4 b5 b6 b7 x) := rfl

theorem pay7_eq (b0 b1 b2 b3 b4 b5 b6 b7 : Vec Ideal S1x1024x128 .bf16) (x : Vec Ideal S512x1024 .bf16) (o : Vec Ideal S512x128 .bf16) :
    k0_pay7 (F := Ideal) b0 b1 b2 b3 b4 b5 b6 b7 x o = first (k0_pay5 b0 b1 b2 b3 b4 b5 b6 b7 x) o := rfl

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)

/-- Row `r` of the block of point `t`, in the array. -/
abbrev row (t : Fin cfg0.N) (r : Fin 512) : Fin 4096 := ⟨512 * t.val + r.val, by have := lt_of_lt_of_eq t.isLt (show cfg0.N = 8 from N_0); have := r.isLt; omega⟩
/-- Column `k` of the head that holds column `q`. -/
abbrev inHead (q : Fin 1024) (k : Fin 128) : Fin 1024 := ⟨128 * (q.val / 128) + k.val, by have := q.isLt; have := k.isLt; omega⟩

theorem blk0_apply (c : Dev nD) (t : Fin cfg0.N) (y : S512x1024.Idx) :
    iblk m c 0 t y = m ((c : Thread nD τ).loc main_arg0) (ix2 (row t (y 0)) (y 1)) := by
  blk_simp [iblk]
  rw [V_main_arg0]
  refine congrArg _ ?_
  blk_ext [e0]

theorem read1 (A : S8x1024x128.Idx → EReal) (t : Fin cfg0.N) (y : S8x1024x128.Idx) :
    (win0_1.blk t).view.read (Elt Ideal) A y = A (y) := by
  blk_simp
  refine congrArg A ?_
  blk_ext [e1]

theorem blk1_apply (c : Dev nD) (t : Fin cfg0.N) (y : S8x1024x128.Idx) :
    (iblk m c 1 t y : EReal) = byBlocks (m ((c : Thread nD τ).loc main_arg1)) (y) :=
  (read1 (V m c main_v1) t y).trans (congrFun (v1_eq m c) _)

theorem blk2_apply (c : Dev nD) (t : Fin cfg0.N) (y : S512x1024.Idx) :
    iblk m c 2 t y = m ((c : Thread nD τ).loc main_arg2) (ix2 (row t (y 0)) (y 1)) := by
  blk_simp [iblk]
  rw [V_main_arg2]
  refine congrArg _ ?_
  blk_ext [e2]

theorem byBlocks_at (w : S1024x1024.Idx → EReal) (k j : Fin 1024) (h : j.val / 128 < 8) :
    (byBlocks w (ix3 ⟨j.val / 128, h⟩ k ⟨j.val % 128, Nat.mod_lt _ (by decide)⟩) : EReal) = w (ix2 k j) := by
  rw [byBlocks_apply]
  refine congrArg w (congrArg (ix2 _) (Fin.ext ?_))
  show 128 * (j.val / 128) + j.val % 128 = j.val
  omega

theorem head0_apply (D : S512x1024.Idx → EReal) (o : S512x128.Idx → EReal) (x : S512x128.Idx) :
    (first D o x : EReal) = ∑ k : Fin 128, D (ix2 (x 0) ⟨0 + k.val, by have := k.isLt; omega⟩) * o (ix2 (x 0) k) := by
  pointwise [first]

theorem head1_apply (D : S512x1024.Idx → EReal) (o : S512x128.Idx → EReal) (x : S512x128.Idx) :
    (k0_pay10 (F := Ideal) D o x : EReal) = ∑ k : Fin 128, D (ix2 (x 0) ⟨128 + k.val, by have := k.isLt; omega⟩) * o (ix2 (x 0) k) := by
  pointwise [k0_pay10, k0_pay9]

theorem head2_apply (D : S512x1024.Idx → EReal) (o : S512x128.Idx → EReal) (x : S512x128.Idx) :
    (k0_pay13 (F := Ideal) D o x : EReal) = ∑ k : Fin 128, D (ix2 (x 0) ⟨256 + k.val, by have := k.isLt; omega⟩) * o (ix2 (x 0) k) := by
  pointwise [k0_pay13, k0_pay12]

theorem head3_apply (D : S512x1024.Idx → EReal) (o : S512x128.Idx → EReal) (x : S512x128.Idx) :
    (k0_pay16 (F := Ideal) D o x : EReal) = ∑ k : Fin 128, D (ix2 (x 0) ⟨384 + k.val, by have := k.isLt; omega⟩) * o (ix2 (x 0) k) := by
  pointwise [k0_pay16, k0_pay15]

theorem head4_apply (D : S512x1024.Idx → EReal) (o : S512x128.Idx → EReal) (x : S512x128.Idx) :
    (k0_pay19 (F := Ideal) D o x : EReal) = ∑ k : Fin 128, D (ix2 (x 0) ⟨512 + k.val, by have := k.isLt; omega⟩) * o (ix2 (x 0) k) := by
  pointwise [k0_pay19, k0_pay18]

theorem head5_apply (D : S512x1024.Idx → EReal) (o : S512x128.Idx → EReal) (x : S512x128.Idx) :
    (k0_pay22 (F := Ideal) D o x : EReal) = ∑ k : Fin 128, D (ix2 (x 0) ⟨640 + k.val, by have := k.isLt; omega⟩) * o (ix2 (x 0) k) := by
  pointwise [k0_pay22, k0_pay21]

theorem head6_apply (D : S512x1024.Idx → EReal) (o : S512x128.Idx → EReal) (x : S512x128.Idx) :
    (k0_pay25 (F := Ideal) D o x : EReal) = ∑ k : Fin 128, D (ix2 (x 0) ⟨768 + k.val, by have := k.isLt; omega⟩) * o (ix2 (x 0) k) := by
  pointwise [k0_pay25, k0_pay24]

theorem head7_apply (D : S512x1024.Idx → EReal) (o : S512x128.Idx → EReal) (x : S512x128.Idx) :
    (k0_pay3 (F := Ideal) D o x : EReal) = ∑ k : Fin 128, D (ix2 (x 0) ⟨896 + k.val, by have := k.isLt; omega⟩) * o (ix2 (x 0) k) := by
  pointwise [k0_pay3, k0_pay2]

theorem cast0_apply (D : S512x1024.Idx → EReal) (x : S512x128.Idx) :
    (k0_pay8 (F := Ideal) (firstCols D) x : EReal) = D (ix2 (x 0) ⟨0 + (x 1).val, by have h : (x 1).val < 128 := (x 1).isLt; omega⟩) := by
  pointwise [k0_pay8, firstCols]

theorem cast1_apply (D : S512x1024.Idx → EReal) (x : S512x128.Idx) :
    (k0_pay11 (F := Ideal) D x : EReal) = D (ix2 (x 0) ⟨128 + (x 1).val, by have h : (x 1).val < 128 := (x 1).isLt; omega⟩) := by
  pointwise [k0_pay11, k0_pay9]

theorem cast2_apply (D : S512x1024.Idx → EReal) (x : S512x128.Idx) :
    (k0_pay14 (F := Ideal) D x : EReal) = D (ix2 (x 0) ⟨256 + (x 1).val, by have h : (x 1).val < 128 := (x 1).isLt; omega⟩) := by
  pointwise [k0_pay14, k0_pay12]

theorem cast3_apply (D : S512x1024.Idx → EReal) (x : S512x128.Idx) :
    (k0_pay17 (F := Ideal) (k0_pay15 (F := Ideal) D) x : EReal) = D (ix2 (x 0) ⟨384 + (x 1).val, by have h : (x 1).val < 128 := (x 1).isLt; omega⟩) := by
  pointwise [k0_pay17, k0_pay15]

theorem cast4_apply (D : S512x1024.Idx → EReal) (x : S512x128.Idx) :
    (k0_pay20 (F := Ideal) D x : EReal) = D (ix2 (x 0) ⟨512 + (x 1).val, by have h : (x 1).val < 128 := (x 1).isLt; omega⟩) := by
  pointwise [k0_pay20, k0_pay18]

theorem cast5_apply (D : S512x1024.Idx → EReal) (x : S512x128.Idx) :
    (k0_pay23 (F := Ideal) D x : EReal) = D (ix2 (x 0) ⟨640 + (x 1).val, by have h : (x 1).val < 128 := (x 1).isLt; omega⟩) := by
  pointwise [k0_pay23, k0_pay21]

theorem cast6_apply (D : S512x1024.Idx → EReal) (x : S512x128.Idx) :
    (k0_pay1 (F := Ideal) (k0_pay24 (F := Ideal) D) x : EReal) = D (ix2 (x 0) ⟨768 + (x 1).val, by have h : (x 1).val < 128 := (x 1).isLt; omega⟩) := by
  pointwise [k0_pay1, k0_pay24]

theorem cast7_apply (D : S512x1024.Idx → EReal) (x : S512x128.Idx) :
    (k0_pay4 (F := Ideal) D x : EReal) = D (ix2 (x 0) ⟨896 + (x 1).val, by have h : (x 1).val < 128 := (x 1).isLt; omega⟩) := by
  pointwise [k0_pay4, k0_pay2]

theorem load0 (p : Fin 512) (k : Fin 128) : r0_9.idx (ix2 p k) = ix2 p ⟨0 + k.val, by have := k.isLt; omega⟩ := by
  have hk := k.isLt
  have hp := p.isLt
  blk_ext []
  all_goals first
    | (show 0 + 1 * p.val = p.val
       omega)
    | (show 0 + 1 * k.val = 0 + k.val
       omega)
    | (show 0 + 1 * k.val = k.val
       omega)

theorem load1 (p : Fin 512) (k : Fin 128) : r0_10.idx (ix2 p k) = ix2 p ⟨128 + k.val, by have := k.isLt; omega⟩ := by
  have hk := k.isLt
  have hp := p.isLt
  blk_ext []
  all_goals first
    | (show 0 + 1 * p.val = p.val
       omega)
    | (show 128 + 1 * k.val = 128 + k.val
       omega)
    | (show 128 + 1 * k.val = k.val
       omega)

theorem load2 (p : Fin 512) (k : Fin 128) : r0_11.idx (ix2 p k) = ix2 p ⟨256 + k.val, by have := k.isLt; omega⟩ := by
  have hk := k.isLt
  have hp := p.isLt
  blk_ext []
  all_goals first
    | (show 0 + 1 * p.val = p.val
       omega)
    | (show 256 + 1 * k.val = 256 + k.val
       omega)
    | (show 256 + 1 * k.val = k.val
       omega)

theorem load3 (p : Fin 512) (k : Fin 128) : r0_12.idx (ix2 p k) = ix2 p ⟨384 + k.val, by have := k.isLt; omega⟩ := by
  have hk := k.isLt
  have hp := p.isLt
  blk_ext []
  all_goals first
    | (show 0 + 1 * p.val = p.val
       omega)
    | (show 384 + 1 * k.val = 384 + k.val
       omega)
    | (show 384 + 1 * k.val = k.val
       omega)

theorem load4 (p : Fin 512) (k : Fin 128) : r0_13.idx (ix2 p k) = ix2 p ⟨512 + k.val, by have := k.isLt; omega⟩ := by
  have hk := k.isLt
  have hp := p.isLt
  blk_ext []
  all_goals first
    | (show 0 + 1 * p.val = p.val
       omega)
    | (show 512 + 1 * k.val = 512 + k.val
       omega)
    | (show 512 + 1 * k.val = k.val
       omega)

theorem load5 (p : Fin 512) (k : Fin 128) : r0_14.idx (ix2 p k) = ix2 p ⟨640 + k.val, by have := k.isLt; omega⟩ := by
  have hk := k.isLt
  have hp := p.isLt
  blk_ext []
  all_goals first
    | (show 0 + 1 * p.val = p.val
       omega)
    | (show 640 + 1 * k.val = 640 + k.val
       omega)
    | (show 640 + 1 * k.val = k.val
       omega)

theorem load6 (p : Fin 512) (k : Fin 128) : r0_15.idx (ix2 p k) = ix2 p ⟨768 + k.val, by have := k.isLt; omega⟩ := by
  have hk := k.isLt
  have hp := p.isLt
  blk_ext []
  all_goals first
    | (show 0 + 1 * p.val = p.val
       omega)
    | (show 768 + 1 * k.val = 768 + k.val
       omega)
    | (show 768 + 1 * k.val = k.val
       omega)

theorem load7 (p : Fin 512) (k : Fin 128) : r0_16.idx (ix2 p k) = ix2 p ⟨896 + k.val, by have := k.isLt; omega⟩ := by
  have hk := k.isLt
  have hp := p.isLt
  blk_ext []
  all_goals first
    | (show 0 + 1 * p.val = p.val
       omega)
    | (show 896 + 1 * k.val = 896 + k.val
       omega)
    | (show 896 + 1 * k.val = k.val
       omega)

theorem load_whole (p : Fin 512) (k : Fin 1024) : r0_8.idx (ix2 p k) = ix2 p k := by
  blk_ext []
  · show 0 + 1 * p.val = p.val
    omega
  · show 0 + 1 * k.val = k.val
    omega

theorem ix2_self (y : S512x1024.Idx) : ix2 (y 0) (y 1) = y := by
  blk_ext []

/-- The body's row sums over the whole block, from its product. -/
theorem out3_apply (x0 : Vec Ideal S512x1024 .bf16) (x1 : Vec Ideal S8x1024x128 .bf16) (x2 : Vec Ideal S512x1024 .bf16) (D : FVec Ideal S512x1024 .f32)
    (hD : k0_pay26 (F := Ideal) x0 x1 x2 = D) (y : S512x1024.Idx) :
    (out0_3 (F := Ideal) x0 x1 x2 y : EReal) = ∑ k : Fin 128, D (ix2 (y 0) (inHead (y 1) k)) * x2 (ix2 (y 0) (inHead (y 1) k)) := by
  unfold out0_3
  refine View.canon_apply_of_pieces (Val := Elt Ideal) (fun y : S512x1024.Idx => (∑ k : Fin 128, D (ix2 (y 0) (inHead (y 1) k)) * x2 (ix2 (y 0) (inHead (y 1) k)) : EReal)) _ ?_ y (cover0_3 _ _ _ _ _ _ _ _ y)
  intro p hp x
  simp only [List.mem_cons, List.not_mem_nil, or_false] at hp
  rcases hp with rfl|rfl|rfl|rfl|rfl|rfl|rfl|rfl
  · have h0 : (x 0).val < 512 := (x 0).isLt
    have h1 : (x 1).val < 128 := (x 1).isLt
    refine (congrFun (congrArg (fun D : FVec Ideal S512x1024 .f32 => k0_pay3 (F := Ideal) D (View.ld x2 r0_16)) hD) x).trans ((head7_apply D _ x).trans ?_)
    refine Finset.sum_congr rfl fun k _ => ?_
    have hk := k.isLt
    have e1 : inHead (r0_16.emb x 1) k = ⟨896 + k.val, by omega⟩ := Fin.ext (by
      show 128 * ((896 + 1 * (x 1).val) / 128) + k.val = 896 + k.val
      omega)
    have e0 : r0_16.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load7 (x 0) k
  · have h0 : (x 0).val < 512 := (x 0).isLt
    have h1 : (x 1).val < 128 := (x 1).isLt
    refine (congrFun (congrArg (fun D : FVec Ideal S512x1024 .f32 => k0_pay25 (F := Ideal) D (View.ld x2 r0_15)) hD) x).trans ((head6_apply D _ x).trans ?_)
    refine Finset.sum_congr rfl fun k _ => ?_
    have hk := k.isLt
    have e1 : inHead (r0_15.emb x 1) k = ⟨768 + k.val, by omega⟩ := Fin.ext (by
      show 128 * ((768 + 1 * (x 1).val) / 128) + k.val = 768 + k.val
      omega)
    have e0 : r0_15.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load6 (x 0) k
  · have h0 : (x 0).val < 512 := (x 0).isLt
    have h1 : (x 1).val < 128 := (x 1).isLt
    refine (congrFun (congrArg (fun D : FVec Ideal S512x1024 .f32 => k0_pay22 (F := Ideal) D (View.ld x2 r0_14)) hD) x).trans ((head5_apply D _ x).trans ?_)
    refine Finset.sum_congr rfl fun k _ => ?_
    have hk := k.isLt
    have e1 : inHead (r0_14.emb x 1) k = ⟨640 + k.val, by omega⟩ := Fin.ext (by
      show 128 * ((640 + 1 * (x 1).val) / 128) + k.val = 640 + k.val
      omega)
    have e0 : r0_14.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load5 (x 0) k
  · have h0 : (x 0).val < 512 := (x 0).isLt
    have h1 : (x 1).val < 128 := (x 1).isLt
    refine (congrFun (congrArg (fun D : FVec Ideal S512x1024 .f32 => k0_pay19 (F := Ideal) D (View.ld x2 r0_13)) hD) x).trans ((head4_apply D _ x).trans ?_)
    refine Finset.sum_congr rfl fun k _ => ?_
    have hk := k.isLt
    have e1 : inHead (r0_13.emb x 1) k = ⟨512 + k.val, by omega⟩ := Fin.ext (by
      show 128 * ((512 + 1 * (x 1).val) / 128) + k.val = 512 + k.val
      omega)
    have e0 : r0_13.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load4 (x 0) k
  · have h0 : (x 0).val < 512 := (x 0).isLt
    have h1 : (x 1).val < 128 := (x 1).isLt
    refine (congrFun (congrArg (fun D : FVec Ideal S512x1024 .f32 => k0_pay16 (F := Ideal) D (View.ld x2 r0_12)) hD) x).trans ((head3_apply D _ x).trans ?_)
    refine Finset.sum_congr rfl fun k _ => ?_
    have hk := k.isLt
    have e1 : inHead (r0_12.emb x 1) k = ⟨384 + k.val, by omega⟩ := Fin.ext (by
      show 128 * ((384 + 1 * (x 1).val) / 128) + k.val = 384 + k.val
      omega)
    have e0 : r0_12.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load3 (x 0) k
  · have h0 : (x 0).val < 512 := (x 0).isLt
    have h1 : (x 1).val < 128 := (x 1).isLt
    refine (congrFun (congrArg (fun D : FVec Ideal S512x1024 .f32 => k0_pay13 (F := Ideal) D (View.ld x2 r0_11)) hD) x).trans ((head2_apply D _ x).trans ?_)
    refine Finset.sum_congr rfl fun k _ => ?_
    have hk := k.isLt
    have e1 : inHead (r0_11.emb x 1) k = ⟨256 + k.val, by omega⟩ := Fin.ext (by
      show 128 * ((256 + 1 * (x 1).val) / 128) + k.val = 256 + k.val
      omega)
    have e0 : r0_11.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load2 (x 0) k
  · have h0 : (x 0).val < 512 := (x 0).isLt
    have h1 : (x 1).val < 128 := (x 1).isLt
    refine (congrFun (congrArg (fun D : FVec Ideal S512x1024 .f32 => k0_pay10 (F := Ideal) D (View.ld x2 r0_10)) hD) x).trans ((head1_apply D _ x).trans ?_)
    refine Finset.sum_congr rfl fun k _ => ?_
    have hk := k.isLt
    have e1 : inHead (r0_10.emb x 1) k = ⟨128 + k.val, by omega⟩ := Fin.ext (by
      show 128 * ((128 + 1 * (x 1).val) / 128) + k.val = 128 + k.val
      omega)
    have e0 : r0_10.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load1 (x 0) k
  · have h0 : (x 0).val < 512 := (x 0).isLt
    have h1 : (x 1).val < 128 := (x 1).isLt
    refine (congrFun (pay7_eq _ _ _ _ _ _ _ _ _ (View.ld x2 r0_9)) x).trans <| (congrFun (congrArg (fun D : FVec Ideal S512x1024 .f32 => first D (View.ld x2 r0_9)) hD) x).trans ((head0_apply D _ x).trans ?_)
    refine Finset.sum_congr rfl fun k _ => ?_
    have hk := k.isLt
    have e1 : inHead (r0_9.emb x 1) k = ⟨0 + k.val, by omega⟩ := Fin.ext (by
      show 128 * ((0 + 1 * (x 1).val) / 128) + k.val = 0 + k.val
      omega)
    have e0 : r0_9.emb x 0 = x 0 := Fin.ext (by
      show 0 + 1 * (x 0).val = (x 0).val
      omega)
    refine congrArg₂ _ (congrArg D ?_) (congrArg x2 ?_)
    · exact (congrArg₂ ix2 e0 e1).symm
    · refine Eq.trans ?_ (congrArg₂ ix2 e0 e1).symm
      exact load0 (x 0) k

/-- The body's product over the whole block, cast. -/
theorem out4_apply (x0 : Vec Ideal S512x1024 .bf16) (x1 : Vec Ideal S8x1024x128 .bf16) (x2 : Vec Ideal S512x1024 .bf16) (D : FVec Ideal S512x1024 .f32)
    (hD : k0_pay26 (F := Ideal) x0 x1 x2 = D) (y : S512x1024.Idx) :
    (out0_4 (F := Ideal) x0 x1 x2 y : EReal) = D y := by
  unfold out0_4
  refine View.canon_apply_of_pieces (Val := Elt Ideal) (fun y : S512x1024.Idx => (D y : EReal)) _ ?_ y (cover0_4 _ _ _ _ _ _ _ _ y)
  intro p hp x
  simp only [List.mem_cons, List.not_mem_nil, or_false] at hp
  rcases hp with rfl|rfl|rfl|rfl|rfl|rfl|rfl|rfl
  · have h0 : (x 0).val < 512 := (x 0).isLt
    have h1 : (x 1).val < 128 := (x 1).isLt
    refine (congrFun (congrArg (fun D : FVec Ideal S512x1024 .f32 => k0_pay4 (F := Ideal) D) hD) x).trans ((cast7_apply D x).trans (congrArg D ?_))
    have e1 : r0_16.emb x 1 = (⟨896 + (x 1).val, by omega⟩ : Fin 1024) := Fin.ext (by
      show 896 + 1 * (x 1).val = 896 + (x 1).val
      omega)
    have e0 : r0_16.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay1 (F := Ideal) (k0_pay24 (F := Ideal) D)) hD) x).trans ((cast6_apply D x).trans (congrArg D ?_))
    have e1 : r0_15.emb x 1 = (⟨768 + (x 1).val, by omega⟩ : Fin 1024) := Fin.ext (by
      show 768 + 1 * (x 1).val = 768 + (x 1).val
      omega)
    have e0 : r0_15.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay23 (F := Ideal) D) hD) x).trans ((cast5_apply D x).trans (congrArg D ?_))
    have e1 : r0_14.emb x 1 = (⟨640 + (x 1).val, by omega⟩ : Fin 1024) := Fin.ext (by
      show 640 + 1 * (x 1).val = 640 + (x 1).val
      omega)
    have e0 : r0_14.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay20 (F := Ideal) D) hD) x).trans ((cast4_apply D x).trans (congrArg D ?_))
    have e1 : r0_13.emb x 1 = (⟨512 + (x 1).val, by omega⟩ : Fin 1024) := Fin.ext (by
      show 512 + 1 * (x 1).val = 512 + (x 1).val
      omega)
    have e0 : r0_13.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay17 (F := Ideal) (k0_pay15 (F := Ideal) D)) hD) x).trans ((cast3_apply D x).trans (congrArg D ?_))
    have e1 : r0_12.emb x 1 = (⟨384 + (x 1).val, by omega⟩ : Fin 1024) := Fin.ext (by
      show 384 + 1 * (x 1).val = 384 + (x 1).val
      omega)
    have e0 : r0_12.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay14 (F := Ideal) D) hD) x).trans ((cast2_apply D x).trans (congrArg D ?_))
    have e1 : r0_11.emb x 1 = (⟨256 + (x 1).val, by omega⟩ : Fin 1024) := Fin.ext (by
      show 256 + 1 * (x 1).val = 256 + (x 1).val
      omega)
    have e0 : r0_11.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (fun D : FVec Ideal S512x1024 .f32 => k0_pay11 (F := Ideal) D) hD) x).trans ((cast1_apply D x).trans (congrArg D ?_))
    have e1 : r0_10.emb x 1 = (⟨128 + (x 1).val, by omega⟩ : Fin 1024) := Fin.ext (by
      show 128 + 1 * (x 1).val = 128 + (x 1).val
      omega)
    have e0 : r0_10.emb x 0 = x 0 := Fin.ext (by
      show 0 + 1 * (x 0).val = (x 0).val
      omega)
    exact (congrArg₂ ix2 e0 e1).symm.trans (ix2_self _)
  · have h0 : (x 0).val < 512 := (x 0).isLt
    have h1 : (x 1).val < 128 := (x 1).isLt
    refine (congrFun (congrArg (k0_pay8 (F := Ideal)) (pay6_eq _ _ _ _ _ _ _ _ _)) x).trans <| (congrFun (congrArg (fun D : FVec Ideal S512x1024 .f32 => k0_pay8 (F := Ideal) (firstCols D)) hD) x).trans ((cast0_apply D x).trans (congrArg D ?_))
    have e1 : r0_9.emb x 1 = (⟨0 + (x 1).val, by omega⟩ : Fin 1024) := Fin.ext (by
      show 0 + 1 * (x 1).val = 0 + (x 1).val
      omega)
    have e0 : r0_9.emb x 0 = x 0 := Fin.ext (by
      show 0 + 1 * (x 0).val = (x 0).val
      omega)
    exact (congrArg₂ ix2 e0 e1).symm.trans (ix2_self _)

/-- The reference's product, entry by entry. -/
theorem ref_prod (x : S4096x1024.Idx → EReal) (w : S1024x1024.Idx → EReal) (i : S4096x1024.Idx) :
    (val_main_v4 (F := Ideal) x w i : EReal) = ∑ k : Fin 1024, x (ix2 (i 0) k) * w (ix2 (i 1) k) := by
  pointwise [val_main_v1, val_main_v3, val_main_v4]

/-- The reference's row sums, over its product. -/
theorem ref_sums (x : S4096x1024.Idx → EReal) (w : S1024x1024.Idx → EReal) (o : S4096x1024.Idx → EReal) (p : Fin 4096) (q : Fin 1024) :
    (val_main_v12 (F := Ideal) x w o (ix2 p q) : EReal) = ∑ k : Fin 128, val_main_v4 (F := Ideal) x w (ix2 p (inHead q k)) * o (ix2 p (inHead q k)) := by
  have hp := p.isLt
  have hq := q.isLt
  pointwise [val_main_cst, val_main_v5, val_main_v6, val_main_v7, val_main_v8, val_main_cst_0, val_main_v9, val_main_v10, val_main_v11, val_main_v12]
  try simp only [zero_add]
  refine Finset.sum_congr rfl fun k _ => congrArg₂ _ (congrArg _ ?_) (congrArg o ?_)
  all_goals
    have hk := k.isLt
    blk_ext []

/-- The body's product at point `t` is the reference's at that block's rows. -/
theorem product (c : Dev nD) (t : Fin cfg0.N) :
    k0_pay26 (F := Ideal) (iblk m c 0 t) (iblk m c 1 t) (iblk m c 2 t) = fun y : S512x1024.Idx => (val_main_v4 (F := Ideal) (m ((c : Thread nD τ).loc main_arg0)) (m ((c : Thread nD τ).loc main_arg1)) (ix2 (row t (y 0)) (y 1)) : EReal) := by
  funext y
  refine (congrFun (pay5_eq _ _ _ _ _ _ _ _ (View.ld (iblk m c 0 t) r0_8)) y).trans ?_
  refine (congrFun (congrArg (prod (View.ld (iblk m c 0 t) r0_8)) (side_eq (iblk m c 1 t))) y).trans ?_
  refine (prod_apply _ _ y).trans (Eq.trans ?_ (ref_prod _ _ _).symm)
  refine Finset.sum_congr rfl fun k _ => ?_
  exact congrArg₂ _ (Eq.trans (congrArg (iblk m c 0 t) (load_whole _ _)) (blk0_apply m c t (ix2 (y 0) k))) ((blk1_apply m c t _).trans (byBlocks_at _ _ _ _))

/-- The reference's results over this launch's arguments. -/
abbrev want0 (c : Dev nD) : S4096x1024.Idx → EReal := val_main_v12 (F := Ideal) (m ((c : Thread nD τ).loc main_arg0)) (m ((c : Thread nD τ).loc main_arg1)) (m ((c : Thread nD τ).loc main_arg2))
abbrev want1 (c : Dev nD) : S4096x1024.Idx → EReal := val_main_v13 (F := Ideal) (m ((c : Thread nD τ).loc main_arg0)) (m ((c : Thread nD τ).loc main_arg1))

theorem final3 (c : Dev nD) : (dats m 0 c).arrAt 3 cfg0.N = want0 m c := by
  refine (dats m 0 c).arrAt_eq_of_covers 3 _ (by decide +kernel) fun t hf y => ?_
  blk_simp
  rw [after0_3]
  rw [show (win0_3.blk t).view.emb y = ix2 (row t (y 0)) (y 1) by blk_ext [e3]]
  refine (out3_apply _ _ _ _ (product m c t) y).trans (Eq.trans ?_ (ref_sums _ _ _ _ _).symm)
  refine Finset.sum_congr rfl fun k _ => ?_
  exact congrArg₂ _ rfl (blk2_apply m c t _)

theorem final4 (c : Dev nD) : (dats m 0 c).arrAt 4 cfg0.N = want1 m c := by
  refine (dats m 0 c).arrAt_eq_of_covers 4 _ (by decide +kernel) fun t hf y => ?_
  blk_simp
  rw [after0_4]
  rw [show (win0_4.blk t).view.emb y = ix2 (row t (y 0)) (y 1) by blk_ext [e4]]
  exact out4_apply _ _ _ _ (product m c t) y

theorem algebraic : Cert.algebraic_AttnOutBwdIdeal_AttnOutBwdRefIdeal := by
  intro m g m' g' _ hagree
  refine ⟨want0 m, want1 m, (θ_run _ _ _).mono (fun r h c => ?_) (run_blocks m g), (θ_run Cert.AttnOutBwdRefIdeal.defs _ _).mono (fun r h c => ?_) (Cert.AttnOutBwdRefIdeal.Value.run (F := Ideal) m' g')⟩
  · obtain ⟨h0, h1, h2⟩ := h c
    exact ⟨h0.trans (final3 m c), h1.trans (final4 m c), h2⟩
  · obtain ⟨h0, h1, h2⟩ := h c
    obtain ⟨a0, a1, a2⟩ := hagree c
    refine ⟨?_, ?_, h2⟩
    · rw [h0, a0, a1, a2]
      rfl
    · rw [h1, a0, a1]
      rfl

end Cert.AttnOutBwdIdeal.Hand

end
-- ==== Proof.AdamGainClaim.lean ====
/- The AdamW update of a gain of the residual stream: at an index, and its claim. -/
module

public import proofs.«01_k».proof.Defs
public import proofs.«01_k».proof.Proof.Gen.AdamGainIdeal.Value
public import proofs.«01_k».proof.Proof.Gen.AdamGainRefIdeal.Read
public import Idealize.ShloMosaic.Lib.Pipeline.ValueKit
public import Idealize.ShloMosaic.Lib.Pointwise
public import Idealize.ShloMosaic.Lib.StableHlo.ReadAt

@[expose] public section

noncomputable section

namespace Cert.AdamGainIdeal.Hand

open Cert.AdamGainIdeal Cert.AdamGainIdeal.Gen Cert.AdamGainIdeal.Value
open Cert.AdamGainRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S2x1024.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamGainIdeal_AdamGainRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamGainRefIdeal.defs _ _).mono (fun r h c => ?_) (Cert.AdamGainRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamGainIdeal.Hand

end
-- ==== Proof.AdamInClaim.lean ====
/- The AdamW update of the input projection: at an index, and its claim. -/
module

public import proofs.«01_k».proof.Defs
public import proofs.«01_k».proof.Proof.Gen.AdamInIdeal.Value
public import proofs.«01_k».proof.Proof.Gen.AdamInRefIdeal.Read
public import Idealize.ShloMosaic.Lib.Pipeline.ValueKit
public import Idealize.ShloMosaic.Lib.Pointwise
public import Idealize.ShloMosaic.Lib.StableHlo.ReadAt

@[expose] public section

noncomputable section

namespace Cert.AdamInIdeal.Hand

open Cert.AdamInIdeal Cert.AdamInIdeal.Gen Cert.AdamInIdeal.Value
open Cert.AdamInRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S660x2x1024.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamInIdeal_AdamInRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamInRefIdeal.defs _ _).mono (fun r h c => ?_) (Cert.AdamInRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamInIdeal.Hand

end
-- ==== Proof.AdamQGainClaim.lean ====
/- The AdamW update of the queries' gain: at an index, and its claim. -/
module

public import proofs.«01_k».proof.Defs
public import proofs.«01_k».proof.Proof.Gen.AdamQGainIdeal.Value
public import proofs.«01_k».proof.Proof.Gen.AdamQGainRefIdeal.Read
public import Idealize.ShloMosaic.Lib.Pipeline.ValueKit
public import Idealize.ShloMosaic.Lib.Pointwise
public import Idealize.ShloMosaic.Lib.StableHlo.ReadAt

@[expose] public section

noncomputable section

namespace Cert.AdamQGainIdeal.Hand

open Cert.AdamQGainIdeal Cert.AdamQGainIdeal.Gen Cert.AdamQGainIdeal.Value
open Cert.AdamQGainRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S2x384.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamQGainIdeal_AdamQGainRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamQGainRefIdeal.defs _ _).mono (fun r h c => ?_) (Cert.AdamQGainRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamQGainIdeal.Hand

end
-- ==== Proof.AdamKvGainClaim.lean ====
/- The AdamW update of the keys' and values' gain: at an index, and its claim. -/
module

public import proofs.«01_k».proof.Defs
public import proofs.«01_k».proof.Proof.Gen.AdamKvGainIdeal.Value
public import proofs.«01_k».proof.Proof.Gen.AdamKvGainRefIdeal.Read
public import Idealize.ShloMosaic.Lib.Pipeline.ValueKit
public import Idealize.ShloMosaic.Lib.Pointwise
public import Idealize.ShloMosaic.Lib.StableHlo.ReadAt

@[expose] public section

noncomputable section

namespace Cert.AdamKvGainIdeal.Hand

open Cert.AdamKvGainIdeal Cert.AdamKvGainIdeal.Gen Cert.AdamKvGainIdeal.Value
open Cert.AdamKvGainRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S2x256.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamKvGainIdeal_AdamKvGainRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamKvGainRefIdeal.defs _ _).mono (fun r h c => ?_) (Cert.AdamKvGainRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamKvGainIdeal.Hand

end
-- ==== Proof.AdamQClaim.lean ====
/- The AdamW update of the query weight: at an index, and its claim. -/
module

public import proofs.«01_k».proof.Defs
public import proofs.«01_k».proof.Proof.Gen.AdamQIdeal.Value
public import proofs.«01_k».proof.Proof.Gen.AdamQRefIdeal.Read
public import Idealize.ShloMosaic.Lib.Pipeline.ValueKit
public import Idealize.ShloMosaic.Lib.Pointwise
public import Idealize.ShloMosaic.Lib.StableHlo.ReadAt

@[expose] public section

noncomputable section

namespace Cert.AdamQIdeal.Hand

open Cert.AdamQIdeal Cert.AdamQIdeal.Gen Cert.AdamQIdeal.Value
open Cert.AdamQRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S192x384.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamQIdeal_AdamQRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamQRefIdeal.defs _ _).mono (fun r h c => ?_) (Cert.AdamQRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamQIdeal.Hand

end
-- ==== Proof.AdamKvClaim.lean ====
/- The AdamW update of a key or value weight: at an index, and its claim. -/
module

public import proofs.«01_k».proof.Defs
public import proofs.«01_k».proof.Proof.Gen.AdamKvIdeal.Value
public import proofs.«01_k».proof.Proof.Gen.AdamKvRefIdeal.Read
public import Idealize.ShloMosaic.Lib.Pipeline.ValueKit
public import Idealize.ShloMosaic.Lib.Pointwise
public import Idealize.ShloMosaic.Lib.StableHlo.ReadAt

@[expose] public section

noncomputable section

namespace Cert.AdamKvIdeal.Hand

open Cert.AdamKvIdeal Cert.AdamKvIdeal.Gen Cert.AdamKvIdeal.Value
open Cert.AdamKvRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S128x256.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamKvIdeal_AdamKvRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamKvRefIdeal.defs _ _).mono (fun r h c => ?_) (Cert.AdamKvRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamKvIdeal.Hand

end
-- ==== Proof.AdamOutClaim.lean ====
/- The AdamW update of a branch's output weight and the pool's: at an index, and its claim. -/
module

public import proofs.«01_k».proof.Defs
public import proofs.«01_k».proof.Proof.Gen.AdamOutIdeal.Value
public import proofs.«01_k».proof.Proof.Gen.AdamOutRefIdeal.Read
public import Idealize.ShloMosaic.Lib.Pipeline.ValueKit
public import Idealize.ShloMosaic.Lib.Pointwise
public import Idealize.ShloMosaic.Lib.StableHlo.ReadAt

@[expose] public section

noncomputable section

namespace Cert.AdamOutIdeal.Hand

open Cert.AdamOutIdeal Cert.AdamOutIdeal.Gen Cert.AdamOutIdeal.Value
open Cert.AdamOutRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S1024x128.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamOutIdeal_AdamOutRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamOutRefIdeal.defs _ _).mono (fun r h c => ?_) (Cert.AdamOutRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamOutIdeal.Hand

end
-- ==== Proof.AdamTapsClaim.lean ====
/- The AdamW update of the convolution's taps: at an index, and its claim. -/
module

public import proofs.«01_k».proof.Defs
public import proofs.«01_k».proof.Proof.Gen.AdamTapsIdeal.Value
public import proofs.«01_k».proof.Proof.Gen.AdamTapsRefIdeal.Read
public import Idealize.ShloMosaic.Lib.Pipeline.ValueKit
public import Idealize.ShloMosaic.Lib.Pointwise
public import Idealize.ShloMosaic.Lib.StableHlo.ReadAt

@[expose] public section

noncomputable section

namespace Cert.AdamTapsIdeal.Hand

open Cert.AdamTapsIdeal Cert.AdamTapsIdeal.Gen Cert.AdamTapsIdeal.Value
open Cert.AdamTapsRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S62x64.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamTapsIdeal_AdamTapsRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamTapsRefIdeal.defs _ _).mono (fun r h c => ?_) (Cert.AdamTapsRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamTapsIdeal.Hand

end
-- ==== Proof.AdamChannelClaim.lean ====
/- The AdamW update of a row of channels: at an index, and its claim. -/
module

public import proofs.«01_k».proof.Defs
public import proofs.«01_k».proof.Proof.Gen.AdamChannelIdeal.Value
public import proofs.«01_k».proof.Proof.Gen.AdamChannelRefIdeal.Read
public import Idealize.ShloMosaic.Lib.Pipeline.ValueKit
public import Idealize.ShloMosaic.Lib.Pointwise
public import Idealize.ShloMosaic.Lib.StableHlo.ReadAt

@[expose] public section

noncomputable section

namespace Cert.AdamChannelIdeal.Hand

open Cert.AdamChannelIdeal Cert.AdamChannelIdeal.Gen Cert.AdamChannelIdeal.Value
open Cert.AdamChannelRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S2x512.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamChannelIdeal_AdamChannelRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamChannelRefIdeal.defs _ _).mono (fun r h c => ?_) (Cert.AdamChannelRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamChannelIdeal.Hand

end
-- ==== Proof.AdamMixClaim.lean ====
/- The AdamW update of the mixing weight: at an index, and its claim. -/
module

public import proofs.«01_k».proof.Defs
public import proofs.«01_k».proof.Proof.Gen.AdamMixIdeal.Value
public import proofs.«01_k».proof.Proof.Gen.AdamMixRefIdeal.Read
public import Idealize.ShloMosaic.Lib.Pipeline.ValueKit
public import Idealize.ShloMosaic.Lib.Pointwise
public import Idealize.ShloMosaic.Lib.StableHlo.ReadAt

@[expose] public section

noncomputable section

namespace Cert.AdamMixIdeal.Hand

open Cert.AdamMixIdeal Cert.AdamMixIdeal.Gen Cert.AdamMixIdeal.Value
open Cert.AdamMixRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S256x1024.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamMixIdeal_AdamMixRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamMixRefIdeal.defs _ _).mono (fun r h c => ?_) (Cert.AdamMixRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamMixIdeal.Hand

end
-- ==== Proof.AdamFfnClaim.lean ====
/- The AdamW update of a feed-forward weight: at an index, and its claim. -/
module

public import proofs.«01_k».proof.Defs
public import proofs.«01_k».proof.Proof.Gen.AdamFfnIdeal.Value
public import proofs.«01_k».proof.Proof.Gen.AdamFfnRefIdeal.Read
public import Idealize.ShloMosaic.Lib.Pipeline.ValueKit
public import Idealize.ShloMosaic.Lib.Pointwise
public import Idealize.ShloMosaic.Lib.StableHlo.ReadAt

@[expose] public section

noncomputable section

namespace Cert.AdamFfnIdeal.Hand

open Cert.AdamFfnIdeal Cert.AdamFfnIdeal.Gen Cert.AdamFfnIdeal.Value
open Cert.AdamFfnRefIdeal.Read (val_main_cst val_main_v0 val_main_v1 val_main_cst_0 val_main_v2 val_main_v3 val_main_v4 val_main_cst_1 val_main_v5 val_main_v6 val_main_v7 val_main_cst_2 val_main_v8 val_main_v9 val_main_v10 val_main_cst_3 val_main_v11 val_main_v12 val_main_cst_4 val_main_v13 val_main_v14 val_main_v15 val_main_cst_5 val_main_v16 val_main_v17 val_main_v18 val_main_cst_6 val_main_v19 val_main_v20 val_main_v21 val_main_cst_7 val_main_v22 val_main_v23)
open Idealize.ShloMosaic Idealize.ShloMosaic.TcCoe Idealize.SL.Sem

variable (m : (ℓ : Loc nD τ sig) → Buf (Elt Ideal) ℓ)

/-- The array the reference works with, of the extended reals. -/
abbrev A := S704x1024.Idx → EReal

theorem first_moment (g m₁ : A) : G5 (F := Ideal) g m₁ = val_main_v4 (F := Ideal) g m₁ := by
  funext i
  show (G5 (F := Ideal) g m₁ i : EReal) = val_main_v4 (F := Ideal) g m₁ i
  pointwise [G5, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem second_moment (g v₁ : A) : G6 (F := Ideal) g v₁ = val_main_v10 (F := Ideal) g v₁ := by
  funext i
  show (G6 (F := Ideal) g v₁ i : EReal) = val_main_v10 (F := Ideal) g v₁ i
  pointwise [G6, k0_pay2, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem update (w g m₁ v₁ : A) : G4 (F := Ideal) g m₁ v₁ w = val_main_v23 (F := Ideal) w g m₁ v₁ := by
  funext i
  show (G4 (F := Ideal) g m₁ v₁ w i : EReal) = val_main_v23 (F := Ideal) w g m₁ v₁ i
  pointwise [G4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem algebraic : Cert.algebraic_AdamFfnIdeal_AdamFfnRefIdeal := by
  intro m g m' g' _ hagree
  refine ⟨fun c => G4 (F := Ideal) (m ((c : Thread nD τ).loc main_arg1)) (m ((c : Thread nD τ).loc main_arg2)) (m ((c : Thread nD τ).loc main_arg3)) (m ((c : Thread nD τ).loc main_arg0)), fun c => G5 (F := Ideal) (m ((c : Thread nD τ).loc main_arg1)) (m ((c : Thread nD τ).loc main_arg2)), fun c => G6 (F := Ideal) (m ((c : Thread nD τ).loc main_arg1)) (m ((c : Thread nD τ).loc main_arg3)),
    (θ_run _ _ _).mono (fun r h c => ?_) (Value.run (F := Ideal) m g), (θ_run Cert.AdamFfnRefIdeal.defs _ _).mono (fun r h c => ?_) (Cert.AdamFfnRefIdeal.Value.run (F := Ideal) m' g')⟩
  · exact h c
  · obtain ⟨h0, h1, h2, h3⟩ := h c
    obtain ⟨a0, a1, a2, a3⟩ := hagree c
    refine ⟨?_, ?_, ?_, h3⟩
    · rw [h0, a0, a1, a2, a3]
      exact (update _ _ _ _).symm
    · rw [h1, a1, a2]
      exact (first_moment _ _).symm
    · rw [h2, a1, a3]
      exact (second_moment _ _).symm

end Cert.AdamFfnIdeal.Hand

end
-- ==== Proof.SumGainsClaim.lean ====
/- The sum of the devices' gains of the residual stream: at an index, and its claim. -/
module

public import proofs.«01_k».proof.Defs
public import proofs.«01_k».proof.Proof.Gen.SumGainsIdeal.Value
public import proofs.«01_k».proof.Proof.Gen.SumGainsRefIdeal.Read
public import Idealize.ShloMosaic.Lib.Pipeline.ValueKit
public import Idealize.ShloMosaic.Lib.Pointwise
public import Idealize.ShloMosaic.Lib.StableHlo.ReadAt

@[expose] public section

noncomputable section

namespace Cert.SumGainsIdeal.Hand

open Cert.SumGainsIdeal Cert.SumGainsIdeal.Gen Cert.SumGainsIdeal.Value
open Cert.SumGainsRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x32x1024.Idx → EReal) (y : S32x1024.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 32 := (y 0).isLt
  have h1 : (y 1).val < 1024 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x64x1024.Idx → EReal) (i : S64x1024.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 32) : Fin 64 :=
  ⟨32 * t.val + r.val, by have := lt_of_lt_of_eq t.isLt (show cfg0.N = 2 from N_0); have := r.isLt; omega⟩

theorem blk0_apply (c : Dev nD) (t : Fin cfg0.N) (y : S8x32x1024.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S64x1024.Idx → EReal := val_main_v0 (F := Ideal) (m ((c : Thread nD τ).loc main_arg0))

/-- One block of the result. -/
theorem point (c : Dev nD) (t : Fin cfg0.N) (y : S32x1024.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumGainsIdeal_SumGainsRefIdeal := by
  intro m g m' g' _ hagree
  refine ⟨want m, (θ_run _ _ _).mono (fun r h c => ?_) (run_blocks m g), (θ_run Cert.SumGainsRefIdeal.defs _ _).mono (fun r h c => ?_) (Cert.SumGainsRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumGainsIdeal.Hand

end
-- ==== Proof.SumChannelsClaim.lean ====
/- The sum of the devices' rows of channels: at an index, and its claim. -/
module

public import proofs.«01_k».proof.Defs
public import proofs.«01_k».proof.Proof.Gen.SumChannelsIdeal.Value
public import proofs.«01_k».proof.Proof.Gen.SumChannelsRefIdeal.Read
public import Idealize.ShloMosaic.Lib.Pipeline.ValueKit
public import Idealize.ShloMosaic.Lib.Pointwise
public import Idealize.ShloMosaic.Lib.StableHlo.ReadAt

@[expose] public section

noncomputable section

namespace Cert.SumChannelsIdeal.Hand

open Cert.SumChannelsIdeal Cert.SumChannelsIdeal.Gen Cert.SumChannelsIdeal.Value
open Cert.SumChannelsRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x64x512.Idx → EReal) (y : S64x512.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 64 := (y 0).isLt
  have h1 : (y 1).val < 512 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x128x512.Idx → EReal) (i : S128x512.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 64) : Fin 128 :=
  ⟨64 * t.val + r.val, by have := lt_of_lt_of_eq t.isLt (show cfg0.N = 2 from N_0); have := r.isLt; omega⟩

theorem blk0_apply (c : Dev nD) (t : Fin cfg0.N) (y : S8x64x512.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S128x512.Idx → EReal := val_main_v0 (F := Ideal) (m ((c : Thread nD τ).loc main_arg0))

/-- One block of the result. -/
theorem point (c : Dev nD) (t : Fin cfg0.N) (y : S64x512.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumChannelsIdeal_SumChannelsRefIdeal := by
  intro m g m' g' _ hagree
  refine ⟨want m, (θ_run _ _ _).mono (fun r h c => ?_) (run_blocks m g), (θ_run Cert.SumChannelsRefIdeal.defs _ _).mono (fun r h c => ?_) (Cert.SumChannelsRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumChannelsIdeal.Hand

end
-- ==== Proof.SumQClaim.lean ====
/- The sum of the devices' queries' gains: at an index, and its claim. -/
module

public import proofs.«01_k».proof.Defs
public import proofs.«01_k».proof.Proof.Gen.SumQIdeal.Value
public import proofs.«01_k».proof.Proof.Gen.SumQRefIdeal.Read
public import Idealize.ShloMosaic.Lib.Pipeline.ValueKit
public import Idealize.ShloMosaic.Lib.Pointwise
public import Idealize.ShloMosaic.Lib.StableHlo.ReadAt

@[expose] public section

noncomputable section

namespace Cert.SumQIdeal.Hand

open Cert.SumQIdeal Cert.SumQIdeal.Gen Cert.SumQIdeal.Value
open Cert.SumQRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x16x384.Idx → EReal) (y : S16x384.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 16 := (y 0).isLt
  have h1 : (y 1).val < 384 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x16x384.Idx → EReal) (i : S16x384.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 16) : Fin 16 :=
  ⟨16 * t.val + r.val, by have := lt_of_lt_of_eq t.isLt (show cfg0.N = 1 from N_0); have := r.isLt; omega⟩

theorem blk0_apply (c : Dev nD) (t : Fin cfg0.N) (y : S8x16x384.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S16x384.Idx → EReal := val_main_v0 (F := Ideal) (m ((c : Thread nD τ).loc main_arg0))

/-- One block of the result. -/
theorem point (c : Dev nD) (t : Fin cfg0.N) (y : S16x384.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumQIdeal_SumQRefIdeal := by
  intro m g m' g' _ hagree
  refine ⟨want m, (θ_run _ _ _).mono (fun r h c => ?_) (run_blocks m g), (θ_run Cert.SumQRefIdeal.defs _ _).mono (fun r h c => ?_) (Cert.SumQRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumQIdeal.Hand

end
-- ==== Proof.SumKvClaim.lean ====
/- The sum of the devices' keys' and values' gains: at an index, and its claim. -/
module

public import proofs.«01_k».proof.Defs
public import proofs.«01_k».proof.Proof.Gen.SumKvIdeal.Value
public import proofs.«01_k».proof.Proof.Gen.SumKvRefIdeal.Read
public import Idealize.ShloMosaic.Lib.Pipeline.ValueKit
public import Idealize.ShloMosaic.Lib.Pointwise
public import Idealize.ShloMosaic.Lib.StableHlo.ReadAt

@[expose] public section

noncomputable section

namespace Cert.SumKvIdeal.Hand

open Cert.SumKvIdeal Cert.SumKvIdeal.Gen Cert.SumKvIdeal.Value
open Cert.SumKvRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x16x256.Idx → EReal) (y : S16x256.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 16 := (y 0).isLt
  have h1 : (y 1).val < 256 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x16x256.Idx → EReal) (i : S16x256.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 16) : Fin 16 :=
  ⟨16 * t.val + r.val, by have := lt_of_lt_of_eq t.isLt (show cfg0.N = 1 from N_0); have := r.isLt; omega⟩

theorem blk0_apply (c : Dev nD) (t : Fin cfg0.N) (y : S8x16x256.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S16x256.Idx → EReal := val_main_v0 (F := Ideal) (m ((c : Thread nD τ).loc main_arg0))

/-- One block of the result. -/
theorem point (c : Dev nD) (t : Fin cfg0.N) (y : S16x256.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumKvIdeal_SumKvRefIdeal := by
  intro m g m' g' _ hagree
  refine ⟨want m, (θ_run _ _ _).mono (fun r h c => ?_) (run_blocks m g), (θ_run Cert.SumKvRefIdeal.defs _ _).mono (fun r h c => ?_) (Cert.SumKvRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumKvIdeal.Hand

end
-- ==== Proof.SumPoolClaim.lean ====
/- The sum of the devices' pool weights: at an index, and its claim. -/
module

public import proofs.«01_k».proof.Defs
public import proofs.«01_k».proof.Proof.Gen.SumPoolIdeal.Value
public import proofs.«01_k».proof.Proof.Gen.SumPoolRefIdeal.Read
public import Idealize.ShloMosaic.Lib.Pipeline.ValueKit
public import Idealize.ShloMosaic.Lib.Pointwise
public import Idealize.ShloMosaic.Lib.StableHlo.ReadAt

@[expose] public section

noncomputable section

namespace Cert.SumPoolIdeal.Hand

open Cert.SumPoolIdeal Cert.SumPoolIdeal.Gen Cert.SumPoolIdeal.Value
open Cert.SumPoolRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x256x128.Idx → EReal) (y : S256x128.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 256 := (y 0).isLt
  have h1 : (y 1).val < 128 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x1024x128.Idx → EReal) (i : S1024x128.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 256) : Fin 1024 :=
  ⟨256 * t.val + r.val, by have := lt_of_lt_of_eq t.isLt (show cfg0.N = 4 from N_0); have := r.isLt; omega⟩

theorem blk0_apply (c : Dev nD) (t : Fin cfg0.N) (y : S8x256x128.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S1024x128.Idx → EReal := val_main_v0 (F := Ideal) (m ((c : Thread nD τ).loc main_arg0))

/-- One block of the result. -/
theorem point (c : Dev nD) (t : Fin cfg0.N) (y : S256x128.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumPoolIdeal_SumPoolRefIdeal := by
  intro m g m' g' _ hagree
  refine ⟨want m, (θ_run _ _ _).mono (fun r h c => ?_) (run_blocks m g), (θ_run Cert.SumPoolRefIdeal.defs _ _).mono (fun r h c => ?_) (Cert.SumPoolRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumPoolIdeal.Hand

end
-- ==== Proof.SumLastClaim.lean ====
/- The sum of the devices' last gain and the loss: at an index, and its claim. -/
module

public import proofs.«01_k».proof.Defs
public import proofs.«01_k».proof.Proof.Gen.SumLastIdeal.Value
public import proofs.«01_k».proof.Proof.Gen.SumLastRefIdeal.Read
public import Idealize.ShloMosaic.Lib.Pipeline.ValueKit
public import Idealize.ShloMosaic.Lib.Pointwise
public import Idealize.ShloMosaic.Lib.StableHlo.ReadAt

@[expose] public section

noncomputable section

namespace Cert.SumLastIdeal.Hand

open Cert.SumLastIdeal Cert.SumLastIdeal.Gen Cert.SumLastIdeal.Value
open Cert.SumLastRefIdeal.Read (val_main_cst val_main_v0)
open Idealize.ShloMosaic Idealize.ShloMosaic.TcCoe Idealize.SL.Sem

variable (m : (ℓ : Loc nD τ sig) → Buf (Elt Ideal) ℓ)

/-- The body's result: the sum of its eight loads, entry by entry. -/
theorem pay_apply (x : S8x8x1024.Idx → EReal) (y : S8x1024.Idx) :
    (k0_pay1 (F := Ideal) (View.ld x r0_0) (View.ld x r0_1) (View.ld x r0_2) (View.ld x r0_3) (View.ld x r0_4) (View.ld x r0_5) (View.ld x r0_6) (View.ld x r0_7) y : EReal)
      = ∑ k : Fin 8, x (ix3 k (y 0) (y 1)) := by
  have h0 : (y 0).val < 8 := (y 0).isLt
  have h1 : (y 1).val < 1024 := (y 1).isLt
  rw [Fin.sum_univ_eight]
  pointwise [k0_pay1]
  repeat' refine congrArg₂ (fun a b : EReal => a + b) ?_ ?_
  all_goals
    refine congrArg x ?_
    blk_ext []

/-- The reference's result, entry by entry. -/
theorem ref_apply (a : S8x8x1024.Idx → EReal) (i : S8x1024.Idx) :
    (val_main_v0 (F := Ideal) a i : EReal) = ∑ k : Fin 8, a (ix3 k (i 0) (i 1)) := by
  pointwise [val_main_v0, val_main_cst]

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- Row `r` of the block of point `t`, in the array. -/
abbrev row (t : Fin cfg0.N) (r : Fin 8) : Fin 8 :=
  ⟨8 * t.val + r.val, by have := lt_of_lt_of_eq t.isLt (show cfg0.N = 1 from N_0); have := r.isLt; omega⟩

theorem blk0_apply (c : Dev nD) (t : Fin cfg0.N) (y : S8x8x1024.Idx) :
    iblk m c 0 t y = m ((c : Thread nD τ).loc main_arg0) (ix3 (y 0) (row t (y 1)) (y 2)) := by
  blk_simp [iblk]
  rw [V_main_arg0]
  refine congrArg _ ?_
  blk_ext [e0]

/-- The reference's result over this launch's argument. -/
abbrev want (c : Dev nD) : S8x1024.Idx → EReal := val_main_v0 (F := Ideal) (m ((c : Thread nD τ).loc main_arg0))

/-- One block of the result. -/
theorem point (c : Dev nD) (t : Fin cfg0.N) (y : S8x1024.Idx) :
    (out0_1 (F := Ideal) (iblk m c 0 t) y : EReal) = want m c (ix2 (row t (y 0)) (y 1)) := by
  unfold out0_1
  rw [View.canon_unit_zero (by decide)]
  refine (pay_apply (iblk m c 0 t) y).trans (Eq.trans ?_ (ref_apply _ _).symm)
  exact Finset.sum_congr rfl fun k _ => blk0_apply m c t _

theorem final1 (c : Dev nD) : (dats m 0 c).arrAt 1 cfg0.N = want m c := by
  refine (dats m 0 c).arrAt_eq_of_covers 1 _ (by decide +kernel) fun t hf y => ?_
  blk_simp
  rw [after0_1]
  rw [show (win0_1.blk t).view.emb y = ix2 (row t (y 0)) (y 1) by blk_ext [e1]]
  exact point m c t y

theorem algebraic : Cert.algebraic_SumLastIdeal_SumLastRefIdeal := by
  intro m g m' g' _ hagree
  refine ⟨want m, (θ_run _ _ _).mono (fun r h c => ?_) (run_blocks m g), (θ_run Cert.SumLastRefIdeal.defs _ _).mono (fun r h c => ?_) (Cert.SumLastRefIdeal.Value.run (F := Ideal) m' g')⟩
  · obtain ⟨h0, h1⟩ := h c
    exact ⟨h0.trans (final1 m c), h1⟩
  · obtain ⟨h0, h1⟩ := h c
    have a0 := hagree c
    refine ⟨?_, h1⟩
    rw [h0, a0]
    rfl

end Cert.SumLastIdeal.Hand

end
-- ==== Proof.LayersInClaim.lean ====
/- The sums of the devices' input projections, of the two layers: at an index, and its claim. -/
module

public import proofs.«01_k».proof.Defs
public import proofs.«01_k».proof.Proof.Gen.LayersInIdeal.Value
public import proofs.«01_k».proof.Proof.Gen.LayersInRefIdeal.Read
public import Idealize.ShloMosaic.Lib.Pipeline.ValueKit
public import Idealize.ShloMosaic.Lib.Pointwise
public import Idealize.ShloMosaic.Lib.StableHlo.ReadAt

@[expose] public section

noncomputable section

namespace Cert.LayersInIdeal.Hand

open Cert.LayersInIdeal Cert.LayersInIdeal.Gen Cert.LayersInIdeal.Value
open Cert.LayersInRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S4x256x660.Idx → EReal) (y : S1x256x660.Idx) :
    (k0_pay1 (F := Ideal) (View.ld x (Rect.unit (s := S4x256x660) ![0, 0, 0] ![1, 256, 660] inb_S4x256x660_S1x256x660_0_0_0)) (View.ld x (Rect.unit (s := S4x256x660) ![1, 0, 0] ![1, 256, 660] inb_S4x256x660_S1x256x660_1_0_0)) (View.ld x (Rect.unit (s := S4x256x660) ![2, 0, 0] ![1, 256, 660] inb_S4x256x660_S1x256x660_2_0_0)) (View.ld x (Rect.unit (s := S4x256x660) ![3, 0, 0] ![1, 256, 660] inb_S4x256x660_S1x256x660_3_0_0)) y : EReal)
      = ∑ k : Fin 4, x (ix3 k (y 1) (y 2)) := by
  have h0 : (y 0).val < 1 := (y 0).isLt
  have h1 : (y 1).val < 256 := (y 1).isLt
  have h2 : (y 2).val < 660 := (y 2).isLt
  rw [Fin.sum_univ_four]
  pointwise [k0_pay1, k0_pay2, k0_pay3]
  repeat' refine congrArg₂ (fun a b : EReal => a + b) ?_ ?_
  all_goals
    refine congrArg x ?_
    blk_ext []

/-- The second layer's sum, entry by entry. -/
theorem second_apply (x : S8x256x660.Idx → EReal) (y : S1x256x660.Idx) :
    (k0_pay2 (F := Ideal) (k0_pay3 (F := Ideal) (View.ld x (Rect.unit (s := S8x256x660) ![0, 0, 0] ![1, 256, 660] inb_S8x256x660_S1x256x660_0_0_0)) (View.ld x (Rect.unit (s := S8x256x660) ![1, 0, 0] ![1, 256, 660] inb_S8x256x660_S1x256x660_1_0_0)) (View.ld x (Rect.unit (s := S8x256x660) ![2, 0, 0] ![1, 256, 660] inb_S8x256x660_S1x256x660_2_0_0)) (View.ld x (Rect.unit (s := S8x256x660) ![3, 0, 0] ![1, 256, 660] inb_S8x256x660_S1x256x660_3_0_0)) (View.ld x (Rect.unit (s := S8x256x660) ![4, 0, 0] ![1, 256, 660] inb_S8x256x660_S1x256x660_4_0_0)) (View.ld x (Rect.unit (s := S8x256x660) ![5, 0, 0] ![1, 256, 660] inb_S8x256x660_S1x256x660_5_0_0)) (View.ld x (Rect.unit (s := S8x256x660) ![6, 0, 0] ![1, 256, 660] inb_S8x256x660_S1x256x660_6_0_0)) (View.ld x (Rect.unit (s := S8x256x660) ![7, 0, 0] ![1, 256, 660] inb_S8x256x660_S1x256x660_7_0_0))) y : EReal)
      = ∑ k : Fin 8, x (ix3 k (y 1) (y 2)) := by
  have h0 : (y 0).val < 1 := (y 0).isLt
  have h1 : (y 1).val < 256 := (y 1).isLt
  have h2 : (y 2).val < 660 := (y 2).isLt
  rw [Fin.sum_univ_eight]
  pointwise [k0_pay1, k0_pay2, k0_pay3]
  repeat' refine congrArg₂ (fun a b : EReal => a + b) ?_ ?_
  all_goals
    refine congrArg x ?_
    blk_ext []

/-- The reference's result at the first layer, entry by entry. -/
theorem ref_first (a : S4x1024x660.Idx → EReal) (b : S8x1024x660.Idx → EReal) (i : S2x1024x660.Idx) (h : (i 0).val = 0) :
    (val_main_v6 (F := Ideal) a b i : EReal) = ∑ k : Fin 4, a (ix3 k (i 1) (i 2)) := by
  have h1 : (i 1).val < 1024 := (i 1).isLt
  have h2 : (i 2).val < 660 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S4x1024x660.Idx → EReal) (b : S8x1024x660.Idx → EReal) (i : S2x1024x660.Idx) (h : (i 0).val = 1) :
    (val_main_v6 (F := Ideal) a b i : EReal) = ∑ k : Fin 8, b (ix3 k (i 1) (i 2)) := by
  have h1 : (i 1).val < 1024 := (i 1).isLt
  have h2 : (i 2).val < 660 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 4 → win0_0.index t = ![0, t.val % 4, 0] := (by decide +kernel : ∀ t : Fin grid0.N, t.val < 4 → _)
theorem e1 : ∀ t : Fin cfg0.N, 4 ≤ t.val → win0_1.index t = ![0, t.val % 4, 0] := (by decide +kernel : ∀ t : Fin grid0.N, 4 ≤ t.val → _)
theorem e2 : ∀ t : Fin cfg0.N, win0_2.index t = ![t.val / 4, t.val % 4, 0] := (by decide +kernel : ∀ t : Fin grid0.N, _)

/-- Row `r` of the block of point `t`, in the array. -/
abbrev row (t : Fin cfg0.N) (r : Fin 256) : Fin 1024 :=
  ⟨256 * (t.val % 4) + r.val, by have := r.isLt; omega⟩

/-- The layer of point `t`. -/
abbrev layer (t : Fin cfg0.N) : Fin 2 :=
  ⟨t.val / 4, by have := lt_of_lt_of_eq t.isLt (show cfg0.N = 8 from N_0); omega⟩

theorem blk0_apply (c : Dev nD) (t : Fin cfg0.N) (h : t.val < 4) (y : S4x256x660.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 4 ≤ t.val) (y : S8x256x660.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x1024x660.Idx → EReal :=
  val_main_v6 (F := Ideal) (m ((c : Thread nD τ).loc main_arg0)) (m ((c : Thread nD τ).loc main_arg1))

/-- One block of the result. -/
theorem point (c : Dev nD) (t : Fin cfg0.N) (y : S1x256x660.Idx) :
    (outsAt0 m c t.val t.isLt y : EReal) = want m c (ix3 (layer t) (row t (y 1)) (y 2)) := by
  have ht := lt_of_lt_of_eq t.isLt (show cfg0.N = 8 from N_0)
  by_cases h : t.val < 4
  · rw [outsAt0_A m c t (by omega) (by omega)]
    frame_out
    refine (first_apply (iblk m c 0 t) y).trans (Eq.trans ?_ (ref_first _ _ _ (show t.val / 4 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 4 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersInIdeal_LayersInRefIdeal := by
  intro m g m' g' _ hagree
  refine ⟨want m, (θ_run _ _ _).mono (fun r h c => ?_) (run_blocks m g), (θ_run Cert.LayersInRefIdeal.defs _ _).mono (fun r h c => ?_) (Cert.LayersInRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersInIdeal.Hand

end
-- ==== Proof.LayersQClaim.lean ====
/- The sums of the devices' query weights, of the two layers: at an index, and its claim. -/
module

public import proofs.«01_k».proof.Defs
public import proofs.«01_k».proof.Proof.Gen.LayersQIdeal.Value
public import proofs.«01_k».proof.Proof.Gen.LayersQRefIdeal.Read
public import Idealize.ShloMosaic.Lib.Pipeline.ValueKit
public import Idealize.ShloMosaic.Lib.Pointwise
public import Idealize.ShloMosaic.Lib.StableHlo.ReadAt

@[expose] public section

noncomputable section

namespace Cert.LayersQIdeal.Hand

open Cert.LayersQIdeal Cert.LayersQIdeal.Gen Cert.LayersQIdeal.Value
open Cert.LayersQRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S4x384x128.Idx → EReal) (y : S1x384x128.Idx) :
    (k0_pay1 (F := Ideal) (View.ld x (Rect.unit (s := S4x384x128) ![0, 0, 0] ![1, 384, 128] inb_S4x384x128_S1x384x128_0_0_0)) (View.ld x (Rect.unit (s := S4x384x128) ![1, 0, 0] ![1, 384, 128] inb_S4x384x128_S1x384x128_1_0_0)) (View.ld x (Rect.unit (s := S4x384x128) ![2, 0, 0] ![1, 384, 128] inb_S4x384x128_S1x384x128_2_0_0)) (View.ld x (Rect.unit (s := S4x384x128) ![3, 0, 0] ![1, 384, 128] inb_S4x384x128_S1x384x128_3_0_0)) y : EReal)
      = ∑ k : Fin 4, x (ix3 k (y 1) (y 2)) := by
  have h0 : (y 0).val < 1 := (y 0).isLt
  have h1 : (y 1).val < 384 := (y 1).isLt
  have h2 : (y 2).val < 128 := (y 2).isLt
  rw [Fin.sum_univ_four]
  pointwise [k0_pay1, k0_pay2, k0_pay3]
  repeat' refine congrArg₂ (fun a b : EReal => a + b) ?_ ?_
  all_goals
    refine congrArg x ?_
    blk_ext []

/-- The second layer's sum, entry by entry. -/
theorem second_apply (x : S8x384x128.Idx → EReal) (y : S1x384x128.Idx) :
    (k0_pay2 (F := Ideal) (k0_pay3 (F := Ideal) (View.ld x (Rect.unit (s := S8x384x128) ![0, 0, 0] ![1, 384, 128] inb_S8x384x128_S1x384x128_0_0_0)) (View.ld x (Rect.unit (s := S8x384x128) ![1, 0, 0] ![1, 384, 128] inb_S8x384x128_S1x384x128_1_0_0)) (View.ld x (Rect.unit (s := S8x384x128) ![2, 0, 0] ![1, 384, 128] inb_S8x384x128_S1x384x128_2_0_0)) (View.ld x (Rect.unit (s := S8x384x128) ![3, 0, 0] ![1, 384, 128] inb_S8x384x128_S1x384x128_3_0_0)) (View.ld x (Rect.unit (s := S8x384x128) ![4, 0, 0] ![1, 384, 128] inb_S8x384x128_S1x384x128_4_0_0)) (View.ld x (Rect.unit (s := S8x384x128) ![5, 0, 0] ![1, 384, 128] inb_S8x384x128_S1x384x128_5_0_0)) (View.ld x (Rect.unit (s := S8x384x128) ![6, 0, 0] ![1, 384, 128] inb_S8x384x128_S1x384x128_6_0_0)) (View.ld x (Rect.unit (s := S8x384x128) ![7, 0, 0] ![1, 384, 128] inb_S8x384x128_S1x384x128_7_0_0))) y : EReal)
      = ∑ k : Fin 8, x (ix3 k (y 1) (y 2)) := by
  have h0 : (y 0).val < 1 := (y 0).isLt
  have h1 : (y 1).val < 384 := (y 1).isLt
  have h2 : (y 2).val < 128 := (y 2).isLt
  rw [Fin.sum_univ_eight]
  pointwise [k0_pay1, k0_pay2, k0_pay3]
  repeat' refine congrArg₂ (fun a b : EReal => a + b) ?_ ?_
  all_goals
    refine congrArg x ?_
    blk_ext []

/-- The reference's result at the first layer, entry by entry. -/
theorem ref_first (a : S4x384x128.Idx → EReal) (b : S8x384x128.Idx → EReal) (i : S2x384x128.Idx) (h : (i 0).val = 0) :
    (val_main_v6 (F := Ideal) a b i : EReal) = ∑ k : Fin 4, a (ix3 k (i 1) (i 2)) := by
  have h1 : (i 1).val < 384 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S4x384x128.Idx → EReal) (b : S8x384x128.Idx → EReal) (i : S2x384x128.Idx) (h : (i 0).val = 1) :
    (val_main_v6 (F := Ideal) a b i : EReal) = ∑ k : Fin 8, b (ix3 k (i 1) (i 2)) := by
  have h1 : (i 1).val < 384 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 1 → win0_0.index t = ![0, t.val % 1, 0] := (by decide +kernel : ∀ t : Fin grid0.N, t.val < 1 → _)
theorem e1 : ∀ t : Fin cfg0.N, 1 ≤ t.val → win0_1.index t = ![0, t.val % 1, 0] := (by decide +kernel : ∀ t : Fin grid0.N, 1 ≤ t.val → _)
theorem e2 : ∀ t : Fin cfg0.N, win0_2.index t = ![t.val / 1, t.val % 1, 0] := (by decide +kernel : ∀ t : Fin grid0.N, _)

/-- Row `r` of the block of point `t`, in the array. -/
abbrev row (t : Fin cfg0.N) (r : Fin 384) : Fin 384 :=
  ⟨384 * (t.val % 1) + r.val, by have := r.isLt; omega⟩

/-- The layer of point `t`. -/
abbrev layer (t : Fin cfg0.N) : Fin 2 :=
  ⟨t.val / 1, by have := lt_of_lt_of_eq t.isLt (show cfg0.N = 2 from N_0); omega⟩

theorem blk0_apply (c : Dev nD) (t : Fin cfg0.N) (h : t.val < 1) (y : S4x384x128.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 1 ≤ t.val) (y : S8x384x128.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x384x128.Idx → EReal :=
  val_main_v6 (F := Ideal) (m ((c : Thread nD τ).loc main_arg0)) (m ((c : Thread nD τ).loc main_arg1))

/-- One block of the result. -/
theorem point (c : Dev nD) (t : Fin cfg0.N) (y : S1x384x128.Idx) :
    (outsAt0 m c t.val t.isLt y : EReal) = want m c (ix3 (layer t) (row t (y 1)) (y 2)) := by
  have ht := lt_of_lt_of_eq t.isLt (show cfg0.N = 2 from N_0)
  by_cases h : t.val < 1
  · rw [outsAt0_A m c t (by omega) (by omega)]
    frame_out
    refine (first_apply (iblk m c 0 t) y).trans (Eq.trans ?_ (ref_first _ _ _ (show t.val / 1 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 1 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersQIdeal_LayersQRefIdeal := by
  intro m g m' g' _ hagree
  refine ⟨want m, (θ_run _ _ _).mono (fun r h c => ?_) (run_blocks m g), (θ_run Cert.LayersQRefIdeal.defs _ _).mono (fun r h c => ?_) (Cert.LayersQRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersQIdeal.Hand

end
-- ==== Proof.LayersKvClaim.lean ====
/- The sums of the devices' key and value weights, of the two layers: at an index, and its claim. -/
module

public import proofs.«01_k».proof.Defs
public import proofs.«01_k».proof.Proof.Gen.LayersKvIdeal.Value
public import proofs.«01_k».proof.Proof.Gen.LayersKvRefIdeal.Read
public import Idealize.ShloMosaic.Lib.Pipeline.ValueKit
public import Idealize.ShloMosaic.Lib.Pointwise
public import Idealize.ShloMosaic.Lib.StableHlo.ReadAt

@[expose] public section

noncomputable section

namespace Cert.LayersKvIdeal.Hand

open Cert.LayersKvIdeal Cert.LayersKvIdeal.Gen Cert.LayersKvIdeal.Value
open Cert.LayersKvRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S4x256x128.Idx → EReal) (y : S1x256x128.Idx) :
    (k0_pay1 (F := Ideal) (View.ld x (Rect.unit (s := S4x256x128) ![0, 0, 0] ![1, 256, 128] inb_S4x256x128_S1x256x128_0_0_0)) (View.ld x (Rect.unit (s := S4x256x128) ![1, 0, 0] ![1, 256, 128] inb_S4x256x128_S1x256x128_1_0_0)) (View.ld x (Rect.unit (s := S4x256x128) ![2, 0, 0] ![1, 256, 128] inb_S4x256x128_S1x256x128_2_0_0)) (View.ld x (Rect.unit (s := S4x256x128) ![3, 0, 0] ![1, 256, 128] inb_S4x256x128_S1x256x128_3_0_0)) y : EReal)
      = ∑ k : Fin 4, x (ix3 k (y 1) (y 2)) := by
  have h0 : (y 0).val < 1 := (y 0).isLt
  have h1 : (y 1).val < 256 := (y 1).isLt
  have h2 : (y 2).val < 128 := (y 2).isLt
  rw [Fin.sum_univ_four]
  pointwise [k0_pay1, k0_pay2, k0_pay3]
  repeat' refine congrArg₂ (fun a b : EReal => a + b) ?_ ?_
  all_goals
    refine congrArg x ?_
    blk_ext []

/-- The second layer's sum, entry by entry. -/
theorem second_apply (x : S8x256x128.Idx → EReal) (y : S1x256x128.Idx) :
    (k0_pay2 (F := Ideal) (k0_pay3 (F := Ideal) (View.ld x (Rect.unit (s := S8x256x128) ![0, 0, 0] ![1, 256, 128] inb_S8x256x128_S1x256x128_0_0_0)) (View.ld x (Rect.unit (s := S8x256x128) ![1, 0, 0] ![1, 256, 128] inb_S8x256x128_S1x256x128_1_0_0)) (View.ld x (Rect.unit (s := S8x256x128) ![2, 0, 0] ![1, 256, 128] inb_S8x256x128_S1x256x128_2_0_0)) (View.ld x (Rect.unit (s := S8x256x128) ![3, 0, 0] ![1, 256, 128] inb_S8x256x128_S1x256x128_3_0_0)) (View.ld x (Rect.unit (s := S8x256x128) ![4, 0, 0] ![1, 256, 128] inb_S8x256x128_S1x256x128_4_0_0)) (View.ld x (Rect.unit (s := S8x256x128) ![5, 0, 0] ![1, 256, 128] inb_S8x256x128_S1x256x128_5_0_0)) (View.ld x (Rect.unit (s := S8x256x128) ![6, 0, 0] ![1, 256, 128] inb_S8x256x128_S1x256x128_6_0_0)) (View.ld x (Rect.unit (s := S8x256x128) ![7, 0, 0] ![1, 256, 128] inb_S8x256x128_S1x256x128_7_0_0))) y : EReal)
      = ∑ k : Fin 8, x (ix3 k (y 1) (y 2)) := by
  have h0 : (y 0).val < 1 := (y 0).isLt
  have h1 : (y 1).val < 256 := (y 1).isLt
  have h2 : (y 2).val < 128 := (y 2).isLt
  rw [Fin.sum_univ_eight]
  pointwise [k0_pay1, k0_pay2, k0_pay3]
  repeat' refine congrArg₂ (fun a b : EReal => a + b) ?_ ?_
  all_goals
    refine congrArg x ?_
    blk_ext []

/-- The reference's result at the first layer, entry by entry. -/
theorem ref_first (a : S4x256x128.Idx → EReal) (b : S8x256x128.Idx → EReal) (i : S2x256x128.Idx) (h : (i 0).val = 0) :
    (val_main_v6 (F := Ideal) a b i : EReal) = ∑ k : Fin 4, a (ix3 k (i 1) (i 2)) := by
  have h1 : (i 1).val < 256 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S4x256x128.Idx → EReal) (b : S8x256x128.Idx → EReal) (i : S2x256x128.Idx) (h : (i 0).val = 1) :
    (val_main_v6 (F := Ideal) a b i : EReal) = ∑ k : Fin 8, b (ix3 k (i 1) (i 2)) := by
  have h1 : (i 1).val < 256 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 1 → win0_0.index t = ![0, t.val % 1, 0] := (by decide +kernel : ∀ t : Fin grid0.N, t.val < 1 → _)
theorem e1 : ∀ t : Fin cfg0.N, 1 ≤ t.val → win0_1.index t = ![0, t.val % 1, 0] := (by decide +kernel : ∀ t : Fin grid0.N, 1 ≤ t.val → _)
theorem e2 : ∀ t : Fin cfg0.N, win0_2.index t = ![t.val / 1, t.val % 1, 0] := (by decide +kernel : ∀ t : Fin grid0.N, _)

/-- Row `r` of the block of point `t`, in the array. -/
abbrev row (t : Fin cfg0.N) (r : Fin 256) : Fin 256 :=
  ⟨256 * (t.val % 1) + r.val, by have := r.isLt; omega⟩

/-- The layer of point `t`. -/
abbrev layer (t : Fin cfg0.N) : Fin 2 :=
  ⟨t.val / 1, by have := lt_of_lt_of_eq t.isLt (show cfg0.N = 2 from N_0); omega⟩

theorem blk0_apply (c : Dev nD) (t : Fin cfg0.N) (h : t.val < 1) (y : S4x256x128.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 1 ≤ t.val) (y : S8x256x128.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x256x128.Idx → EReal :=
  val_main_v6 (F := Ideal) (m ((c : Thread nD τ).loc main_arg0)) (m ((c : Thread nD τ).loc main_arg1))

/-- One block of the result. -/
theorem point (c : Dev nD) (t : Fin cfg0.N) (y : S1x256x128.Idx) :
    (outsAt0 m c t.val t.isLt y : EReal) = want m c (ix3 (layer t) (row t (y 1)) (y 2)) := by
  have ht := lt_of_lt_of_eq t.isLt (show cfg0.N = 2 from N_0)
  by_cases h : t.val < 1
  · rw [outsAt0_A m c t (by omega) (by omega)]
    frame_out
    refine (first_apply (iblk m c 0 t) y).trans (Eq.trans ?_ (ref_first _ _ _ (show t.val / 1 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 1 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersKvIdeal_LayersKvRefIdeal := by
  intro m g m' g' _ hagree
  refine ⟨want m, (θ_run _ _ _).mono (fun r h c => ?_) (run_blocks m g), (θ_run Cert.LayersKvRefIdeal.defs _ _).mono (fun r h c => ?_) (Cert.LayersKvRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersKvIdeal.Hand

end
-- ==== Proof.LayersOutClaim.lean ====
/- The sums of the devices' branches' output weights, of the two layers: at an index, and its claim. -/
module

public import proofs.«01_k».proof.Defs
public import proofs.«01_k».proof.Proof.Gen.LayersOutIdeal.Value
public import proofs.«01_k».proof.Proof.Gen.LayersOutRefIdeal.Read
public import Idealize.ShloMosaic.Lib.Pipeline.ValueKit
public import Idealize.ShloMosaic.Lib.Pointwise
public import Idealize.ShloMosaic.Lib.StableHlo.ReadAt

@[expose] public section

noncomputable section

namespace Cert.LayersOutIdeal.Hand

open Cert.LayersOutIdeal Cert.LayersOutIdeal.Gen Cert.LayersOutIdeal.Value
open Cert.LayersOutRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S8x512x128.Idx → EReal) (y : S1x512x128.Idx) :
    (k0_pay1 (F := Ideal) (k0_pay3 (F := Ideal) (View.ld x (Rect.unit (s := S8x512x128) ![0, 0, 0] ![1, 512, 128] inb_S8x512x128_S1x512x128_0_0_0)) (View.ld x (Rect.unit (s := S8x512x128) ![1, 0, 0] ![1, 512, 128] inb_S8x512x128_S1x512x128_1_0_0)) (View.ld x (Rect.unit (s := S8x512x128) ![2, 0, 0] ![1, 512, 128] inb_S8x512x128_S1x512x128_2_0_0)) (View.ld x (Rect.unit (s := S8x512x128) ![3, 0, 0] ![1, 512, 128] inb_S8x512x128_S1x512x128_3_0_0)) (View.ld x (Rect.unit (s := S8x512x128) ![4, 0, 0] ![1, 512, 128] inb_S8x512x128_S1x512x128_4_0_0)) (View.ld x (Rect.unit (s := S8x512x128) ![5, 0, 0] ![1, 512, 128] inb_S8x512x128_S1x512x128_5_0_0)) (View.ld x (Rect.unit (s := S8x512x128) ![6, 0, 0] ![1, 512, 128] inb_S8x512x128_S1x512x128_6_0_0)) (View.ld x (Rect.unit (s := S8x512x128) ![7, 0, 0] ![1, 512, 128] inb_S8x512x128_S1x512x128_7_0_0))) y : EReal)
      = ∑ k : Fin 8, x (ix3 k (y 1) (y 2)) := by
  have h0 : (y 0).val < 1 := (y 0).isLt
  have h1 : (y 1).val < 512 := (y 1).isLt
  have h2 : (y 2).val < 128 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The second layer's sum, entry by entry. -/
theorem second_apply (x : S8x512x128.Idx → EReal) (y : S1x512x128.Idx) :
    (k0_pay2 (F := Ideal) (k0_pay4 (F := Ideal) (View.ld x (Rect.unit (s := S8x512x128) ![0, 0, 0] ![1, 512, 128] inb_S8x512x128_S1x512x128_0_0_0)) (View.ld x (Rect.unit (s := S8x512x128) ![1, 0, 0] ![1, 512, 128] inb_S8x512x128_S1x512x128_1_0_0)) (View.ld x (Rect.unit (s := S8x512x128) ![2, 0, 0] ![1, 512, 128] inb_S8x512x128_S1x512x128_2_0_0)) (View.ld x (Rect.unit (s := S8x512x128) ![3, 0, 0] ![1, 512, 128] inb_S8x512x128_S1x512x128_3_0_0)) (View.ld x (Rect.unit (s := S8x512x128) ![4, 0, 0] ![1, 512, 128] inb_S8x512x128_S1x512x128_4_0_0)) (View.ld x (Rect.unit (s := S8x512x128) ![5, 0, 0] ![1, 512, 128] inb_S8x512x128_S1x512x128_5_0_0)) (View.ld x (Rect.unit (s := S8x512x128) ![6, 0, 0] ![1, 512, 128] inb_S8x512x128_S1x512x128_6_0_0)) (View.ld x (Rect.unit (s := S8x512x128) ![7, 0, 0] ![1, 512, 128] inb_S8x512x128_S1x512x128_7_0_0))) y : EReal)
      = ∑ k : Fin 8, x (ix3 k (y 1) (y 2)) := by
  have h0 : (y 0).val < 1 := (y 0).isLt
  have h1 : (y 1).val < 512 := (y 1).isLt
  have h2 : (y 2).val < 128 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The reference's result at the first layer, entry by entry. -/
theorem ref_first (a : S8x512x128.Idx → EReal) (b : S8x512x128.Idx → EReal) (i : S2x512x128.Idx) (h : (i 0).val = 0) :
    (val_main_v6 (F := Ideal) a b i : EReal) = ∑ k : Fin 8, a (ix3 k (i 1) (i 2)) := by
  have h1 : (i 1).val < 512 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S8x512x128.Idx → EReal) (b : S8x512x128.Idx → EReal) (i : S2x512x128.Idx) (h : (i 0).val = 1) :
    (val_main_v6 (F := Ideal) a b i : EReal) = ∑ k : Fin 8, b (ix3 k (i 1) (i 2)) := by
  have h1 : (i 1).val < 512 := (i 1).isLt
  have h2 : (i 2).val < 128 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 1 → win0_0.index t = ![0, t.val % 1, 0] := (by decide +kernel : ∀ t : Fin grid0.N, t.val < 1 → _)
theorem e1 : ∀ t : Fin cfg0.N, 1 ≤ t.val → win0_1.index t = ![0, t.val % 1, 0] := (by decide +kernel : ∀ t : Fin grid0.N, 1 ≤ t.val → _)
theorem e2 : ∀ t : Fin cfg0.N, win0_2.index t = ![t.val / 1, t.val % 1, 0] := (by decide +kernel : ∀ t : Fin grid0.N, _)

/-- Row `r` of the block of point `t`, in the array. -/
abbrev row (t : Fin cfg0.N) (r : Fin 512) : Fin 512 :=
  ⟨512 * (t.val % 1) + r.val, by have := r.isLt; omega⟩

/-- The layer of point `t`. -/
abbrev layer (t : Fin cfg0.N) : Fin 2 :=
  ⟨t.val / 1, by have := lt_of_lt_of_eq t.isLt (show cfg0.N = 2 from N_0); omega⟩

theorem blk0_apply (c : Dev nD) (t : Fin cfg0.N) (h : t.val < 1) (y : S8x512x128.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 1 ≤ t.val) (y : S8x512x128.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x512x128.Idx → EReal :=
  val_main_v6 (F := Ideal) (m ((c : Thread nD τ).loc main_arg0)) (m ((c : Thread nD τ).loc main_arg1))

/-- One block of the result. -/
theorem point (c : Dev nD) (t : Fin cfg0.N) (y : S1x512x128.Idx) :
    (outsAt0 m c t.val t.isLt y : EReal) = want m c (ix3 (layer t) (row t (y 1)) (y 2)) := by
  have ht := lt_of_lt_of_eq t.isLt (show cfg0.N = 2 from N_0)
  by_cases h : t.val < 1
  · rw [outsAt0_A m c t (by omega) (by omega)]
    frame_out
    refine (first_apply (iblk m c 0 t) y).trans (Eq.trans ?_ (ref_first _ _ _ (show t.val / 1 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 1 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersOutIdeal_LayersOutRefIdeal := by
  intro m g m' g' _ hagree
  refine ⟨want m, (θ_run _ _ _).mono (fun r h c => ?_) (run_blocks m g), (θ_run Cert.LayersOutRefIdeal.defs _ _).mono (fun r h c => ?_) (Cert.LayersOutRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersOutIdeal.Hand

end
-- ==== Proof.LayersMixClaim.lean ====
/- The sums of the devices' mixing weights, of the two layers: at an index, and its claim. -/
module

public import proofs.«01_k».proof.Defs
public import proofs.«01_k».proof.Proof.Gen.LayersMixIdeal.Value
public import proofs.«01_k».proof.Proof.Gen.LayersMixRefIdeal.Read
public import Idealize.ShloMosaic.Lib.Pipeline.ValueKit
public import Idealize.ShloMosaic.Lib.Pointwise
public import Idealize.ShloMosaic.Lib.StableHlo.ReadAt

@[expose] public section

noncomputable section

namespace Cert.LayersMixIdeal.Hand

open Cert.LayersMixIdeal Cert.LayersMixIdeal.Gen Cert.LayersMixIdeal.Value
open Cert.LayersMixRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S8x128x1024.Idx → EReal) (y : S1x128x1024.Idx) :
    (k0_pay1 (F := Ideal) (k0_pay3 (F := Ideal) (View.ld x (Rect.unit (s := S8x128x1024) ![0, 0, 0] ![1, 128, 1024] inb_S8x128x1024_S1x128x1024_0_0_0)) (View.ld x (Rect.unit (s := S8x128x1024) ![1, 0, 0] ![1, 128, 1024] inb_S8x128x1024_S1x128x1024_1_0_0)) (View.ld x (Rect.unit (s := S8x128x1024) ![2, 0, 0] ![1, 128, 1024] inb_S8x128x1024_S1x128x1024_2_0_0)) (View.ld x (Rect.unit (s := S8x128x1024) ![3, 0, 0] ![1, 128, 1024] inb_S8x128x1024_S1x128x1024_3_0_0)) (View.ld x (Rect.unit (s := S8x128x1024) ![4, 0, 0] ![1, 128, 1024] inb_S8x128x1024_S1x128x1024_4_0_0)) (View.ld x (Rect.unit (s := S8x128x1024) ![5, 0, 0] ![1, 128, 1024] inb_S8x128x1024_S1x128x1024_5_0_0)) (View.ld x (Rect.unit (s := S8x128x1024) ![6, 0, 0] ![1, 128, 1024] inb_S8x128x1024_S1x128x1024_6_0_0)) (View.ld x (Rect.unit (s := S8x128x1024) ![7, 0, 0] ![1, 128, 1024] inb_S8x128x1024_S1x128x1024_7_0_0))) y : EReal)
      = ∑ k : Fin 8, x (ix3 k (y 1) (y 2)) := by
  have h0 : (y 0).val < 1 := (y 0).isLt
  have h1 : (y 1).val < 128 := (y 1).isLt
  have h2 : (y 2).val < 1024 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The second layer's sum, entry by entry. -/
theorem second_apply (x : S8x128x1024.Idx → EReal) (y : S1x128x1024.Idx) :
    (k0_pay2 (F := Ideal) (k0_pay4 (F := Ideal) (View.ld x (Rect.unit (s := S8x128x1024) ![0, 0, 0] ![1, 128, 1024] inb_S8x128x1024_S1x128x1024_0_0_0)) (View.ld x (Rect.unit (s := S8x128x1024) ![1, 0, 0] ![1, 128, 1024] inb_S8x128x1024_S1x128x1024_1_0_0)) (View.ld x (Rect.unit (s := S8x128x1024) ![2, 0, 0] ![1, 128, 1024] inb_S8x128x1024_S1x128x1024_2_0_0)) (View.ld x (Rect.unit (s := S8x128x1024) ![3, 0, 0] ![1, 128, 1024] inb_S8x128x1024_S1x128x1024_3_0_0)) (View.ld x (Rect.unit (s := S8x128x1024) ![4, 0, 0] ![1, 128, 1024] inb_S8x128x1024_S1x128x1024_4_0_0)) (View.ld x (Rect.unit (s := S8x128x1024) ![5, 0, 0] ![1, 128, 1024] inb_S8x128x1024_S1x128x1024_5_0_0)) (View.ld x (Rect.unit (s := S8x128x1024) ![6, 0, 0] ![1, 128, 1024] inb_S8x128x1024_S1x128x1024_6_0_0)) (View.ld x (Rect.unit (s := S8x128x1024) ![7, 0, 0] ![1, 128, 1024] inb_S8x128x1024_S1x128x1024_7_0_0))) y : EReal)
      = ∑ k : Fin 8, x (ix3 k (y 1) (y 2)) := by
  have h0 : (y 0).val < 1 := (y 0).isLt
  have h1 : (y 1).val < 128 := (y 1).isLt
  have h2 : (y 2).val < 1024 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The reference's result at the first layer, entry by entry. -/
theorem ref_first (a : S8x128x1024.Idx → EReal) (b : S8x128x1024.Idx → EReal) (i : S2x128x1024.Idx) (h : (i 0).val = 0) :
    (val_main_v6 (F := Ideal) a b i : EReal) = ∑ k : Fin 8, a (ix3 k (i 1) (i 2)) := by
  have h1 : (i 1).val < 128 := (i 1).isLt
  have h2 : (i 2).val < 1024 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S8x128x1024.Idx → EReal) (b : S8x128x1024.Idx → EReal) (i : S2x128x1024.Idx) (h : (i 0).val = 1) :
    (val_main_v6 (F := Ideal) a b i : EReal) = ∑ k : Fin 8, b (ix3 k (i 1) (i 2)) := by
  have h1 : (i 1).val < 128 := (i 1).isLt
  have h2 : (i 2).val < 1024 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 1 → win0_0.index t = ![0, t.val % 1, 0] := (by decide +kernel : ∀ t : Fin grid0.N, t.val < 1 → _)
theorem e1 : ∀ t : Fin cfg0.N, 1 ≤ t.val → win0_1.index t = ![0, t.val % 1, 0] := (by decide +kernel : ∀ t : Fin grid0.N, 1 ≤ t.val → _)
theorem e2 : ∀ t : Fin cfg0.N, win0_2.index t = ![t.val / 1, t.val % 1, 0] := (by decide +kernel : ∀ t : Fin grid0.N, _)

/-- Row `r` of the block of point `t`, in the array. -/
abbrev row (t : Fin cfg0.N) (r : Fin 128) : Fin 128 :=
  ⟨128 * (t.val % 1) + r.val, by have := r.isLt; omega⟩

/-- The layer of point `t`. -/
abbrev layer (t : Fin cfg0.N) : Fin 2 :=
  ⟨t.val / 1, by have := lt_of_lt_of_eq t.isLt (show cfg0.N = 2 from N_0); omega⟩

theorem blk0_apply (c : Dev nD) (t : Fin cfg0.N) (h : t.val < 1) (y : S8x128x1024.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 1 ≤ t.val) (y : S8x128x1024.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x128x1024.Idx → EReal :=
  val_main_v6 (F := Ideal) (m ((c : Thread nD τ).loc main_arg0)) (m ((c : Thread nD τ).loc main_arg1))

/-- One block of the result. -/
theorem point (c : Dev nD) (t : Fin cfg0.N) (y : S1x128x1024.Idx) :
    (outsAt0 m c t.val t.isLt y : EReal) = want m c (ix3 (layer t) (row t (y 1)) (y 2)) := by
  have ht := lt_of_lt_of_eq t.isLt (show cfg0.N = 2 from N_0)
  by_cases h : t.val < 1
  · rw [outsAt0_A m c t (by omega) (by omega)]
    frame_out
    refine (first_apply (iblk m c 0 t) y).trans (Eq.trans ?_ (ref_first _ _ _ (show t.val / 1 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 1 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersMixIdeal_LayersMixRefIdeal := by
  intro m g m' g' _ hagree
  refine ⟨want m, (θ_run _ _ _).mono (fun r h c => ?_) (run_blocks m g), (θ_run Cert.LayersMixRefIdeal.defs _ _).mono (fun r h c => ?_) (Cert.LayersMixRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersMixIdeal.Hand

end
-- ==== Proof.LayersUpClaim.lean ====
/- The sums of the devices' feed-forward up weights, of the two layers: at an index, and its claim. -/
module

public import proofs.«01_k».proof.Defs
public import proofs.«01_k».proof.Proof.Gen.LayersUpIdeal.Value
public import proofs.«01_k».proof.Proof.Gen.LayersUpRefIdeal.Read
public import Idealize.ShloMosaic.Lib.Pipeline.ValueKit
public import Idealize.ShloMosaic.Lib.Pointwise
public import Idealize.ShloMosaic.Lib.StableHlo.ReadAt

@[expose] public section

noncomputable section

namespace Cert.LayersUpIdeal.Hand

open Cert.LayersUpIdeal Cert.LayersUpIdeal.Gen Cert.LayersUpIdeal.Value
open Cert.LayersUpRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S8x512x384.Idx → EReal) (y : S1x512x384.Idx) :
    (k0_pay1 (F := Ideal) (k0_pay3 (F := Ideal) (View.ld x (Rect.unit (s := S8x512x384) ![0, 0, 0] ![1, 512, 384] inb_S8x512x384_S1x512x384_0_0_0)) (View.ld x (Rect.unit (s := S8x512x384) ![1, 0, 0] ![1, 512, 384] inb_S8x512x384_S1x512x384_1_0_0)) (View.ld x (Rect.unit (s := S8x512x384) ![2, 0, 0] ![1, 512, 384] inb_S8x512x384_S1x512x384_2_0_0)) (View.ld x (Rect.unit (s := S8x512x384) ![3, 0, 0] ![1, 512, 384] inb_S8x512x384_S1x512x384_3_0_0)) (View.ld x (Rect.unit (s := S8x512x384) ![4, 0, 0] ![1, 512, 384] inb_S8x512x384_S1x512x384_4_0_0)) (View.ld x (Rect.unit (s := S8x512x384) ![5, 0, 0] ![1, 512, 384] inb_S8x512x384_S1x512x384_5_0_0)) (View.ld x (Rect.unit (s := S8x512x384) ![6, 0, 0] ![1, 512, 384] inb_S8x512x384_S1x512x384_6_0_0)) (View.ld x (Rect.unit (s := S8x512x384) ![7, 0, 0] ![1, 512, 384] inb_S8x512x384_S1x512x384_7_0_0))) y : EReal)
      = ∑ k : Fin 8, x (ix3 k (y 1) (y 2)) := by
  have h0 : (y 0).val < 1 := (y 0).isLt
  have h1 : (y 1).val < 512 := (y 1).isLt
  have h2 : (y 2).val < 384 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The second layer's sum, entry by entry. -/
theorem second_apply (x : S8x512x384.Idx → EReal) (y : S1x512x384.Idx) :
    (k0_pay2 (F := Ideal) (k0_pay4 (F := Ideal) (View.ld x (Rect.unit (s := S8x512x384) ![0, 0, 0] ![1, 512, 384] inb_S8x512x384_S1x512x384_0_0_0)) (View.ld x (Rect.unit (s := S8x512x384) ![1, 0, 0] ![1, 512, 384] inb_S8x512x384_S1x512x384_1_0_0)) (View.ld x (Rect.unit (s := S8x512x384) ![2, 0, 0] ![1, 512, 384] inb_S8x512x384_S1x512x384_2_0_0)) (View.ld x (Rect.unit (s := S8x512x384) ![3, 0, 0] ![1, 512, 384] inb_S8x512x384_S1x512x384_3_0_0)) (View.ld x (Rect.unit (s := S8x512x384) ![4, 0, 0] ![1, 512, 384] inb_S8x512x384_S1x512x384_4_0_0)) (View.ld x (Rect.unit (s := S8x512x384) ![5, 0, 0] ![1, 512, 384] inb_S8x512x384_S1x512x384_5_0_0)) (View.ld x (Rect.unit (s := S8x512x384) ![6, 0, 0] ![1, 512, 384] inb_S8x512x384_S1x512x384_6_0_0)) (View.ld x (Rect.unit (s := S8x512x384) ![7, 0, 0] ![1, 512, 384] inb_S8x512x384_S1x512x384_7_0_0))) y : EReal)
      = ∑ k : Fin 8, x (ix3 k (y 1) (y 2)) := by
  have h0 : (y 0).val < 1 := (y 0).isLt
  have h1 : (y 1).val < 512 := (y 1).isLt
  have h2 : (y 2).val < 384 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The reference's result at the first layer, entry by entry. -/
theorem ref_first (a : S8x1024x384.Idx → EReal) (b : S8x1024x384.Idx → EReal) (i : S2x1024x384.Idx) (h : (i 0).val = 0) :
    (val_main_v6 (F := Ideal) a b i : EReal) = ∑ k : Fin 8, a (ix3 k (i 1) (i 2)) := by
  have h1 : (i 1).val < 1024 := (i 1).isLt
  have h2 : (i 2).val < 384 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S8x1024x384.Idx → EReal) (b : S8x1024x384.Idx → EReal) (i : S2x1024x384.Idx) (h : (i 0).val = 1) :
    (val_main_v6 (F := Ideal) a b i : EReal) = ∑ k : Fin 8, b (ix3 k (i 1) (i 2)) := by
  have h1 : (i 1).val < 1024 := (i 1).isLt
  have h2 : (i 2).val < 384 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 2 → win0_0.index t = ![0, t.val % 2, 0] := (by decide +kernel : ∀ t : Fin grid0.N, t.val < 2 → _)
theorem e1 : ∀ t : Fin cfg0.N, 2 ≤ t.val → win0_1.index t = ![0, t.val % 2, 0] := (by decide +kernel : ∀ t : Fin grid0.N, 2 ≤ t.val → _)
theorem e2 : ∀ t : Fin cfg0.N, win0_2.index t = ![t.val / 2, t.val % 2, 0] := (by decide +kernel : ∀ t : Fin grid0.N, _)

/-- Row `r` of the block of point `t`, in the array. -/
abbrev row (t : Fin cfg0.N) (r : Fin 512) : Fin 1024 :=
  ⟨512 * (t.val % 2) + r.val, by have := r.isLt; omega⟩

/-- The layer of point `t`. -/
abbrev layer (t : Fin cfg0.N) : Fin 2 :=
  ⟨t.val / 2, by have := lt_of_lt_of_eq t.isLt (show cfg0.N = 4 from N_0); omega⟩

theorem blk0_apply (c : Dev nD) (t : Fin cfg0.N) (h : t.val < 2) (y : S8x512x384.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 2 ≤ t.val) (y : S8x512x384.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x1024x384.Idx → EReal :=
  val_main_v6 (F := Ideal) (m ((c : Thread nD τ).loc main_arg0)) (m ((c : Thread nD τ).loc main_arg1))

/-- One block of the result. -/
theorem point (c : Dev nD) (t : Fin cfg0.N) (y : S1x512x384.Idx) :
    (outsAt0 m c t.val t.isLt y : EReal) = want m c (ix3 (layer t) (row t (y 1)) (y 2)) := by
  have ht := lt_of_lt_of_eq t.isLt (show cfg0.N = 4 from N_0)
  by_cases h : t.val < 2
  · rw [outsAt0_A m c t (by omega) (by omega)]
    frame_out
    refine (first_apply (iblk m c 0 t) y).trans (Eq.trans ?_ (ref_first _ _ _ (show t.val / 2 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 2 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersUpIdeal_LayersUpRefIdeal := by
  intro m g m' g' _ hagree
  refine ⟨want m, (θ_run _ _ _).mono (fun r h c => ?_) (run_blocks m g), (θ_run Cert.LayersUpRefIdeal.defs _ _).mono (fun r h c => ?_) (Cert.LayersUpRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersUpIdeal.Hand

end
-- ==== Proof.LayersDownClaim.lean ====
/- The sums of the devices' feed-forward down weights, of the two layers: at an index, and its claim. -/
module

public import proofs.«01_k».proof.Defs
public import proofs.«01_k».proof.Proof.Gen.LayersDownIdeal.Value
public import proofs.«01_k».proof.Proof.Gen.LayersDownRefIdeal.Read
public import Idealize.ShloMosaic.Lib.Pipeline.ValueKit
public import Idealize.ShloMosaic.Lib.Pointwise
public import Idealize.ShloMosaic.Lib.StableHlo.ReadAt

@[expose] public section

noncomputable section

namespace Cert.LayersDownIdeal.Hand

open Cert.LayersDownIdeal Cert.LayersDownIdeal.Gen Cert.LayersDownIdeal.Value
open Cert.LayersDownRefIdeal.Read (val_main_v0 val_main_cst val_main_v1 val_main_v2 val_main_cst_0 val_main_v3 val_main_v4 val_main_v5 val_main_v6)
open Idealize.ShloMosaic Idealize.ShloMosaic.TcCoe Idealize.SL.Sem

variable (m : (ℓ : Loc nD τ sig) → Buf (Elt Ideal) ℓ)

/-- The first layer's sum, entry by entry. -/
theorem first_apply (x : S8x192x1024.Idx → EReal) (y : S1x192x1024.Idx) :
    (k0_pay1 (F := Ideal) (k0_pay3 (F := Ideal) (View.ld x (Rect.unit (s := S8x192x1024) ![0, 0, 0] ![1, 192, 1024] inb_S8x192x1024_S1x192x1024_0_0_0)) (View.ld x (Rect.unit (s := S8x192x1024) ![1, 0, 0] ![1, 192, 1024] inb_S8x192x1024_S1x192x1024_1_0_0)) (View.ld x (Rect.unit (s := S8x192x1024) ![2, 0, 0] ![1, 192, 1024] inb_S8x192x1024_S1x192x1024_2_0_0)) (View.ld x (Rect.unit (s := S8x192x1024) ![3, 0, 0] ![1, 192, 1024] inb_S8x192x1024_S1x192x1024_3_0_0)) (View.ld x (Rect.unit (s := S8x192x1024) ![4, 0, 0] ![1, 192, 1024] inb_S8x192x1024_S1x192x1024_4_0_0)) (View.ld x (Rect.unit (s := S8x192x1024) ![5, 0, 0] ![1, 192, 1024] inb_S8x192x1024_S1x192x1024_5_0_0)) (View.ld x (Rect.unit (s := S8x192x1024) ![6, 0, 0] ![1, 192, 1024] inb_S8x192x1024_S1x192x1024_6_0_0)) (View.ld x (Rect.unit (s := S8x192x1024) ![7, 0, 0] ![1, 192, 1024] inb_S8x192x1024_S1x192x1024_7_0_0))) y : EReal)
      = ∑ k : Fin 8, x (ix3 k (y 1) (y 2)) := by
  have h0 : (y 0).val < 1 := (y 0).isLt
  have h1 : (y 1).val < 192 := (y 1).isLt
  have h2 : (y 2).val < 1024 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The second layer's sum, entry by entry. -/
theorem second_apply (x : S8x192x1024.Idx → EReal) (y : S1x192x1024.Idx) :
    (k0_pay2 (F := Ideal) (k0_pay4 (F := Ideal) (View.ld x (Rect.unit (s := S8x192x1024) ![0, 0, 0] ![1, 192, 1024] inb_S8x192x1024_S1x192x1024_0_0_0)) (View.ld x (Rect.unit (s := S8x192x1024) ![1, 0, 0] ![1, 192, 1024] inb_S8x192x1024_S1x192x1024_1_0_0)) (View.ld x (Rect.unit (s := S8x192x1024) ![2, 0, 0] ![1, 192, 1024] inb_S8x192x1024_S1x192x1024_2_0_0)) (View.ld x (Rect.unit (s := S8x192x1024) ![3, 0, 0] ![1, 192, 1024] inb_S8x192x1024_S1x192x1024_3_0_0)) (View.ld x (Rect.unit (s := S8x192x1024) ![4, 0, 0] ![1, 192, 1024] inb_S8x192x1024_S1x192x1024_4_0_0)) (View.ld x (Rect.unit (s := S8x192x1024) ![5, 0, 0] ![1, 192, 1024] inb_S8x192x1024_S1x192x1024_5_0_0)) (View.ld x (Rect.unit (s := S8x192x1024) ![6, 0, 0] ![1, 192, 1024] inb_S8x192x1024_S1x192x1024_6_0_0)) (View.ld x (Rect.unit (s := S8x192x1024) ![7, 0, 0] ![1, 192, 1024] inb_S8x192x1024_S1x192x1024_7_0_0))) y : EReal)
      = ∑ k : Fin 8, x (ix3 k (y 1) (y 2)) := by
  have h0 : (y 0).val < 1 := (y 0).isLt
  have h1 : (y 1).val < 192 := (y 1).isLt
  have h2 : (y 2).val < 1024 := (y 2).isLt
  rw [Fin.sum_univ_eight]
  pointwise [k0_pay1, k0_pay2, k0_pay3, k0_pay4]
  repeat' refine congrArg₂ (fun a b : EReal => a + b) ?_ ?_
  all_goals
    refine congrArg x ?_
    blk_ext []

/-- The reference's result at the first layer, entry by entry. -/
theorem ref_first (a : S8x384x1024.Idx → EReal) (b : S8x384x1024.Idx → EReal) (i : S2x384x1024.Idx) (h : (i 0).val = 0) :
    (val_main_v6 (F := Ideal) a b i : EReal) = ∑ k : Fin 8, a (ix3 k (i 1) (i 2)) := by
  have h1 : (i 1).val < 384 := (i 1).isLt
  have h2 : (i 2).val < 1024 := (i 2).isLt
  pointwise [val_main_v0, val_main_cst, val_main_v1, val_main_v2, val_main_cst_0, val_main_v3, val_main_v4, val_main_v5, val_main_v6]
  split_ifs
  all_goals first
    | rfl
    | (exfalso; omega)

/-- The reference's result at the second layer, entry by entry. -/
theorem ref_second (a : S8x384x1024.Idx → EReal) (b : S8x384x1024.Idx → EReal) (i : S2x384x1024.Idx) (h : (i 0).val = 1) :
    (val_main_v6 (F := Ideal) a b i : EReal) = ∑ k : Fin 8, b (ix3 k (i 1) (i 2)) := by
  have h1 : (i 1).val < 384 := (i 1).isLt
  have h2 : (i 2).val < 1024 := (i 2).isLt
  pointwise [val_main_v0, val_main_cst, val_main_v1, val_main_v2, val_main_cst_0, val_main_v3, val_main_v4, val_main_v5, val_main_v6]
  split_ifs
  all_goals first
    | rfl
    | (exfalso; omega)

/-- The argument's blocks move with the layer they belong to. -/
theorem e0 : ∀ t : Fin cfg0.N, t.val < 2 → win0_0.index t = ![0, t.val % 2, 0] := (by decide +kernel : ∀ t : Fin grid0.N, t.val < 2 → _)
theorem e1 : ∀ t : Fin cfg0.N, 2 ≤ t.val → win0_1.index t = ![0, t.val % 2, 0] := (by decide +kernel : ∀ t : Fin grid0.N, 2 ≤ t.val → _)
theorem e2 : ∀ t : Fin cfg0.N, win0_2.index t = ![t.val / 2, t.val % 2, 0] := (by decide +kernel : ∀ t : Fin grid0.N, _)

/-- Row `r` of the block of point `t`, in the array. -/
abbrev row (t : Fin cfg0.N) (r : Fin 192) : Fin 384 :=
  ⟨192 * (t.val % 2) + r.val, by have := r.isLt; omega⟩

/-- The layer of point `t`. -/
abbrev layer (t : Fin cfg0.N) : Fin 2 :=
  ⟨t.val / 2, by have := lt_of_lt_of_eq t.isLt (show cfg0.N = 4 from N_0); omega⟩

theorem blk0_apply (c : Dev nD) (t : Fin cfg0.N) (h : t.val < 2) (y : S8x192x1024.Idx) :
    (iblk m c 0 t y : EReal) = m ((c : Thread nD τ).loc main_arg0) (ix3 (y 0) (row t (y 1)) (y 2)) := by
  blk_simp [iblk]
  rw [V_main_arg0]
  refine congrArg _ ?_
  blk_ext [e0 t h]

theorem blk1_apply (c : Dev nD) (t : Fin cfg0.N) (h : 2 ≤ t.val) (y : S8x192x1024.Idx) :
    (iblk m c 1 t y : EReal) = m ((c : Thread nD τ).loc main_arg1) (ix3 (y 0) (row t (y 1)) (y 2)) := by
  blk_simp [iblk]
  rw [V_main_arg1]
  refine congrArg _ ?_
  blk_ext [e1 t h]

/-- The reference's result over this launch's arguments. -/
abbrev want (c : Dev nD) : S2x384x1024.Idx → EReal :=
  val_main_v6 (F := Ideal) (m ((c : Thread nD τ).loc main_arg0)) (m ((c : Thread nD τ).loc main_arg1))

/-- One block of the result. -/
theorem point (c : Dev nD) (t : Fin cfg0.N) (y : S1x192x1024.Idx) :
    (outsAt0 m c t.val t.isLt y : EReal) = want m c (ix3 (layer t) (row t (y 1)) (y 2)) := by
  have ht := lt_of_lt_of_eq t.isLt (show cfg0.N = 4 from N_0)
  by_cases h : t.val < 2
  · rw [outsAt0_A m c t (by omega) (by omega)]
    frame_out
    refine (first_apply (iblk m c 0 t) y).trans (Eq.trans ?_ (ref_first _ _ _ (show t.val / 2 = 0 by omega)).symm)
    exact Finset.sum_congr rfl fun k _ => blk0_apply m c t h _
  · rw [outsAt0_B m c t (by omega) (by omega)]
    frame_out
    refine (second_apply (iblk m c 1 t) y).trans (Eq.trans ?_ (ref_second _ _ _ (show t.val / 2 = 1 by omega)).symm)
    exact Finset.sum_congr rfl fun k _ => blk1_apply m c t (by omega) _

theorem final2 (c : Dev nD) : (dats m 0 c).arrAt 2 cfg0.N = want m c := by
  refine (dats m 0 c).arrAt_eq_of_covers 2 _ (by decide +kernel) fun t hf y => ?_
  blk_simp
  rw [after0_2]
  rw [show (win0_2.blk t).view.emb y = ix3 (layer t) (row t (y 1)) (y 2) by blk_ext [e2]]
  exact point m c t y

theorem algebraic : Cert.algebraic_LayersDownIdeal_LayersDownRefIdeal := by
  intro m g m' g' _ hagree
  refine ⟨want m, (θ_run _ _ _).mono (fun r h c => ?_) (run_blocks m g), (θ_run Cert.LayersDownRefIdeal.defs _ _).mono (fun r h c => ?_) (Cert.LayersDownRefIdeal.Value.run (F := Ideal) m' g')⟩
  · obtain ⟨h0, h1⟩ := h c
    exact ⟨h0.trans (final2 m c), h1⟩
  · obtain ⟨h0, h1⟩ := h c
    obtain ⟨a0, a1⟩ := hagree c
    refine ⟨?_, h1⟩
    rw [h0, a0, a1]
    rfl

end Cert.LayersDownIdeal.Hand

end
-- ==== Proof.FlashRunA.lean ====
/- The run of the flash backward kernel's body at a head's first key tile: the gradient of q is zeroed first, so its buffer starts from any
   contents. -/
module

public import proofs.«01_k».proof.Proof.Gen.FlashIdeal.Frame
public import proofs.«01_k».proof.Proof.Gen.FlashIdeal.Skeleton
public import proofs.«01_k».proof.Proof.Gen.FlashIdeal.Loops

@[expose] public section

set_option maxRecDepth 16384

noncomputable section

namespace Cert.FlashIdeal.Hand

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's condition: the key tile is the head's first. -/
abbrev firstTile (i : grid0.Coords) : Prop :=
  (Scalar.cmpi .ne (Scalar.extui (Scalar.cmpi .eq (BitVec.ofNat 32 (i 1).val) 0#32)) 0#32) = 1#1

/-- It holds at the points divisible by 8. -/
theorem firstTile_iff : ∀ t : Fin cfg0.N, firstTile (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [firstTile, e1]
    word_cmp
   : ∀ t : Fin grid0.N, firstTile (grid0.coords t) ↔ t.val % 8 = 0)

variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .bf16) (harg10 : arg10.IsWhole)
  (x0 : Vec F S4096x128 .bf16) (x1 : Vec F S512x128 .bf16) (x2 : Vec F S512x128 .bf16) (x3 : Vec F S4096x128 .bf16) (x4 : Vec F S4096x128 .f32) (x5 : Vec F S4096x128 .f32)

set_option maxHeartbeats 1000000 in
/-- The body at a head's first key tile: the run from the inputs' contents to the pieces written. The pieces are what the run finds. -/
def runFirst (hc : firstTile i) :
    Σ' (L6 : List (View.Piece (Elt F) S4096x128 .f32)), Σ' (L7 : List (View.Piece (Elt F) S512x128 .f32)), { L8 : List (View.Piece (Elt F) S512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.FlashIdeal.Hand

end
-- ==== Proof.FlashRunB.lean ====
/- The run of the flash backward kernel's body at a later key tile of a head: the gradient of q is not zeroed, so its buffer starts from named
   contents, over which the pieces are written. -/
module

public import proofs.«01_k».proof.Proof.FlashRunA

@[expose] public section

set_option maxRecDepth 16384

noncomputable section

namespace Cert.FlashIdeal.Hand

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .bf16) (harg10 : arg10.IsWhole)
  (x0 : Vec F S4096x128 .bf16) (x1 : Vec F S512x128 .bf16) (x2 : Vec F S512x128 .bf16) (x3 : Vec F S4096x128 .bf16) (x4 : Vec F S4096x128 .f32) (x5 : Vec F S4096x128 .f32) (x6 : Vec F S4096x128 .f32)

set_option maxHeartbeats 1000000 in
/-- The body at a later key tile: the same, the buffer not zeroed. The pieces are what the run finds. -/
def runLater (hc : ¬firstTile i) :
    Σ' (L6 : List (View.Piece (Elt F) S4096x128 .f32)), Σ' (L7 : List (View.Piece (Elt F) S512x128 .f32)), { L8 : List (View.Piece (Elt F) S512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexists _; iexact H7
    iexists _; iexact H8

end Cert.FlashIdeal.Hand

end
-- ==== Proof.FlashStep.lean ====
/- What one grid point of the flash backward kernel computes, as a function of its input blocks and of the gradient of q so far: the
   diagonal tile, then the tiles of queries below it, one after the other. The loop's run is read as that function. -/
module

public import proofs.«01_k».proof.Proof.FlashRunB

@[expose] public section

set_option maxRecDepth 16384

noncomputable section

namespace Cert.FlashIdeal.Hand

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- `x` with the rectangle `r` replaced by `w`. -/
def over {s : Shape} {α : Type} (r : Rect s) (w : r.shape.Idx → α) (x : s.Idx → α) : s.Idx → α := fun y =>
  open Classical in if h : ∃ z, r.emb z = y then w h.choose else x y

theorem over_emb {s : Shape} {α : Type} (r : Rect s) (w : r.shape.Idx → α) (x : s.Idx → α) (z : r.shape.Idx) : over r w x (r.emb z) = w z := by
  have h : ∃ z', r.emb z' = r.emb z := ⟨z, rfl⟩
  unfold over
  rw [dif_pos h]
  exact congrArg w (r.emb.injective h.choose_spec)

theorem over_miss {s : Shape} {α : Type} (r : Rect s) (w : r.shape.Idx → α) (x : s.Idx → α) (y : s.Idx) (hy : ∀ z, r.emb z ≠ y) : over r w x y = x y := by
  unfold over
  rw [dif_neg (fun ⟨z, hz⟩ => hy z hz)]

/-- A buffer after one more store, read back. -/
theorem read_writes_over {κ : Kind} {sp : Space} {s : Shape} {e : EltTy} (v : View sig κ sp s e) (f : v.ty.Contents (Elt F)) (r : Rect s) (w : r.shape.Idx → Elt F e)
    (L : List (View.Piece (Elt F) s e)) :
    v.read (Elt F) (v.writes (Elt F) f (⟨r, w⟩ :: L)) = over r w (v.read (Elt F) (v.writes (Elt F) f L)) := by
  funext y
  by_cases h : ∃ z, r.emb z = y
  · obtain ⟨z, rfl⟩ := h
    rw [over_emb]
    exact View.read_writes_cons_emb _ _ _ _ _ _
  · rw [over_miss _ _ _ _ (fun z hz => h ⟨z, hz⟩)]
    exact View.read_writes_cons_miss _ _ _ _ _ (by rw [← Rect.map_emb_univ]; simpa using h)

/-- The rectangle of trip `k`'s 512 rows, and its first column. -/
abbrev tripRect (i : grid0.Coords) (k : Fin (k0_t1_loop i).trips) : Rect S4096x128 := Rect.unit (s := S4096x128) (k0_off3 i k) S512x128.size (k0_off3_inb i k)
abbrev tripCol (i : grid0.Coords) (k : Fin (k0_t1_loop i).trips) : Rect S4096x128 := Rect.unit (s := S4096x128) (k0_off4 i k) S512x1.size (k0_off4_inb i k)

/-- The rectangle of the diagonal tile's 512 rows, and its first column. -/
abbrev diagRect (i : grid0.Coords) : Rect S4096x128 := Rect.unit (s := S4096x128) (k0_off1 i) S512x128.size (k0_off1_inb i)
abbrev diagCol (i : grid0.Coords) : Rect S4096x128 := Rect.unit (s := S4096x128) (k0_off2 i) S512x1.size (k0_off2_inb i)

/-- The gradients of k and v summed so far (the pair), and the gradient of q so far. -/
abbrev State (F : FTy → Type) := (FVec F S512x128 .f32 × FVec F S512x128 .f32) × Vec F S4096x128 .f32

section
variable (i : grid0.Coords) (x0 : Vec F S4096x128 .bf16) (x1 : Vec F S512x128 .bf16) (x2 : Vec F S512x128 .bf16) (x3 : Vec F S4096x128 .bf16) (x4 : Vec F S4096x128 .f32) (x5 : Vec F S4096x128 .f32)

/-- One tile of queries below the diagonal. -/
def trip (k : Fin (k0_t1_loop i).trips) (st : State F) : State F :=
  ((k0_pay7 x1 x2 st.1.1 (View.ld x0 (tripRect i k)) (View.ld x3 (tripRect i k)) (View.ld x4 (tripCol i k)) (View.ld x5 (tripCol i k)),
    k0_pay6 x1 st.1.2 (View.ld x0 (tripRect i k)) (View.ld x3 (tripRect i k)) (View.ld x4 (tripCol i k))),
   over (tripRect i k) (k0_pay8 x1 x2 (View.ld x0 (tripRect i k)) (View.ld x3 (tripRect i k)) (View.ld x4 (tripCol i k)) (View.ld x5 (tripCol i k)) (View.ld st.2 (tripRect i k))) st.2)

/-- The first `n` tiles of queries below the diagonal. -/
def tripsTo (init : State F) : ℕ → State F
  | 0 => init
  | n + 1 => if h : n < (k0_t1_loop i).trips then trip i x0 x1 x2 x3 x4 x5 ⟨n, h⟩ (tripsTo init n) else tripsTo init n

/-- The diagonal tile's gradient of the scores. -/
abbrev diagDs : FVec F S512x512 .bf16 :=
  k0_pay19 x1 x2 (View.ld x0 (diagRect i)) (View.ld x3 (diagRect i)) (View.ld x4 (diagCol i)) (View.ld x5 (diagCol i))

/-- The diagonal tile, from the gradient of q so far. -/
def diag (b : Vec F S4096x128 .f32) : State F :=
  ((k0_pay2 k0_pay17 (View.ld x0 (diagRect i)) (diagDs i x0 x1 x2 x3 x4 x5),
    k0_pay1 k0_pay17 (View.ld x3 (diagRect i)) (k0_pay20 x1 (View.ld x0 (diagRect i)) (View.ld x4 (diagCol i)))),
   over (diagRect i) (k0_pay3 x1 (diagDs i x0 x1 x2 x3 x4 x5) (View.ld b (diagRect i))) b)

/-- A grid point's state at the end. -/
def final (b : Vec F S4096x128 .f32) : State F := tripsTo i x0 x1 x2 x3 x4 x5 (diag i x0 x1 x2 x3 x4 x5 b) (k0_t1_loop i).trips

end

variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .bf16) (harg10 : arg10.IsWhole)
  (x0 : Vec F S4096x128 .bf16) (v0 : Vec F S512x128 .bf16) (v1 : Vec F S512x128 .bf16) (x3 : Vec F S4096x128 .bf16) (x4 : Vec F S4096x128 .f32) (x5 : Vec F S4096x128 .f32)

/-- What one trip of the loop yields and stores, off its run. -/
theorem tripR_eq (k : Fin (k0_t1_loop i).trips) (acc : FVec F S512x128 .f32 × FVec F S512x128 .f32) (f : BufTy.Contents (Elt F) arg8.view.ty) :
    tripR_k0_t1 (F := F) Variants.none c none i arg2 harg2 arg3 harg3 arg4 harg4 arg5 harg5 arg6 harg6 arg7 harg7 arg8 harg8 arg9 harg9 arg10 harg10 v0 v1 (harg2.unread x0) (harg5.unread x3) (harg6.unread x4) (harg7.unread x5) k acc f
      = (trip i x0 v0 v1 x3 x4 x5 k (acc, arg8.view.read (Elt F) f)).1 := by
  unfold tripR_k0_t1 trip_k0_t1 trip
  dsimp only
  simp only [View.readAt_eq_ld, Memref.IsWhole.read_unread]

theorem tripL_eq (k : Fin (k0_t1_loop i).trips) (acc : FVec F S512x128 .f32 × FVec F S512x128 .f32) (f : BufTy.Contents (Elt F) arg8.view.ty) :
    arg8.view.read (Elt F) (arg8.view.writes (Elt F) f (tripL_k0_t1 (F := F) Variants.none c none i arg2 harg2 arg3 harg3 arg4 harg4 arg5 harg5 arg6 harg6 arg7 harg7 arg8 harg8 arg9 harg9 arg10 harg10 v0 v1 (harg2.unread x0) (harg5.unread x3) (harg6.unread x4) (harg7.unread x5) k acc f))
      = (trip i x0 v0 v1 x3 x4 x5 k (acc, arg8.view.read (Elt F) f)).2 := by
  unfold tripL_k0_t1 trip_k0_t1 trip
  dsimp only
  rw [read_writes_over]
  simp only [View.readAt_eq_ld, Memref.IsWhole.read_unread, View.writes]

/-- The loop's state before trip `n`, read as the function. -/
theorem st_eq (G : BufTy.Contents (Elt F) arg8.view.ty) (init : FVec F S512x128 .f32 × FVec F S512x128 .f32) : ∀ n : ℕ,
    ((st_k0_t1 (F := F) Variants.none c none i arg2 harg2 arg3 harg3 arg4 harg4 arg5 harg5 arg6 harg6 arg7 harg7 arg8 harg8 arg9 harg9 arg10 harg10 v0 v1 (harg2.unread x0) (harg5.unread x3) (harg6.unread x4) (harg7.unread x5) G init n).1,
      arg8.view.read (Elt F) (arg8.view.writes (Elt F) G (st_k0_t1 (F := F) Variants.none c none i arg2 harg2 arg3 harg3 arg4 harg4 arg5 harg5 arg6 harg6 arg7 harg7 arg8 harg8 arg9 harg9 arg10 harg10 v0 v1 (harg2.unread x0) (harg5.unread x3) (harg6.unread x4) (harg7.unread x5) G init n).2))
      = tripsTo i x0 v0 v1 x3 x4 x5 (init, arg8.view.read (Elt F) G) n
  | 0 => rfl
  | n + 1 => by
    have ih := st_eq G init n
    by_cases h : n < (k0_t1_loop i).trips
    · have e := st_k0_t1_succ (F := F) Variants.none c none i arg2 harg2 arg3 harg3 arg4 harg4 arg5 harg5 arg6 harg6 arg7 harg7 arg8 harg8 arg9 harg9 arg10 harg10 v0 v1 (harg2.unread x0) (harg5.unread x3) (harg6.unread x4) (harg7.unread x5) G init ⟨n, h⟩
      dsimp only at e
      rw [e, tripsTo, dif_pos h, ← ih]
      dsimp only
      rw [tripR_eq, View.writes_append, tripL_eq]
    · rw [tripsTo, dif_neg h, ← ih, st_k0_t1.eq_2]
      unfold st_k0_t1Step
      rw [dif_neg h]

end Cert.FlashIdeal.Hand

end
-- ==== Proof.FlashPoint.lean ====
/- What the two runs of the flash backward kernel's body leave in their output buffers, as the functions of Proof/FlashStep.lean. -/
module

public import proofs.«01_k».proof.Proof.FlashStep
public import Idealize.ShloMosaic.Lib.Pipeline.Value

@[expose] public section

set_option maxRecDepth 16384

noncomputable section

namespace Cert.FlashIdeal.Hand

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .bf16) (harg10 : arg10.IsWhole)
  (x0 : Vec F S4096x128 .bf16) (x1 : Vec F S512x128 .bf16) (x2 : Vec F S512x128 .bf16) (x3 : Vec F S4096x128 .bf16) (x4 : Vec F S4096x128 .f32) (x5 : Vec F S4096x128 .f32) (x6 : Vec F S4096x128 .f32)

/-- The second loop, over a remainder, makes no trip. -/
theorem trips2 : (k0_t2_loop i).trips = 0 := Nat.le_zero.mp (k0_t2_abs i).2.1

theorem st2_none (v0 v1 : Vec F S512x128 .bf16) (X2 : BufTy.Contents (Elt F) arg2.view.ty) (X5 : BufTy.Contents (Elt F) arg5.view.ty) (X6 : BufTy.Contents (Elt F) arg6.view.ty) (X7 : BufTy.Contents (Elt F) arg7.view.ty)
    (G : BufTy.Contents (Elt F) arg8.view.ty) (init : FVec F S512x128 .f32 × FVec F S512x128 .f32) (n : ℕ) (hn : n = 0) :
    st_k0_t2 (F := F) Variants.none c none i arg2 harg2 arg3 harg3 arg4 harg4 arg5 harg5 arg6 harg6 arg7 harg7 arg8 harg8 arg9 harg9 arg10 harg10 v0 v1 X2 X5 X6 X7 G init n = (init, []) := by
  subst hn; rfl

/-- The loop from a buffer that holds the diagonal tile's gradient of q. -/
theorem loop_eq (b : Vec F S4096x128 .f32) (G : BufTy.Contents (Elt F) arg8.view.ty) (hG : arg8.view.read (Elt F) G = (diag i x0 x1 x2 x3 x4 x5 b).2) :
    (st_k0_t1 (F := F) Variants.none c none i arg2 harg2 arg3 harg3 arg4 harg4 arg5 harg5 arg6 harg6 arg7 harg7 arg8 harg8 arg9 harg9 arg10 harg10 x1 x2 (harg2.unread x0) (harg5.unread x3) (harg6.unread x4) (harg7.unread x5) G (diag i x0 x1 x2 x3 x4 x5 b).1 (k0_t1_loop i).trips).1
        = (final i x0 x1 x2 x3 x4 x5 b).1
      ∧ arg8.view.read (Elt F) (arg8.view.writes (Elt F) G (st_k0_t1 (F := F) Variants.none c none i arg2 harg2 arg3 harg3 arg4 harg4 arg5 harg5 arg6 harg6 arg7 harg7 arg8 harg8 arg9 harg9 arg10 harg10 x1 x2 (harg2.unread x0) (harg5.unread x3) (harg6.unread x4) (harg7.unread x5) G (diag i x0 x1 x2 x3 x4 x5 b).1 (k0_t1_loop i).trips).2)
        = (final i x0 x1 x2 x3 x4 x5 b).2 := by
  have h := st_eq c i arg2 harg2 arg3 harg3 arg4 harg4 arg5 harg5 arg6 harg6 arg7 harg7 arg8 harg8 arg9 harg9 arg10 harg10 x0 x1 x2 x3 x4 x5 G (diag i x0 x1 x2 x3 x4 x5 b).1 (k0_t1_loop i).trips
  rw [hG, Prod.mk.eta] at h
  unfold final
  rw [← h]
  exact ⟨rfl, rfl⟩

/-- A store of the whole block is the block. -/
theorem over_whole {s : Shape} {α : Type} {off : Fin s.rank → ℕ} (h : off = fun _ => 0) (inb : ∀ a, off a + s.size a ≤ s.size a) (w : s.Idx → α) (x : s.Idx → α) :
    over (Rect.unit off s.size inb) w x = w := by
  subst h
  funext y
  have e : (Rect.whole s).emb y = y := Rect.emb_whole_apply s y
  have := over_emb (Rect.whole s) w x y
  rw [e] at this
  exact this

theorem zero2 : (![0, 0] : Fin 2 → ℕ) = fun _ => 0 := by funext a; fin_cases a <;> rfl

theorem runLater_r : runLater.sl.r c arg3 harg3 x1 = x1 := by
  unfold runLater.sl.r
  rw [View.readAt_eq_ld, Memref.IsWhole.read_unread]
  exact View.ld_unit_zero zero2 _ _
theorem runLater_r1 : runLater.sl.r_1 c arg4 harg4 x2 = x2 := by
  unfold runLater.sl.r_1
  rw [View.readAt_eq_ld, Memref.IsWhole.read_unread]
  exact View.ld_unit_zero zero2 _ _
theorem runLater_r2 : runLater.sl.r_2 c i arg2 harg2 x0 = View.ld x0 (diagRect i) := by
  unfold runLater.sl.r_2
  rw [View.readAt_eq_ld, Memref.IsWhole.read_unread]
theorem runLater_r3 : runLater.sl.r_3 c i arg5 harg5 x3 = View.ld x3 (diagRect i) := by
  unfold runLater.sl.r_3
  rw [View.readAt_eq_ld, Memref.IsWhole.read_unread]
theorem runLater_r4 : runLater.sl.r_4 c i arg2 harg2 arg3 harg3 arg4 harg4 arg5 harg5 arg6 harg6 arg7 harg7 x0 x1 x2 x3 x4 x5 = diagDs i x0 x1 x2 x3 x4 x5 := by
  unfold runLater.sl.r_4
  simp only [View.readAt_eq_ld, Memref.IsWhole.read_unread]
  rw [View.ld_unit_zero zero2, View.ld_unit_zero zero2]
theorem runLater_r5 : runLater.sl.r_5 c i arg2 harg2 arg3 harg3 arg6 harg6 x0 x1 x4 = k0_pay20 x1 (View.ld x0 (diagRect i)) (View.ld x4 (diagCol i)) := by
  unfold runLater.sl.r_5
  simp only [View.readAt_eq_ld, Memref.IsWhole.read_unread]
  rw [View.ld_unit_zero zero2]

theorem later_base : arg8.view.read (Elt F) (arg8.view.writes (Elt F) (harg8.unread x6)
    [⟨diagRect i, k0_pay3 x1 (diagDs i x0 x1 x2 x3 x4 x5) (View.readAt (Elt F) arg8.view (diagRect i).toLoadRect (harg8.unread x6))⟩]) = (diag i x0 x1 x2 x3 x4 x5 x6).2 := by
  rw [read_writes_over, View.readAt_eq_ld, View.writes, Memref.IsWhole.read_unread]
  rfl

theorem later_6 (hc : ¬firstTile i) :
    arg8.view.read (Elt F) (arg8.view.writes (Elt F) (harg8.unread x6) (runLater c i arg2 harg2 arg3 harg3 arg4 harg4 arg5 harg5 arg6 harg6 arg7 harg7 arg8 harg8 arg9 harg9 arg10 harg10 x0 x1 x2 x3 x4 x5 x6 hc).1)
      = (final i x0 x1 x2 x3 x4 x5 x6).2 := by
  unfold runLater; dsimp only
  rw [st2_none (hn := trips2 i), runLater_r, runLater_r1, runLater_r2, runLater_r3, runLater_r4, runLater_r5, List.nil_append, View.writes_append]
  exact (loop_eq c i arg2 harg2 arg3 harg3 arg4 harg4 arg5 harg5 arg6 harg6 arg7 harg7 arg8 harg8 arg9 harg9 arg10 harg10 x0 x1 x2 x3 x4 x5 x6 _ (later_base i arg8 harg8 x0 x1 x2 x3 x4 x5 x6)).2

theorem later_7 (hc : ¬firstTile i) (f : BufTy.Contents (Elt F) arg9.view.ty) :
    arg9.view.read (Elt F) (arg9.view.writes (Elt F) f (runLater c i arg2 harg2 arg3 harg3 arg4 harg4 arg5 harg5 arg6 harg6 arg7 harg7 arg8 harg8 arg9 harg9 arg10 harg10 x0 x1 x2 x3 x4 x5 x6 hc).2.1)
      = k0_pay14 (final i x0 x1 x2 x3 x4 x5 x6).1.1 := by
  unfold runLater; dsimp only
  rw [st2_none (hn := trips2 i), runLater_r, runLater_r1, runLater_r2, runLater_r3, runLater_r4, runLater_r5, read_writes_over]
  refine (over_whole zero2 _ _ _).trans (congrArg (fun s : FVec F S512x128 .f32 × FVec F S512x128 .f32 => k0_pay14 s.1) ?_)
  exact (loop_eq c i arg2 harg2 arg3 harg3 arg4 harg4 arg5 harg5 arg6 harg6 arg7 harg7 arg8 harg8 arg9 harg9 arg10 harg10 x0 x1 x2 x3 x4 x5 x6 _ (later_base i arg8 harg8 x0 x1 x2 x3 x4 x5 x6)).1

theorem later_8 (hc : ¬firstTile i) (f : BufTy.Contents (Elt F) arg10.view.ty) :
    arg10.view.read (Elt F) (arg10.view.writes (Elt F) f (runLater c i arg2 harg2 arg3 harg3 arg4 harg4 arg5 harg5 arg6 harg6 arg7 harg7 arg8 harg8 arg9 harg9 arg10 harg10 x0 x1 x2 x3 x4 x5 x6 hc).2.2.1)
      = k0_pay15 (final i x0 x1 x2 x3 x4 x5 x6).1.2 := by
  unfold runLater; dsimp only
  rw [st2_none (hn := trips2 i), runLater_r, runLater_r1, runLater_r2, runLater_r3, runLater_r4, runLater_r5, read_writes_over]
  refine (over_whole zero2 _ _ _).trans (congrArg (fun s : FVec F S512x128 .f32 × FVec F S512x128 .f32 => k0_pay15 s.2) ?_)
  exact (loop_eq c i arg2 harg2 arg3 harg3 arg4 harg4 arg5 harg5 arg6 harg6 arg7 harg7 arg8 harg8 arg9 harg9 arg10 harg10 x0 x1 x2 x3 x4 x5 x6 _ (later_base i arg8 harg8 x0 x1 x2 x3 x4 x5 x6)).1

theorem runFirst_r : runFirst.sl.r c arg3 harg3 x1 = x1 := by
  unfold runFirst.sl.r
  rw [View.readAt_eq_ld, Memref.IsWhole.read_unread]
  exact View.ld_unit_zero zero2 _ _
theorem runFirst_r1 : runFirst.sl.r_1 c arg4 harg4 x2 = x2 := by
  unfold runFirst.sl.r_1
  rw [View.readAt_eq_ld, Memref.IsWhole.read_unread]
  exact View.ld_unit_zero zero2 _ _
theorem runFirst_r2 : runFirst.sl.r_2 c i arg2 harg2 x0 = View.ld x0 (diagRect i) := by
  unfold runFirst.sl.r_2
  rw [View.readAt_eq_ld, Memref.IsWhole.read_unread]
theorem runFirst_r3 : runFirst.sl.r_3 c i arg5 harg5 x3 = View.ld x3 (diagRect i) := by
  unfold runFirst.sl.r_3
  rw [View.readAt_eq_ld, Memref.IsWhole.read_unread]
theorem runFirst_r4 : runFirst.sl.r_4 c i arg2 harg2 arg3 harg3 arg4 harg4 arg5 harg5 arg6 harg6 arg7 harg7 x0 x1 x2 x3 x4 x5 = diagDs i x0 x1 x2 x3 x4 x5 := by
  unfold runFirst.sl.r_4
  simp only [View.readAt_eq_ld, Memref.IsWhole.read_unread]
  rw [View.ld_unit_zero zero2, View.ld_unit_zero zero2]
theorem runFirst_r5 : runFirst.sl.r_5 c i arg2 harg2 arg3 harg3 arg6 harg6 x0 x1 x4 = k0_pay20 x1 (View.ld x0 (diagRect i)) (View.ld x4 (diagCol i)) := by
  unfold runFirst.sl.r_5
  simp only [View.readAt_eq_ld, Memref.IsWhole.read_unread]
  rw [View.ld_unit_zero zero2]

/-- What is read after stores depends only on what was read before them. -/
theorem read_writes_congr {κ : Kind} {sp : Space} {s : Shape} {e : EltTy} (v : View sig κ sp s e) (f g : v.ty.Contents (Elt F)) (h : v.read (Elt F) f = v.read (Elt F) g) :
    ∀ L : List (View.Piece (Elt F) s e), v.read (Elt F) (v.writes (Elt F) f L) = v.read (Elt F) (v.writes (Elt F) g L)
  | [] => h
  | ⟨r, w⟩ :: L => by rw [read_writes_over, read_writes_over, read_writes_congr v f g h L]

theorem first_zero (f : BufTy.Contents (Elt F) arg8.view.ty) : arg8.view.read (Elt F) (arg8.view.writes (Elt F) f runFirst.sl.H6_1) = k0_pay16 := by
  unfold runFirst.sl.H6_1
  rw [read_writes_over]
  exact over_whole zero2 _ _ _

theorem first_v44 : runFirst.sl.v44 (F := F) c i arg8 = View.ld k0_pay16 (diagRect i) := by
  unfold runFirst.sl.v44
  rw [View.readAt_eq_ld, first_zero]

theorem first_base (f : BufTy.Contents (Elt F) arg8.view.ty) : arg8.view.read (Elt F) (arg8.view.writes (Elt F) f
    (⟨diagRect i, k0_pay3 x1 (diagDs i x0 x1 x2 x3 x4 x5) (runFirst.sl.v44 c i arg8)⟩ :: runFirst.sl.H6_1)) = (diag i x0 x1 x2 x3 x4 x5 k0_pay16).2 := by
  rw [read_writes_over, first_zero, first_v44]
  rfl

theorem first_6 (hc : firstTile i) (f : BufTy.Contents (Elt F) arg8.view.ty) :
    arg8.view.read (Elt F) (arg8.view.writes (Elt F) f (runFirst c i arg2 harg2 arg3 harg3 arg4 harg4 arg5 harg5 arg6 harg6 arg7 harg7 arg8 harg8 arg9 harg9 arg10 harg10 x0 x1 x2 x3 x4 x5 hc).1)
      = (final i x0 x1 x2 x3 x4 x5 k0_pay16).2 := by
  unfold runFirst; dsimp only
  rw [st2_none (hn := trips2 i), runFirst_r, runFirst_r1, runFirst_r2, runFirst_r3, runFirst_r4, runFirst_r5, List.nil_append, View.writes_append]
  refine (read_writes_congr _ _ _ ((first_base c i arg8 x0 x1 x2 x3 x4 x5 f).trans (first_base c i arg8 x0 x1 x2 x3 x4 x5 (arg8.view.junk (Val := Elt F))).symm) _).trans ?_
  exact (loop_eq c i arg2 harg2 arg3 harg3 arg4 harg4 arg5 harg5 arg6 harg6 arg7 harg7 arg8 harg8 arg9 harg9 arg10 harg10 x0 x1 x2 x3 x4 x5 k0_pay16 _ (first_base c i arg8 x0 x1 x2 x3 x4 x5 (arg8.view.junk (Val := Elt F)))).2

theorem first_7 (hc : firstTile i) (f : BufTy.Contents (Elt F) arg9.view.ty) :
    arg9.view.read (Elt F) (arg9.view.writes (Elt F) f (runFirst c i arg2 harg2 arg3 harg3 arg4 harg4 arg5 harg5 arg6 harg6 arg7 harg7 arg8 harg8 arg9 harg9 arg10 harg10 x0 x1 x2 x3 x4 x5 hc).2.1)
      = k0_pay14 (final i x0 x1 x2 x3 x4 x5 k0_pay16).1.1 := by
  unfold runFirst; dsimp only
  rw [st2_none (hn := trips2 i), runFirst_r, runFirst_r1, runFirst_r2, runFirst_r3, runFirst_r4, runFirst_r5, read_writes_over]
  refine (over_whole zero2 _ _ _).trans (congrArg (fun s : FVec F S512x128 .f32 × FVec F S512x128 .f32 => k0_pay14 s.1) ?_)
  exact (loop_eq c i arg2 harg2 arg3 harg3 arg4 harg4 arg5 harg5 arg6 harg6 arg7 harg7 arg8 harg8 arg9 harg9 arg10 harg10 x0 x1 x2 x3 x4 x5 k0_pay16 _ (first_base c i arg8 x0 x1 x2 x3 x4 x5 (arg8.view.junk (Val := Elt F)))).1

theorem first_8 (hc : firstTile i) (f : BufTy.Contents (Elt F) arg10.view.ty) :
    arg10.view.read (Elt F) (arg10.view.writes (Elt F) f (runFirst c i arg2 harg2 arg3 harg3 arg4 harg4 arg5 harg5 arg6 harg6 arg7 harg7 arg8 harg8 arg9 harg9 arg10 harg10 x0 x1 x2 x3 x4 x5 hc).2.2.1)
      = k0_pay15 (final i x0 x1 x2 x3 x4 x5 k0_pay16).1.2 := by
  unfold runFirst; dsimp only
  rw [st2_none (hn := trips2 i), runFirst_r, runFirst_r1, runFirst_r2, runFirst_r3, runFirst_r4, runFirst_r5, read_writes_over]
  refine (over_whole zero2 _ _ _).trans (congrArg (fun s : FVec F S512x128 .f32 × FVec F S512x128 .f32 => k0_pay15 s.2) ?_)
  exact (loop_eq c i arg2 harg2 arg3 harg3 arg4 harg4 arg5 harg5 arg6 harg6 arg7 harg7 arg8 harg8 arg9 harg9 arg10 harg10 x0 x1 x2 x3 x4 x5 k0_pay16 _ (first_base c i arg8 x0 x1 x2 x3 x4 x5 (arg8.view.junk (Val := Elt F)))).1

end Cert.FlashIdeal.Hand

end
-- ==== Proof.FlashFrame.lean ====
/- The frame of the flash backward kernel: the state the body carries from one grid point to the next, the pipeline's proof data, the body's obligation at every point, and the run. -/
module

public import proofs.«01_k».proof.Proof.FlashPoint
public import Idealize.ShloMosaic.Lib.Claim

@[expose] public section

set_option maxRecDepth 16384

noncomputable section

namespace Cert.FlashIdeal.Hand

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's function at point `t`, on the blocks of that point, from the gradient of q gathered so far. -/
def pointOf (c : Dev nD) (t : Fin cfg0.N) (b : Vec F S4096x128 .f32) : State F :=
  final (grid0.coords t) (iblk m c 0 t) (iblk m c 1 t) (iblk m c 2 t) (iblk m c 3 t) (iblk m c 4 t) (iblk m c 5 t) b

/-- The state after point `n`: a head's first key tile starts the gradient of q from zero, a later one from what the point before left. -/
def stateAt (c : Dev nD) : (n : ℕ) → n < cfg0.N → State F
  | 0, h => pointOf m c ⟨0, h⟩ k0_pay16
  | n + 1, h => if (n + 1) % 8 = 0 then pointOf m c ⟨n + 1, h⟩ k0_pay16 else pointOf m c ⟨n + 1, h⟩ (stateAt c n (Nat.lt_of_succ_lt h)).2

theorem stateAt_first (c : Dev nD) (t : Fin cfg0.N) (h0 : t.val % 8 = 0) : stateAt m c t.val t.isLt = final (grid0.coords t) (iblk m c 0 t) (iblk m c 1 t) (iblk m c 2 t) (iblk m c 3 t) (iblk m c 4 t) (iblk m c 5 t) k0_pay16 := by
  obtain ⟨n, hn⟩ := t
  cases n with
  | zero => rfl
  | succ n => exact (if_pos h0).trans rfl

theorem stateAt_later (c : Dev nD) (t : Fin cfg0.N) (h0 : ¬t.val % 8 = 0) :
    stateAt m c t.val t.isLt = final (grid0.coords t) (iblk m c 0 t) (iblk m c 1 t) (iblk m c 2 t) (iblk m c 3 t) (iblk m c 4 t) (iblk m c 5 t) (stateAt m c (t.val - 1) (Nat.lt_of_le_of_lt (Nat.sub_le _ _) t.isLt)).2 := by
  obtain ⟨n, hn⟩ := t
  cases n with
  | zero => exact absurd rfl h0
  | succ n => exact (if_neg h0).trans rfl

/-! ## The pipeline's proof data -/

/-- The proof data of the one pipeline on core `c`: the arrays as the region finds them (`V`); after the body at
    point `t` each input's buffer at its block and the outputs' at what the body's function `final` gives; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stateAt m c t.val t.isLt).2
    | ⟨7, _⟩ => k0_pay14 (stateAt m c t.val t.isLt).1.1
    | ⟨8, _⟩ => k0_pay15 (stateAt m c t.val t.isLt).1.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stateAt m c t.val t.isLt).2 := by dsimp only [dats]
theorem after0_7 (c : Dev nD) (t : Fin cfg0.N) : (dats m 0 c).after 7 t = k0_pay14 (stateAt m c t.val t.isLt).1.1 := by dsimp only [dats]
theorem after0_8 (c : Dev nD) (t : Fin cfg0.N) : (dats m 0 c).after 8 t = k0_pay15 (stateAt m c t.val t.isLt).1.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 8 = 0) (d) :
    (dats m 0 c).before 6 t d = (stateAt m c (t.val - 1) (Nat.lt_of_le_of_lt (Nat.sub_le _ _) t.isLt)).2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 64 := lt_of_lt_of_eq t.isLt (show cfg0.N = 64 from N_0)
  by_cases h0 : t.val % 8 = 0
  · rw [stateAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ (iblk m c 0 t) (iblk m c 1 t) (iblk m c 2 t) (iblk m c 3 t) (iblk m c 4 t) (iblk m c 5 t) ((firstTile_iff t).mpr h0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact first_6 c (grid0.coords t) _ _ _ _ _ _ _ _ _ _ _ _ _ _ _ _ _ _ (iblk m c 0 t) (iblk m c 1 t) (iblk m c 2 t) (iblk m c 3 t) (iblk m c 4 t) (iblk m c 5 t) ((firstTile_iff t).mpr h0) e6
    isplitl [H7]
    · unfold owns; iexists _; isplitr
      swap; · iexact H7
      ipureintro; exact first_7 c (grid0.coords t) _ _ _ _ _ _ _ _ _ _ _ _ _ _ _ _ _ _ (iblk m c 0 t) (iblk m c 1 t) (iblk m c 2 t) (iblk m c 3 t) (iblk m c 4 t) (iblk m c 5 t) ((firstTile_iff t).mpr h0) e7
    unfold owns; iexists _; isplitr
    swap; · iexact H8
    ipureintro; exact first_8 c (grid0.coords t) _ _ _ _ _ _ _ _ _ _ _ _ _ _ _ _ _ _ (iblk m c 0 t) (iblk m c 1 t) (iblk m c 2 t) (iblk m c 3 t) (iblk m c 4 t) (iblk m c 5 t) ((firstTile_iff t).mpr h0) e8
  · rw [stateAt_later m c t h0]
    simp only [before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (iblk m c 0 t) (iblk m c 1 t) (iblk m c 2 t) (iblk m c 3 t) (iblk m c 4 t) (iblk m c 5 t) _ (fun h => h0 ((firstTile_iff t).mp h))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact later_6 c (grid0.coords t) _ _ _ _ _ _ _ _ _ _ _ _ _ _ _ _ _ _ (iblk m c 0 t) (iblk m c 1 t) (iblk m c 2 t) (iblk m c 3 t) (iblk m c 4 t) (iblk m c 5 t) _ (fun h => h0 ((firstTile_iff t).mp h))
    isplitl [H7]
    · unfold owns; iexists _; isplitr
      swap; · iexact H7
      ipureintro; exact later_7 c (grid0.coords t) _ _ _ _ _ _ _ _ _ _ _ _ _ _ _ _ _ _ (iblk m c 0 t) (iblk m c 1 t) (iblk m c 2 t) (iblk m c 3 t) (iblk m c 4 t) (iblk m c 5 t) _ (fun h => h0 ((firstTile_iff t).mp h)) e7
    unfold owns; iexists _; isplitr
    swap; · iexact H8
    ipureintro; exact later_8 c (grid0.coords t) _ _ _ _ _ _ _ _ _ _ _ _ _ _ _ _ _ _ (iblk m c 0 t) (iblk m c 1 t) (iblk m c 2 t) (iblk m c 3 t) (iblk m c 4 t) (iblk m c 5 t) _ (fun h => h0 ((firstTile_iff t).mp h)) e8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_FlashIdeal`'s statement (Defs.lean) at any `F` — Proof.lean cites it at `Bits`:
    `theorem Cert.Proof.claim : Cert.Claim := ⟨Cert.FlashIdeal.Gen.facts, fun m ρ _ => Cert.FlashIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FlashIdeal.Hand

end

end
-- ==== Proof.FlashMath.lean ====
/- Causal softmax attention and its gradient, one head at a time, over the extended reals and over the reals. -/
module

public import Idealize.ShloMosaic.Lib.Pipeline.ValueKit
public import Idealize.ShloMosaic.Lib.Pointwise

@[expose] public section

noncomputable section

namespace Cert.Attention

open Idealize.ShloMosaic

/-- An array of 4096 rows and eight heads of 128 columns. -/
abbrev Arr := (⟨2, ![4096, 1024]⟩ : Shape).Idx → EReal

/-- Column `d` of head `h`. -/
abbrev hcol (h : Fin 8) (d : Fin 128) : Fin 1024 := ⟨h.val * 128 + d.val, by have := h.isLt; have := d.isLt; omega⟩

/-- The product of row `a` of `x` and row `b` of `y` over head `h`. -/
def rows (x y : Arr) (h : Fin 8) (a b : Fin 4096) : EReal := ∑ d : Fin 128, x (ix2 a (hcol h d)) * y (ix2 b (hcol h d))

/-- The causal scores. -/
def sc (q k : Arr) (h : Fin 8) (a b : Fin 4096) : EReal :=
  Scalar.select (IntOp.cmpi CmpIPredicate.sle (BitVec.ofNat 32 b.val) (BitVec.ofNat 32 a.val))
    (Ideal.div (rows q k h a b) (Ideal.sqrt (Ideal.ofBits FTy.f32 0x42C00000#32))) (Ideal.ofBits FTy.f32 0xFF800000#32)

/-- The largest score of a row. -/
def mx (q k : Arr) (h : Fin 8) (a : Fin 4096) : EReal := Finset.fold max (Ideal.ofBits FTy.f32 0xFF800000#32) (fun b => sc q k h a b) Finset.univ

/-- The exponential of a score less the largest. -/
def ex (q k : Arr) (h : Fin 8) (a b : Fin 4096) : EReal := Ideal.exp (sc q k h a b - mx q k h a)

/-- The sum of a row's exponentials. -/
def sm (q k : Arr) (h : Fin 8) (a : Fin 4096) : EReal := ∑ b : Fin 4096, ex q k h a b

/-- The gradient of the scores, as the reference writes it: through the quotient of the softmax, at `g`, the output's gradient. -/
def dsc (q k v g : Arr) (h : Fin 8) (a b : Fin 4096) : EReal :=
  Ideal.div (Scalar.select (IntOp.cmpi CmpIPredicate.sle (BitVec.ofNat 32 b.val) (BitVec.ofNat 32 a.val))
      ((Ideal.div (rows g v h a b) (sm q k h a) + ∑ _x : Fin 1, -∑ n : Fin 4096, rows g v h a n * Ideal.div 1 (sm q k h a * sm q k h a) * ex q k h a n) * ex q k h a b) 0)
    (Ideal.sqrt (Ideal.ofBits FTy.f32 0x42C00000#32))

end Cert.Attention

end
-- ==== Proof.FlashHost.lean ====
/- The two rows of numbers the host prepares for the flash backward kernel, at an index. -/
module

public import proofs.«01_k».proof.Proof.FlashFrame
public import proofs.«01_k».proof.Proof.FlashMath
public import Idealize.ShloMosaic.Lib.StableHlo.ReadAt

@[expose] public section

noncomputable section

namespace Cert.FlashIdeal.Hand

open Cert.FlashIdeal Cert.FlashIdeal.Gen Cert.Attention
open Idealize.ShloMosaic Idealize.ShloMosaic.TcCoe Idealize.SL.Sem

variable (m : (ℓ : Loc nD τ sig) → Buf (Elt Ideal) ℓ)

/-- The four arguments. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)
abbrev argG (c : Dev nD) : Arr := m ((c : Thread nD τ).loc main_arg3)

/-- One argument, head by head. -/
def hHeads (x : FVec Ideal S4096x1024 .bf16) : FVec Ideal S4096x8x128 .f32 := shapeCast S4096x8x128 (extf .f32 x bitsLt_bf16_f32) shapeCasts_S4096x1024_S4096x8x128
/-- The scores, masked. -/
def hScore (q k : FVec Ideal S4096x8x128 .f32) : FVec Ideal S8x4096x4096 .f32 :=
  select (broadcastInDim S8x4096x4096 ![0, 1, 2] bcast_S1x4096x4096_S8x4096x4096_0_1_2
      (cmpi CmpIPredicate.sle
        (broadcastInDim S1x4096x4096 ![0, 1, 2] bcast_S1x1x4096_S1x4096x4096_0_1_2 (broadcastInDim S1x1x4096 ![2] bcast_S4096_S1x1x4096_2 (iotaInDim S4096 32 0)))
        (broadcastInDim S1x4096x4096 ![0, 1, 2] bcast_S1x4096x1_S1x4096x4096_0_1_2 (broadcastInDim S1x4096x1 ![1] bcast_S4096_S1x4096x1_1 (iotaInDim S4096 32 0)))))
    (Host.divf (Host.dotGeneral dot_S4096x8x128_S4096x8x128_S8x4096x4096_2_2_0_0_1_1 none q k)
      (broadcastInDim S8x4096x4096 ![] bcast_S_S8x4096x4096 (Host.sqrt (constant S_ .f32 0x42C00000#32))))
    (broadcastInDim S8x4096x4096 ![] bcast_S_S8x4096x4096 (id (constant S_ .f32 0xFF800000#32)))
/-- The largest of each row. -/
def hMax (s : FVec Ideal S8x4096x4096 .f32) : FVec Ideal S8x4096 .f32 :=
  Host.reduce FloatOps.maximumf s (constant S_ .f32 0xFF800000#32) reducesTo_S8x4096x4096_S8x4096_d2 h_S_
def hLast (s : FVec Ideal S8x4096 .f32) : FVec Ideal S8x4096x1 .f32 := broadcastInDim S8x4096x1 ![0, 1] bcast_S8x4096_S8x4096x1_0_1 s
def hWide (s : FVec Ideal S8x4096x1 .f32) : FVec Ideal S8x4096x4096 .f32 := broadcastInDim S8x4096x4096 ![0, 1, 2] bcast_S8x4096x1_S8x4096x4096_0_1_2 s
def hExp (s : FVec Ideal S8x4096x4096 .f32) (x : FVec Ideal S8x4096 .f32) : FVec Ideal S8x4096x4096 .f32 := Host.exp (subf s (hWide (hLast x)))
def hSum (e : FVec Ideal S8x4096x4096 .f32) : FVec Ideal S8x4096 .f32 := Host.reduceAdd e (constant S_ .f32 0x00000000#32) reducesTo_S8x4096x4096_S8x4096_d2 h_S_
def hLse (x l : FVec Ideal S8x4096 .f32) : FVec Ideal S4096x1024 .f32 :=
  shapeCast S4096x1024 (broadcastInDim S4096x8x128 ![0, 1, 2] bcast_S4096x8x1_S4096x8x128_0_1_2
    (transpose S4096x8x1 [1, 0, 2] (addf (hLast x) (Host.log (hLast l))) transposes_S8x4096x1_S4096x8x1_1_0_2)) shapeCasts_S4096x8x128_S4096x1024
def hDelta (v g : FVec Ideal S4096x8x128 .f32) (e : FVec Ideal S8x4096x4096 .f32) (l : FVec Ideal S8x4096 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1
      (Host.reduceAdd (mulf g (transpose S4096x8x128 [2, 0, 1]
          (Host.dotGeneral dot_S4096x8x128_S8x4096x4096_S8x128x4096_0_2_2_1_1_0 none v (Host.divf e (hWide (hLast l)))) transposes_S8x128x4096_S4096x8x128_2_0_1))
        (constant S_ .f32 0x00000000#32) reducesTo_S4096x8x128_S4096x8_d2 h_S_))) shapeCasts_S4096x8x128_S4096x1024

theorem lse_array (c : Dev nD) : V m c main_v37 = hLse (hMax (hScore (hHeads (argQ m c)) (hHeads (argK m c)))) (hSum (hExp (hScore (hHeads (argQ m c)) (hHeads (argK m c))) (hMax (hScore (hHeads (argQ m c)) (hHeads (argK m c)))))) := by
  unfold V
  after_reads_simp
  all_goals try simp -implicitDefEqProofs only [StableHlo.TRef.toBuf, StableHlo.TRef.ofBuf, cast_cast, cast_eq]
  rfl

theorem delta_array (c : Dev nD) : V m c main_v39 = hDelta (hHeads (argV m c)) (hHeads (argG m c)) (hExp (hScore (hHeads (argQ m c)) (hHeads (argK m c))) (hMax (hScore (hHeads (argQ m c)) (hHeads (argK m c)))))
    (hSum (hExp (hScore (hHeads (argQ m c)) (hHeads (argK m c))) (hMax (hScore (hHeads (argQ m c)) (hHeads (argK m c)))))) := by
  unfold V
  after_reads_simp
  all_goals try simp -implicitDefEqProofs only [StableHlo.TRef.toBuf, StableHlo.TRef.ofBuf, cast_cast, cast_eq]
  rfl

theorem heads_apply (x : FVec Ideal S4096x1024 .bf16) (a : Fin 4096) (h : Fin 8) (d : Fin 128) : hHeads x (ix3 a h d) = x (ix2 a (hcol h d)) := by
  pointwise [hHeads]

theorem score_apply (q k : FVec Ideal S4096x8x128 .f32) (h : Fin 8) (a b : Fin 4096) :
    hScore q k (ix3 h a b) = Scalar.select (IntOp.cmpi CmpIPredicate.sle (BitVec.ofNat 32 b.val) (BitVec.ofNat 32 a.val))
      (Ideal.div (∑ d : Fin 128, q (ix3 a h d) * k (ix3 b h d)) (Ideal.sqrt (Ideal.ofBits FTy.f32 0x42C00000#32))) (Ideal.ofBits FTy.f32 0xFF800000#32) := by
  pointwise [hScore]
  rfl

theorem max_apply (s : FVec Ideal S8x4096x4096 .f32) (h : Fin 8) (a : Fin 4096) :
    hMax s (ix2 h a) = Finset.fold max (Ideal.ofBits FTy.f32 0xFF800000#32) (fun b => s (ix3 h a b)) Finset.univ := by
  pointwise [hMax]

theorem exp_apply (s : FVec Ideal S8x4096x4096 .f32) (x : FVec Ideal S8x4096 .f32) (h : Fin 8) (a b : Fin 4096) :
    hExp s x (ix3 h a b) = Ideal.exp (s (ix3 h a b) - x (ix2 h a)) := by
  pointwise [hExp, hWide, hLast]

theorem sum_apply (e : FVec Ideal S8x4096x4096 .f32) (h : Fin 8) (a : Fin 4096) : hSum e (ix2 h a) = ∑ b : Fin 4096, e (ix3 h a b) := by
  pointwise [hSum]

theorem hLse_apply (x l : FVec Ideal S8x4096 .f32) (a : Fin 4096) (h : Fin 8) (d : Fin 128) : hLse x l (ix2 a (hcol h d)) = x (ix2 h a) + Ideal.log (l (ix2 h a)) := by
  have hh : (h.val * 128 + d.val) / 128 = h.val := by have := d.isLt; omega
  pointwise [hLse, hLast]
  simp only [hh]

theorem hDelta_apply (v g : FVec Ideal S4096x8x128 .f32) (e : FVec Ideal S8x4096x4096 .f32) (l : FVec Ideal S8x4096 .f32) (a : Fin 4096) (h : Fin 8) (d : Fin 128) :
    hDelta v g e l (ix2 a (hcol h d)) = ∑ n : Fin 128, g (ix3 a h n) * ∑ b : Fin 4096, v (ix3 b h n) * Ideal.div (e (ix3 h a b)) (l (ix2 h a)) := by
  have hh : (h.val * 128 + d.val) / 128 = h.val := by have := d.isLt; omega
  pointwise [hDelta, hWide, hLast]
  simp only [hh]

theorem score_eq (c : Dev nD) (h : Fin 8) (a b : Fin 4096) : hScore (hHeads (argQ m c)) (hHeads (argK m c)) (ix3 h a b) = sc (argQ m c) (argK m c) h a b := by
  rw [score_apply]
  simp only [heads_apply]
  rfl
theorem max_eq (c : Dev nD) (h : Fin 8) (a : Fin 4096) : hMax (hScore (hHeads (argQ m c)) (hHeads (argK m c))) (ix2 h a) = mx (argQ m c) (argK m c) h a := by
  rw [max_apply]
  simp only [score_eq, mx]
theorem exp_eq (c : Dev nD) (h : Fin 8) (a b : Fin 4096) :
    hExp (hScore (hHeads (argQ m c)) (hHeads (argK m c))) (hMax (hScore (hHeads (argQ m c)) (hHeads (argK m c)))) (ix3 h a b) = ex (argQ m c) (argK m c) h a b := by
  rw [exp_apply, score_eq, max_eq, ex]
theorem sum_eq (c : Dev nD) (h : Fin 8) (a : Fin 4096) :
    hSum (hExp (hScore (hHeads (argQ m c)) (hHeads (argK m c))) (hMax (hScore (hHeads (argQ m c)) (hHeads (argK m c))))) (ix2 h a) = sm (argQ m c) (argK m c) h a := by
  rw [sum_apply]
  simp only [exp_eq, sm]

theorem lse_apply (c : Dev nD) (a : Fin 4096) (h : Fin 8) (d : Fin 128) :
    V m c main_v37 (ix2 a (hcol h d)) = mx (argQ m c) (argK m c) h a + Ideal.log (sm (argQ m c) (argK m c) h a) := by
  rw [lse_array, hLse_apply, max_eq, sum_eq]

theorem delta_apply (c : Dev nD) (a : Fin 4096) (h : Fin 8) (d : Fin 128) :
    V m c main_v39 (ix2 a (hcol h d)) = ∑ e : Fin 128, argG m c (ix2 a (hcol h e)) *
      ∑ b : Fin 4096, argV m c (ix2 b (hcol h e)) * Ideal.div (ex (argQ m c) (argK m c) h a b) (sm (argQ m c) (argK m c) h a) := by
  rw [delta_array, hDelta_apply]
  simp only [heads_apply, exp_eq, sum_eq]

end Cert.FlashIdeal.Hand

end
-- ==== Proof.FlashReal.lean ====
/- Causal attention at finite arrays: the row maximum and the row sum are real numbers, the kernel's base-two exponential is the softmax, and the kernel's gradient of the scores is the reference's. -/
module

public import proofs.«01_k».proof.Proof.FlashMath
public import Idealize.ShloMosaic.Lib.WordCmp

@[expose] public section

noncomputable section

namespace Cert.Attention

open Idealize.ShloMosaic

/-- A finite array's entries, as real numbers. -/
abbrev RArr := (⟨2, ![4096, 1024]⟩ : Shape).Idx → ℝ

/-- The extended real array of a real one. -/
abbrev up (x : RArr) : Arr := fun i => ((x i : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Multiplying a sum by a nonnegative real number. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The scale of the scores. -/
abbrev σ : ℝ := (Real.sqrt 96)⁻¹

theorem sqrt96_pos : 0 < Real.sqrt 96 := Real.sqrt_pos.mpr (by norm_num)
theorem σ_nonneg : 0 ≤ σ := inv_nonneg.mpr sqrt96_pos.le

theorem sqrt96 : Ideal.sqrt (Ideal.ofBits FTy.f32 0x42C00000#32) = ((Real.sqrt 96 : ℝ) : EReal) := by
  have : Ideal.ofBits FTy.f32 0x42C00000#32 = ((96 : ℝ) : EReal) := by
    simp [Ideal.ofBits, Ideal.ieee, -EReal.coe_mul]; norm_num
  rw [this, Ideal.sqrt_coe, if_neg (by norm_num)]

theorem minus_infinity : Ideal.ofBits FTy.f32 0xFF800000#32 = ⊥ := by
  simp [Ideal.ofBits, Ideal.ieee]

theorem div_real (x y : ℝ) (hy : y ≠ 0) : Ideal.div (x : EReal) (y : EReal) = ((x / y : ℝ) : EReal) := by
  rw [Ideal.div_coe hy, ← EReal.coe_mul, mul_one_div]

/-- The product of two rows over a head, as a real number. -/
def rowsR (x y : RArr) (h : Fin 8) (a b : Fin 4096) : ℝ := ∑ d : Fin 128, x (ix2 a (hcol h d)) * y (ix2 b (hcol h d))

theorem rows_up (x y : RArr) (h : Fin 8) (a b : Fin 4096) : rows (up x) (up y) h a b = ((rowsR x y h a b : ℝ) : EReal) := by
  unfold rows rowsR
  rw [coe_sum]
  exact Finset.sum_congr rfl fun d _ => (EReal.coe_mul _ _).symm

/-- The causal mask's comparison. -/
theorem mask_select {α : Type} (a b : Fin 4096) (x y : α) :
    Scalar.select (IntOp.cmpi CmpIPredicate.sle (BitVec.ofNat 32 b.val) (BitVec.ofNat 32 a.val)) x y = if b ≤ a then x else y := by
  have e := WordCmp.cmpi_sle_ofNat_eq_one_iff (w := 32) (a := b.val) (b := a.val) (by have := b.isLt; omega) (by have := a.isLt; omega)
  unfold Scalar.select
  by_cases hb : b ≤ a
  · rw [if_pos hb, e.mpr hb]; rfl
  · rw [if_neg hb]
    have : ¬ (IntOp.cmpi CmpIPredicate.sle (BitVec.ofNat 32 b.val) (BitVec.ofNat 32 a.val) = 1#1) := fun hh => hb (e.mp hh)
    simp [this]

section
variable (q k : RArr) (h : Fin 8) (a : Fin 4096)

theorem sc_up (b : Fin 4096) : sc (up q) (up k) h a b = if b ≤ a then ((rowsR q k h a b * σ : ℝ) : EReal) else ⊥ := by
  unfold sc
  rw [mask_select, rows_up, sqrt96, minus_infinity, div_real _ _ sqrt96_pos.ne', div_eq_mul_inv]

theorem mx_real : ∃ M : ℝ, mx (up q) (up k) h a = (M : EReal) := by
  have ht : mx (up q) (up k) h a < ⊤ := by
    unfold mx
    rw [Finset.fold_max_lt]
    refine ⟨by rw [minus_infinity]; exact bot_lt_top, fun b _ => ?_⟩
    rw [sc_up]
    split
    · exact EReal.coe_lt_top _
    · exact bot_lt_top
  have hb : ⊥ < mx (up q) (up k) h a := by
    unfold mx
    rw [Finset.lt_fold_max]
    refine .inr ⟨a, Finset.mem_univ _, ?_⟩
    rw [sc_up, if_pos le_rfl]
    exact EReal.bot_lt_coe _
  exact ⟨(mx (up q) (up k) h a).toReal, (EReal.coe_toReal ht.ne hb.ne').symm⟩

/-- The largest score of a row. -/
def M : ℝ := (mx_real q k h a).choose
theorem mx_up : mx (up q) (up k) h a = ((M q k h a : ℝ) : EReal) := (mx_real q k h a).choose_spec

/-- The exponential of a score less the largest. -/
def E (b : Fin 4096) : ℝ := if b ≤ a then Real.exp (rowsR q k h a b * σ - M q k h a) else 0
theorem ex_up (b : Fin 4096) : ex (up q) (up k) h a b = ((E q k h a b : ℝ) : EReal) := by
  unfold ex E
  rw [sc_up, mx_up]
  split
  · rw [← EReal.coe_sub, Ideal.exp_coe]
  · rw [EReal.bot_sub, Ideal.exp_bot, EReal.coe_zero]

/-- The sum of a row's exponentials. -/
def L : ℝ := ∑ b, E q k h a b
theorem sm_up : sm (up q) (up k) h a = ((L q k h a : ℝ) : EReal) := by
  unfold sm L
  rw [coe_sum]
  exact Finset.sum_congr rfl fun b _ => ex_up q k h a b

theorem E_nonneg (b : Fin 4096) : 0 ≤ E q k h a b := by
  unfold E; split
  · exact (Real.exp_pos _).le
  · exact le_rfl

theorem L_pos : 0 < L q k h a :=
  Finset.sum_pos' (fun b _ => E_nonneg q k h a b) ⟨a, Finset.mem_univ _, by unfold E; rw [if_pos le_rfl]; exact Real.exp_pos _⟩

/-- The logarithm of a row's sum, with its maximum. -/
theorem lse_up : mx (up q) (up k) h a + Ideal.log (sm (up q) (up k) h a) = ((M q k h a + Real.log (L q k h a) : ℝ) : EReal) := by
  rw [mx_up, sm_up, Ideal.log_coe, if_neg (not_le.mpr (L_pos q k h a)), EReal.coe_add]

/-- The softmax. -/
def P (b : Fin 4096) : ℝ := E q k h a b / L q k h a

theorem prob_up (b : Fin 4096) : Ideal.div (ex (up q) (up k) h a b) (sm (up q) (up k) h a) = ((P q k h a b : ℝ) : EReal) := by
  rw [ex_up, sm_up, div_real _ _ (L_pos q k h a).ne']; rfl

theorem two_rpow (x : ℝ) : Real.rpow 2 (x * (Real.log 2)⁻¹) = Real.exp x := by
  have hl : Real.log 2 ≠ 0 := (Real.log_pos (by norm_num)).ne'
  show (2 : ℝ) ^ (x * (Real.log 2)⁻¹) = _
  rw [Real.rpow_def_of_pos (by norm_num)]
  congr 1
  field_simp

/-- The kernel's probability: a power of two of the scaled score less the row's logarithm. -/
def pk (q k : Arr) (h : Fin 8) (a b : Fin 4096) : EReal :=
  Ideal.exp2 ((if b ≤ a then rows q k h a b else ⊥) * (((Real.sqrt 96)⁻¹ * (Real.log 2)⁻¹ : ℝ) : EReal)
    - (mx q k h a + Ideal.log (sm q k h a)) * (((Real.log 2)⁻¹ : ℝ) : EReal))

theorem pk_up (b : Fin 4096) : pk (up q) (up k) h a b = ((P q k h a b : ℝ) : EReal) := by
  have hl : 0 < Real.log 2 := Real.log_pos (by norm_num)
  unfold pk
  rw [lse_up, ← EReal.coe_mul]
  by_cases hb : b ≤ a
  · rw [if_pos hb, rows_up, ← EReal.coe_mul, ← EReal.coe_sub, Ideal.exp2_coe]
    have : rowsR q k h a b * ((Real.sqrt 96)⁻¹ * (Real.log 2)⁻¹) - (M q k h a + Real.log (L q k h a)) * (Real.log 2)⁻¹
        = (rowsR q k h a b * σ - M q k h a - Real.log (L q k h a)) * (Real.log 2)⁻¹ := by ring
    rw [this, two_rpow, Real.exp_sub, Real.exp_log (L_pos q k h a)]
    unfold P E
    rw [if_pos hb]
  · rw [if_neg hb, EReal.bot_mul_coe_of_pos (mul_pos (inv_pos.mpr sqrt96_pos) (inv_pos.mpr hl)), EReal.bot_sub, Ideal.exp2_bot]
    unfold P E
    rw [if_neg hb, zero_div, EReal.coe_zero]

/-- The kernel's probability is the softmax. -/
theorem pk_prob (b : Fin 4096) : pk (up q) (up k) h a b = Ideal.div (ex (up q) (up k) h a b) (sm (up q) (up k) h a) := by
  rw [pk_up, prob_up]

theorem P_after (b : Fin 4096) (hb : ¬b ≤ a) : P q k h a b = 0 := by
  unfold P E; rw [if_neg hb, zero_div]

/-- The row's sum of the output times its gradient, as the kernel's caller prepares it. -/
def delta (q k v g : Arr) (h : Fin 8) (a : Fin 4096) : EReal :=
  ∑ e : Fin 128, g (ix2 a (hcol h e)) * ∑ b : Fin 4096, v (ix2 b (hcol h e)) * Ideal.div (ex q k h a b) (sm q k h a)

theorem delta_up (v g : RArr) : delta (up q) (up k) (up v) (up g) h a = ((∑ b, rowsR g v h a b * P q k h a b : ℝ) : EReal) := by
  unfold delta rowsR
  have : ∀ e : Fin 128, (up g) (ix2 a (hcol h e)) * ∑ b : Fin 4096, (up v) (ix2 b (hcol h e)) * Ideal.div (ex (up q) (up k) h a b) (sm (up q) (up k) h a)
      = ((g (ix2 a (hcol h e)) * ∑ b : Fin 4096, v (ix2 b (hcol h e)) * P q k h a b : ℝ) : EReal) := by
    intro e
    rw [EReal.coe_mul, coe_sum]
    simp only [prob_up, EReal.coe_mul]
  rw [Finset.sum_congr rfl fun e _ => this e, ← coe_sum]
  congr 1
  simp only [Finset.mul_sum, Finset.sum_mul]
  rw [Finset.sum_comm]
  refine Finset.sum_congr rfl fun b _ => Finset.sum_congr rfl fun e _ => ?_
  ring

/-- The kernel's gradient of the scores, before the scale. -/
def dk0 (q k v g : Arr) (h : Fin 8) (a b : Fin 4096) : EReal := pk q k h a b * (rows g v h a b - delta q k v g h a)

theorem dk0_up (v g : RArr) (b : Fin 4096) : dk0 (up q) (up k) (up v) (up g) h a b
    = ((P q k h a b * (rowsR g v h a b - ∑ n, rowsR g v h a n * P q k h a n) : ℝ) : EReal) := by
  unfold dk0
  rw [pk_up, rows_up, delta_up, ← EReal.coe_sub, ← EReal.coe_mul]

/-- The kernel's gradient of the scores is the reference's. -/
theorem dk0_dsc (v g : RArr) (b : Fin 4096) : dk0 (up q) (up k) (up v) (up g) h a b * (σ : EReal) = dsc (up q) (up k) (up v) (up g) h a b := by
  have hL := (L_pos q k h a).ne'
  rw [dk0_up, ← EReal.coe_mul]
  unfold dsc
  rw [mask_select, sqrt96]
  by_cases hb : b ≤ a
  · rw [if_pos hb]
    have e1 : ∀ n, rows (up g) (up v) h a n * Ideal.div 1 (sm (up q) (up k) h a * sm (up q) (up k) h a) * ex (up q) (up k) h a n
        = ((rowsR g v h a n * (1 / (L q k h a * L q k h a)) * E q k h a n : ℝ) : EReal) := by
      intro n
      rw [rows_up, sm_up, ex_up, ← EReal.coe_mul, ← EReal.coe_one, div_real _ _ (mul_ne_zero hL hL), ← EReal.coe_mul, ← EReal.coe_mul]
    rw [Finset.sum_congr rfl fun n _ => e1 n, ← coe_sum, Fin.sum_univ_one, ← EReal.coe_neg, rows_up, sm_up, div_real _ _ hL, ← EReal.coe_add, ex_up, ← EReal.coe_mul,
      div_real _ _ sqrt96_pos.ne']
    congr 1
    have e2 : ∑ n, rowsR g v h a n * (1 / (L q k h a * L q k h a)) * E q k h a n = (∑ n, rowsR g v h a n * P q k h a n) / L q k h a := by
      rw [Finset.sum_div]
      refine Finset.sum_congr rfl fun n _ => ?_
      unfold P
      field_simp
    rw [e2]
    unfold P
    generalize ∑ n, rowsR g v h a n * (E q k h a n / L q k h a) = T
    rw [div_eq_mul_inv _ (Real.sqrt 96)]
    field_simp
    ring
  · rw [if_neg hb, P_after q k h a b hb, zero_mul, zero_mul, ← EReal.coe_zero, div_real _ _ sqrt96_pos.ne', zero_div]

end

end Cert.Attention

end
-- ==== Proof.FlashTile.lean ====
/- The flash backward kernel's steps on one tile, read at an index over the extended reals. -/
module

public import proofs.«01_k».proof.Proof.FlashStep
public import proofs.«01_k».proof.Proof.FlashReal

@[expose] public section

noncomputable section

namespace Cert.FlashIdeal.Hand

open Cert.FlashIdeal.Gen Cert.FlashIdeal
open Idealize.ShloMosaic Cert.Attention

/-- The kernel's named constants. -/
abbrev c1 : EReal := (((Real.log 2)⁻¹ : ℝ) : EReal)
abbrev c2 : EReal := (((Real.sqrt 96)⁻¹ * (Real.log 2)⁻¹ : ℝ) : EReal)

theorem named_scale : (Named.named κ "scale" 0x3DD105EC#32 : Ideal .f32) = (σ : EReal) := IdealRules.named_const.ideal_named_scalar _ _ _ _ rfl
theorem named_c1 : (Named.named κ "inv_ln2" 0x3FB8AA3B#32 : Ideal .f32) = c1 := IdealRules.named_const.ideal_named_scalar _ _ _ _ rfl
theorem named_c2 : (Named.named κ "scale_inv_ln2" 0x3E16C740#32 : Ideal .f32) = c2 := IdealRules.named_const.ideal_named_scalar _ _ _ _ rfl

/-- The causal mask's comparison inside a diagonal tile. -/
theorem tile_select {α : Type} (u w : Fin 512) (x y : α) :
    Scalar.select (IntOp.cmpi CmpIPredicate.sle (BitVec.ofNat 32 w.val) (BitVec.ofNat 32 u.val)) x y = if w ≤ u then x else y :=
  mask_select (⟨u.val, by have := u.isLt; omega⟩ : Fin 4096) ⟨w.val, by have := w.isLt; omega⟩ x y

variable (kb vb qt gt : Vec Ideal S512x128 .bf16) (lt dt : Vec Ideal S512x1 .f32)

theorem pay4_apply (u w : Fin 512) : k0_pay4 (F := Ideal) kb qt lt (ix2 u w)
    = Ideal.exp2 ((∑ d : Fin 128, qt (ix2 u d) * kb (ix2 w d)) * c2 - lt (ix2 u 0) * c1) := by
  pointwise [k0_pay4]
  rw [named_c2, named_c1]
  rfl

theorem pay18_apply (u w : Fin 512) : k0_pay18 (F := Ideal) kb qt lt (ix2 u w)
    = Ideal.exp2 ((if w ≤ u then ∑ d : Fin 128, qt (ix2 u d) * kb (ix2 w d) else ⊥) * c2 - lt (ix2 u 0) * c1) := by
  pointwise [k0_pay18]
  have ez : IntOp.addi (0#32) (BitVec.ofNat 32 u.val) = BitVec.ofNat 32 u.val := BitVec.zero_add _
  rw [named_c2, named_c1, ez, tile_select, minus_infinity]
  rfl

theorem pay5_apply (u w : Fin 512) : k0_pay5 (F := Ideal) kb vb qt gt lt dt (ix2 u w)
    = k0_pay4 (F := Ideal) kb qt lt (ix2 u w) * ((∑ d : Fin 128, gt (ix2 u d) * vb (ix2 w d)) - dt (ix2 u 0)) := by
  unfold k0_pay5
  generalize k0_pay4 (F := Ideal) kb qt lt = p
  pointwise

theorem pay19_apply (u w : Fin 512) : k0_pay19 (F := Ideal) kb vb qt gt lt dt (ix2 u w)
    = k0_pay18 (F := Ideal) kb qt lt (ix2 u w) * ((∑ d : Fin 128, gt (ix2 u d) * vb (ix2 w d)) - dt (ix2 u 0)) := by
  unfold k0_pay19
  generalize k0_pay18 (F := Ideal) kb qt lt = p
  pointwise

theorem pay6_apply (acc : FVec Ideal S512x128 .f32) (w : Fin 512) (d : Fin 128) : k0_pay6 (F := Ideal) kb acc qt gt lt (ix2 w d)
    = acc (ix2 w d) + ∑ u : Fin 512, k0_pay4 (F := Ideal) kb qt lt (ix2 u w) * gt (ix2 u d) := by
  unfold k0_pay6
  generalize k0_pay4 (F := Ideal) kb qt lt = p
  pointwise

theorem pay7_apply (acc : FVec Ideal S512x128 .f32) (w : Fin 512) (d : Fin 128) : k0_pay7 (F := Ideal) kb vb acc qt gt lt dt (ix2 w d)
    = acc (ix2 w d) + ∑ u : Fin 512, k0_pay5 (F := Ideal) kb vb qt gt lt dt (ix2 u w) * qt (ix2 u d) := by
  unfold k0_pay7
  generalize k0_pay5 (F := Ideal) kb vb qt gt lt dt = p
  pointwise

theorem pay8_apply (b : Vec Ideal S512x128 .f32) (u : Fin 512) (d : Fin 128) : k0_pay8 (F := Ideal) kb vb qt gt lt dt b (ix2 u d)
    = b (ix2 u d) + (∑ w : Fin 512, k0_pay5 (F := Ideal) kb vb qt gt lt dt (ix2 u w) * kb (ix2 w d)) * (σ : EReal) := by
  unfold k0_pay8
  generalize k0_pay5 (F := Ideal) kb vb qt gt lt dt = p
  pointwise
  rw [named_scale]

theorem pay1_apply (acc : FVec Ideal S512x128 .f32) (p : FVec Ideal S512x512 .bf16) (w : Fin 512) (d : Fin 128) : k0_pay1 (F := Ideal) acc gt p (ix2 w d)
    = acc (ix2 w d) + ∑ u : Fin 512, p (ix2 u w) * gt (ix2 u d) := by
  pointwise [k0_pay1]

theorem pay2_apply (acc : FVec Ideal S512x128 .f32) (p : FVec Ideal S512x512 .bf16) (w : Fin 512) (d : Fin 128) : k0_pay2 (F := Ideal) acc qt p (ix2 w d)
    = acc (ix2 w d) + ∑ u : Fin 512, p (ix2 u w) * qt (ix2 u d) := by
  pointwise [k0_pay2]

theorem pay3_apply (b : Vec Ideal S512x128 .f32) (p : FVec Ideal S512x512 .bf16) (u : Fin 512) (d : Fin 128) : k0_pay3 (F := Ideal) kb p b (ix2 u d)
    = b (ix2 u d) + (∑ w : Fin 512, p (ix2 u w) * kb (ix2 w d)) * (σ : EReal) := by
  pointwise [k0_pay3]
  rw [named_scale]

theorem pay14_apply (x : FVec Ideal S512x128 .f32) (y : S512x128.Idx) : k0_pay14 (F := Ideal) x y = x y * (σ : EReal) := by
  pointwise [k0_pay14]
  rw [named_scale]

theorem pay15_apply (x : FVec Ideal S512x128 .f32) (y : S512x128.Idx) : k0_pay15 (F := Ideal) x y = x y := by
  pointwise [k0_pay15]

theorem pay16_apply (y : S4096x128.Idx) : k0_pay16 (F := Ideal) y = 0 := by
  pointwise [k0_pay16]

theorem pay17_apply (y : S512x128.Idx) : k0_pay17 (F := Ideal) y = 0 := by
  pointwise [k0_pay17]

theorem pay20_apply (u w : Fin 512) : k0_pay20 (F := Ideal) kb qt lt (ix2 u w) = k0_pay18 (F := Ideal) kb qt lt (ix2 u w) := by
  pointwise [k0_pay20]

end Cert.FlashIdeal.Hand

end
-- ==== Proof.FlashSum.lean ====
/- What a grid point of the flash backward kernel adds up: after the diagonal tile and any number of tiles below it, the three gradients as sums over the rows passed. -/
module

public import proofs.«01_k».proof.Proof.FlashTile

@[expose] public section

noncomputable section

namespace Cert.FlashIdeal.Hand

open Cert.FlashIdeal.Gen Cert.FlashIdeal
open Idealize.ShloMosaic Cert.Attention

/-- Row `u` of the 512 rows from `o`. -/
abbrev rowAt (o : ℕ) (ho : o + 512 ≤ 4096) (u : Fin 512) : Fin 4096 := ⟨o + u.val, by have := u.isLt; omega⟩

/-- A sum over 512 rows, as a sum over all rows. -/
theorem sum_rows (f : Fin 4096 → EReal) (o : ℕ) (ho : o + 512 ≤ 4096) :
    ∑ u : Fin 512, f (rowAt o ho u) = ∑ a : Fin 4096, if o ≤ a.val ∧ a.val < o + 512 then f a else 0 := by
  rw [← Finset.sum_filter]
  refine Finset.sum_bij (fun u _ => rowAt o ho u) (fun u _ => ?_) (fun u _ v _ e => ?_) (fun a ha => ?_) (fun u _ => rfl)
  · have := u.isLt
    simp only [Finset.mem_filter, Finset.mem_univ, true_and, rowAt]
    omega
  · have := congrArg Fin.val e
    simp only [rowAt] at this
    exact Fin.ext (by omega)
  · simp only [Finset.mem_filter, Finset.mem_univ, true_and] at ha
    exact ⟨⟨a.val - o, by omega⟩, Finset.mem_univ _, Fin.ext (by simp only [rowAt]; omega)⟩

/-- Two neighbouring ranges of rows. -/
theorem sum_range_append (f : Fin 4096 → EReal) (l o : ℕ) (hl : l ≤ o) :
    (∑ a : Fin 4096, if l ≤ a.val ∧ a.val < o then f a else 0) + (∑ a : Fin 4096, if o ≤ a.val ∧ a.val < o + 512 then f a else 0)
      = ∑ a : Fin 4096, if l ≤ a.val ∧ a.val < o + 512 then f a else 0 := by
  rw [← Finset.sum_add_distrib]
  refine Finset.sum_congr rfl fun a _ => ?_
  by_cases h1 : a.val < o
  · by_cases h2 : l ≤ a.val
    · rw [if_pos ⟨h2, h1⟩, if_neg (by omega), if_pos ⟨h2, by omega⟩, add_zero]
    · rw [if_neg (by omega), if_neg (by omega), if_neg (by omega), add_zero]
  · by_cases h2 : a.val < o + 512
    · rw [if_neg (by omega), if_pos ⟨by omega, h2⟩, if_pos ⟨by omega, h2⟩, zero_add]
    · rw [if_neg (by omega), if_neg (by omega), if_neg (by omega), add_zero]

section
variable {e : EltTy} (X : S4096x128.Idx → Elt Ideal e)

theorem ld_tile (off : Fin 2 → ℕ) (inb : ∀ a, off a + S512x128.size a ≤ S4096x128.size a) (o : ℕ) (ho : o + 512 ≤ 4096) (h : off = ![o, 0])
    (u : Fin 512) (d : Fin 128) : View.ld X (Rect.unit (s := S4096x128) off S512x128.size inb) (ix2 u d) = X (ix2 (rowAt o ho u) d) := by
  subst h
  refine View.ld_unit_apply_of X _ _ inb _ _ fun a => ?_
  fin_cases a
  · rfl
  · exact (Nat.zero_add _).symm

theorem ld_col (off : Fin 2 → ℕ) (inb : ∀ a, off a + S512x1.size a ≤ S4096x128.size a) (o : ℕ) (ho : o + 512 ≤ 4096) (h : off = ![o, 0])
    (u : Fin 512) : View.ld X (Rect.unit (s := S4096x128) off S512x1.size inb) (ix2 u 0) = X (ix2 (rowAt o ho u) 0) := by
  subst h
  refine View.ld_unit_apply_of X _ _ inb _ _ fun a => ?_
  fin_cases a
  · rfl
  · exact (Nat.zero_add _).symm

theorem emb_tile (off : Fin 2 → ℕ) (inb : ∀ a, off a + S512x128.size a ≤ S4096x128.size a) (o : ℕ) (ho : o + 512 ≤ 4096) (h : off = ![o, 0])
    (u : Fin 512) (d : Fin 128) : (Rect.unit (s := S4096x128) off S512x128.size inb).emb (ix2 u d) = ix2 (rowAt o ho u) d := by
  subst h
  funext a
  refine Fin.ext ((Rect.idx_unit_val _ _ inb _ a).trans ?_)
  fin_cases a
  · rfl
  · exact Nat.zero_add _

theorem over_in (off : Fin 2 → ℕ) (inb : ∀ a, off a + S512x128.size a ≤ S4096x128.size a) (o : ℕ) (ho : o + 512 ≤ 4096) (h : off = ![o, 0])
    (w : S512x128.Idx → Elt Ideal e) (u : Fin 512) (d : Fin 128) :
    over (Rect.unit (s := S4096x128) off S512x128.size inb) w X (ix2 (rowAt o ho u) d) = w (ix2 u d) := by
  rw [← emb_tile off inb o ho h u d]
  exact over_emb _ _ _ _

theorem over_out (off : Fin 2 → ℕ) (inb : ∀ a, off a + S512x128.size a ≤ S4096x128.size a) (o : ℕ) (ho : o + 512 ≤ 4096) (h : off = ![o, 0])
    (w : S512x128.Idx → Elt Ideal e) (a : Fin 4096) (d : Fin 128) (ha : ¬(o ≤ a.val ∧ a.val < o + 512)) :
    over (Rect.unit (s := S4096x128) off S512x128.size inb) w X (ix2 a d) = X (ix2 a d) := by
  refine over_miss _ _ _ _ fun z hz => ha ?_
  obtain ⟨u, d', rfl⟩ : ∃ (u : Fin 512) (d' : Fin 128), z = ix2 u d' := ⟨_, _, eq_ix2 z⟩
  rw [emb_tile off inb o ho h u d'] at hz
  have h0 : o + u.val = a.val := congrArg (fun y : S4096x128.Idx => (y 0).val) hz
  have := u.isLt
  omega

end

section
variable (j : ℕ) (x0 : Vec Ideal S4096x128 .bf16) (x1 : Vec Ideal S512x128 .bf16) (x2 : Vec Ideal S512x128 .bf16) (x3 : Vec Ideal S4096x128 .bf16) (x4 : Vec Ideal S4096x128 .f32) (x5 : Vec Ideal S4096x128 .f32)

/-- The probability of row `a` at the point's key `w`. -/
def pt (a : Fin 4096) (w : Fin 512) : EReal :=
  Ideal.exp2 ((if 512 * j + w.val ≤ a.val then ∑ d : Fin 128, x0 (ix2 a d) * x1 (ix2 w d) else ⊥) * c2 - x4 (ix2 a 0) * c1)

/-- The gradient of the score there. -/
def dt (a : Fin 4096) (w : Fin 512) : EReal :=
  pt j x0 x1 x4 a w * ((∑ d : Fin 128, x3 (ix2 a d) * x2 (ix2 w d)) - x5 (ix2 a 0))

/-- The state after the rows from the point's own to row `e`. -/
structure Upto (b : Vec Ideal S4096x128 .f32) (e : ℕ) (st : State Ideal) : Prop where
  dk : ∀ w d, st.1.1 (ix2 w d) = ∑ a : Fin 4096, if 512 * j ≤ a.val ∧ a.val < e then dt j x0 x1 x2 x3 x4 x5 a w * x0 (ix2 a d) else 0
  dv : ∀ w d, st.1.2 (ix2 w d) = ∑ a : Fin 4096, if 512 * j ≤ a.val ∧ a.val < e then pt j x0 x1 x4 a w * x3 (ix2 a d) else 0
  dq : ∀ a d, st.2 (ix2 a d) = if 512 * j ≤ a.val ∧ a.val < e then b (ix2 a d) + (∑ w : Fin 512, dt j x0 x1 x2 x3 x4 x5 a w * x1 (ix2 w d)) * (σ : EReal) else b (ix2 a d)

end

section
variable (i : grid0.Coords) (x0 : Vec Ideal S4096x128 .bf16) (x1 : Vec Ideal S512x128 .bf16) (x2 : Vec Ideal S512x128 .bf16) (x3 : Vec Ideal S4096x128 .bf16) (x4 : Vec Ideal S4096x128 .f32) (x5 : Vec Ideal S4096x128 .f32)

/-- The number of tiles below the diagonal. -/
theorem trips_eq : ∀ i : grid0.Coords, (k0_t1_loop i).trips = 7 - (i 1).val := by decide +kernel

theorem coord_lt (i : grid0.Coords) : (i 1).val < 8 := (i 1).isLt

theorem diag_p (ho : 512 * (i 1).val + 512 ≤ 4096) (u w : Fin 512) :
    k0_pay18 (F := Ideal) x1 (View.ld x0 (diagRect i)) (View.ld x4 (diagCol i)) (ix2 u w) = pt (i 1).val x0 x1 x4 (rowAt _ ho u) w := by
  rw [pay18_apply]
  unfold pt
  rw [ld_col x4 _ (k0_off2_inb i) _ ho (k0_off2_eq i)]
  simp only [ld_tile x0 _ (k0_off1_inb i) _ ho (k0_off1_eq i)]
  by_cases h : w ≤ u
  · rw [if_pos h, if_pos (by have : w.val ≤ u.val := h; show 512 * (i 1).val + w.val ≤ 512 * (i 1).val + u.val; omega)]
  · rw [if_neg h, if_neg (by have : ¬w.val ≤ u.val := h; show ¬(512 * (i 1).val + w.val ≤ 512 * (i 1).val + u.val); omega)]

theorem diag_ds (ho : 512 * (i 1).val + 512 ≤ 4096) (u w : Fin 512) :
    diagDs i x0 x1 x2 x3 x4 x5 (ix2 u w) = dt (i 1).val x0 x1 x2 x3 x4 x5 (rowAt _ ho u) w := by
  unfold diagDs dt
  rw [pay19_apply, diag_p i x0 x1 x4 ho, ld_col x5 _ (k0_off2_inb i) _ ho (k0_off2_eq i)]
  simp only [ld_tile x3 _ (k0_off1_inb i) _ ho (k0_off1_eq i)]

theorem trip_p (k : Fin (k0_t1_loop i).trips) (ho : 512 * (i 1).val + 512 * k.val + 512 + 512 ≤ 4096) (u w : Fin 512) :
    k0_pay4 (F := Ideal) x1 (View.ld x0 (tripRect i k)) (View.ld x4 (tripCol i k)) (ix2 u w) = pt (i 1).val x0 x1 x4 (rowAt _ ho u) w := by
  rw [pay4_apply]
  unfold pt
  rw [ld_col x4 _ (k0_off4_inb i k) _ ho (k0_off4_eq i k)]
  simp only [ld_tile x0 _ (k0_off3_inb i k) _ ho (k0_off3_eq i k)]
  rw [if_pos (by have := w.isLt; show 512 * (i 1).val + w.val ≤ 512 * (i 1).val + 512 * k.val + 512 + u.val; omega)]

theorem trip_ds (k : Fin (k0_t1_loop i).trips) (ho : 512 * (i 1).val + 512 * k.val + 512 + 512 ≤ 4096) (u w : Fin 512) :
    k0_pay5 (F := Ideal) x1 x2 (View.ld x0 (tripRect i k)) (View.ld x3 (tripRect i k)) (View.ld x4 (tripCol i k)) (View.ld x5 (tripCol i k)) (ix2 u w)
      = dt (i 1).val x0 x1 x2 x3 x4 x5 (rowAt _ ho u) w := by
  unfold dt
  rw [pay5_apply, trip_p i x0 x1 x4 k ho, ld_col x5 _ (k0_off4_inb i k) _ ho (k0_off4_eq i k)]
  simp only [ld_tile x3 _ (k0_off3_inb i k) _ ho (k0_off3_eq i k)]

/-- The gradient of q after one more tile of rows. -/
theorem over_step (b : Vec Ideal S4096x128 .f32) (off : Fin 2 → ℕ) (inb : ∀ a, off a + S512x128.size a ≤ S4096x128.size a) (o : ℕ) (ho : o + 512 ≤ 4096) (h : off = ![o, 0])
    (l : ℕ) (hl : l ≤ o) (g : Fin 4096 → Fin 128 → EReal) (X : Vec Ideal S4096x128 .f32) (w : S512x128.Idx → Elt Ideal .f32)
    (hX : ∀ a d, X (ix2 a d) = if l ≤ a.val ∧ a.val < o then b (ix2 a d) + g a d else b (ix2 a d))
    (hw : ∀ u d, w (ix2 u d) = X (ix2 (rowAt o ho u) d) + g (rowAt o ho u) d) (a : Fin 4096) (d : Fin 128) :
    over (Rect.unit (s := S4096x128) off S512x128.size inb) w X (ix2 a d) = if l ≤ a.val ∧ a.val < o + 512 then b (ix2 a d) + g a d else b (ix2 a d) := by
  by_cases ha : o ≤ a.val ∧ a.val < o + 512
  · have e : a = rowAt o ho ⟨a.val - o, by omega⟩ := Fin.ext (by simp only [rowAt]; omega)
    rw [if_pos ⟨by omega, ha.2⟩, e, over_in X off inb o ho h, hw, hX, if_neg (by simp only [rowAt]; omega)]
  · rw [over_out X off inb o ho h w a d ha, hX]
    by_cases h2 : a.val < o
    · by_cases h3 : l ≤ a.val
      · rw [if_pos ⟨h3, h2⟩, if_pos ⟨h3, by omega⟩]
      · rw [if_neg (by omega), if_neg (by omega)]
    · rw [if_neg (by omega), if_neg (by omega)]

theorem upto_diag (b : Vec Ideal S4096x128 .f32) :
    Upto (i 1).val x0 x1 x2 x3 x4 x5 b (512 * (i 1).val + 512) (diag i x0 x1 x2 x3 x4 x5 b) := by
  have ho : 512 * (i 1).val + 512 ≤ 4096 := by have := coord_lt i; omega
  refine ⟨fun w d => ?_, fun w d => ?_, fun a d => ?_⟩
  · show k0_pay2 (F := Ideal) _ _ _ _ = _
    rw [pay2_apply, pay17_apply, zero_add, ← sum_rows (fun a => dt (i 1).val x0 x1 x2 x3 x4 x5 a w * x0 (ix2 a d)) _ ho]
    refine Finset.sum_congr rfl fun u _ => ?_
    rw [diag_ds i x0 x1 x2 x3 x4 x5 ho, ld_tile x0 _ (k0_off1_inb i) _ ho (k0_off1_eq i)]
  · show k0_pay1 (F := Ideal) _ _ _ _ = _
    rw [pay1_apply, pay17_apply, zero_add, ← sum_rows (fun a => pt (i 1).val x0 x1 x4 a w * x3 (ix2 a d)) _ ho]
    refine Finset.sum_congr rfl fun u _ => ?_
    rw [pay20_apply, diag_p i x0 x1 x4 ho, ld_tile x3 _ (k0_off1_inb i) _ ho (k0_off1_eq i)]
  · refine over_step b _ (k0_off1_inb i) _ ho (k0_off1_eq i) _ le_rfl (fun a d => (∑ w : Fin 512, dt (i 1).val x0 x1 x2 x3 x4 x5 a w * x1 (ix2 w d)) * (σ : EReal)) b _ (fun a d => ?_) (fun u d => ?_) a d
    · rw [if_neg (by omega)]
    · rw [pay3_apply, ld_tile b _ (k0_off1_inb i) _ ho (k0_off1_eq i)]
      simp only [diag_ds i x0 x1 x2 x3 x4 x5 ho]

theorem upto_trip (b : Vec Ideal S4096x128 .f32) (k : Fin (k0_t1_loop i).trips) (st : State Ideal)
    (hs : Upto (i 1).val x0 x1 x2 x3 x4 x5 b (512 * (i 1).val + 512 * k.val + 512) st) :
    Upto (i 1).val x0 x1 x2 x3 x4 x5 b (512 * (i 1).val + 512 * k.val + 512 + 512) (trip i x0 x1 x2 x3 x4 x5 k st) := by
  have ho : 512 * (i 1).val + 512 * k.val + 512 + 512 ≤ 4096 := by
    have := coord_lt i; have := k.isLt; have := trips_eq i; omega
  refine ⟨fun w d => ?_, fun w d => ?_, fun a d => ?_⟩
  · show k0_pay7 (F := Ideal) _ _ _ _ _ _ _ _ = _
    rw [pay7_apply, hs.dk, ← sum_range_append _ (512 * (i 1).val) (512 * (i 1).val + 512 * k.val + 512) (by omega),
      ← sum_rows (fun a => dt (i 1).val x0 x1 x2 x3 x4 x5 a w * x0 (ix2 a d)) _ ho]
    congr 1
    refine Finset.sum_congr rfl fun u _ => ?_
    rw [trip_ds i x0 x1 x2 x3 x4 x5 k ho, ld_tile x0 _ (k0_off3_inb i k) _ ho (k0_off3_eq i k)]
  · show k0_pay6 (F := Ideal) _ _ _ _ _ _ = _
    rw [pay6_apply, hs.dv, ← sum_range_append _ (512 * (i 1).val) (512 * (i 1).val + 512 * k.val + 512) (by omega),
      ← sum_rows (fun a => pt (i 1).val x0 x1 x4 a w * x3 (ix2 a d)) _ ho]
    congr 1
    refine Finset.sum_congr rfl fun u _ => ?_
    rw [trip_p i x0 x1 x4 k ho, ld_tile x3 _ (k0_off3_inb i k) _ ho (k0_off3_eq i k)]
  · refine over_step b _ (k0_off3_inb i k) _ ho (k0_off3_eq i k) (512 * (i 1).val) (by omega) (fun a d => (∑ w : Fin 512, dt (i 1).val x0 x1 x2 x3 x4 x5 a w * x1 (ix2 w d)) * (σ : EReal)) st.2 _ (fun a d => hs.dq a d) (fun u d => ?_) a d
    rw [pay8_apply, ld_tile st.2 _ (k0_off3_inb i k) _ ho (k0_off3_eq i k)]
    simp only [trip_ds i x0 x1 x2 x3 x4 x5 k ho]

theorem upto_trips (b : Vec Ideal S4096x128 .f32) : ∀ n : ℕ, n ≤ (k0_t1_loop i).trips →
    Upto (i 1).val x0 x1 x2 x3 x4 x5 b (512 * (i 1).val + 512 * n + 512) (tripsTo i x0 x1 x2 x3 x4 x5 (diag i x0 x1 x2 x3 x4 x5 b) n)
  | 0, _ => upto_diag i x0 x1 x2 x3 x4 x5 b
  | n + 1, h => by
    have hn : n < (k0_t1_loop i).trips := h
    have e := upto_trip i x0 x1 x2 x3 x4 x5 b ⟨n, hn⟩ _ (upto_trips b n hn.le)
    rw [tripsTo, dif_pos hn]
    exact e

/-- A grid point's state at the end. -/
theorem upto_final (b : Vec Ideal S4096x128 .f32) : Upto (i 1).val x0 x1 x2 x3 x4 x5 b 4096 (final i x0 x1 x2 x3 x4 x5 b) := by
  have e := upto_trips i x0 x1 x2 x3 x4 x5 b _ le_rfl
  have : 512 * (i 1).val + 512 * (k0_t1_loop i).trips + 512 = 4096 := by rw [trips_eq]; have := coord_lt i; omega
  rw [this] at e
  exact e

end

end Cert.FlashIdeal.Hand

end
-- ==== Proof.FlashRefVal.lean ====
/- The reference's results, at an index. -/
module

public import proofs.«01_k».proof.Proof.Gen.FlashRefIdeal.Read
public import proofs.«01_k».proof.Proof.FlashMath

@[expose] public section

noncomputable section

namespace Cert.FlashRefIdeal.Hand

open Cert.FlashRefIdeal Cert.FlashRefIdeal.Gen Cert.FlashRefIdeal.Read Cert.Attention
open Idealize.ShloMosaic Idealize.ShloMosaic.TcCoe Idealize.SL.Sem

variable (x0 x1 x2 x3 : Arr)

theorem score (h : Fin 8) (a b : Fin 4096) : val_main_v16_0 (F := Ideal) x0 x1 (ix3 h a b) = sc x0 x1 h a b := by
  pointwise [val_main_v0, val_main_v1, val_main_v2, val_main_v3, val_main_v4, val_main_v5, val_main_v6, val_main_cst, val_main_v7, val_main_v8, val_main_v9, val_main_v10, val_main_v11, val_main_v12, val_main_v13, val_main_v14, val_main_v15, val_main_cst_0, val_main_call0_v0, val_main_v16_1, val_main_call0_v2, val_main_v16_0]
  rfl

theorem largest (h : Fin 8) (a : Fin 4096) : val_main_v17 (F := Ideal) x0 x1 (ix2 h a) = mx x0 x1 h a := by
  pointwise [val_main_v17, val_main_cst_1]
  simp only [score]
  rfl

theorem expo_of (s : FVec Ideal S8x4096x4096 .f32) (x : FVec Ideal S8x4096 .f32) (h : Fin 8) (a b : Fin 4096) :
    Host.exp (subf s (broadcastInDim S8x4096x4096 ![0, 1, 2] bcast_S8x4096x1_S8x4096x4096_0_1_2 (broadcastInDim S8x4096x1 ![0, 1] bcast_S8x4096_S8x4096x1_0_1 (maximumf (val_main_v23 (F := Ideal)) x)))) (ix3 h a b)
      = Ideal.exp (s (ix3 h a b) - max (Ideal.ofBits .f32 0xFF800000#32) (x (ix2 h a))) := by
  pointwise [val_main_v23, val_main_cst_3]

theorem expo (h : Fin 8) (a b : Fin 4096) : val_main_v37 (F := Ideal) x0 x1 (ix3 h a b) = ex x0 x1 h a b := by
  unfold val_main_v37 val_main_v36 val_main_v35 val_main_v34 val_main_v24
  rw [expo_of, score, largest, ex]
  have hm : max (Ideal.ofBits .f32 0xFF800000#32) (mx x0 x1 h a) = mx x0 x1 h a := by
    refine max_eq_right ?_
    rw [mx, Finset.le_fold_max]
    exact Or.inl le_rfl
  rw [hm]

theorem total_of (e : FVec Ideal S8x4096x4096 .f32) (h : Fin 8) (a : Fin 4096) :
    Host.reduceAdd e (val_main_cst_9 (F := Ideal)) reducesTo_S8x4096x4096_S8x4096_d2 h_S_ (ix2 h a) = ∑ b : Fin 4096, e (ix3 h a b) := by
  pointwise [val_main_cst_9]

theorem total (h : Fin 8) (a : Fin 4096) : val_main_v38 (F := Ideal) x0 x1 (ix2 h a) = sm x0 x1 h a := by
  unfold val_main_v38
  rw [total_of]
  simp only [expo, sm]

theorem prob_of (e : FVec Ideal S8x4096x4096 .f32) (l : FVec Ideal S8x4096 .f32) (h : Fin 8) (a b : Fin 4096) :
    Host.divf e (broadcastInDim S8x4096x4096 ![0, 1, 2] bcast_S8x4096x1_S8x4096x4096_0_1_2 (broadcastInDim S8x4096x1 ![0, 1] bcast_S8x4096_S8x4096x1_0_1 l)) (ix3 h a b)
      = Ideal.div (e (ix3 h a b)) (l (ix2 h a)) := by
  pointwise []

theorem prob (h : Fin 8) (a b : Fin 4096) : val_main_v41 (F := Ideal) x0 x1 (ix3 h a b) = Ideal.div (ex x0 x1 h a b) (sm x0 x1 h a) := by
  unfold val_main_v41 val_main_v40 val_main_v39
  rw [prob_of, expo, total]

theorem dprob (h : Fin 8) (a b : Fin 4096) : val_main_v50 (F := Ideal) x2 x3 (ix3 h a b) = rows x3 x2 h a b := by
  pointwise [val_main_v50, val_main_v49, val_main_v48, val_main_v47, val_main_v5, val_main_v4]
  rfl

theorem dscore (h : Fin 8) (a b : Fin 4096) : val_main_v67 (F := Ideal) x0 x1 x2 x3 (ix3 h a b) = dsc x0 x1 x2 x3 h a b := by
  have he := expo x0 x1
  have hl := total x0 x1
  have hd := dprob x2 x3
  unfold dsc val_main_v67 val_main_v65 val_main_v64 val_main_v63 val_main_v62 val_main_v61 val_main_v60 val_main_v59 val_main_v58 val_main_v57 val_main_v56 val_main_v55 val_main_v54 val_main_v53 val_main_v44 val_main_v43 val_main_v42 val_main_v39
  generalize val_main_v37 (F := Ideal) x0 x1 = e at *
  generalize val_main_v38 (F := Ideal) x0 x1 = l at *
  generalize val_main_v50 (F := Ideal) x2 x3 = dp at *
  pointwise [val_main_v66, val_main_v7, val_main_cst, val_main_v16_1, val_main_v15, val_main_v14, val_main_v13, val_main_v12, val_main_v11, val_main_v10, val_main_cst_10, val_main_cst_11, val_main_cst_12, val_main_call1_v0, val_main_call1_cst]
  simp only [he, hl, hd]

theorem dq (a : Fin 4096) (h : Fin 8) (d : Fin 128) : val_main_v72 (F := Ideal) x0 x1 x2 x3 (ix2 a (hcol h d)) = ∑ b : Fin 4096, dsc x0 x1 x2 x3 h a b * x1 (ix2 b (hcol h d)) := by
  have hh : (h.val * 128 + d.val) / 128 = h.val := by have := d.isLt; omega
  have hr : (h.val * 128 + d.val) % 128 = d.val := by have := d.isLt; omega
  have hd := dscore x0 x1 x2 x3
  unfold val_main_v72 val_main_v71 val_main_v70
  generalize val_main_v67 (F := Ideal) x0 x1 x2 x3 = ds at *
  pointwise [val_main_v1, val_main_v0, val_main_v3, val_main_v2]
  simp only [hh, hd]
  simp only [hr, Fin.eta]

theorem dk (b : Fin 4096) (h : Fin 8) (d : Fin 128) : val_main_v73 (F := Ideal) x0 x1 x2 x3 (ix2 b (hcol h d)) = ∑ a : Fin 4096, dsc x0 x1 x2 x3 h a b * x0 (ix2 a (hcol h d)) := by
  have hh : (h.val * 128 + d.val) / 128 = h.val := by have := d.isLt; omega
  have hr : (h.val * 128 + d.val) % 128 = d.val := by have := d.isLt; omega
  have hd := dscore x0 x1 x2 x3
  unfold val_main_v73 val_main_v69 val_main_v68
  generalize val_main_v67 (F := Ideal) x0 x1 x2 x3 = ds at *
  pointwise [val_main_v1, val_main_v0, val_main_v3, val_main_v2]
  simp only [hh, hd]
  simp only [hr, Fin.eta]

theorem dv (b : Fin 4096) (h : Fin 8) (d : Fin 128) : val_main_v75 (F := Ideal) x0 x1 x3 (ix2 b (hcol h d))
    = ∑ a : Fin 4096, x3 (ix2 a (hcol h d)) * Ideal.div (ex x0 x1 h a b) (sm x0 x1 h a) := by
  have hh : (h.val * 128 + d.val) / 128 = h.val := by have := d.isLt; omega
  have hr : (h.val * 128 + d.val) % 128 = d.val := by have := d.isLt; omega
  have hp := prob x0 x1
  unfold val_main_v75 val_main_v74 val_main_v52 val_main_v51
  generalize val_main_v41 (F := Ideal) x0 x1 = p at *
  pointwise [val_main_v49, val_main_v48, val_main_v47]
  simp only [hh, hp]
  simp only [hr, Fin.eta]

end Cert.FlashRefIdeal.Hand

end
-- ==== Proof.FlashBlk.lean ====
/- The blocks the flash backward kernel reads at a grid point, over the arguments. -/
module

public import proofs.«01_k».proof.Proof.FlashHost
public import proofs.«01_k».proof.Proof.FlashSum
public import proofs.«01_k».proof.Proof.FlashRefVal
public import Idealize.ShloMosaic.Lib.Pipeline.ValueKit

@[expose] public section

noncomputable section

namespace Cert.FlashIdeal.Hand

open Cert.FlashIdeal Cert.FlashIdeal.Gen Cert.Attention
open Idealize.ShloMosaic Idealize.ShloMosaic.TcCoe Idealize.SL.Sem
open Idealize.ShloMosaic.Pipeline (Dat)
open Cert.FlashRefIdeal.Read (val_main_v72 val_main_v73 val_main_v75)

variable (m : (ℓ : Loc nD τ sig) → Buf (Elt Ideal) ℓ) (ρ : Dev nD → PrngReg)

theorem e0 : ∀ t : Fin cfg0.N, win0_0.index t = ![0, t.val / 8] := (by decide +kernel : ∀ t : Fin grid0.N, _)
theorem e1 : ∀ t : Fin cfg0.N, win0_1.index t = ![t.val % 8, t.val / 8] := (by decide +kernel : ∀ t : Fin grid0.N, _)
theorem e2 : ∀ t : Fin cfg0.N, win0_2.index t = ![t.val % 8, t.val / 8] := (by decide +kernel : ∀ t : Fin grid0.N, _)
theorem e3 : ∀ t : Fin cfg0.N, win0_3.index t = ![0, t.val / 8] := (by decide +kernel : ∀ t : Fin grid0.N, _)
theorem e4 : ∀ t : Fin cfg0.N, win0_4.index t = ![0, t.val / 8] := (by decide +kernel : ∀ t : Fin grid0.N, _)
theorem e5 : ∀ t : Fin cfg0.N, win0_5.index t = ![0, t.val / 8] := (by decide +kernel : ∀ t : Fin grid0.N, _)
theorem e6 : ∀ t : Fin cfg0.N, win0_6.index t = ![0, t.val / 8] := (by decide +kernel : ∀ t : Fin grid0.N, _)
theorem e7 : ∀ t : Fin cfg0.N, win0_7.index t = ![t.val % 8, t.val / 8] := (by decide +kernel : ∀ t : Fin grid0.N, _)
theorem e8 : ∀ t : Fin cfg0.N, win0_8.index t = ![t.val % 8, t.val / 8] := (by decide +kernel : ∀ t : Fin grid0.N, _)
theorem e_coord : ∀ t : Fin cfg0.N, (grid0.coords t 1).val = t.val % 8 := (by decide +kernel : ∀ t : Fin grid0.N, _)
theorem flush6 : ∀ t : Fin cfg0.N, (cfg0.win 6).flush t = true → t.val % 8 = 7 := (by decide +kernel : ∀ t : Fin grid0.N, _)

theorem point_lt (t : Fin cfg0.N) : t.val < 64 := lt_of_lt_of_eq t.isLt (show cfg0.N = 64 from N_0)

/-- The head of a grid point, and its key `w`. -/
abbrev hd (t : Fin cfg0.N) : Fin 8 := ⟨t.val / 8, by have := point_lt t; omega⟩
abbrev key (t : Fin cfg0.N) (w : Fin 512) : Fin 4096 := rowAt (512 * (t.val % 8)) (by omega) w

theorem blk0 (c : Dev nD) (t : Fin cfg0.N) (a : Fin 4096) (d : Fin 128) : iblk m c 0 t (ix2 a d) = argQ m c (ix2 a (hcol (hd t) d)) := by
  blk_simp [iblk]
  rw [V_main_arg0]
  refine congrArg _ ?_
  blk_ext [e0]
theorem blk1 (c : Dev nD) (t : Fin cfg0.N) (w : Fin 512) (d : Fin 128) : iblk m c 1 t (ix2 w d) = argK m c (ix2 (key t w) (hcol (hd t) d)) := by
  blk_simp [iblk]
  rw [V_main_arg1]
  refine congrArg _ ?_
  blk_ext [e1]
theorem blk2 (c : Dev nD) (t : Fin cfg0.N) (w : Fin 512) (d : Fin 128) : iblk m c 2 t (ix2 w d) = argV m c (ix2 (key t w) (hcol (hd t) d)) := by
  blk_simp [iblk]
  rw [V_main_arg2]
  refine congrArg _ ?_
  blk_ext [e2]
theorem blk3 (c : Dev nD) (t : Fin cfg0.N) (a : Fin 4096) (d : Fin 128) : iblk m c 3 t (ix2 a d) = argG m c (ix2 a (hcol (hd t) d)) := by
  blk_simp [iblk]
  rw [V_main_arg3]
  refine congrArg _ ?_
  blk_ext [e3]
/-- Any array's block through the windows of the two rows of numbers. -/
theorem read4 (A : S4096x1024.Idx → EReal) (t : Fin cfg0.N) (a : Fin 4096) (d : Fin 128) : (win0_4.blk t).view.read (Elt Ideal) A (ix2 a d) = A (ix2 a (hcol (hd t) d)) := by
  blk_simp
  refine congrArg A ?_
  blk_ext [e4]
theorem read5 (A : S4096x1024.Idx → EReal) (t : Fin cfg0.N) (a : Fin 4096) (d : Fin 128) : (win0_5.blk t).view.read (Elt Ideal) A (ix2 a d) = A (ix2 a (hcol (hd t) d)) := by
  blk_simp
  refine congrArg A ?_
  blk_ext [e5]

theorem blk4 (c : Dev nD) (t : Fin cfg0.N) (a : Fin 4096) (d : Fin 128) :
    iblk m c 4 t (ix2 a d) = mx (argQ m c) (argK m c) (hd t) a + Ideal.log (sm (argQ m c) (argK m c) (hd t) a) :=
  (read4 (V m c main_v37) t a d).trans (lse_apply m c a (hd t) d)
theorem blk5 (c : Dev nD) (t : Fin cfg0.N) (a : Fin 4096) (d : Fin 128) :
    iblk m c 5 t (ix2 a d) = delta (argQ m c) (argK m c) (argV m c) (argG m c) (hd t) a :=
  (read5 (V m c main_v39) t a d).trans (delta_apply m c a (hd t) d)

end Cert.FlashIdeal.Hand

end
-- ==== Proof.FlashVal.lean ====
/- The flash backward kernel's three results at finite arguments are the reference's. -/
module

public import proofs.«01_k».proof.Proof.FlashBlk
public import proofs.«01_k».proof.Proof.FlashSum
public import proofs.«01_k».proof.Proof.FlashRefVal
public import Idealize.ShloMosaic.Lib.Pipeline.ValueKit

@[expose] public section

noncomputable section

namespace Cert.FlashIdeal.Hand

open Cert.FlashIdeal Cert.FlashIdeal.Gen Cert.Attention
open Idealize.ShloMosaic Idealize.ShloMosaic.TcCoe Idealize.SL.Sem
open Idealize.ShloMosaic.Pipeline (Dat)
open Cert.FlashRefIdeal.Read (val_main_v72 val_main_v73 val_main_v75)

variable (m : (ℓ : Loc nD τ sig) → Buf (Elt Ideal) ℓ) (ρ : Dev nD → PrngReg)

/-- The point's probabilities and gradients of the scores, over the arguments. -/
theorem pt_eq (c : Dev nD) (t : Fin cfg0.N) (a : Fin 4096) (w : Fin 512) :
    pt (t.val % 8) (iblk m c 0 t) (iblk m c 1 t) (iblk m c 4 t) a w = pk (argQ m c) (argK m c) (hd t) a (key t w) := by
  unfold pt pk rows
  rw [blk4]
  simp only [blk0, blk1]
  rfl

theorem dt_eq (c : Dev nD) (t : Fin cfg0.N) (a : Fin 4096) (w : Fin 512) :
    dt (t.val % 8) (iblk m c 0 t) (iblk m c 1 t) (iblk m c 2 t) (iblk m c 3 t) (iblk m c 4 t) (iblk m c 5 t) a w
      = dk0 (argQ m c) (argK m c) (argV m c) (argG m c) (hd t) a (key t w) := by
  unfold dt dk0
  rw [pt_eq, blk5]
  simp only [blk2, blk3]
  rfl

section
variable (c : Dev nD) (q k v g : RArr) (hq : argQ m c = up q) (hk : argK m c = up k) (hv : argV m c = up v) (hg : argG m c = up g)

theorem dsc_after (h : Fin 8) (a b : Fin 4096) (hb : ¬b ≤ a) : dsc (up q) (up k) (up v) (up g) h a b = 0 := by
  rw [← dk0_dsc, dk0_up, P_after q k h a b hb, zero_mul, EReal.coe_zero, zero_mul]

include hq hk hv hg

theorem upto_point (t : Fin cfg0.N) (b : Vec Ideal S4096x128 .f32) :
    Upto (t.val % 8) (iblk m c 0 t) (iblk m c 1 t) (iblk m c 2 t) (iblk m c 3 t) (iblk m c 4 t) (iblk m c 5 t) b 4096
      (final (grid0.coords t) (iblk m c 0 t) (iblk m c 1 t) (iblk m c 2 t) (iblk m c 3 t) (iblk m c 4 t) (iblk m c 5 t) b) := by
  have e := upto_final (grid0.coords t) (iblk m c 0 t) (iblk m c 1 t) (iblk m c 2 t) (iblk m c 3 t) (iblk m c 4 t) (iblk m c 5 t) b
  rw [e_coord] at e
  exact e

/-- What one key tile adds to the gradient of q. -/
theorem point_dq (t : Fin cfg0.N) (b : Vec Ideal S4096x128 .f32) (a : Fin 4096) (d : Fin 128) :
    (final (grid0.coords t) (iblk m c 0 t) (iblk m c 1 t) (iblk m c 2 t) (iblk m c 3 t) (iblk m c 4 t) (iblk m c 5 t) b).2 (ix2 a d)
      = b (ix2 a d) + ∑ n : Fin 4096, if 512 * (t.val % 8) ≤ n.val ∧ n.val < 512 * (t.val % 8) + 512 then dsc (up q) (up k) (up v) (up g) (hd t) a n * up k (ix2 n (hcol (hd t) d)) else 0 := by
  rw [(upto_point m c q k v g hq hk hv hg t b).dq, ← sum_rows (fun n => dsc (up q) (up k) (up v) (up g) (hd t) a n * up k (ix2 n (hcol (hd t) d))) (512 * (t.val % 8)) (by omega)]
  by_cases h : 512 * (t.val % 8) ≤ a.val
  · rw [if_pos ⟨h, a.isLt⟩, sum_mul_coe _ _ _ σ_nonneg]
    congr 1
    refine Finset.sum_congr rfl fun w _ => ?_
    rw [dt_eq, blk1, hq, hk, hv, hg, mul_right_comm, dk0_dsc]
  · rw [if_neg (fun hh => h hh.1)]
    have : ∑ u : Fin 512, dsc (up q) (up k) (up v) (up g) (hd t) a (key t u) * up k (ix2 (key t u) (hcol (hd t) d)) = 0 :=
      Finset.sum_eq_zero fun u _ => by
        rw [dsc_after q k v g (hd t) a (key t u) (fun hh => h (by have : 512 * (t.val % 8) + u.val ≤ a.val := hh; omega)), zero_mul]
    rw [this, add_zero]

theorem state_dq : ∀ (n : ℕ) (hn : n < cfg0.N) (a : Fin 4096) (d : Fin 128), (stateAt m c n hn).2 (ix2 a d)
    = ∑ b : Fin 4096, if 0 ≤ b.val ∧ b.val < 512 * (n % 8) + 512 then dsc (up q) (up k) (up v) (up g) (hd ⟨n, hn⟩) a b * up k (ix2 b (hcol (hd ⟨n, hn⟩) d)) else 0 := by
  intro n
  induction n with
  | zero =>
    intro hn a d
    rw [stateAt_first m c ⟨0, hn⟩ rfl, point_dq m c q k v g hq hk hv hg, pay16_apply, zero_add]
    rfl
  | succ n ih =>
    intro hn a d
    by_cases h0 : (n + 1) % 8 = 0
    · rw [stateAt_first m c ⟨n + 1, hn⟩ h0, point_dq m c q k v g hq hk hv hg, pay16_apply, zero_add]
      show (∑ b : Fin 4096, if 512 * ((n + 1) % 8) ≤ b.val ∧ b.val < 512 * ((n + 1) % 8) + 512 then _ else 0) = _
      rw [h0]
    · rw [stateAt_later m c ⟨n + 1, hn⟩ h0, point_dq m c q k v g hq hk hv hg]
      have hh : hd ⟨n + 1, hn⟩ = hd ⟨n, Nat.lt_of_succ_lt hn⟩ := Fin.ext (by show (n + 1) / 8 = n / 8; omega)
      have e := ih (Nat.lt_of_succ_lt hn) a d
      rw [← hh] at e
      have hr : 512 * (n % 8) + 512 = 512 * ((n + 1) % 8) := by omega
      rw [hr] at e
      rw [← sum_range_append _ 0 (512 * ((n + 1) % 8)) (Nat.zero_le _)]
      exact congrArg (· + _) e

theorem point6 (t : Fin cfg0.N) (h7 : t.val % 8 = 7) (a : Fin 4096) (d : Fin 128) : ((stateAt m c t.val t.isLt).2 (ix2 a d) : EReal)
    = val_main_v72 (F := Ideal) (argQ m c) (argK m c) (argV m c) (argG m c) (ix2 a (hcol (hd t) d)) := by
  rw [Cert.FlashRefIdeal.Hand.dq, state_dq m c q k v g hq hk hv hg, hq, hk, hv, hg]
  refine Finset.sum_congr rfl fun b _ => ?_
  rw [if_pos ⟨Nat.zero_le _, by have := b.isLt; omega⟩]

theorem final6 : (dats m 0 c).arrAt 6 cfg0.N = val_main_v72 (F := Ideal) (argQ m c) (argK m c) (argV m c) (argG m c) := by
  refine (dats m 0 c).arrAt_eq_of_covers 6 _ (by decide +kernel) fun t hf y => ?_
  blk_simp
  rw [after0_6]
  obtain ⟨a, d, rfl⟩ : ∃ (a : Fin 4096) (d : Fin 128), y = ix2 a d := ⟨_, _, eq_ix2 y⟩
  rw [show (win0_6.blk t).view.emb (ix2 a d) = ix2 a (hcol (hd t) d) by blk_ext [e6]]
  exact point6 m c q k v g hq hk hv hg t (flush6 t hf) a d

/-- A point's state, whatever came before, by its own sums. -/
theorem state_upto (t : Fin cfg0.N) : ∃ b, Upto (t.val % 8) (iblk m c 0 t) (iblk m c 1 t) (iblk m c 2 t) (iblk m c 3 t) (iblk m c 4 t) (iblk m c 5 t) b 4096 (stateAt m c t.val t.isLt) := by
  by_cases h0 : t.val % 8 = 0
  · exact ⟨_, by rw [stateAt_first m c t h0]; exact upto_point m c q k v g hq hk hv hg t _⟩
  · exact ⟨_, by rw [stateAt_later m c t h0]; exact upto_point m c q k v g hq hk hv hg t _⟩

theorem point7 (t : Fin cfg0.N) (w : Fin 512) (d : Fin 128) : (k0_pay14 (stateAt m c t.val t.isLt).1.1 (ix2 w d) : EReal)
    = val_main_v73 (F := Ideal) (argQ m c) (argK m c) (argV m c) (argG m c) (ix2 (key t w) (hcol (hd t) d)) := by
  obtain ⟨b, hb⟩ := state_upto m c q k v g hq hk hv hg t
  rw [Cert.FlashRefIdeal.Hand.dk, pay14_apply, hb.dk, sum_mul_coe _ _ _ σ_nonneg]
  refine Finset.sum_congr rfl fun a _ => ?_
  by_cases h : 512 * (t.val % 8) ≤ a.val
  · rw [if_pos ⟨h, a.isLt⟩, dt_eq, blk0, hq, hk, hv, hg, mul_right_comm, dk0_dsc]
  · rw [if_neg (fun hh => h hh.1), hq, hk, hv, hg, dsc_after q k v g (hd t) a (key t w) (fun hh => h (by have : 512 * (t.val % 8) + w.val ≤ a.val := hh; omega)), zero_mul, zero_mul]

theorem final7 : (dats m 0 c).arrAt 7 cfg0.N = val_main_v73 (F := Ideal) (argQ m c) (argK m c) (argV m c) (argG m c) := by
  refine (dats m 0 c).arrAt_eq_of_covers 7 _ (by decide +kernel) fun t hf y => ?_
  blk_simp
  rw [after0_7]
  obtain ⟨w, d, rfl⟩ : ∃ (w : Fin 512) (d : Fin 128), y = ix2 w d := ⟨_, _, eq_ix2 y⟩
  rw [show (win0_7.blk t).view.emb (ix2 w d) = ix2 (key t w) (hcol (hd t) d) by blk_ext [e7]]
  exact point7 m c q k v g hq hk hv hg t w d

theorem point8 (t : Fin cfg0.N) (w : Fin 512) (d : Fin 128) : (k0_pay15 (stateAt m c t.val t.isLt).1.2 (ix2 w d) : EReal)
    = val_main_v75 (F := Ideal) (argQ m c) (argK m c) (argG m c) (ix2 (key t w) (hcol (hd t) d)) := by
  obtain ⟨b, hb⟩ := state_upto m c q k v g hq hk hv hg t
  rw [Cert.FlashRefIdeal.Hand.dv, pay15_apply, hb.dv]
  refine Finset.sum_congr rfl fun a _ => ?_
  by_cases h : 512 * (t.val % 8) ≤ a.val
  · rw [if_pos ⟨h, a.isLt⟩, pt_eq, blk3, hq, hk, hg, pk_prob, mul_comm]
  · rw [if_neg (fun hh => h hh.1), hq, hk, hg, prob_up, P_after q k (hd t) a (key t w) (fun hh => h (by have : 512 * (t.val % 8) + w.val ≤ a.val := hh; omega)), EReal.coe_zero, mul_zero]

theorem final8 : (dats m 0 c).arrAt 8 cfg0.N = val_main_v75 (F := Ideal) (argQ m c) (argK m c) (argG m c) := by
  refine (dats m 0 c).arrAt_eq_of_covers 8 _ (by decide +kernel) fun t hf y => ?_
  blk_simp
  rw [after0_8]
  obtain ⟨w, d, rfl⟩ : ∃ (w : Fin 512) (d : Fin 128), y = ix2 w d := ⟨_, _, eq_ix2 y⟩
  rw [show (win0_8.blk t).view.emb (ix2 w d) = ix2 (key t w) (hcol (hd t) d) by blk_ext [e8]]
  exact point8 m c q k v g hq hk hv hg t w d

end

end Cert.FlashIdeal.Hand

end
-- ==== Proof.FlashClaim.lean ====
/- The flash backward kernel and its reference return the same three gradients from finite arguments. -/
module

public import proofs.«01_k».proof.Defs
public import proofs.«01_k».proof.Proof.FlashVal
public import proofs.«01_k».proof.Proof.Gen.FlashRefIdeal.Read
public import proofs.«01_k».proof.Proof.Gen.Pre_flash_finite
public import Idealize.ShloMosaic.Lib.ReduceAll

@[expose] public section

noncomputable section

namespace Cert.FlashIdeal.Hand

open Cert.FlashIdeal Cert.FlashIdeal.Gen Cert.Attention
open Idealize.ShloMosaic Idealize.ShloMosaic.TcCoe Idealize.SL.Sem
open Cert.FlashRefIdeal.Read (val_main_v72 val_main_v73 val_main_v75)

/-- A number whose absolute value is less than infinity is real. -/
theorem real_of_abs (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

theorem infinity : Ideal.ofBits FTy.f32 0x7F800000#32 = ⊤ := by
  simp [Ideal.ofBits, Ideal.ieee]

theorem real_of_bit (x : EReal) (e : BitVec.ofBool (decide (FloatOps.absf (F := Ideal) (φ := .f32) x < Ideal.ofBits FTy.f32 0x7F800000#32)) = 1#1) :
    ∃ r : ℝ, x = (r : EReal) := by
  rw [infinity] at e
  refine real_of_abs x ?_
  by_contra hn
  have hd : decide (FloatOps.absf (F := Ideal) (φ := .f32) x < ⊤) = false := decide_eq_false hn
  rw [hd] at e
  exact absurd e (by decide)

/-- An array of real numbers is one raised to the extended reals. -/
theorem up_of_real (x : Arr) (h : ∀ i, ∃ r : ℝ, x i = (r : EReal)) : ∃ y : RArr, x = up y :=
  ⟨fun i => (h i).choose, funext fun i => (h i).choose_spec⟩

/-- The precondition makes every entry of the four arrays real. -/
theorem real_of_pre (x0 x1 x2 x3 : Arr) (h : Cert.Pre_flash_finite.fn (F := Ideal) x0 x1 x2 x3 = fun _ => 1#1) (i : S4096x1024.Idx) :
    ((∃ r : ℝ, x0 i = (r : EReal)) ∧ (∃ r : ℝ, x1 i = (r : EReal))) ∧ (∃ r : ℝ, x2 i = (r : EReal)) ∧ (∃ r : ℝ, x3 i = (r : EReal)) := by
  have h0 := congrFun h (fun a => a.elim0)
  unfold Cert.Pre_flash_finite.fn Cert.Pre_flash_finite.fn_part1 at h0
  have : Subsingleton Cert.Pre_flash_finite.S_.Idx := ⟨fun a b => funext fun k => k.elim0⟩
  have e := Host.reduce_andi_all _ _ _ _ _ h0 i
  clear h0 h
  pointwise at e
  obtain ⟨e, e3⟩ := IntOp.andi_eq_one.1 e
  obtain ⟨e, e2⟩ := IntOp.andi_eq_one.1 e
  obtain ⟨e0, e1⟩ := IntOp.andi_eq_one.1 e
  exact ⟨⟨real_of_bit _ e0, real_of_bit _ e1⟩, real_of_bit _ e2, real_of_bit _ e3⟩

variable (m : (ℓ : Loc nD τ sig) → Buf (Elt Ideal) ℓ) (ρ : Dev nD → PrngReg)

/-- The run with the three results named. -/
theorem run_blocks : θ_run defs (onTc (τ := τ) (main (F := Ideal))) ⟨m, fun _ => 0, ρ⟩ fun r => ∀ c : Dev nD,
      r.2.mem ((c : Thread nD τ).loc main_v40_0) = (dats m 0 c).arrAt 6 cfg0.N
      ∧ r.2.mem ((c : Thread nD τ).loc main_v40_1) = (dats m 0 c).arrAt 7 cfg0.N
      ∧ r.2.mem ((c : Thread nD τ).loc main_v40_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem finite_args (hpre : Cert.Pre_FlashIdeal_flash_finite m) (c : Dev nD) :
    ∃ q k v g : RArr, argQ m c = up q ∧ argK m c = up k ∧ argV m c = up v ∧ argG m c = up g := by
  have h := real_of_pre (argQ m c) (argK m c) (argV m c) (argG m c) (hpre c)
  obtain ⟨q, hq⟩ := up_of_real _ fun i => (h i).1.1
  obtain ⟨k, hk⟩ := up_of_real _ fun i => (h i).1.2
  obtain ⟨v, hv⟩ := up_of_real _ fun i => (h i).2.1
  obtain ⟨g, hg⟩ := up_of_real _ fun i => (h i).2.2
  exact ⟨q, k, v, g, hq, hk, hv, hg⟩

theorem algebraic_flash : Cert.algebraic_FlashIdeal_FlashRefIdeal_pre_flash_finite := by
  intro m g m' g' hpre hagree
  refine ⟨fun c => val_main_v72 (F := Ideal) (argQ m c) (argK m c) (argV m c) (argG m c), fun c => val_main_v73 (F := Ideal) (argQ m c) (argK m c) (argV m c) (argG m c),
    fun c => val_main_v75 (F := Ideal) (argQ m c) (argK m c) (argG m c), (θ_run _ _ _).mono (fun r h c => ?_) (run_blocks m g),
    (θ_run Cert.FlashRefIdeal.defs _ _).mono (fun r h c => ?_) (Cert.FlashRefIdeal.Value.run (F := Ideal) m' g')⟩
  · obtain ⟨h0, h1, h2, h3⟩ := h c
    obtain ⟨q, k, v, d, hq, hk, hv, hd⟩ := finite_args m hpre c
    exact ⟨h0.trans (final6 m c q k v d hq hk hv hd), h1.trans (final7 m c q k v d hq hk hv hd), h2.trans (final8 m c q k v d hq hk hv hd), h3⟩
  · obtain ⟨h0, h1, h2, h3⟩ := h c
    obtain ⟨a0, a1, a2, a3⟩ := hagree c
    refine ⟨?_, ?_, ?_, h3⟩
    · rw [h0, Cert.FlashRefIdeal.Read.val_main_v72_eq, a0, a1, a2, a3]
    · rw [h1, Cert.FlashRefIdeal.Read.val_main_v73_eq, a0, a1, a2, a3]
    · rw [h2, Cert.FlashRefIdeal.Read.val_main_v75_eq, a0, a1, a3]

end Cert.FlashIdeal.Hand

end
-- ==== Proof.MergeVal.lean ====
/- The gate-merge backward kernel's results, at an index. -/
module

public import proofs.«01_k».proof.Defs
public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

noncomputable section

namespace Cert.MergeIdeal.Hand

open Cert.MergeIdeal Cert.MergeIdeal.Gen Cert.MergeIdeal.Value
open Cert.MergeRefIdeal.Read (val_main_v20 val_main_v21 val_main_v23 val_main_v38 val_main_v0 val_main_v1 val_main_v2 val_main_v3 val_main_v4 val_main_v5 val_main_v6 val_main_v7 val_main_v8 val_main_v9 val_main_v10 val_main_v11 val_main_v12 val_main_v13 val_main_v14 val_main_v16 val_main_v19 val_main_v22 val_main_v24 val_main_v25 val_main_v26 val_main_v27 val_main_v28 val_main_v29 val_main_v30 val_main_v31 val_main_v32 val_main_v33 val_main_v34 val_main_v35 val_main_v36 val_main_v37 val_main_v38 val_main_v39 val_main_v40 val_main_v41 val_main_v42 val_main_cst val_main_cst_0 val_main_cst_1 val_main_cst_2 val_main_cst_3 val_main_cst_4 val_main_cst_5)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 2] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)

/-- Row `r` of the block of point `t`, in the array. -/
abbrev row (t : Fin cfg0.N) (r : Fin 256) : Fin 4096 := ⟨256 * t.val + r.val, by have := lt_of_lt_of_eq t.isLt (show cfg0.N = 16 from N_0); have := r.isLt; omega⟩
/-- Column `k` of gate `b`, in the projections' array. -/
abbrev col (b : Fin 3) (k : Fin 1024) : Fin 5376 := ⟨1024 * b.val + k.val, by have := b.isLt; have := k.isLt; omega⟩

theorem gate0_apply (c : Dev nD) (t : Fin cfg0.N) (j : S256x1024.Idx) : X0_0 m c t j = m ((c : Thread nD τ).loc main_arg0) (ix2 (row t (j 0)) (col 0 (j 1))) := by
  unfold X0_0 Pipeline.Window.fill
  rw [dif_pos (moved0_0 t j)]
  blk_simp [iblk]
  rw [V_main_arg0]
  refine congrArg _ ?_
  blk_ext [e0]

theorem gate1_apply (c : Dev nD) (t : Fin cfg0.N) (j : S256x1024.Idx) : X0_1 m c t j = m ((c : Thread nD τ).loc main_arg0) (ix2 (row t (j 0)) (col 1 (j 1))) := by
  unfold X0_1 Pipeline.Window.fill
  rw [dif_pos (moved0_1 t j)]
  blk_simp [iblk]
  rw [V_main_arg0]
  refine congrArg _ ?_
  blk_ext [e1]

theorem gate2_apply (c : Dev nD) (t : Fin cfg0.N) (j : S256x1024.Idx) : X0_2 m c t j = m ((c : Thread nD τ).loc main_arg0) (ix2 (row t (j 0)) (col 2 (j 1))) := by
  unfold X0_2 Pipeline.Window.fill
  rw [dif_pos (moved0_2 t j)]
  blk_simp [iblk]
  rw [V_main_arg0]
  refine congrArg _ ?_
  blk_ext [e2]

/-- The reference's results over this launch's arguments. -/
abbrev dy0 (c : Dev nD) : S4096x1024.Idx → EReal := val_main_v39 (F := Ideal) (m ((c : Thread nD τ).loc main_arg0)) (m ((c : Thread nD τ).loc main_arg4)) (m ((c : Thread nD τ).loc main_arg5))
abbrev dy1 (c : Dev nD) : S4096x1024.Idx → EReal := val_main_v40 (F := Ideal) (m ((c : Thread nD τ).loc main_arg0)) (m ((c : Thread nD τ).loc main_arg4)) (m ((c : Thread nD τ).loc main_arg5))
abbrev dy2 (c : Dev nD) : S4096x1024.Idx → EReal := val_main_v41 (F := Ideal) (m ((c : Thread nD τ).loc main_arg0)) (m ((c : Thread nD τ).loc main_arg4)) (m ((c : Thread nD τ).loc main_arg5))

theorem blk3_apply (c : Dev nD) (t : Fin cfg0.N) (j : S256x1024.Idx) : iblk m c 3 t j = m ((c : Thread nD τ).loc main_arg1) (ix2 (row t (j 0)) (j 1)) := by
  blk_simp [iblk]
  rw [V_main_arg1]
  refine congrArg _ ?_
  blk_ext [e3]
theorem blk4_apply (c : Dev nD) (t : Fin cfg0.N) (j : S256x1024.Idx) : iblk m c 4 t j = m ((c : Thread nD τ).loc main_arg2) (ix2 (row t (j 0)) (j 1)) := by
  blk_simp [iblk]
  rw [V_main_arg2]
  refine congrArg _ ?_
  blk_ext [e4]
theorem blk5_apply (c : Dev nD) (t : Fin cfg0.N) (j : S256x1024.Idx) : iblk m c 5 t j = m ((c : Thread nD τ).loc main_arg3) (ix2 (row t (j 0)) (j 1)) := by
  blk_simp [iblk]
  rw [V_main_arg3]
  refine congrArg _ ?_
  blk_ext [e5]
theorem blk6_apply (c : Dev nD) (t : Fin cfg0.N) (j : S256x1024.Idx) : iblk m c 6 t j = m ((c : Thread nD τ).loc main_arg4) (ix2 (row t (j 0)) (j 1)) := by
  blk_simp [iblk]
  rw [V_main_arg4]
  refine congrArg _ ?_
  blk_ext [e6]
theorem blk7_apply (c : Dev nD) (t : Fin cfg0.N) (j : S1024x1024.Idx) : iblk m c 7 t j = m ((c : Thread nD τ).loc main_arg5) j := by
  blk_simp [iblk]
  rw [V_main_arg5]
  refine congrArg _ ?_
  blk_ext [e7]

theorem final8 (c : Dev nD) : (dats m 0 c).arrAt 8 cfg0.N = dy0 m c := by
  refine (dats m 0 c).arrAt_eq_of_covers 8 _ (by decide +kernel) fun t hf y => ?_
  blk_simp
  rw [after0_8]
  unfold outsAt0
  dsimp only
  frame_out
  rw [show (win0_8.blk t).view.emb y = ix2 (row t (y 0)) (y 1) by blk_ext [e8]]
  pointwise [k0_pay7, k0_pay5, k0_pay6, val_main_v39, val_main_v33, val_main_v14, val_main_v25, val_main_v24, val_main_v22, val_main_v10, val_main_v9, val_main_v8, val_main_v7, val_main_v6, val_main_v5, val_main_v4, val_main_v0, val_main_cst, val_main_cst_0]
  simp only [gate0_apply, blk6_apply, blk7_apply]
  have hk : col 0 (y 1) = ⟨(y 1).val, by have : (y 1).val < 1024 := (y 1).isLt; omega⟩ := Fin.ext (by show 1024 * 0 + (y 1).val = (y 1).val; omega)
  rw [mul_comm, zero_sub, hk]
  rfl

theorem final9 (c : Dev nD) : (dats m 0 c).arrAt 9 cfg0.N = dy1 m c := by
  refine (dats m 0 c).arrAt_eq_of_covers 9 _ (by decide +kernel) fun t hf y => ?_
  blk_simp
  rw [after0_9]
  unfold outsAt0
  dsimp only
  frame_out
  rw [show (win0_9.blk t).view.emb y = ix2 (row t (y 0)) (y 1) by blk_ext [e9]]
  pointwise [k0_pay10, k0_pay5, k0_pay9, val_main_v40, val_main_v29, val_main_v16, val_main_v25, val_main_v24, val_main_v22, val_main_v10, val_main_v9, val_main_v8, val_main_v7, val_main_v6, val_main_v5, val_main_v4, val_main_v0, val_main_cst, val_main_cst_0]
  simp only [gate1_apply, blk6_apply, blk7_apply]
  have hk : col 1 (y 1) = ⟨1024 + (y 1).val, by have : (y 1).val < 1024 := (y 1).isLt; omega⟩ := Fin.ext (by show 1024 * 1 + (y 1).val = 1024 + (y 1).val; omega)
  rw [mul_comm, zero_sub, hk]
  rfl

theorem final10 (c : Dev nD) : (dats m 0 c).arrAt 10 cfg0.N = dy2 m c := by
  refine (dats m 0 c).arrAt_eq_of_covers 10 _ (by decide +kernel) fun t hf y => ?_
  blk_simp
  rw [after0_10]
  unfold outsAt0
  dsimp only
  frame_out
  rw [show (win0_10.blk t).view.emb y = ix2 (row t (y 0)) (y 1) by blk_ext [e10]]
  pointwise [k0_pay3, k0_pay5, k0_pay2, val_main_v41, val_main_v26, val_main_v19, val_main_v25, val_main_v24, val_main_v22, val_main_v10, val_main_v9, val_main_v8, val_main_v7, val_main_v6, val_main_v5, val_main_v4, val_main_v0, val_main_cst, val_main_cst_0]
  simp only [gate2_apply, blk6_apply, blk7_apply]
  have hk : col 2 (y 1) = ⟨2048 + (y 1).val, by have : (y 1).val < 1024 := (y 1).isLt; omega⟩ := Fin.ext (by show 1024 * 2 + (y 1).val = 2048 + (y 1).val; omega)
  rw [mul_comm, zero_sub, hk]
  rfl

/-- The gates' gradient, where the launch writes it. -/
abbrev dz (c : Dev nD) : S4096x5376.Idx → EReal := val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem xsize11 : ∀ t : Fin cfg0.N, ∀ a, (cfg0.win 11).xsize (cfg0.grid.coords t) a = (cfg0.win 11).size a := by decide +kernel

/-- What point `t` sends to the gates' gradient, at column `k` of gate `b`. -/
theorem sent (c : Dev nD) (t : Fin cfg0.N) (b : Fin 3) (r : Fin 256) (k : Fin 1024) :
    (dats m 0 c).arrAt 11 cfg0.N (ix2 (row t r) (col b k)) = View.canon (Val := Elt Ideal)
        ([⟨Rect.unit ![0, 2048] ![256, 1024] inb_S256x3072_S256x1024_0_2048,
            k0_pay4 (k0_pay5 (iblk m c 6 t) (iblk m c 7 t)) (X0_2 m c t) (iblk m c 5 t)⟩,
          ⟨Rect.unit ![0, 1024] ![256, 1024] inb_S256x3072_S256x1024_0_1024,
            k0_pay1 (k0_pay5 (iblk m c 6 t) (iblk m c 7 t)) (k0_pay9 (X0_1 m c t)) (iblk m c 4 t)⟩,
          ⟨Rect.unit ![0, 0] ![256, 1024] inb_S256x3072_S256x1024_0_0,
            k0_pay8 (iblk m c 6 t) (iblk m c 7 t) (X0_0 m c t) (iblk m c 3 t)⟩] : List (View.Piece (Elt Ideal) S256x3072 .bf16))
      (ix2 r ⟨1024 * b.val + k.val, by have := b.isLt; have := k.isLt; omega⟩) := by
  have hz : 1024 * b.val + k.val < 3072 := by have := b.isLt; have := k.isLt; omega
  have hy : ∀ a, (ix2 r (⟨1024 * b.val + k.val, hz⟩ : Fin 3072) a).val < (cfg0.win 11).xsize (cfg0.grid.coords t) a :=
    fun a => by rw [xsize11]; exact (ix2 r (⟨1024 * b.val + k.val, hz⟩ : Fin 3072) a).isLt
  have h := (dats m 0 c).arrAt_emb_eq_flushed 11 disjoint11 t (flush0_11 t) (fun a => ⟨(ix2 r (⟨1024 * b.val + k.val, hz⟩ : Fin 3072) a).val, hy a⟩)
  rw [flushed11_A] at h
  blk_simp at h
  frame_out at h
  refine Eq.trans (congrArg _ ?_) (h.trans ?_)
  · blk_ext [e11]
  · rfl

theorem off_tile {o : Nat} {inb} (r : Fin 256) (k : Fin 3072) (h : k.val < o ∨ o + 1024 ≤ k.val) :
    ix2 r k ∉ (Rect.unit (s := S256x3072) ![0, o] ![256, 1024] inb).set := by
  intro hm
  have h1 : o ≤ k.val ∧ k.val < o + 1024 := Rect.mem_set_unit.mp hm 1
  omega

theorem on_tile {o : Nat} {inb} (r : Fin 256) (k : Fin 1024) (h : o + k.val < 3072) :
    ix2 r ⟨o + k.val, h⟩ = (Rect.unit (s := S256x3072) ![0, o] ![256, 1024] inb).emb (ix2 r k) := by
  funext a
  refine Fin.ext ?_
  match a with
  | 0 => show r.val = 0 + 1 * r.val; omega
  | 1 => show o + k.val = o + 1 * k.val; omega

theorem off_piece {o : Nat} {inb} (w : S256x1024.Idx → Elt Ideal .bf16) (L : List (View.Piece (Elt Ideal) S256x3072 .bf16)) (r : Fin 256) (q : Nat) (hq : q < 3072) (h : q < o) :
    View.canon (Val := Elt Ideal) ((⟨Rect.unit (s := S256x3072) ![0, o] ![256, 1024] inb, w⟩ : View.Piece (Elt Ideal) S256x3072 .bf16) :: L) (ix2 r ⟨q, hq⟩) = View.canon L (ix2 r ⟨q, hq⟩) :=
  View.canon_cons_of_not_mem _ _ (off_tile (inb := inb) r ⟨q, hq⟩ (Or.inl h))

theorem on_piece {o : Nat} {inb} (w : S256x1024.Idx → Elt Ideal .bf16) (L : List (View.Piece (Elt Ideal) S256x3072 .bf16)) (r : Fin 256) (k : Fin 1024) (q : Nat) (hq : q < 3072) (h : q = o + k.val) :
    View.canon (Val := Elt Ideal) ((⟨Rect.unit (s := S256x3072) ![0, o] ![256, 1024] inb, w⟩ : View.Piece (Elt Ideal) S256x3072 .bf16) :: L) (ix2 r ⟨q, hq⟩) = w (ix2 r k) := by
  subst h
  rw [on_tile (inb := inb) r k hq]
  exact View.canon_cons_emb _ _ _ _

theorem tiles_0 (w2 w1 w0 : S256x1024.Idx → Elt Ideal .bf16) (r : Fin 256) (k : Fin 1024) (q : Nat) (hq : q < 3072) (e : q = 0 + k.val) :
    (View.canon (Val := Elt Ideal)
        ([⟨Rect.unit ![0, 2048] ![256, 1024] inb_S256x3072_S256x1024_0_2048, w2⟩,
          ⟨Rect.unit ![0, 1024] ![256, 1024] inb_S256x3072_S256x1024_0_1024, w1⟩,
          ⟨Rect.unit ![0, 0] ![256, 1024] inb_S256x3072_S256x1024_0_0, w0⟩] : List (View.Piece (Elt Ideal) S256x3072 .bf16))) (ix2 r ⟨q, hq⟩) = w0 (ix2 r k) := by
  have := k.isLt
  rw [off_piece (o := 2048) _ _ r q hq (by omega)]
  rw [off_piece (o := 1024) _ _ r q hq (by omega)]
  exact on_piece _ _ r k q hq e

theorem tiles_1 (w2 w1 w0 : S256x1024.Idx → Elt Ideal .bf16) (r : Fin 256) (k : Fin 1024) (q : Nat) (hq : q < 3072) (e : q = 1024 + k.val) :
    (View.canon (Val := Elt Ideal)
        ([⟨Rect.unit ![0, 2048] ![256, 1024] inb_S256x3072_S256x1024_0_2048, w2⟩,
          ⟨Rect.unit ![0, 1024] ![256, 1024] inb_S256x3072_S256x1024_0_1024, w1⟩,
          ⟨Rect.unit ![0, 0] ![256, 1024] inb_S256x3072_S256x1024_0_0, w0⟩] : List (View.Piece (Elt Ideal) S256x3072 .bf16))) (ix2 r ⟨q, hq⟩) = w1 (ix2 r k) := by
  have := k.isLt
  rw [off_piece (o := 2048) _ _ r q hq (by omega)]
  exact on_piece _ _ r k q hq e

theorem tiles_2 (w2 w1 w0 : S256x1024.Idx → Elt Ideal .bf16) (r : Fin 256) (k : Fin 1024) (q : Nat) (hq : q < 3072) (e : q = 2048 + k.val) :
    (View.canon (Val := Elt Ideal)
        ([⟨Rect.unit ![0, 2048] ![256, 1024] inb_S256x3072_S256x1024_0_2048, w2⟩,
          ⟨Rect.unit ![0, 1024] ![256, 1024] inb_S256x3072_S256x1024_0_1024, w1⟩,
          ⟨Rect.unit ![0, 0] ![256, 1024] inb_S256x3072_S256x1024_0_0, w0⟩] : List (View.Piece (Elt Ideal) S256x3072 .bf16))) (ix2 r ⟨q, hq⟩) = w2 (ix2 r k) := by
  have := k.isLt
  exact on_piece _ _ r k q hq e

set_option maxRecDepth 20000 in
set_option maxHeartbeats 2000000 in
theorem final11_0 (c : Dev nD) (t : Fin cfg0.N) (r : Fin 256) (k : Fin 1024) :
    (dats m 0 c).arrAt 11 cfg0.N (ix2 (row t r) (col 0 k)) = dz m c (ix2 (row t r) (col 0 k)) := by
  have hk := k.isLt
  have hr : 256 * t.val + r.val < 4096 := (row t r).isLt
  rw [sent, tiles_0 _ _ _ r k _ _ (by show 1024 * 0 + k.val = 0 + k.val; omega)]
  pointwise [k0_pay8, k0_pay5, k0_pay6, val_main_v0, val_main_cst, val_main_cst_0, val_main_v1, val_main_v2, val_main_v3, val_main_v4, val_main_v5, val_main_v6, val_main_v7, val_main_v8, val_main_v9, val_main_v10, val_main_v11, val_main_v12, val_main_v13, val_main_v22, val_main_v24, val_main_v25, val_main_v27, val_main_v28, val_main_v30, val_main_v31, val_main_v32, val_main_v34, val_main_v35, val_main_v36, val_main_v37, val_main_v38, val_main_v42, val_main_cst_1, val_main_cst_2, val_main_cst_3, val_main_cst_4, val_main_cst_5]
  simp only [gate0_apply, blk3_apply, blk6_apply, blk7_apply, zero_sub]
  split_ifs
  all_goals first | omega | exact absurd ‹_ ∧ False› (fun h => h.2) | exact absurd ‹_ ∧ False ∧ _› (fun h => h.2.1) | skip
  simp only [add_zero, zero_add]
  rw [← mul_assoc, show col 0 (ix2 r k 1) = ⟨k.val, by omega⟩ from Fin.ext (by show 1024 * 0 + k.val = k.val; omega)]
  rfl

set_option maxRecDepth 20000 in
set_option maxHeartbeats 2000000 in
theorem final11_1 (c : Dev nD) (t : Fin cfg0.N) (r : Fin 256) (k : Fin 1024) :
    (dats m 0 c).arrAt 11 cfg0.N (ix2 (row t r) (col 1 k)) = dz m c (ix2 (row t r) (col 1 k)) := by
  have hk := k.isLt
  have hr : 256 * t.val + r.val < 4096 := (row t r).isLt
  rw [sent, tiles_1 _ _ _ r k _ _ (by show 1024 * 1 + k.val = 1024 + k.val; omega)]
  pointwise [k0_pay1, k0_pay5, k0_pay9, val_main_v0, val_main_cst, val_main_cst_0, val_main_v1, val_main_v2, val_main_v3, val_main_v4, val_main_v5, val_main_v6, val_main_v7, val_main_v8, val_main_v9, val_main_v10, val_main_v11, val_main_v12, val_main_v13, val_main_v22, val_main_v24, val_main_v25, val_main_v27, val_main_v28, val_main_v30, val_main_v31, val_main_v32, val_main_v34, val_main_v35, val_main_v36, val_main_v37, val_main_v38, val_main_v42, val_main_cst_1, val_main_cst_2, val_main_cst_3, val_main_cst_4, val_main_cst_5]
  simp only [gate1_apply, blk4_apply, blk6_apply, blk7_apply, zero_sub]
  split_ifs
  all_goals first | omega | exact absurd ‹_ ∧ False› (fun h => h.2) | exact absurd ‹_ ∧ False ∧ _› (fun h => h.2.1) | skip
  simp only [add_zero, zero_add]
  rw [← mul_assoc]
  rfl

set_option maxRecDepth 20000 in
set_option maxHeartbeats 2000000 in
theorem final11_2 (c : Dev nD) (t : Fin cfg0.N) (r : Fin 256) (k : Fin 1024) :
    (dats m 0 c).arrAt 11 cfg0.N (ix2 (row t r) (col 2 k)) = dz m c (ix2 (row t r) (col 2 k)) := by
  have hk := k.isLt
  have hr : 256 * t.val + r.val < 4096 := (row t r).isLt
  rw [sent, tiles_2 _ _ _ r k _ _ (by show 1024 * 2 + k.val = 2048 + k.val; omega)]
  pointwise [k0_pay4, k0_pay5, k0_pay2, val_main_v0, val_main_cst, val_main_cst_0, val_main_v1, val_main_v2, val_main_v3, val_main_v4, val_main_v5, val_main_v6, val_main_v7, val_main_v8, val_main_v9, val_main_v10, val_main_v11, val_main_v12, val_main_v13, val_main_v22, val_main_v24, val_main_v25, val_main_v27, val_main_v28, val_main_v30, val_main_v31, val_main_v32, val_main_v34, val_main_v35, val_main_v36, val_main_v37, val_main_v38, val_main_v42, val_main_cst_1, val_main_cst_2, val_main_cst_3, val_main_cst_4, val_main_cst_5]
  simp only [gate2_apply, blk5_apply, blk6_apply, blk7_apply, zero_sub]
  split_ifs
  all_goals first | omega | exact absurd ‹_ ∧ False› (fun h => h.2) | exact absurd ‹_ ∧ False ∧ _› (fun h => h.2.1) | skip
  simp only [add_zero, zero_add]
  rw [← mul_assoc]
  rfl

end Cert.MergeIdeal.Hand

end
-- ==== Proof.MergeClaim.lean ====
/- The gate-merge backward kernel agrees with its reference wherever it writes. -/
module

public import proofs.«01_k».proof.Defs
public import proofs.«01_k».proof.Proof.MergeVal
public import proofs.«01_k».proof.Proof.Gen.MergeIdeal.Value
public import proofs.«01_k».proof.Proof.Gen.MergeRefIdeal.Read
public import proofs.«01_k».proof.Proof.Gen.On_merge_written

@[expose] public section

noncomputable section

namespace Cert.MergeIdeal.Hand

open Cert.MergeIdeal Cert.MergeIdeal.Gen Cert.MergeIdeal.Value
open Idealize.ShloMosaic Idealize.ShloMosaic.TcCoe Idealize.SL.Sem

variable (m : (ℓ : Loc nD τ sig) → Buf (Elt Ideal) ℓ) (ρ : Dev nD → PrngReg)

/-- The whole of the gates' gradient in the columns of the gates. -/
theorem final11 (c : Dev nD) (p : Fin 4096) (q : Fin 5376) (h : q.val < 3072) :
    (dats m 0 c).arrAt 11 cfg0.N (ix2 p q) = dz m c (ix2 p q) := by
  obtain ⟨t, r, rfl⟩ : ∃ (t : Fin cfg0.N) (r : Fin 256), p = row t r :=
    ⟨⟨p.val / 256, lt_of_lt_of_eq (by have := p.isLt; omega) (show 16 = cfg0.N from N_0.symm)⟩, ⟨p.val % 256, Nat.mod_lt _ (by decide)⟩,
      Fin.ext (by show p.val = 256 * (p.val / 256) + p.val % 256; omega)⟩
  obtain ⟨b, k, rfl⟩ : ∃ (b : Fin 3) (k : Fin 1024), q = col b k :=
    ⟨⟨q.val / 1024, by omega⟩, ⟨q.val % 1024, Nat.mod_lt _ (by decide)⟩, Fin.ext (by show q.val = 1024 * (q.val / 1024) + q.val % 1024; omega)⟩
  match b with
  | 0 => exact final11_0 m c t r k
  | 1 => exact final11_1 m c t r k
  | 2 => exact final11_2 m c t r k

/-- The mask of the gates' gradient is on in the columns of the gates alone. -/
theorem mask_lt (x0 : FVec Ideal S4096x5376 .bf16) (x1 x2 x3 x4 : FVec Ideal S4096x1024 .bf16) (x5 : FVec Ideal S1024x1024 .bf16)
    (i : S4096x5376.Idx) (h : (Cert.On_merge_written.fn (F := Ideal) x0 x1 x2 x3 x4 x5).2.2.2 i = 1#1) : (i 1).val < 3072 := by
  pointwise [Cert.On_merge_written.fn] at h
  have := (i 1).isLt
  exact (WordCmp.cmpi_slt_ofNat_eq_one_iff (by have : (i 1).val < 5376 := (i 1).isLt; omega) (by decide)).mp h

theorem algebraic_merge : Cert.algebraic_MergeIdeal_MergeRefIdeal_on_merge_written := by
  intro m g m' g' _ hagree
  refine ⟨dy0 m, dy1 m, dy2 m, dz m, (θ_run _ _ _).mono (fun r h c => ?_) (run_blocks m g), (θ_run Cert.MergeRefIdeal.defs _ _).mono (fun r h c => ?_) (Cert.MergeRefIdeal.Value.run (F := Ideal) m' g')⟩
  · obtain ⟨h0, h1, h2, h3, h4⟩ := h c
    refine ⟨fun i _ => ?_, fun i _ => ?_, fun i _ => ?_, fun i hi => ?_, h4⟩
    · rw [h0, final8]
    · rw [h1, final9]
    · rw [h2, final10]
    · rw [h3, eq_ix2 i]
      exact final11 m c (i 0) (i 1) (mask_lt _ _ _ _ _ _ i hi)
  · obtain ⟨h0, h1, h2, h3, h4⟩ := h c
    obtain ⟨a0, a1, a2, a3, a4, a5⟩ := hagree c
    refine ⟨fun i _ => ?_, fun i _ => ?_, fun i _ => ?_, fun i hi => ?_, h4⟩
    · rw [h0, a0, a4, a5]; rfl
    · rw [h1, a0, a4, a5]; rfl
    · rw [h2, a0, a4, a5]; rfl
    · rw [h3, a0, a1, a2, a3, a4, a5]; rfl

end Cert.MergeIdeal.Hand

end
-- ==== Proof.lean ====
/- The proof of the claims. -/
module

public import proofs.«01_k».proof.Defs
public import proofs.«01_k».proof.Proof.Gen.Flash.Frame
public import proofs.«01_k».proof.Proof.Gen.Flash.Loops
public import proofs.«01_k».proof.Proof.Gen.FlashIdeal.Frame
public import proofs.«01_k».proof.Proof.Gen.FlashIdeal.Loops
public import proofs.«01_k».proof.Proof.Gen.FlashRefIdeal.Read
public import proofs.«01_k».proof.Proof.Gen.Merge.Frame
public import proofs.«01_k».proof.Proof.Gen.MergeIdeal.Value
public import proofs.«01_k».proof.Proof.Gen.MergeRefIdeal.Read
public import proofs.«01_k».proof.Proof.Gen.On_merge_written
public import proofs.«01_k».proof.Proof.Gen.Pre_flash_finite
public import proofs.«01_k».proof.Proof.Gen.DownDw.Frame
public import proofs.«01_k».proof.Proof.Gen.UpDw.Frame
public import proofs.«01_k».proof.Proof.Gen.InDw.Frame
public import proofs.«01_k».proof.Proof.Gen.InDx.Frame
public import proofs.«01_k».proof.Proof.Gen.UpDx.Frame
public import proofs.«01_k».proof.Proof.Gen.DownBwd.Frame
public import proofs.«01_k».proof.Proof.Gen.InProj.Frame
public import proofs.«01_k».proof.Proof.Gen.FfnUp.Frame
public import proofs.«01_k».proof.Proof.Gen.FfnDown.Frame
public import proofs.«01_k».proof.Proof.Gen.MixDw.Frame
public import proofs.«01_k».proof.Proof.Gen.BranchDw.Frame
public import proofs.«01_k».proof.Proof.Gen.AttnDw.Frame
public import proofs.«01_k».proof.Proof.Gen.QDw.Frame
public import proofs.«01_k».proof.Proof.Gen.KvDw.Frame
public import proofs.«01_k».proof.Proof.Gen.PoolDx.Frame
public import proofs.«01_k».proof.Proof.Gen.MixOut.Frame
public import proofs.«01_k».proof.Proof.Gen.Branches.Frame
public import proofs.«01_k».proof.Proof.Gen.AttnOutBwd.Frame
public import proofs.«01_k».proof.Proof.Gen.AdamGain.Frame
public import proofs.«01_k».proof.Proof.Gen.AdamIn.Frame
public import proofs.«01_k».proof.Proof.Gen.AdamQGain.Frame
public import proofs.«01_k».proof.Proof.Gen.AdamKvGain.Frame
public import proofs.«01_k».proof.Proof.Gen.AdamQ.Frame
public import proofs.«01_k».proof.Proof.Gen.AdamKv.Frame
public import proofs.«01_k».proof.Proof.Gen.AdamOut.Frame
public import proofs.«01_k».proof.Proof.Gen.AdamTaps.Frame
public import proofs.«01_k».proof.Proof.Gen.AdamChannel.Frame
public import proofs.«01_k».proof.Proof.Gen.AdamMix.Frame
public import proofs.«01_k».proof.Proof.Gen.AdamFfn.Frame
public import proofs.«01_k».proof.Proof.Gen.SumGains.Frame
public import proofs.«01_k».proof.Proof.Gen.SumChannels.Frame
public import proofs.«01_k».proof.Proof.Gen.SumQ.Frame
public import proofs.«01_k».proof.Proof.Gen.SumKv.Frame
public import proofs.«01_k».proof.Proof.Gen.SumPool.Frame
public import proofs.«01_k».proof.Proof.Gen.SumLast.Frame
public import proofs.«01_k».proof.Proof.Gen.LayersIn.Frame
public import proofs.«01_k».proof.Proof.Gen.LayersQ.Frame
public import proofs.«01_k».proof.Proof.Gen.LayersKv.Frame
public import proofs.«01_k».proof.Proof.Gen.LayersOut.Frame
public import proofs.«01_k».proof.Proof.Gen.LayersMix.Frame
public import proofs.«01_k».proof.Proof.Gen.LayersUp.Frame
public import proofs.«01_k».proof.Proof.Gen.LayersDown.Frame
public import proofs.«01_k».proof.Proof.Gen.Pre_ffn_down_finite
public import proofs.«01_k».proof.Proof.DownDwClaim
public import proofs.«01_k».proof.Proof.UpDwClaim
public import proofs.«01_k».proof.Proof.InDwClaim
public import proofs.«01_k».proof.Proof.InDxClaim
public import proofs.«01_k».proof.Proof.UpDxClaim
public import proofs.«01_k».proof.Proof.DownBwdClaim
public import proofs.«01_k».proof.Proof.InProjClaim
public import proofs.«01_k».proof.Proof.FfnUpClaim
public import proofs.«01_k».proof.Proof.FfnDownClaim
public import proofs.«01_k».proof.Proof.MixDwClaim
public import proofs.«01_k».proof.Proof.BranchDwClaim
public import proofs.«01_k».proof.Proof.AttnDwClaim
public import proofs.«01_k».proof.Proof.QDwClaim
public import proofs.«01_k».proof.Proof.KvDwClaim
public import proofs.«01_k».proof.Proof.PoolDxClaim
public import proofs.«01_k».proof.Proof.MixOutClaim
public import proofs.«01_k».proof.Proof.BranchesClaim
public import proofs.«01_k».proof.Proof.AttnOutBwdClaim
public import proofs.«01_k».proof.Proof.AdamGainClaim
public import proofs.«01_k».proof.Proof.AdamInClaim
public import proofs.«01_k».proof.Proof.AdamQGainClaim
public import proofs.«01_k».proof.Proof.AdamKvGainClaim
public import proofs.«01_k».proof.Proof.AdamQClaim
public import proofs.«01_k».proof.Proof.AdamKvClaim
public import proofs.«01_k».proof.Proof.AdamOutClaim
public import proofs.«01_k».proof.Proof.AdamTapsClaim
public import proofs.«01_k».proof.Proof.AdamChannelClaim
public import proofs.«01_k».proof.Proof.AdamMixClaim
public import proofs.«01_k».proof.Proof.AdamFfnClaim
public import proofs.«01_k».proof.Proof.SumGainsClaim
public import proofs.«01_k».proof.Proof.SumChannelsClaim
public import proofs.«01_k».proof.Proof.SumQClaim
public import proofs.«01_k».proof.Proof.SumKvClaim
public import proofs.«01_k».proof.Proof.SumPoolClaim
public import proofs.«01_k».proof.Proof.SumLastClaim
public import proofs.«01_k».proof.Proof.LayersInClaim
public import proofs.«01_k».proof.Proof.LayersQClaim
public import proofs.«01_k».proof.Proof.LayersKvClaim
public import proofs.«01_k».proof.Proof.LayersOutClaim
public import proofs.«01_k».proof.Proof.LayersMixClaim
public import proofs.«01_k».proof.Proof.LayersUpClaim
public import proofs.«01_k».proof.Proof.LayersDownClaim
public import proofs.«01_k».proof.Proof.FlashFrame
public import proofs.«01_k».proof.Proof.SourceFrame
public import proofs.«01_k».proof.Proof.FlashClaim
public import proofs.«01_k».proof.Proof.MergeClaim

@[expose] public section

namespace Cert.Proof

open Idealize.ShloMosaic Idealize.SL.Sem

theorem quiescent_flash : Cert.quiescent_Flash := fun m ρ _ => Cert.Flash.Hand.frame m ρ
theorem quiescent_flash_ideal : Cert.quiescent_FlashIdeal := fun m ρ _ => Cert.FlashIdeal.Hand.frame m ρ
theorem quiescent_flash_ideal_finite : Cert.quiescent_FlashIdeal_pre_flash_finite := fun m ρ _ => Cert.FlashIdeal.Hand.frame m ρ
theorem quiescent_flash_reference : Cert.quiescent_FlashRefIdeal := fun m ρ _ =>
  (θ_run Cert.FlashRefIdeal.defs _ _).mono (fun r h => ⟨fun c => (h c).2.2.2, Idealize.ShloMosaic.sem_eq_zero_of_no_sems (by decide) r.2⟩) (Cert.FlashRefIdeal.Value.run m ρ)
theorem quiescent_flash_reference_finite : Cert.quiescent_FlashRefIdeal_pre_flash_finite := fun m ρ _ =>
  (θ_run Cert.FlashRefIdeal.defs _ _).mono (fun r h => ⟨fun c => (h c).2.2.2, Idealize.ShloMosaic.sem_eq_zero_of_no_sems (by decide) r.2⟩) (Cert.FlashRefIdeal.Value.run m ρ)
theorem quiescent_merge : Cert.quiescent_Merge := fun m ρ _ => Cert.Merge.Gen.frame m ρ
theorem quiescent_merge_ideal : Cert.quiescent_MergeIdeal := fun m ρ _ => Cert.MergeIdeal.Gen.frame m ρ
theorem quiescent_merge_reference : Cert.quiescent_MergeRefIdeal := fun m ρ _ =>
  (θ_run Cert.MergeRefIdeal.defs _ _).mono (fun r h => ⟨fun c => (h c).2.2.2.2, Idealize.ShloMosaic.sem_eq_zero_of_no_sems (by decide) r.2⟩) (Cert.MergeRefIdeal.Value.run m ρ)

theorem preserves_flash : Cert.preserves_Flash_FlashIdeal :=
  ⟨IdealRules.named_const.statement Cert.FlashIdeal.κ "scale_inv_ln2" .f32 0x3E16C740#32 _ rfl,
    IdealRules.named_const.statement Cert.FlashIdeal.κ "inv_ln2" .f32 0x3FB8AA3B#32 _ rfl,
    IdealRules.named_const.statement Cert.FlashIdeal.κ "scale" .f32 0x3DD105EC#32 _ rfl⟩

theorem quiescent_down_dw : Cert.quiescent_DownDw := fun m ρ _ => Cert.DownDw.Gen.frame m ρ
theorem quiescent_down_dw_ideal : Cert.quiescent_DownDwIdeal := fun m ρ _ => Cert.DownDwIdeal.Gen.frame m ρ
theorem quiescent_down_dw_reference : Cert.quiescent_DownDwRefIdeal := fun m ρ _ =>
  (θ_run Cert.DownDwRefIdeal.defs _ _).mono (fun r h => ⟨fun c => (h c).2, Idealize.ShloMosaic.sem_eq_zero_of_no_sems (by decide) r.2⟩) (Cert.DownDwRefIdeal.Value.run m ρ)
theorem quiescent_up_dw : Cert.quiescent_UpDw := fun m ρ _ => Cert.UpDw.Gen.frame m ρ
theorem quiescent_up_dw_ideal : Cert.quiescent_UpDwIdeal := fun m ρ _ => Cert.UpDwIdeal.Gen.frame m ρ
theorem quiescent_up_dw_reference : Cert.quiescent_UpDwRefIdeal := fun m ρ _ =>
  (θ_run Cert.UpDwRefIdeal.defs _ _).mono (fun r h => ⟨fun c => (h c).2, Idealize.ShloMosaic.sem_eq_zero_of_no_sems (by decide) r.2⟩) (Cert.UpDwRefIdeal.Value.run m ρ)
theorem quiescent_in_dw : Cert.quiescent_InDw := fun m ρ _ => Cert.InDw.Gen.frame m ρ
theorem quiescent_in_dw_ideal : Cert.quiescent_InDwIdeal := fun m ρ _ => Cert.InDwIdeal.Gen.frame m ρ
theorem quiescent_in_dw_reference : Cert.quiescent_InDwRefIdeal := fun m ρ _ =>
  (θ_run Cert.InDwRefIdeal.defs _ _).mono (fun r h => ⟨fun c => (h c).2, Idealize.ShloMosaic.sem_eq_zero_of_no_sems (by decide) r.2⟩) (Cert.InDwRefIdeal.Value.run m ρ)
theorem quiescent_in_dx : Cert.quiescent_InDx := fun m ρ _ => Cert.InDx.Gen.frame m ρ
theorem quiescent_in_dx_ideal : Cert.quiescent_InDxIdeal := fun m ρ _ => Cert.InDxIdeal.Gen.frame m ρ
theorem quiescent_in_dx_reference : Cert.quiescent_InDxRefIdeal := fun m ρ _ =>
  (θ_run Cert.InDxRefIdeal.defs _ _).mono (fun r h => ⟨fun c => (h c).2, Idealize.ShloMosaic.sem_eq_zero_of_no_sems (by decide) r.2⟩) (Cert.InDxRefIdeal.Value.run m ρ)
theorem quiescent_up_dx : Cert.quiescent_UpDx := fun m ρ _ => Cert.UpDx.Gen.frame m ρ
theorem quiescent_up_dx_ideal : Cert.quiescent_UpDxIdeal := fun m ρ _ => Cert.UpDxIdeal.Gen.frame m ρ
theorem quiescent_up_dx_reference : Cert.quiescent_UpDxRefIdeal := fun m ρ _ =>
  (θ_run Cert.UpDxRefIdeal.defs _ _).mono (fun r h => ⟨fun c => (h c).2, Idealize.ShloMosaic.sem_eq_zero_of_no_sems (by decide) r.2⟩) (Cert.UpDxRefIdeal.Value.run m ρ)
theorem quiescent_down_bwd : Cert.quiescent_DownBwd := fun m ρ _ => Cert.DownBwd.Gen.frame m ρ
theorem quiescent_down_bwd_ideal : Cert.quiescent_DownBwdIdeal := fun m ρ _ => Cert.DownBwdIdeal.Gen.frame m ρ
theorem quiescent_down_bwd_ideal_finite : Cert.quiescent_DownBwdIdeal_pre_ffn_down_finite := fun m ρ _ => Cert.DownBwdIdeal.Gen.frame m ρ
theorem quiescent_down_bwd_reference : Cert.quiescent_DownBwdRefIdeal := fun m ρ _ =>
  (θ_run Cert.DownBwdRefIdeal.defs _ _).mono (fun r h => ⟨fun c => (h c).2.2, Idealize.ShloMosaic.sem_eq_zero_of_no_sems (by decide) r.2⟩) (Cert.DownBwdRefIdeal.Value.run m ρ)
theorem quiescent_down_bwd_reference_finite : Cert.quiescent_DownBwdRefIdeal_pre_ffn_down_finite := fun m ρ _ =>
  (θ_run Cert.DownBwdRefIdeal.defs _ _).mono (fun r h => ⟨fun c => (h c).2.2, Idealize.ShloMosaic.sem_eq_zero_of_no_sems (by decide) r.2⟩) (Cert.DownBwdRefIdeal.Value.run m ρ)
theorem quiescent_in_proj : Cert.quiescent_InProj := fun m ρ _ => Cert.InProj.Gen.frame m ρ
theorem quiescent_in_proj_ideal : Cert.quiescent_InProjIdeal := fun m ρ _ => Cert.InProjIdeal.Gen.frame m ρ
theorem quiescent_in_proj_reference : Cert.quiescent_InProjRefIdeal := fun m ρ _ =>
  (θ_run Cert.InProjRefIdeal.defs _ _).mono (fun r h => ⟨fun c => (h c).2, Idealize.ShloMosaic.sem_eq_zero_of_no_sems (by decide) r.2⟩) (Cert.InProjRefIdeal.Value.run m ρ)
theorem quiescent_ffn_up : Cert.quiescent_FfnUp := fun m ρ _ => Cert.FfnUp.Gen.frame m ρ
theorem quiescent_ffn_up_ideal : Cert.quiescent_FfnUpIdeal := fun m ρ _ => Cert.FfnUpIdeal.Gen.frame m ρ
theorem quiescent_ffn_up_reference : Cert.quiescent_FfnUpRefIdeal := fun m ρ _ =>
  (θ_run Cert.FfnUpRefIdeal.defs _ _).mono (fun r h => ⟨fun c => (h c).2.2.2, Idealize.ShloMosaic.sem_eq_zero_of_no_sems (by decide) r.2⟩) (Cert.FfnUpRefIdeal.Value.run m ρ)
theorem quiescent_ffn_down : Cert.quiescent_FfnDown := fun m ρ _ => Cert.FfnDown.Gen.frame m ρ
theorem quiescent_ffn_down_ideal : Cert.quiescent_FfnDownIdeal := fun m ρ _ => Cert.FfnDownIdeal.Gen.frame m ρ
theorem quiescent_ffn_down_reference : Cert.quiescent_FfnDownRefIdeal := fun m ρ _ =>
  (θ_run Cert.FfnDownRefIdeal.defs _ _).mono (fun r h => ⟨fun c => (h c).2, Idealize.ShloMosaic.sem_eq_zero_of_no_sems (by decide) r.2⟩) (Cert.FfnDownRefIdeal.Value.run m ρ)
theorem quiescent_mix_dw : Cert.quiescent_MixDw := fun m ρ _ => Cert.MixDw.Gen.frame m ρ
theorem quiescent_mix_dw_ideal : Cert.quiescent_MixDwIdeal := fun m ρ _ => Cert.MixDwIdeal.Gen.frame m ρ
theorem quiescent_mix_dw_reference : Cert.quiescent_MixDwRefIdeal := fun m ρ _ =>
  (θ_run Cert.MixDwRefIdeal.defs _ _).mono (fun r h => ⟨fun c => (h c).2, Idealize.ShloMosaic.sem_eq_zero_of_no_sems (by decide) r.2⟩) (Cert.MixDwRefIdeal.Value.run m ρ)
theorem quiescent_branch_dw : Cert.quiescent_BranchDw := fun m ρ _ => Cert.BranchDw.Gen.frame m ρ
theorem quiescent_branch_dw_ideal : Cert.quiescent_BranchDwIdeal := fun m ρ _ => Cert.BranchDwIdeal.Gen.frame m ρ
theorem quiescent_branch_dw_reference : Cert.quiescent_BranchDwRefIdeal := fun m ρ _ =>
  (θ_run Cert.BranchDwRefIdeal.defs _ _).mono (fun r h => ⟨fun c => (h c).2, Idealize.ShloMosaic.sem_eq_zero_of_no_sems (by decide) r.2⟩) (Cert.BranchDwRefIdeal.Value.run m ρ)
theorem quiescent_attn_dw : Cert.quiescent_AttnDw := fun m ρ _ => Cert.AttnDw.Gen.frame m ρ
theorem quiescent_attn_dw_ideal : Cert.quiescent_AttnDwIdeal := fun m ρ _ => Cert.AttnDwIdeal.Gen.frame m ρ
theorem quiescent_attn_dw_reference : Cert.quiescent_AttnDwRefIdeal := fun m ρ _ =>
  (θ_run Cert.AttnDwRefIdeal.defs _ _).mono (fun r h => ⟨fun c => (h c).2, Idealize.ShloMosaic.sem_eq_zero_of_no_sems (by decide) r.2⟩) (Cert.AttnDwRefIdeal.Value.run m ρ)
theorem quiescent_q_dw : Cert.quiescent_QDw := fun m ρ _ => Cert.QDw.Gen.frame m ρ
theorem quiescent_q_dw_ideal : Cert.quiescent_QDwIdeal := fun m ρ _ => Cert.QDwIdeal.Gen.frame m ρ
theorem quiescent_q_dw_reference : Cert.quiescent_QDwRefIdeal := fun m ρ _ =>
  (θ_run Cert.QDwRefIdeal.defs _ _).mono (fun r h => ⟨fun c => (h c).2, Idealize.ShloMosaic.sem_eq_zero_of_no_sems (by decide) r.2⟩) (Cert.QDwRefIdeal.Value.run m ρ)
theorem quiescent_kv_dw : Cert.quiescent_KvDw := fun m ρ _ => Cert.KvDw.Gen.frame m ρ
theorem quiescent_kv_dw_ideal : Cert.quiescent_KvDwIdeal := fun m ρ _ => Cert.KvDwIdeal.Gen.frame m ρ
theorem quiescent_kv_dw_reference : Cert.quiescent_KvDwRefIdeal := fun m ρ _ =>
  (θ_run Cert.KvDwRefIdeal.defs _ _).mono (fun r h => ⟨fun c => (h c).2, Idealize.ShloMosaic.sem_eq_zero_of_no_sems (by decide) r.2⟩) (Cert.KvDwRefIdeal.Value.run m ρ)
theorem quiescent_pool_dx : Cert.quiescent_PoolDx := fun m ρ _ => Cert.PoolDx.Gen.frame m ρ
theorem quiescent_pool_dx_ideal : Cert.quiescent_PoolDxIdeal := fun m ρ _ => Cert.PoolDxIdeal.Gen.frame m ρ
theorem quiescent_pool_dx_reference : Cert.quiescent_PoolDxRefIdeal := fun m ρ _ =>
  (θ_run Cert.PoolDxRefIdeal.defs _ _).mono (fun r h => ⟨fun c => (h c).2, Idealize.ShloMosaic.sem_eq_zero_of_no_sems (by decide) r.2⟩) (Cert.PoolDxRefIdeal.Value.run m ρ)
theorem quiescent_mix_out : Cert.quiescent_MixOut := fun m ρ _ => Cert.MixOut.Gen.frame m ρ
theorem quiescent_mix_out_ideal : Cert.quiescent_MixOutIdeal := fun m ρ _ => Cert.MixOutIdeal.Gen.frame m ρ
theorem quiescent_mix_out_reference : Cert.quiescent_MixOutRefIdeal := fun m ρ _ =>
  (θ_run Cert.MixOutRefIdeal.defs _ _).mono (fun r h => ⟨fun c => (h c).2, Idealize.ShloMosaic.sem_eq_zero_of_no_sems (by decide) r.2⟩) (Cert.MixOutRefIdeal.Value.run m ρ)
theorem quiescent_branches : Cert.quiescent_Branches := fun m ρ _ => Cert.Branches.Gen.frame m ρ
theorem quiescent_branches_ideal : Cert.quiescent_BranchesIdeal := fun m ρ _ => Cert.BranchesIdeal.Gen.frame m ρ
theorem quiescent_branches_reference : Cert.quiescent_BranchesRefIdeal := fun m ρ _ =>
  (θ_run Cert.BranchesRefIdeal.defs _ _).mono (fun r h => ⟨fun c => (h c).2.2.2.2, Idealize.ShloMosaic.sem_eq_zero_of_no_sems (by decide) r.2⟩) (Cert.BranchesRefIdeal.Value.run m ρ)
theorem quiescent_attn_out_bwd : Cert.quiescent_AttnOutBwd := fun m ρ _ => Cert.AttnOutBwd.Gen.frame m ρ
theorem quiescent_attn_out_bwd_ideal : Cert.quiescent_AttnOutBwdIdeal := fun m ρ _ => Cert.AttnOutBwdIdeal.Gen.frame m ρ
theorem quiescent_attn_out_bwd_reference : Cert.quiescent_AttnOutBwdRefIdeal := fun m ρ _ =>
  (θ_run Cert.AttnOutBwdRefIdeal.defs _ _).mono (fun r h => ⟨fun c => (h c).2.2, Idealize.ShloMosaic.sem_eq_zero_of_no_sems (by decide) r.2⟩) (Cert.AttnOutBwdRefIdeal.Value.run m ρ)
theorem quiescent_adam_gain : Cert.quiescent_AdamGain := fun m ρ _ => Cert.AdamGain.Gen.frame m ρ
theorem quiescent_adam_gain_ideal : Cert.quiescent_AdamGainIdeal := fun m ρ _ => Cert.AdamGainIdeal.Gen.frame m ρ
theorem quiescent_adam_gain_reference : Cert.quiescent_AdamGainRefIdeal := fun m ρ _ =>
  (θ_run Cert.AdamGainRefIdeal.defs _ _).mono (fun r h => ⟨fun c => (h c).2.2.2, Idealize.ShloMosaic.sem_eq_zero_of_no_sems (by decide) r.2⟩) (Cert.AdamGainRefIdeal.Value.run m ρ)
theorem quiescent_adam_in : Cert.quiescent_AdamIn := fun m ρ _ => Cert.AdamIn.Gen.frame m ρ
theorem quiescent_adam_in_ideal : Cert.quiescent_AdamInIdeal := fun m ρ _ => Cert.AdamInIdeal.Gen.frame m ρ
theorem quiescent_adam_in_reference : Cert.quiescent_AdamInRefIdeal := fun m ρ _ =>
  (θ_run Cert.AdamInRefIdeal.defs _ _).mono (fun r h => ⟨fun c => (h c).2.2.2, Idealize.ShloMosaic.sem_eq_zero_of_no_sems (by decide) r.2⟩) (Cert.AdamInRefIdeal.Value.run m ρ)
theorem quiescent_adam_q_gain : Cert.quiescent_AdamQGain := fun m ρ _ => Cert.AdamQGain.Gen.frame m ρ
theorem quiescent_adam_q_gain_ideal : Cert.quiescent_AdamQGainIdeal := fun m ρ _ => Cert.AdamQGainIdeal.Gen.frame m ρ
theorem quiescent_adam_q_gain_reference : Cert.quiescent_AdamQGainRefIdeal := fun m ρ _ =>
  (θ_run Cert.AdamQGainRefIdeal.defs _ _).mono (fun r h => ⟨fun c => (h c).2.2.2, Idealize.ShloMosaic.sem_eq_zero_of_no_sems (by decide) r.2⟩) (Cert.AdamQGainRefIdeal.Value.run m ρ)
theorem quiescent_adam_kv_gain : Cert.quiescent_AdamKvGain := fun m ρ _ => Cert.AdamKvGain.Gen.frame m ρ
theorem quiescent_adam_kv_gain_ideal : Cert.quiescent_AdamKvGainIdeal := fun m ρ _ => Cert.AdamKvGainIdeal.Gen.frame m ρ
theorem quiescent_adam_kv_gain_reference : Cert.quiescent_AdamKvGainRefIdeal := fun m ρ _ =>
  (θ_run Cert.AdamKvGainRefIdeal.defs _ _).mono (fun r h => ⟨fun c => (h c).2.2.2, Idealize.ShloMosaic.sem_eq_zero_of_no_sems (by decide) r.2⟩) (Cert.AdamKvGainRefIdeal.Value.run m ρ)
theorem quiescent_adam_q : Cert.quiescent_AdamQ := fun m ρ _ => Cert.AdamQ.Gen.frame m ρ
theorem quiescent_adam_q_ideal : Cert.quiescent_AdamQIdeal := fun m ρ _ => Cert.AdamQIdeal.Gen.frame m ρ
theorem quiescent_adam_q_reference : Cert.quiescent_AdamQRefIdeal := fun m ρ _ =>
  (θ_run Cert.AdamQRefIdeal.defs _ _).mono (fun r h => ⟨fun c => (h c).2.2.2, Idealize.ShloMosaic.sem_eq_zero_of_no_sems (by decide) r.2⟩) (Cert.AdamQRefIdeal.Value.run m ρ)
theorem quiescent_adam_kv : Cert.quiescent_AdamKv := fun m ρ _ => Cert.AdamKv.Gen.frame m ρ
theorem quiescent_adam_kv_ideal : Cert.quiescent_AdamKvIdeal := fun m ρ _ => Cert.AdamKvIdeal.Gen.frame m ρ
theorem quiescent_adam_kv_reference : Cert.quiescent_AdamKvRefIdeal := fun m ρ _ =>
  (θ_run Cert.AdamKvRefIdeal.defs _ _).mono (fun r h => ⟨fun c => (h c).2.2.2, Idealize.ShloMosaic.sem_eq_zero_of_no_sems (by decide) r.2⟩) (Cert.AdamKvRefIdeal.Value.run m ρ)
theorem quiescent_adam_out : Cert.quiescent_AdamOut := fun m ρ _ => Cert.AdamOut.Gen.frame m ρ
theorem quiescent_adam_out_ideal : Cert.quiescent_AdamOutIdeal := fun m ρ _ => Cert.AdamOutIdeal.Gen.frame m ρ
theorem quiescent_adam_out_reference : Cert.quiescent_AdamOutRefIdeal := fun m ρ _ =>
  (θ_run Cert.AdamOutRefIdeal.defs _ _).mono (fun r h => ⟨fun c => (h c).2.2.2, Idealize.ShloMosaic.sem_eq_zero_of_no_sems (by decide) r.2⟩) (Cert.AdamOutRefIdeal.Value.run m ρ)
theorem quiescent_adam_taps : Cert.quiescent_AdamTaps := fun m ρ _ => Cert.AdamTaps.Gen.frame m ρ
theorem quiescent_adam_taps_ideal : Cert.quiescent_AdamTapsIdeal := fun m ρ _ => Cert.AdamTapsIdeal.Gen.frame m ρ
theorem quiescent_adam_taps_reference : Cert.quiescent_AdamTapsRefIdeal := fun m ρ _ =>
  (θ_run Cert.AdamTapsRefIdeal.defs _ _).mono (fun r h => ⟨fun c => (h c).2.2.2, Idealize.ShloMosaic.sem_eq_zero_of_no_sems (by decide) r.2⟩) (Cert.AdamTapsRefIdeal.Value.run m ρ)
theorem quiescent_adam_channel : Cert.quiescent_AdamChannel := fun m ρ _ => Cert.AdamChannel.Gen.frame m ρ
theorem quiescent_adam_channel_ideal : Cert.quiescent_AdamChannelIdeal := fun m ρ _ => Cert.AdamChannelIdeal.Gen.frame m ρ
theorem quiescent_adam_channel_reference : Cert.quiescent_AdamChannelRefIdeal := fun m ρ _ =>
  (θ_run Cert.AdamChannelRefIdeal.defs _ _).mono (fun r h => ⟨fun c => (h c).2.2.2, Idealize.ShloMosaic.sem_eq_zero_of_no_sems (by decide) r.2⟩) (Cert.AdamChannelRefIdeal.Value.run m ρ)
theorem quiescent_adam_mix : Cert.quiescent_AdamMix := fun m ρ _ => Cert.AdamMix.Gen.frame m ρ
theorem quiescent_adam_mix_ideal : Cert.quiescent_AdamMixIdeal := fun m ρ _ => Cert.AdamMixIdeal.Gen.frame m ρ
theorem quiescent_adam_mix_reference : Cert.quiescent_AdamMixRefIdeal := fun m ρ _ =>
  (θ_run Cert.AdamMixRefIdeal.defs _ _).mono (fun r h => ⟨fun c => (h c).2.2.2, Idealize.ShloMosaic.sem_eq_zero_of_no_sems (by decide) r.2⟩) (Cert.AdamMixRefIdeal.Value.run m ρ)
theorem quiescent_adam_ffn : Cert.quiescent_AdamFfn := fun m ρ _ => Cert.AdamFfn.Gen.frame m ρ
theorem quiescent_adam_ffn_ideal : Cert.quiescent_AdamFfnIdeal := fun m ρ _ => Cert.AdamFfnIdeal.Gen.frame m ρ
theorem quiescent_adam_ffn_reference : Cert.quiescent_AdamFfnRefIdeal := fun m ρ _ =>
  (θ_run Cert.AdamFfnRefIdeal.defs _ _).mono (fun r h => ⟨fun c => (h c).2.2.2, Idealize.ShloMosaic.sem_eq_zero_of_no_sems (by decide) r.2⟩) (Cert.AdamFfnRefIdeal.Value.run m ρ)
theorem quiescent_sum_gains : Cert.quiescent_SumGains := fun m ρ _ => Cert.SumGains.Gen.frame m ρ
theorem quiescent_sum_gains_ideal : Cert.quiescent_SumGainsIdeal := fun m ρ _ => Cert.SumGainsIdeal.Gen.frame m ρ
theorem quiescent_sum_gains_reference : Cert.quiescent_SumGainsRefIdeal := fun m ρ _ =>
  (θ_run Cert.SumGainsRefIdeal.defs _ _).mono (fun r h => ⟨fun c => (h c).2, Idealize.ShloMosaic.sem_eq_zero_of_no_sems (by decide) r.2⟩) (Cert.SumGainsRefIdeal.Value.run m ρ)
theorem quiescent_sum_channels : Cert.quiescent_SumChannels := fun m ρ _ => Cert.SumChannels.Gen.frame m ρ
theorem quiescent_sum_channels_ideal : Cert.quiescent_SumChannelsIdeal := fun m ρ _ => Cert.SumChannelsIdeal.Gen.frame m ρ
theorem quiescent_sum_channels_reference : Cert.quiescent_SumChannelsRefIdeal := fun m ρ _ =>
  (θ_run Cert.SumChannelsRefIdeal.defs _ _).mono (fun r h => ⟨fun c => (h c).2, Idealize.ShloMosaic.sem_eq_zero_of_no_sems (by decide) r.2⟩) (Cert.SumChannelsRefIdeal.Value.run m ρ)
theorem quiescent_sum_q : Cert.quiescent_SumQ := fun m ρ _ => Cert.SumQ.Gen.frame m ρ
theorem quiescent_sum_q_ideal : Cert.quiescent_SumQIdeal := fun m ρ _ => Cert.SumQIdeal.Gen.frame m ρ
theorem quiescent_sum_q_reference : Cert.quiescent_SumQRefIdeal := fun m ρ _ =>
  (θ_run Cert.SumQRefIdeal.defs _ _).mono (fun r h => ⟨fun c => (h c).2, Idealize.ShloMosaic.sem_eq_zero_of_no_sems (by decide) r.2⟩) (Cert.SumQRefIdeal.Value.run m ρ)
theorem quiescent_sum_kv : Cert.quiescent_SumKv := fun m ρ _ => Cert.SumKv.Gen.frame m ρ
theorem quiescent_sum_kv_ideal : Cert.quiescent_SumKvIdeal := fun m ρ _ => Cert.SumKvIdeal.Gen.frame m ρ
theorem quiescent_sum_kv_reference : Cert.quiescent_SumKvRefIdeal := fun m ρ _ =>
  (θ_run Cert.SumKvRefIdeal.defs _ _).mono (fun r h => ⟨fun c => (h c).2, Idealize.ShloMosaic.sem_eq_zero_of_no_sems (by decide) r.2⟩) (Cert.SumKvRefIdeal.Value.run m ρ)
theorem quiescent_sum_pool : Cert.quiescent_SumPool := fun m ρ _ => Cert.SumPool.Gen.frame m ρ
theorem quiescent_sum_pool_ideal : Cert.quiescent_SumPoolIdeal := fun m ρ _ => Cert.SumPoolIdeal.Gen.frame m ρ
theorem quiescent_sum_pool_reference : Cert.quiescent_SumPoolRefIdeal := fun m ρ _ =>
  (θ_run Cert.SumPoolRefIdeal.defs _ _).mono (fun r h => ⟨fun c => (h c).2, Idealize.ShloMosaic.sem_eq_zero_of_no_sems (by decide) r.2⟩) (Cert.SumPoolRefIdeal.Value.run m ρ)
theorem quiescent_sum_last : Cert.quiescent_SumLast := fun m ρ _ => Cert.SumLast.Gen.frame m ρ
theorem quiescent_sum_last_ideal : Cert.quiescent_SumLastIdeal := fun m ρ _ => Cert.SumLastIdeal.Gen.frame m ρ
theorem quiescent_sum_last_reference : Cert.quiescent_SumLastRefIdeal := fun m ρ _ =>
  (θ_run Cert.SumLastRefIdeal.defs _ _).mono (fun r h => ⟨fun c => (h c).2, Idealize.ShloMosaic.sem_eq_zero_of_no_sems (by decide) r.2⟩) (Cert.SumLastRefIdeal.Value.run m ρ)
theorem quiescent_layers_in : Cert.quiescent_LayersIn := fun m ρ _ => Cert.LayersIn.Gen.frame m ρ
theorem quiescent_layers_in_ideal : Cert.quiescent_LayersInIdeal := fun m ρ _ => Cert.LayersInIdeal.Gen.frame m ρ
theorem quiescent_layers_in_reference : Cert.quiescent_LayersInRefIdeal := fun m ρ _ =>
  (θ_run Cert.LayersInRefIdeal.defs _ _).mono (fun r h => ⟨fun c => (h c).2, Idealize.ShloMosaic.sem_eq_zero_of_no_sems (by decide) r.2⟩) (Cert.LayersInRefIdeal.Value.run m ρ)
theorem quiescent_layers_q : Cert.quiescent_LayersQ := fun m ρ _ => Cert.LayersQ.Gen.frame m ρ
theorem quiescent_layers_q_ideal : Cert.quiescent_LayersQIdeal := fun m ρ _ => Cert.LayersQIdeal.Gen.frame m ρ
theorem quiescent_layers_q_reference : Cert.quiescent_LayersQRefIdeal := fun m ρ _ =>
  (θ_run Cert.LayersQRefIdeal.defs _ _).mono (fun r h => ⟨fun c => (h c).2, Idealize.ShloMosaic.sem_eq_zero_of_no_sems (by decide) r.2⟩) (Cert.LayersQRefIdeal.Value.run m ρ)
theorem quiescent_layers_kv : Cert.quiescent_LayersKv := fun m ρ _ => Cert.LayersKv.Gen.frame m ρ
theorem quiescent_layers_kv_ideal : Cert.quiescent_LayersKvIdeal := fun m ρ _ => Cert.LayersKvIdeal.Gen.frame m ρ
theorem quiescent_layers_kv_reference : Cert.quiescent_LayersKvRefIdeal := fun m ρ _ =>
  (θ_run Cert.LayersKvRefIdeal.defs _ _).mono (fun r h => ⟨fun c => (h c).2, Idealize.ShloMosaic.sem_eq_zero_of_no_sems (by decide) r.2⟩) (Cert.LayersKvRefIdeal.Value.run m ρ)
theorem quiescent_layers_out : Cert.quiescent_LayersOut := fun m ρ _ => Cert.LayersOut.Gen.frame m ρ
theorem quiescent_layers_out_ideal : Cert.quiescent_LayersOutIdeal := fun m ρ _ => Cert.LayersOutIdeal.Gen.frame m ρ
theorem quiescent_layers_out_reference : Cert.quiescent_LayersOutRefIdeal := fun m ρ _ =>
  (θ_run Cert.LayersOutRefIdeal.defs _ _).mono (fun r h => ⟨fun c => (h c).2, Idealize.ShloMosaic.sem_eq_zero_of_no_sems (by decide) r.2⟩) (Cert.LayersOutRefIdeal.Value.run m ρ)
theorem quiescent_layers_mix : Cert.quiescent_LayersMix := fun m ρ _ => Cert.LayersMix.Gen.frame m ρ
theorem quiescent_layers_mix_ideal : Cert.quiescent_LayersMixIdeal := fun m ρ _ => Cert.LayersMixIdeal.Gen.frame m ρ
theorem quiescent_layers_mix_reference : Cert.quiescent_LayersMixRefIdeal := fun m ρ _ =>
  (θ_run Cert.LayersMixRefIdeal.defs _ _).mono (fun r h => ⟨fun c => (h c).2, Idealize.ShloMosaic.sem_eq_zero_of_no_sems (by decide) r.2⟩) (Cert.LayersMixRefIdeal.Value.run m ρ)
theorem quiescent_layers_up : Cert.quiescent_LayersUp := fun m ρ _ => Cert.LayersUp.Gen.frame m ρ
theorem quiescent_layers_up_ideal : Cert.quiescent_LayersUpIdeal := fun m ρ _ => Cert.LayersUpIdeal.Gen.frame m ρ
theorem quiescent_layers_up_reference : Cert.quiescent_LayersUpRefIdeal := fun m ρ _ =>
  (θ_run Cert.LayersUpRefIdeal.defs _ _).mono (fun r h => ⟨fun c => (h c).2, Idealize.ShloMosaic.sem_eq_zero_of_no_sems (by decide) r.2⟩) (Cert.LayersUpRefIdeal.Value.run m ρ)
theorem quiescent_layers_down : Cert.quiescent_LayersDown := fun m ρ _ => Cert.LayersDown.Gen.frame m ρ
theorem quiescent_layers_down_ideal : Cert.quiescent_LayersDownIdeal := fun m ρ _ => Cert.LayersDownIdeal.Gen.frame m ρ
theorem quiescent_layers_down_reference : Cert.quiescent_LayersDownRefIdeal := fun m ρ _ =>
  (θ_run Cert.LayersDownRefIdeal.defs _ _).mono (fun r h => ⟨fun c => (h c).2, Idealize.ShloMosaic.sem_eq_zero_of_no_sems (by decide) r.2⟩) (Cert.LayersDownRefIdeal.Value.run m ρ)

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    quiescent_flash,
    quiescent_flash_ideal,
    quiescent_flash_ideal_finite,
    quiescent_flash_reference,
    quiescent_flash_reference_finite,
    quiescent_merge,
    quiescent_merge_ideal,
    quiescent_merge_reference,
    quiescent_down_dw,
    quiescent_down_dw_ideal,
    quiescent_down_dw_reference,
    quiescent_up_dw,
    quiescent_up_dw_ideal,
    quiescent_up_dw_reference,
    quiescent_in_dw,
    quiescent_in_dw_ideal,
    quiescent_in_dw_reference,
    quiescent_in_dx,
    quiescent_in_dx_ideal,
    quiescent_in_dx_reference,
    quiescent_up_dx,
    quiescent_up_dx_ideal,
    quiescent_up_dx_reference,
    quiescent_down_bwd,
    quiescent_down_bwd_ideal,
    quiescent_down_bwd_ideal_finite,
    quiescent_down_bwd_reference,
    quiescent_down_bwd_reference_finite,
    quiescent_in_proj,
    quiescent_in_proj_ideal,
    quiescent_in_proj_reference,
    quiescent_ffn_up,
    quiescent_ffn_up_ideal,
    quiescent_ffn_up_reference,
    quiescent_ffn_down,
    quiescent_ffn_down_ideal,
    quiescent_ffn_down_reference,
    quiescent_mix_dw,
    quiescent_mix_dw_ideal,
    quiescent_mix_dw_reference,
    quiescent_branch_dw,
    quiescent_branch_dw_ideal,
    quiescent_branch_dw_reference,
    quiescent_attn_dw,
    quiescent_attn_dw_ideal,
    quiescent_attn_dw_reference,
    quiescent_q_dw,
    quiescent_q_dw_ideal,
    quiescent_q_dw_reference,
    quiescent_kv_dw,
    quiescent_kv_dw_ideal,
    quiescent_kv_dw_reference,
    quiescent_pool_dx,
    quiescent_pool_dx_ideal,
    quiescent_pool_dx_reference,
    quiescent_mix_out,
    quiescent_mix_out_ideal,
    quiescent_mix_out_reference,
    quiescent_branches,
    quiescent_branches_ideal,
    quiescent_branches_reference,
    quiescent_attn_out_bwd,
    quiescent_attn_out_bwd_ideal,
    quiescent_attn_out_bwd_reference,
    quiescent_adam_gain,
    quiescent_adam_gain_ideal,
    quiescent_adam_gain_reference,
    quiescent_adam_in,
    quiescent_adam_in_ideal,
    quiescent_adam_in_reference,
    quiescent_adam_q_gain,
    quiescent_adam_q_gain_ideal,
    quiescent_adam_q_gain_reference,
    quiescent_adam_kv_gain,
    quiescent_adam_kv_gain_ideal,
    quiescent_adam_kv_gain_reference,
    quiescent_adam_q,
    quiescent_adam_q_ideal,
    quiescent_adam_q_reference,
    quiescent_adam_kv,
    quiescent_adam_kv_ideal,
    quiescent_adam_kv_reference,
    quiescent_adam_out,
    quiescent_adam_out_ideal,
    quiescent_adam_out_reference,
    quiescent_adam_taps,
    quiescent_adam_taps_ideal,
    quiescent_adam_taps_reference,
    quiescent_adam_channel,
    quiescent_adam_channel_ideal,
    quiescent_adam_channel_reference,
    quiescent_adam_mix,
    quiescent_adam_mix_ideal,
    quiescent_adam_mix_reference,
    quiescent_adam_ffn,
    quiescent_adam_ffn_ideal,
    quiescent_adam_ffn_reference,
    quiescent_sum_gains,
    quiescent_sum_gains_ideal,
    quiescent_sum_gains_reference,
    quiescent_sum_channels,
    quiescent_sum_channels_ideal,
    quiescent_sum_channels_reference,
    quiescent_sum_q,
    quiescent_sum_q_ideal,
    quiescent_sum_q_reference,
    quiescent_sum_kv,
    quiescent_sum_kv_ideal,
    quiescent_sum_kv_reference,
    quiescent_sum_pool,
    quiescent_sum_pool_ideal,
    quiescent_sum_pool_reference,
    quiescent_sum_last,
    quiescent_sum_last_ideal,
    quiescent_sum_last_reference,
    quiescent_layers_in,
    quiescent_layers_in_ideal,
    quiescent_layers_in_reference,
    quiescent_layers_q,
    quiescent_layers_q_ideal,
    quiescent_layers_q_reference,
    quiescent_layers_kv,
    quiescent_layers_kv_ideal,
    quiescent_layers_kv_reference,
    quiescent_layers_out,
    quiescent_layers_out_ideal,
    quiescent_layers_out_reference,
    quiescent_layers_mix,
    quiescent_layers_mix_ideal,
    quiescent_layers_mix_reference,
    quiescent_layers_up,
    quiescent_layers_up_ideal,
    quiescent_layers_up_reference,
    quiescent_layers_down,
    quiescent_layers_down_ideal,
    quiescent_layers_down_reference,
    preserves_flash,
    Cert.FlashIdeal.Hand.algebraic_flash,
    trivial,
    Cert.MergeIdeal.Hand.algebraic_merge,
    trivial,
    Cert.DownDwIdeal.Hand.algebraic,
    trivial,
    Cert.UpDwIdeal.Hand.algebraic,
    trivial,
    Cert.InDwIdeal.Hand.algebraic,
    trivial,
    Cert.InDxIdeal.Hand.algebraic,
    trivial,
    Cert.UpDxIdeal.Hand.algebraic,
    trivial,
    Cert.DownBwdIdeal.Hand.algebraic,
    trivial,
    Cert.InProjIdeal.Hand.algebraic,
    trivial,
    Cert.FfnUpIdeal.Hand.algebraic,
    trivial,
    Cert.FfnDownIdeal.Hand.algebraic,
    trivial,
    Cert.MixDwIdeal.Hand.algebraic,
    trivial,
    Cert.BranchDwIdeal.Hand.algebraic,
    trivial,
    Cert.AttnDwIdeal.Hand.algebraic,
    trivial,
    Cert.QDwIdeal.Hand.algebraic,
    trivial,
    Cert.KvDwIdeal.Hand.algebraic,
    trivial,
    Cert.PoolDxIdeal.Hand.algebraic,
    trivial,
    Cert.MixOutIdeal.Hand.algebraic,
    trivial,
    Cert.BranchesIdeal.Hand.algebraic,
    trivial,
    Cert.AttnOutBwdIdeal.Hand.algebraic,
    trivial,
    Cert.AdamGainIdeal.Hand.algebraic,
    trivial,
    Cert.AdamInIdeal.Hand.algebraic,
    trivial,
    Cert.AdamQGainIdeal.Hand.algebraic,
    trivial,
    Cert.AdamKvGainIdeal.Hand.algebraic,
    trivial,
    Cert.AdamQIdeal.Hand.algebraic,
    trivial,
    Cert.AdamKvIdeal.Hand.algebraic,
    trivial,
    Cert.AdamOutIdeal.Hand.algebraic,
    trivial,
    Cert.AdamTapsIdeal.Hand.algebraic,
    trivial,
    Cert.AdamChannelIdeal.Hand.algebraic,
    trivial,
    Cert.AdamMixIdeal.Hand.algebraic,
    trivial,
    Cert.AdamFfnIdeal.Hand.algebraic,
    trivial,
    Cert.SumGainsIdeal.Hand.algebraic,
    trivial,
    Cert.SumChannelsIdeal.Hand.algebraic,
    trivial,
    Cert.SumQIdeal.Hand.algebraic,
    trivial,
    Cert.SumKvIdeal.Hand.algebraic,
    trivial,
    Cert.SumPoolIdeal.Hand.algebraic,
    trivial,
    Cert.SumLastIdeal.Hand.algebraic,
    trivial,
    Cert.LayersInIdeal.Hand.algebraic,
    trivial,
    Cert.LayersQIdeal.Hand.algebraic,
    trivial,
    Cert.LayersKvIdeal.Hand.algebraic,
    trivial,
    Cert.LayersOutIdeal.Hand.algebraic,
    trivial,
    Cert.LayersMixIdeal.Hand.algebraic,
    trivial,
    Cert.LayersUpIdeal.Hand.algebraic,
    trivial,
    Cert.LayersDownIdeal.Hand.algebraic⟩

end Cert.Proof
